-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_KernelKIdeal_in_range [hPre_in_range : Cert.Pre_in_range.Facts] (m : (ℓ : Loc Cert.KernelKIdeal.nD Cert.KernelKIdeal.τ Cert.KernelKIdeal.sig) → Buf (Elt Ideal) ℓ) : Prop :=
  ∀ c : Dev Cert.KernelKIdeal.nD,
    (Cert.Pre_in_range.fn (F := Ideal) (m ((c.tc : Thread Cert.KernelKIdeal.nD Cert.KernelKIdeal.τ).loc Cert.KernelKIdeal.main_arg0))) = (fun _ => 1#1)

def Pre_ReferenceKIdeal (m : (ℓ : Loc Cert.ReferenceKIdeal.nD Cert.ReferenceKIdeal.τ Cert.ReferenceKIdeal.sig) → Buf (Elt Ideal) ℓ) : Prop :=
  True

def Pre_ReferenceKIdeal_in_range [hPre_in_range : Cert.Pre_in_range.Facts] (m : (ℓ : Loc Cert.ReferenceKIdeal.nD Cert.ReferenceKIdeal.τ Cert.ReferenceKIdeal.sig) → Buf (Elt Ideal) ℓ) : Prop :=
  ∀ c : Dev Cert.ReferenceKIdeal.nD,
    (Cert.Pre_in_range.fn (F := Ideal) (m ((c.tc : Thread Cert.ReferenceKIdeal.nD Cert.ReferenceKIdeal.τ).loc Cert.ReferenceKIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0))
      ∧ r.2.sem = fun _ => 0)

def quiescent_KernelKIdeal_pre_in_range [hKernelKIdeal : Cert.KernelKIdeal.Facts] [hPre_in_range : Cert.Pre_in_range.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal_in_range m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0))
      ∧ r.2.sem = fun _ => 0)

def quiescent_ReferenceKIdeal_pre_in_range [hReferenceKIdeal : Cert.ReferenceKIdeal.Facts] [hPre_in_range : Cert.Pre_in_range.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal_in_range m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0))
      ∧ r.2.sem = fun _ => 0)

def preserves_Kernel_KernelIdeal : Prop :=
  IdealRules.named_const.Statement Cert.KernelIdeal.κ "coef" .f32 0x3E0293EE#32 (((11863283 * 134217728⁻¹) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelK_KernelKIdeal : Prop :=
  IdealRules.bf16_pair.BufferStatement Cert.KernelKIdeal.S2x2x72x2x128 Cert.KernelKIdeal.S2x2x72x1x128
  ∧ IdealRules.bf16_pair.Statement Cert.KernelKIdeal.S1x256x2x128 Cert.KernelKIdeal.S1x256x1x128
  ∧ IdealRules.bf16_pair.HalfStatement Cert.KernelKIdeal.S256x128
  ∧ IdealRules.bf16_pair.Statement Cert.KernelKIdeal.S16x256 Cert.KernelKIdeal.S8x256
  ∧ IdealRules.bf16_pair.Statement Cert.KernelKIdeal.S8x2x128 Cert.KernelKIdeal.S8x1x128
  ∧ IdealRules.bf16_pair.Statement Cert.KernelKIdeal.S16x128 Cert.KernelKIdeal.S8x128

def algebraic_KernelKIdeal_ReferenceKIdeal_pre_in_range [hKernelKIdeal : Cert.KernelKIdeal.Facts] [hReferenceKIdeal : Cert.ReferenceKIdeal.Facts] [hPre_in_range : Cert.Pre_in_range.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal_in_range m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)) →
    ∃ (v0 : (c : Dev Cert.KernelKIdeal.nD) → Buf (Elt Ideal) ((c.tc : Thread Cert.KernelKIdeal.nD Cert.KernelKIdeal.τ).loc Cert.KernelKIdeal.main_v0_0)) (v1 : (c : Dev Cert.KernelKIdeal.nD) → Buf (Elt Ideal) ((c.tc : Thread Cert.KernelKIdeal.nD Cert.KernelKIdeal.τ).loc Cert.KernelKIdeal.main_v1)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v0_0) = v0 c
          ∧ r.2.mem ((c.tc : Thread Cert.KernelKIdeal.nD Cert.KernelKIdeal.τ).loc Cert.KernelKIdeal.main_v1) = v1 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v28) = v0 c
          ∧ r.2.mem ((c.tc : Thread Cert.ReferenceKIdeal.nD Cert.ReferenceKIdeal.τ).loc Cert.ReferenceKIdeal.main_v27) = v1 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0))

def Claim : Prop :=
  ∃ (hKernel : Cert.Kernel.Facts) (hKernelIdeal : Cert.KernelIdeal.Facts) (hReferenceIdeal : Cert.ReferenceIdeal.Facts) (hKernelK : Cert.KernelK.Facts) (hKernelKIdeal : Cert.KernelKIdeal.Facts) (hReferenceKIdeal : Cert.ReferenceKIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelK (hKernelK := hKernelK)
    ∧ quiescent_KernelKIdeal (hKernelKIdeal := hKernelKIdeal)
    ∧ quiescent_KernelKIdeal_pre_in_range (hKernelKIdeal := hKernelKIdeal) (hPre_in_range := hPre_in_range)
    ∧ quiescent_ReferenceKIdeal (hReferenceKIdeal := hReferenceKIdeal)
    ∧ quiescent_ReferenceKIdeal_pre_in_range (hReferenceKIdeal := hReferenceKIdeal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelK_KernelKIdeal
    ∧ algebraic_KernelKIdeal_ReferenceKIdeal_pre_in_range (hKernelKIdeal := hKernelKIdeal) (hReferenceKIdeal := hReferenceKIdeal) (hPre_in_range := hPre_in_range)
-- ==== Pre_finite.lean ====
abbrev S2x24x128x1024 : Shape := ⟨4, ![2, 24, 128, 1024]⟩
abbrev S2x8x1024x128 : Shape := ⟨4, ![2, 8, 1024, 128]⟩
abbrev S2x8x128x1024 : Shape := ⟨4, ![2, 8, 128, 1024]⟩
abbrev S_ : Shape := ⟨0, ![]⟩

class Facts : Prop where
  bitsLt_bf16_f32 : FTy.bits .bf16 < FTy.bits .f32
  bcast_S_S2x24x128x1024 : S_.BroadcastsInDim S2x24x128x1024 (![] : Fin 0 → Fin S2x24x128x1024.rank)
  reducesTo_S2x24x128x1024_S_d0_1_2_3 : S2x24x128x1024.ReducesTo [0, 1, 2, 3] S_
  h_S_ : 0 < S_.numel
  bcast_S_S2x8x1024x128 : S_.BroadcastsInDim S2x8x1024x128 (![] : Fin 0 → Fin S2x8x1024x128.rank)
  reducesTo_S2x8x1024x128_S_d0_1_2_3 : S2x8x1024x128.ReducesTo [0, 1, 2, 3] S_

variable [Facts]

def fn {F : FTy → Type} [FloatOps F] (main_arg0 : FVec F S2x24x128x1024 .bf16) (main_arg1 : FVec F S2x8x1024x128 .bf16) (main_arg2 : FVec F S2x8x128x1024 .bf16) : IVec S_ 1 :=
  let main_v0 : FVec F S2x24x128x1024 .f32 := (extf .f32 · bitsLt_bf16_f32) main_arg0
  let main_v1 : FVec F S2x24x128x1024 .f32 := Host.absf main_v0
  let main_cst : FVec F S_ .f32 := constant S_ .f32 0x7F800000#32
  let main_v2 : FVec F S2x24x128x1024 .f32 := broadcastInDim S2x24x128x1024 ![] bcast_S_S2x24x128x1024 main_cst
  let main_v3 : IVec S2x24x128x1024 1 := cmpf .olt main_v1 main_v2
  let main_c : IVec S_ 1 := constantI S_ 1 1#1
  let main_v4 : IVec S_ 1 := (fun x v => Host.reduce IntOp.andi x v reducesTo_S2x24x128x1024_S_d0_1_2_3 h_S_) main_v3 main_c
  let main_v5 : FVec F S2x8x1024x128 .f32 := (extf .f32 · bitsLt_bf16_f32) main_arg1
  let main_v6 : FVec F S2x8x1024x128 .f32 := Host.absf main_v5
  let main_cst_0 : FVec F S_ .f32 := constant S_ .f32 0x7F800000#32
  let main_v7 : FVec F S2x8x1024x128 .f32 := broadcastInDim S2x8x1024x128 ![] bcast_S_S2x8x1024x128 main_cst_0
  let main_v8 : IVec S2x8x1024x128 1 := cmpf .olt main_v6 main_v7
  let main_c_1 : IVec S_ 1 := constantI S_ 1 1#1
  let main_v9 : IVec S_ 1 := (fun x v => Host.reduce IntOp.andi x v reducesTo_S2x8x1024x128_S_d0_1_2_3 h_S_) main_v8 main_c_1
  let main_v10 : IVec S_ 1 := andi main_v4 main_v9
  main_v10
-- ==== Pre_in_range.lean ====
abbrev S2x1024x8x128 : Shape := ⟨4, ![2, 1024, 8, 128]⟩
abbrev S2x1024x8x4x32 : Shape := ⟨5, ![2, 1024, 8, 4, 32]⟩
abbrev S_ : Shape := ⟨0, ![]⟩
abbrev S2x1024x8x4 : Shape := ⟨4, ![2, 1024, 8, 4]⟩

class Facts : Prop where
  bitsLt_bf16_f32 : FTy.bits .bf16 < FTy.bits .f32
  shapeCasts_S2x1024x8x128_S2x1024x8x4x32 : S2x1024x8x128.ShapeCasts S2x1024x8x4x32
  reducesTo_S2x1024x8x4x32_S2x1024x8x4_d4 : S2x1024x8x4x32.ReducesTo [4] S2x1024x8x4
  h_S_ : 0 < S_.numel
  bcast_S_S2x1024x8x4 : S_.BroadcastsInDim S2x1024x8x4 (![] : Fin 0 → Fin S2x1024x8x4.rank)
  reducesTo_S2x1024x8x4_S_d0_1_2_3 : S2x1024x8x4.ReducesTo [0, 1, 2, 3] S_

variable [Facts]

def fn {F : FTy → Type} [FloatOps F] (main_arg0 : FVec F S2x1024x8x128 .bf16) : IVec S_ 1 :=
  let main_v0 : FVec F S2x1024x8x128 .f32 := (extf .f32 · bitsLt_bf16_f32) main_arg0
  let main_v1 : FVec F S2x1024x8x4x32 .f32 := shapeCast S2x1024x8x4x32 main_v0 shapeCasts_S2x1024x8x128_S2x1024x8x4x32
  let main_v2 : FVec F S2x1024x8x4x32 .f32 := Host.absf main_v1
  let main_cst : FVec F S_ .f32 := constant S_ .f32 0xFF800000#32
  let main_v3 : FVec F S2x1024x8x4 .f32 := (fun x v => Host.reduce FloatOps.maximumf x v reducesTo_S2x1024x8x4x32_S2x1024x8x4_d4 h_S_) main_v2 main_cst
  let main_cst_0 : FVec F S_ .f32 := constant S_ .f32 0x7F7F0000#32
  let main_v4 : FVec F S2x1024x8x4 .f32 := broadcastInDim S2x1024x8x4 ![] bcast_S_S2x1024x8x4 main_cst_0
  let main_v5 : IVec S2x1024x8x4 1 := cmpf .ole main_v3 main_v4
  let main_cst_1 : FVec F S_ .f32 := constant S_ .f32 0x00000000#32
  let main_v6 : FVec F S2x1024x8x4 .f32 := broadcastInDim S2x1024x8x4 ![] bcast_S_S2x1024x8x4 main_cst_1
  let main_v7 : IVec S2x1024x8x4 1 := cmpf .oeq main_v3 main_v6
  let main_cst_2 : FVec F S_ .f32 := constant S_ .f32 0x04E00000#32
  let main_v8 : FVec F S2x1024x8x4 .f32 := broadcastInDim S2x1024x8x4 ![] bcast_S_S2x1024x8x4 main_cst_2
  let main_v9 : IVec S2x1024x8x4 1 := cmpf .oge main_v3 main_v8
  let main_v10 : IVec S2x1024x8x4 1 := ori main_v7 main_v9
  let main_v11 : IVec S2x1024x8x4 1 := andi main_v5 main_v10
  let main_c : IVec S_ 1 := constantI S_ 1 1#1
  let main_v12 : IVec S_ 1 := (fun x v => Host.reduce IntOp.andi x v reducesTo_S2x1024x8x4_S_d0_1_2_3 h_S_) main_v11 main_c
  main_v12
-- ==== Kernel.lean ====
abbrev S2x24x128x1024 : Shape := ⟨4, ![2, 24, 128, 1024]⟩
abbrev S2x8x1024x128 : Shape := ⟨4, ![2, 8, 1024, 128]⟩
abbrev S2x8x128x1024 : Shape := ⟨4, ![2, 8, 128, 1024]⟩
abbrev S2x1024x3072 : Shape := ⟨3, ![2, 1024, 3072]⟩
abbrev S1x24x128x256 : Shape := ⟨4, ![1, 24, 128, 256]⟩
abbrev S1x8x256x128 : Shape := ⟨4, ![1, 8, 256, 128]⟩
abbrev S1x8x128x256 : Shape := ⟨4, ![1, 8, 128, 256]⟩
abbrev S1x256x3072 : Shape := ⟨3, ![1, 256, 3072]⟩
abbrev S24x128x256 : Shape := ⟨3, ![24, 128, 256]⟩
abbrev S8x1024x128 : Shape := ⟨3, ![8, 1024, 128]⟩
abbrev S8x128x1024 : Shape := ⟨3, ![8, 128, 1024]⟩
abbrev S3x1024x256 : Shape := ⟨3, ![3, 1024, 256]⟩
abbrev S128x128 : Shape := ⟨2, ![128, 128]⟩
abbrev S1x1x256x128 : Shape := ⟨4, ![1, 1, 256, 128]⟩
abbrev S256x128 : Shape := ⟨2, ![256, 128]⟩
abbrev S1x256x128 : Shape := ⟨3, ![1, 256, 128]⟩
abbrev S1x1x128x256 : Shape := ⟨4, ![1, 1, 128, 256]⟩
abbrev S128x256 : Shape := ⟨2, ![128, 256]⟩
abbrev S1x128x256 : Shape := ⟨3, ![1, 128, 256]⟩
abbrev S256x256 : Shape := ⟨2, ![256, 256]⟩
abbrev S1x128x128 : Shape := ⟨3, ![1, 128, 128]⟩
abbrev S16x8x256 : Shape := ⟨3, ![16, 8, 256]⟩
abbrev S8x256 : Shape := ⟨2, ![8, 256]⟩
abbrev S16x8x128 : Shape := ⟨3, ![16, 8, 128]⟩
abbrev S8x128 : Shape := ⟨2, ![8, 128]⟩
abbrev S256 : Shape := ⟨1, ![256]⟩
abbrev S1x256 : Shape := ⟨2, ![1, 256]⟩
abbrev S1x32x256 : Shape := ⟨3, ![1, 32, 256]⟩
abbrev S32x256 : Shape := ⟨2, ![32, 256]⟩
abbrev S4x8x256 : Shape := ⟨3, ![4, 8, 256]⟩
abbrev S1x32x128 : Shape := ⟨3, ![1, 32, 128]⟩
abbrev S32x128 : Shape := ⟨2, ![32, 128]⟩
abbrev S1x128 : Shape := ⟨2, ![1, 128]⟩
abbrev S4x8x128 : Shape := ⟨3, ![4, 8, 128]⟩
abbrev S1x256x256 : Shape := ⟨3, ![1, 256, 256]⟩
abbrev S32x8x256 : Shape := ⟨3, ![32, 8, 256]⟩
abbrev S1x128x512 : Shape := ⟨3, ![1, 128, 512]⟩
abbrev S128x512 : Shape := ⟨2, ![128, 512]⟩
abbrev S1x512x256 : Shape := ⟨3, ![1, 512, 256]⟩
abbrev S512x256 : Shape := ⟨2, ![512, 256]⟩
abbrev S1x128x768 : Shape := ⟨3, ![1, 128, 768]⟩
abbrev S128x768 : Shape := ⟨2, ![128, 768]⟩
abbrev S1x768x256 : Shape := ⟨3, ![1, 768, 256]⟩
abbrev S768x256 : Shape := ⟨2, ![768, 256]⟩
abbrev S1x128x1024 : Shape := ⟨3, ![1, 128, 1024]⟩
abbrev S128x1024 : Shape := ⟨2, ![128, 1024]⟩
abbrev S1x1024x256 : Shape := ⟨3, ![1, 1024, 256]⟩
abbrev S1024x256 : Shape := ⟨2, ![1024, 256]⟩

abbrev nBuf : Space → Nat
  | .hbm => 4
  | .vmem => 14
  | .smem => 0
  | _ => 0

abbrev bufTy : (tb : Table) → Fin (tcTables nBuf tb) → BufTy
  | .hbm, ⟨0, _⟩ => ⟨S2x24x128x1024, .bf16⟩
  | .hbm, ⟨1, _⟩ => ⟨S2x8x1024x128, .bf16⟩
  | .hbm, ⟨2, _⟩ => ⟨S2x8x128x1024, .bf16⟩
  | .hbm, ⟨3, _⟩ => ⟨S2x1024x3072, .bf16⟩
  | .local _ .vmem, ⟨0, _⟩ => ⟨S1x24x128x256, .bf16⟩
  | .local _ .vmem, ⟨1, _⟩ => ⟨S1x24x128x256, .bf16⟩
  | .local _ .vmem, ⟨2, _⟩ => ⟨S1x8x256x128, .bf16⟩
  | .local _ .vmem, ⟨3, _⟩ => ⟨S1x8x256x128, .bf16⟩
  | .local _ .vmem, ⟨4, _⟩ => ⟨S1x8x128x256, .bf16⟩
  | .local _ .vmem, ⟨5, _⟩ => ⟨S1x8x128x256, .bf16⟩
  | .local _ .vmem, ⟨6, _⟩ => ⟨S1x256x3072, .bf16⟩
  | .local _ .vmem, ⟨7, _⟩ => ⟨S1x256x3072, .bf16⟩
  | .local _ .vmem, ⟨8, _⟩ => ⟨S24x128x256, .bf16⟩
  | .local _ .vmem, ⟨9, _⟩ => ⟨S8x1024x128, .bf16⟩
  | .local _ .vmem, ⟨10, _⟩ => ⟨S8x128x1024, .bf16⟩
  | .local _ .vmem, ⟨11, _⟩ => ⟨S3x1024x256, .f32⟩
  | .local _ .vmem, ⟨12, _⟩ => ⟨S3x1024x256, .fp8e4m3⟩
  | .local _ .vmem, ⟨13, _⟩ => ⟨S128x128, .f32⟩
  | _, _ => ⟨S2x24x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 3 → Nat :=
  let c0_5 : Index := 0#32
  let arg1 : BitVec 32 := BitVec.ofNat 32 (i 1).val
  let c256_i32 : BitVec 32 := 256#32
  let v5 : BitVec 32 := Scalar.muli arg1 c256_i32
  let v6 : BitVec 32 := v5
  let v9 : Index := Scalar.indexCast v6
  let c0_6 : Index := 0#32
  ![0, v9.toNat, 0]
def k0_off2 (i : grid0.Coords) : Fin 3 → Nat :=
  let c0_11 : Index := 0#32
  let c0_12 : Index := 0#32
  let arg1 : BitVec 32 := BitVec.ofNat 32 (i 1).val
  let c256_i32 : BitVec 32 := 256#32
  let v5 : BitVec 32 := Scalar.muli arg1 c256_i32
  let v6 : BitVec 32 := v5
  let v15 : Index := Scalar.indexCast v6
  ![0, 0, v15.toNat]
def k0_off3 (i : grid0.Coords) : Fin 3 → Nat :=
  let c1_16 : Index := 1#32
  let arg1 : BitVec 32 := BitVec.ofNat 32 (i 1).val
  let c256_i32 : BitVec 32 := 256#32
  let v5 : BitVec 32 := Scalar.muli arg1 c256_i32
  let v6 : BitVec 32 := v5
  let v21 : Index := Scalar.indexCast v6
  let c0_17 : Index := 0#32
  ![1, v21.toNat, 0]
def k0_off4 (i : grid0.Coords) : Fin 3 → Nat :=
  let c1_22 : Index := 1#32
  let c0_23 : Index := 0#32
  let arg1 : BitVec 32 := BitVec.ofNat 32 (i 1).val
  let c256_i32 : BitVec 32 := 256#32
  let v5 : BitVec 32 := Scalar.muli arg1 c256_i32
  let v6 : BitVec 32 := v5
  let v27 : Index := Scalar.indexCast v6
  ![1, 0, v27.toNat]
def k0_off5 (i : grid0.Coords) : Fin 3 → Nat :=
  let c2_27 : Index := 2#32
  let arg1 : BitVec 32 := BitVec.ofNat 32 (i 1).val
  let c256_i32 : BitVec 32 := 256#32
  let v5 : BitVec 32 := Scalar.muli arg1 c256_i32
  let v6 : BitVec 32 := v5
  let v33 : Index := Scalar.indexCast v6
  let c0_28 : Index := 0#32
  ![2, v33.toNat, 0]
def k0_off6 (i : grid0.Coords) : Fin 3 → Nat :=
  let c2_33 : Index := 2#32
  let c0_34 : Index := 0#32
  let arg1 : BitVec 32 := BitVec.ofNat 32 (i 1).val
  let c256_i32 : BitVec 32 := 256#32
  let v5 : BitVec 32 := Scalar.muli arg1 c256_i32
  let v6 : BitVec 32 := v5
  let v39 : Index := Scalar.indexCast v6
  ![2, 0, v39.toNat]
def k0_off7 (i : grid0.Coords) : Fin 3 → Nat :=
  let c3_38 : Index := 3#32
  let arg1 : BitVec 32 := BitVec.ofNat 32 (i 1).val
  let c256_i32 : BitVec 32 := 256#32
  let v5 : BitVec 32 := Scalar.muli arg1 c256_i32
  let v6 : BitVec 32 := v5
  let v45 : Index := Scalar.indexCast v6
  let c0_39 : Index := 0#32
  ![3, v45.toNat, 0]
def k0_off8 (i : grid0.Coords) : Fin 3 → Nat :=
  let c3_44 : Index := 3#32
  let c0_45 : Index := 0#32
  let arg1 : BitVec 32 := BitVec.ofNat 32 (i 1).val
  let c256_i32 : BitVec 32 := 256#32
  let v5 : BitVec 32 := Scalar.muli arg1 c256_i32
  let v6 : BitVec 32 := v5
  let v51 : Index := Scalar.indexCast v6
  ![3, 0, v51.toNat]
def k0_off9 (i : grid0.Coords) : Fin 3 → Nat :=
  let c4_49 : Index := 4#32
  let arg1 : BitVec 32 := BitVec.ofNat 32 (i 1).val
  let c256_i32 : BitVec 32 := 256#32
  let v5 : BitVec 32 := Scalar.muli arg1 c256_i32
  let v6 : BitVec 32 := v5
  let v57 : Index := Scalar.indexCast v6
  let c0_50 : Index := 0#32
  ![4, v57.toNat, 0]
def k0_off10 (i : grid0.Coords) : Fin 3 → Nat :=
  let c4_55 : Index := 4#32
  let c0_56 : Index := 0#32
  let arg1 : BitVec 32 := BitVec.ofNat 32 (i 1).val
  let c256_i32 : BitVec 32 := 256#32
  let v5 : BitVec 32 := Scalar.muli arg1 c256_i32
  let v6 : BitVec 32 := v5
  let v63 : Index := Scalar.indexCast v6
  ![4, 0, v63.toNat]
def k0_off11 (i : grid0.Coords) : Fin 3 → Nat :=
  let c5_60 : Index := 5#32
  let arg1 : BitVec 32 := BitVec.ofNat 32 (i 1).val
  let c256_i32 : BitVec 32 := 256#32
  let v5 : BitVec 32 := Scalar.muli arg1 c256_i32
  let v6 : BitVec 32 := v5
  let v69 : Index := Scalar.indexCast v6
  let c0_61 : Index := 0#32
  ![5, v69.toNat, 0]
def k0_off12 (i : grid0.Coords) : Fin 3 → Nat :=
  let c5_66 : Index := 5#32
  let c0_67 : Index := 0#32
  let arg1 : BitVec 32 := BitVec.ofNat 32 (i 1).val
  let c256_i32 : BitVec 32 := 256#32
  let v5 : BitVec 32 := Scalar.muli arg1 c256_i32
  let v6 : BitVec 32 := v5
  let v75 : Index := Scalar.indexCast v6
  ![5, 0, v75.toNat]
def k0_off13 (i : grid0.Coords) : Fin 3 → Nat :=
  let c6_71 : Index := 6#32
  let arg1 : BitVec 32 := BitVec.ofNat 32 (i 1).val
  let c256_i32 : BitVec 32 := 256#32
  let v5 : BitVec 32 := Scalar.muli arg1 c256_i32
  let v6 : BitVec 32 := v5
  let v81 : Index := Scalar.indexCast v6
  let c0_72 : Index := 0#32
  ![6, v81.toNat, 0]
def k0_off14 (i : grid0.Coords) : Fin 3 → Nat :=
  let c6_77 : Index := 6#32
  let c0_78 : Index := 0#32
  let arg1 : BitVec 32 := BitVec.ofNat 32 (i 1).val
  let c256_i32 : BitVec 32 := 256#32
  let v5 : BitVec 32 := Scalar.muli arg1 c256_i32
  let v6 : BitVec 32 := v5
  let v87 : Index := Scalar.indexCast v6
  ![6, 0, v87.toNat]
def k0_off15 (i : grid0.Coords) : Fin 3 → Nat :=
  let c7_82 : Index := 7#32
  let arg1 : BitVec 32 := BitVec.ofNat 32 (i 1).val
  let c256_i32 : BitVec 32 := 256#32
  let v5 : BitVec 32 := Scalar.muli arg1 c256_i32
  let v6 : BitVec 32 := v5
  let v93 : Index := Scalar.indexCast v6
  let c0_83 : Index := 0#32
  ![7, v93.toNat, 0]
def k0_off16 (i : grid0.Coords) : Fin 3 → Nat :=
  let c7_88 : Index := 7#32
  let c0_89 : Index := 0#32
  let arg1 : BitVec 32 := BitVec.ofNat 32 (i 1).val
  let c256_i32 : BitVec 32 := 256#32
  let v5 : BitVec 32 := Scalar.muli arg1 c256_i32
  let v6 : BitVec 32 := v5
  let v99 : Index := Scalar.indexCast v6
  ![7, 0, v99.toNat]
def k0_cond2 (i : grid0.Coords) : BitVec 1 :=
  let arg1 : BitVec 32 := BitVec.ofNat 32 (i 1).val
  let c0_i32_97 : BitVec 32 := 0#32
  let v108 : BitVec 1 := Scalar.cmpi .eq arg1 c0_i32_97
  let v109 : BitVec 32 := Scalar.extui v108
  let c0_i32_98 : BitVec 32 := 0#32
  let v110 : BitVec 1 := Scalar.cmpi .ne v109 c0_i32_98
  v110

@[reducible] def k0_t1_loop : Scf.Loop 32 :=
  let c0_i32_105 : BitVec 32 := 0#32
  let c8_i32 : BitVec 32 := 8#32
  let v120 : BitVec 32 := Scalar.addi c0_i32_105 c8_i32
  let c1_i32_106 : BitVec 32 := 1#32
  ⟨c0_i32_105, v120, c1_i32_106⟩
def k0_off17 (k0_t1 : Fin k0_t1_loop.trips) (c0_i32_109 : BitVec 32) : Fin 3 → Nat :=
  let c0_i32_105 : BitVec 32 := 0#32
  let c1_i32_106 : BitVec 32 := 1#32
  let arg12 : BitVec 32 := Scf.iv c0_i32_105 c1_i32_106 k0_t1
  let c3_i32_108 : BitVec 32 := 3#32
  let v121 : BitVec 32 := Scalar.muli arg12 c3_i32_108
  let v122 : BitVec 32 := Scalar.addi v121 c0_i32_109
  let v123 : Index := Scalar.indexCast v122
  let c0_110 : Index := 0#32
  let c0_111 : Index := 0#32
  ![v123.toNat, 0, 0]
def k0_off18 (k0_t1 : Fin k0_t1_loop.trips) : Fin 3 → Nat :=
  let c0_i32_105 : BitVec 32 := 0#32
  let c1_i32_106 : BitVec 32 := 1#32
  let arg12 : BitVec 32 := Scf.iv c0_i32_105 c1_i32_106 k0_t1
  let v126 : Index := Scalar.indexCast arg12
  let c0_112 : Index := 0#32
  let c0_113 : Index := 0#32
  ![v126.toNat, 0, 0]
def k0_off19 (k0_t1 : Fin k0_t1_loop.trips) : Fin 3 → Nat :=
  let c0_i32_105 : BitVec 32 := 0#32
  let c1_i32_106 : BitVec 32 := 1#32
  let arg12 : BitVec 32 := Scf.iv c0_i32_105 c1_i32_106 k0_t1
  let v360 : Index := Scalar.indexCast arg12
  let c0_236 : Index := 0#32
  let c0_237 : Index := 0#32
  ![v360.toNat, 0, 0]
def k0_mult2 (k0_t1 : Fin k0_t1_loop.trips) : BitVec 32 :=
  let c0_i32_105 : BitVec 32 := 0#32
  let c1_i32_106 : BitVec 32 := 1#32
  let arg12 : BitVec 32 := Scf.iv c0_i32_105 c1_i32_106 k0_t1
  let c3_i32_243 : BitVec 32 := 3#32
  let v371 : BitVec 32 := Scalar.muli arg12 c3_i32_243
  let c0_i32_244 : BitVec 32 := 0#32
  let v372 : BitVec 32 := Scalar.addi v371 c0_i32_244
  let c128_i32 : BitVec 32 := 128#32
  let v373 : BitVec 32 := Scalar.muli v372 c128_i32
  v373
def k0_off20 (k0_t1 : Fin k0_t1_loop.trips) (c0_i32_244 : BitVec 32) : Fin 3 → Nat :=
  let c0_245 : Index := 0#32
  let c0_246 : Index := 0#32
  let c0_i32_105 : BitVec 32 := 0#32
  let c1_i32_106 : BitVec 32 := 1#32
  let arg12 : BitVec 32 := Scf.iv c0_i32_105 c1_i32_106 k0_t1
  let c3_i32_243 : BitVec 32 := 3#32
  let v371 : BitVec 32 := Scalar.muli arg12 c3_i32_243
  let v372 : BitVec 32 := Scalar.addi v371 c0_i32_244
  let c128_i32 : BitVec 32 := 128#32
  let v373 : BitVec 32 := Scalar.muli v372 c128_i32
  let v374 : BitVec 32 := v373
  let v376 : Index := Scalar.indexCast v374
  ![0, 0, v376.toNat]
def k0_mult3 (k0_t1 : Fin k0_t1_loop.trips) : BitVec 32 :=
  let c0_i32_105 : BitVec 32 := 0#32
  let c1_i32_106 : BitVec 32 := 1#32
  let arg12 : BitVec 32 := Scf.iv c0_i32_105 c1_i32_106 k0_t1
  let c3_i32_329 : BitVec 32 := 3#32
  let v531 : BitVec 32 := Scalar.muli arg12 c3_i32_329
  let c1_i32_330 : BitVec 32 := 1#32
  let v532 : BitVec 32 := Scalar.addi v531 c1_i32_330
  let c128_i32_331 : BitVec 32 := 128#32
  let v533 : BitVec 32 := Scalar.muli v532 c128_i32_331
  v533
def k0_mult4 (k0_t1 : Fin k0_t1_loop.trips) : BitVec 32 :=
  let c0_i32_105 : BitVec 32 := 0#32
  let c1_i32_106 : BitVec 32 := 1#32
  let arg12 : BitVec 32 := Scf.iv c0_i32_105 c1_i32_106 k0_t1
  let c3_i32_416 : BitVec 32 := 3#32
  let v691 : BitVec 32 := Scalar.muli arg12 c3_i32_416
  let c2_i32_417 : BitVec 32 := 2#32
  let v692 : BitVec 32 := Scalar.addi v691 c2_i32_417
  let c128_i32_418 : BitVec 32 := 128#32
  let v693 : BitVec 32 := Scalar.muli v692 c128_i32_418
  v693
def k0_cond3 (i : grid0.Coords) : BitVec 1 :=
  let arg1 : BitVec 32 := BitVec.ofNat 32 (i 1).val
  let c1_i32 : BitVec 32 := 1#32
  let v111 : BitVec 1 := Scalar.cmpi .eq arg1 c1_i32
  let v112 : BitVec 32 := Scalar.extui v111
  let c0_i32_100 : BitVec 32 := 0#32
  let v113 : BitVec 1 := Scalar.cmpi .ne v112 c0_i32_100
  v113

@[reducible] def k0_t2_loop : Scf.Loop 32 :=
  let c0_i32_105 : BitVec 32 := 0#32
  let c8_i32 : BitVec 32 := 8#32
  let v120 : BitVec 32 := Scalar.addi c0_i32_105 c8_i32
  let c1_i32_106 : BitVec 32 := 1#32
  ⟨c0_i32_105, v120, c1_i32_106⟩
def k0_off21 (k0_t2 : Fin k0_t2_loop.trips) (c0_i32_109 : BitVec 32) : Fin 3 → Nat :=
  let c0_i32_105 : BitVec 32 := 0#32
  let c1_i32_106 : BitVec 32 := 1#32
  let arg12 : BitVec 32 := Scf.iv c0_i32_105 c1_i32_106 k0_t2
  let c3_i32_108 : BitVec 32 := 3#32
  let v121 : BitVec 32 := Scalar.muli arg12 c3_i32_108
  let v122 : BitVec 32 := Scalar.addi v121 c0_i32_109
  let v123 : Index := Scalar.indexCast v122
  let c0_110 : Index := 0#32
  let c0_111 : Index := 0#32
  ![v123.toNat, 0, 0]
def k0_off22 (k0_t2 : Fin k0_t2_loop.trips) : Fin 3 → Nat :=
  let c0_i32_105 : BitVec 32 := 0#32
  let c1_i32_106 : BitVec 32 := 1#32
  let arg12 : BitVec 32 := Scf.iv c0_i32_105 c1_i32_106 k0_t2
  let v126 : Index := Scalar.indexCast arg12
  let c0_112 : Index := 0#32
  let c0_113 : Index := 0#32
  ![v126.toNat, 0, 0]
def k0_off23 (k0_t2 : Fin k0_t2_loop.trips) : Fin 3 → Nat :=
  let c0_i32_105 : BitVec 32 := 0#32
  let c1_i32_106 : BitVec 32 := 1#32
  let arg12 : BitVec 32 := Scf.iv c0_i32_105 c1_i32_106 k0_t2
  let v135 : Index := Scalar.indexCast arg12
  let c256 : Index := 256#32
  let c0_119 : Index := 0#32
  ![v135.toNat, 256, 0]
def k0_off24 (k0_t2 : Fin k0_t2_loop.trips) : Fin 3 → Nat :=
  let c0_i32_105 : BitVec 32 := 0#32
  let c1_i32_106 : BitVec 32 := 1#32
  let arg12 : BitVec 32 := Scf.iv c0_i32_105 c1_i32_106 k0_t2
  let v502 : Index := Scalar.indexCast arg12
  let c0_305 : Index := 0#32
  let c0_306 : Index := 0#32
  ![v502.toNat, 0, 0]
def k0_mult5 (k0_t2 : Fin k0_t2_loop.trips) : BitVec 32 :=
  let c0_i32_105 : BitVec 32 := 0#32
  let c1_i32_106 : BitVec 32 := 1#32
  let arg12 : BitVec 32 := Scf.iv c0_i32_105 c1_i32_106 k0_t2
  let c3_i32_312 : BitVec 32 := 3#32
  let v513 : BitVec 32 := Scalar.muli arg12 c3_i32_312
  let c0_i32_313 : BitVec 32 := 0#32
  let v514 : BitVec 32 := Scalar.addi v513 c0_i32_313
  let c128_i32 : BitVec 32 := 128#32
  let v515 : BitVec 32 := Scalar.muli v514 c128_i32
  v515
def k0_off25 (k0_t2 : Fin k0_t2_loop.trips) (c0_i32_313 : BitVec 32) : Fin 3 → Nat :=
  let c0_314 : Index := 0#32
  let c0_315 : Index := 0#32
  let c0_i32_105 : BitVec 32 := 0#32
  let c1_i32_106 : BitVec 32 := 1#32
  let arg12 : BitVec 32 := Scf.iv c0_i32_105 c1_i32_106 k0_t2
  let c3_i32_312 : BitVec 32 := 3#32
  let v513 : BitVec 32 := Scalar.muli arg12 c3_i32_312
  let v514 : BitVec 32 := Scalar.addi v513 c0_i32_313
  let c128_i32 : BitVec 32 := 128#32
  let v515 : BitVec 32 := Scalar.muli v514 c128_i32
  let v516 : BitVec 32 := v515
  let v518 : Index := Scalar.indexCast v516
  ![0, 0, v518.toNat]
def k0_mult6 (k0_t2 : Fin k0_t2_loop.trips) : BitVec 32 :=
  let c0_i32_105 : BitVec 32 := 0#32
  let c1_i32_106 : BitVec 32 := 1#32
  let arg12 : BitVec 32 := Scf.iv c0_i32_105 c1_i32_106 k0_t2
  let c3_i32_454 : BitVec 32 := 3#32
  let v785 : BitVec 32 := Scalar.muli arg12 c3_i32_454
  let c1_i32_455 : BitVec 32 := 1#32
  let v786 : BitVec 32 := Scalar.addi v785 c1_i32_455
  let c128_i32_456 : BitVec 32 := 128#32
  let v787 : BitVec 32 := Scalar.muli v786 c128_i32_456
  v787
def k0_mult7 (k0_t2 : Fin k0_t2_loop.trips) : BitVec 32 :=
  let c0_i32_105 : BitVec 32 := 0#32
  let c1_i32_106 : BitVec 32 := 1#32
  let arg12 : BitVec 32 := Scf.iv c0_i32_105 c1_i32_106 k0_t2
  let c3_i32_597 : BitVec 32 := 3#32
  let v1057 : BitVec 32 := Scalar.muli arg12 c3_i32_597
  let c2_i32_598 : BitVec 32 := 2#32
  let v1058 : BitVec 32 := Scalar.addi v1057 c2_i32_598
  let c128_i32_599 : BitVec 32 := 128#32
  let v1059 : BitVec 32 := Scalar.muli v1058 c128_i32_599
  v1059
def k0_cond4 (i : grid0.Coords) : BitVec 1 :=
  let arg1 : BitVec 32 := BitVec.ofNat 32 (i 1).val
  let c2_i32 : BitVec 32 := 2#32
  let v114 : BitVec 1 := Scalar.cmpi .eq arg1 c2_i32
  let v115 : BitVec 32 := Scalar.extui v114
  let c0_i32_102 : BitVec 32 := 0#32
  let v116 : BitVec 1 := Scalar.cmpi .ne v115 c0_i32_102
  v116

@[reducible] def k0_t3_loop : Scf.Loop 32 :=
  let c0_i32_105 : BitVec 32 := 0#32
  let c8_i32 : BitVec 32 := 8#32
  let v120 : BitVec 32 := Scalar.addi c0_i32_105 c8_i32
  let c1_i32_106 : BitVec 32 := 1#32
  ⟨c0_i32_105, v120, c1_i32_106⟩
def k0_off26 (k0_t3 : Fin k0_t3_loop.trips) (c0_i32_109 : BitVec 32) : Fin 3 → Nat :=
  let c0_i32_105 : BitVec 32 := 0#32
  let c1_i32_106 : BitVec 32 := 1#32
  let arg12 : BitVec 32 := Scf.iv c0_i32_105 c1_i32_106 k0_t3
  let c3_i32_108 : BitVec 32 := 3#32
  let v121 : BitVec 32 := Scalar.muli arg12 c3_i32_108
  let v122 : BitVec 32 := Scalar.addi v121 c0_i32_109
  let v123 : Index := Scalar.indexCast v122
  let c0_110 : Index := 0#32
  let c0_111 : Index := 0#32
  ![v123.toNat, 0, 0]
def k0_off27 (k0_t3 : Fin k0_t3_loop.trips) : Fin 3 → Nat :=
  let c0_i32_105 : BitVec 32 := 0#32
  let c1_i32_106 : BitVec 32 := 1#32
  let arg12 : BitVec 32 := Scf.iv c0_i32_105 c1_i32_106 k0_t3
  let v126 : Index := Scalar.indexCast arg12
  let c0_112 : Index := 0#32
  let c0_113 : Index := 0#32
  ![v126.toNat, 0, 0]
def k0_off28 (k0_t3 : Fin k0_t3_loop.trips) : Fin 3 → Nat :=
  let c0_i32_105 : BitVec 32 := 0#32
  let c1_i32_106 : BitVec 32 := 1#32
  let arg12 : BitVec 32 := Scf.iv c0_i32_105 c1_i32_106 k0_t3
  let v135 : Index := Scalar.indexCast arg12
  let c256 : Index := 256#32
  let c0_119 : Index := 0#32
  ![v135.toNat, 256, 0]
def k0_off29 (k0_t3 : Fin k0_t3_loop.trips) : Fin 3 → Nat :=
  let c0_i32_105 : BitVec 32 := 0#32
  let c1_i32_106 : BitVec 32 := 1#32
  let arg12 : BitVec 32 := Scf.iv c0_i32_105 c1_i32_106 k0_t3
  let v145 : Index := Scalar.indexCast arg12
  let c512 : Index := 512#32
  let c0_125 : Index := 0#32
  ![v145.toNat, 512, 0]
def k0_off30 (k0_t3 : Fin k0_t3_loop.trips) : Fin 3 → Nat :=
  let c0_i32_105 : BitVec 32 := 0#32
  let c1_i32_106 : BitVec 32 := 1#32
  let arg12 : BitVec 32 := Scf.iv c0_i32_105 c1_i32_106 k0_t3
  let v644 : Index := Scalar.indexCast arg12
  let c0_374 : Index := 0#32
  let c0_375 : Index := 0#32
  ![v644.toNat, 0, 0]
def k0_mult8 (k0_t3 : Fin k0_t3_loop.trips) : BitVec 32 :=
  let c0_i32_105 : BitVec 32 := 0#32
  let c1_i32_106 : BitVec 32 := 1#32
  let arg12 : BitVec 32 := Scf.iv c0_i32_105 c1_i32_106 k0_t3
  let c3_i32_381 : BitVec 32 := 3#32
  let v655 : BitVec 32 := Scalar.muli arg12 c3_i32_381
  let c0_i32_382 : BitVec 32 := 0#32
  let v656 : BitVec 32 := Scalar.addi v655 c0_i32_382
  let c128_i32 : BitVec 32 := 128#32
  let v657 : BitVec 32 := Scalar.muli v656 c128_i32
  v657
def k0_off31 (k0_t3 : Fin k0_t3_loop.trips) (c0_i32_382 : BitVec 32) : Fin 3 → Nat :=
  let c0_383 : Index := 0#32
  let c0_384 : Index := 0#32
  let c0_i32_105 : BitVec 32 := 0#32
  let c1_i32_106 : BitVec 32 := 1#32
  let arg12 : BitVec 32 := Scf.iv c0_i32_105 c1_i32_106 k0_t3
  let c3_i32_381 : BitVec 32 := 3#32
  let v655 : BitVec 32 := Scalar.muli arg12 c3_i32_381
  let v656 : BitVec 32 := Scalar.addi v655 c0_i32_382
  let c128_i32 : BitVec 32 := 128#32
  let v657 : BitVec 32 := Scalar.muli v656 c128_i32
  let v658 : BitVec 32 := v657
  let v660 : Index := Scalar.indexCast v658
  ![0, 0, v660.toNat]
def k0_mult9 (k0_t3 : Fin k0_t3_loop.trips) : BitVec 32 :=
  let c0_i32_105 : BitVec 32 := 0#32
  let c1_i32_106 : BitVec 32 := 1#32
  let arg12 : BitVec 32 := Scf.iv c0_i32_105 c1_i32_106 k0_t3
  let c3_i32_579 : BitVec 32 := 3#32
  let v1039 : BitVec 32 := Scalar.muli arg12 c3_i32_579
  let c1_i32_580 : BitVec 32 := 1#32
  let v1040 : BitVec 32 := Scalar.addi v1039 c1_i32_580
  let c128_i32_581 : BitVec 32 := 128#32
  let v1041 : BitVec 32 := Scalar.muli v1040 c128_i32_581
  v1041
def k0_mult10 (k0_t3 : Fin k0_t3_loop.trips) : BitVec 32 :=
  let c0_i32_105 : BitVec 32 := 0#32
  let c1_i32_106 : BitVec 32 := 1#32
  let arg12 : BitVec 32 := Scf.iv c0_i32_105 c1_i32_106 k0_t3
  let c3_i32_778 : BitVec 32 := 3#32
  let v1423 : BitVec 32 := Scalar.muli arg12 c3_i32_778
  let c2_i32_779 : BitVec 32 := 2#32
  let v1424 : BitVec 32 := Scalar.addi v1423 c2_i32_779
  let c128_i32_780 : BitVec 32 := 128#32
  let v1425 : BitVec 32 := Scalar.muli v1424 c128_i32_780
  v1425
def k0_cond5 (i : grid0.Coords) : BitVec 1 :=
  let arg1 : BitVec 32 := BitVec.ofNat 32 (i 1).val
  let c3_i32 : BitVec 32 := 3#32
  let v117 : BitVec 1 := Scalar.cmpi .eq arg1 c3_i32
  let v118 : BitVec 32 := Scalar.extui v117
  let c0_i32_104 : BitVec 32 := 0#32
  let v119 : BitVec 1 := Scalar.cmpi .ne v118 c0_i32_104
  v119

@[reducible] def k0_t4_loop : Scf.Loop 32 :=
  let c0_i32_105 : BitVec 32 := 0#32
  let c8_i32 : BitVec 32 := 8#32
  let v120 : BitVec 32 := Scalar.addi c0_i32_105 c8_i32
  let c1_i32_106 : BitVec 32 := 1#32
  ⟨c0_i32_105, v120, c1_i32_106⟩
def k0_off32 (k0_t4 : Fin k0_t4_loop.trips) (c0_i32_109 : BitVec 32) : Fin 3 → Nat :=
  let c0_i32_105 : BitVec 32 := 0#32
  let c1_i32_106 : BitVec 32 := 1#32
  let arg12 : BitVec 32 := Scf.iv c0_i32_105 c1_i32_106 k0_t4
  let c3_i32_108 : BitVec 32 := 3#32
  let v121 : BitVec 32 := Scalar.muli arg12 c3_i32_108
  let v122 : BitVec 32 := Scalar.addi v121 c0_i32_109
  let v123 : Index := Scalar.indexCast v122
  let c0_110 : Index := 0#32
  let c0_111 : Index := 0#32
  ![v123.toNat, 0, 0]
def k0_off33 (k0_t4 : Fin k0_t4_loop.trips) : Fin 3 → Nat :=
  let c0_i32_105 : BitVec 32 := 0#32
  let c1_i32_106 : BitVec 32 := 1#32
  let arg12 : BitVec 32 := Scf.iv c0_i32_105 c1_i32_106 k0_t4
  let v126 : Index := Scalar.indexCast arg12
  let c0_112 : Index := 0#32
  let c0_113 : Index := 0#32
  ![v126.toNat, 0, 0]
def k0_off34 (k0_t4 : Fin k0_t4_loop.trips) : Fin 3 → Nat :=
  let c0_i32_105 : BitVec 32 := 0#32
  let c1_i32_106 : BitVec 32 := 1#32
  let arg12 : BitVec 32 := Scf.iv c0_i32_105 c1_i32_106 k0_t4
  let v135 : Index := Scalar.indexCast arg12
  let c256 : Index := 256#32
  let c0_119 : Index := 0#32
  ![v135.toNat, 256, 0]
def k0_off35 (k0_t4 : Fin k0_t4_loop.trips) : Fin 3 → Nat :=
  let c0_i32_105 : BitVec 32 := 0#32
  let c1_i32_106 : BitVec 32 := 1#32
  let arg12 : BitVec 32 := Scf.iv c0_i32_105 c1_i32_106 k0_t4
  let v145 : Index := Scalar.indexCast arg12
  let c512 : Index := 512#32
  let c0_125 : Index := 0#32
  ![v145.toNat, 512, 0]
def k0_off36 (k0_t4 : Fin k0_t4_loop.trips) : Fin 3 → Nat :=
  let c0_i32_105 : BitVec 32 := 0#32
  let c1_i32_106 : BitVec 32 := 1#32
  let arg12 : BitVec 32 := Scf.iv c0_i32_105 c1_i32_106 k0_t4
  let v155 : Index := Scalar.indexCast arg12
  let c768 : Index := 768#32
  let c0_131 : Index := 0#32
  ![v155.toNat, 768, 0]
def k0_off37 (k0_t4 : Fin k0_t4_loop.trips) : Fin 3 → Nat :=
  let c0_i32_105 : BitVec 32 := 0#32
  let c1_i32_106 : BitVec 32 := 1#32
  let arg12 : BitVec 32 := Scf.iv c0_i32_105 c1_i32_106 k0_t4
  let v786 : Index := Scalar.indexCast arg12
  let c0_443 : Index := 0#32
  let c0_444 : Index := 0#32
  ![v786.toNat, 0, 0]
def k0_mult11 (k0_t4 : Fin k0_t4_loop.trips) : BitVec 32 :=
  let c0_i32_105 : BitVec 32 := 0#32
  let c1_i32_106 : BitVec 32 := 1#32
  let arg12 : BitVec 32 := Scf.iv c0_i32_105 c1_i32_106 k0_t4
  let c3_i32_450 : BitVec 32 := 3#32
  let v797 : BitVec 32 := Scalar.muli arg12 c3_i32_450
  let c0_i32_451 : BitVec 32 := 0#32
  let v798 : BitVec 32 := Scalar.addi v797 c0_i32_451
  let c128_i32 : BitVec 32 := 128#32
  let v799 : BitVec 32 := Scalar.muli v798 c128_i32
  v799
def k0_off38 (k0_t4 : Fin k0_t4_loop.trips) (c0_i32_451 : BitVec 32) : Fin 3 → Nat :=
  let c0_452 : Index := 0#32
  let c0_453 : Index := 0#32
  let c0_i32_105 : BitVec 32 := 0#32
  let c1_i32_106 : BitVec 32 := 1#32
  let arg12 : BitVec 32 := Scf.iv c0_i32_105 c1_i32_106 k0_t4
  let c3_i32_450 : BitVec 32 := 3#32
  let v797 : BitVec 32 := Scalar.muli arg12 c3_i32_450
  let v798 : BitVec 32 := Scalar.addi v797 c0_i32_451
  let c128_i32 : BitVec 32 := 128#32
  let v799 : BitVec 32 := Scalar.muli v798 c128_i32
  let v800 : BitVec 32 := v799
  let v802 : Index := Scalar.indexCast v800
  ![0, 0, v802.toNat]
def k0_mult12 (k0_t4 : Fin k0_t4_loop.trips) : BitVec 32 :=
  let c0_i32_105 : BitVec 32 := 0#32
  let c1_i32_106 : BitVec 32 := 1#32
  let arg12 : BitVec 32 := Scf.iv c0_i32_105 c1_i32_106 k0_t4
  let c3_i32_704 : BitVec 32 := 3#32
  let v1293 : BitVec 32 := Scalar.muli arg12 c3_i32_704
  let c1_i32_705 : BitVec 32 := 1#32
  let v1294 : BitVec 32 := Scalar.addi v1293 c1_i32_705
  let c128_i32_706 : BitVec 32 := 128#32
  let v1295 : BitVec 32 := Scalar.muli v1294 c128_i32_706
  v1295
def k0_mult13 (k0_t4 : Fin k0_t4_loop.trips) : BitVec 32 :=
  let c0_i32_105 : BitVec 32 := 0#32
  let c1_i32_106 : BitVec 32 := 1#32
  let arg12 : BitVec 32 := Scf.iv c0_i32_105 c1_i32_106 k0_t4
  let c3_i32_959 : BitVec 32 := 3#32
  let v1789 : BitVec 32 := Scalar.muli arg12 c3_i32_959
  let c2_i32_960 : BitVec 32 := 2#32
  let v1790 : BitVec 32 := Scalar.addi v1789 c2_i32_960
  let c128_i32_961 : BitVec 32 := 128#32
  let v1791 : BitVec 32 := Scalar.muli v1790 c128_i32_961
  v1791
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x24x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "coef" => some (((11863283 * 134217728⁻¹) * (Real.log 2)⁻¹ : ℝ) : EReal)
  | _ => none
-- ==== ReferenceIdeal.lean ====
abbrev S2x24x128x1024 : Shape := ⟨4, ![2, 24, 128, 1024]⟩
abbrev S2x8x1024x128 : Shape := ⟨4, ![2, 8, 1024, 128]⟩
abbrev S2x8x128x1024 : Shape := ⟨4, ![2, 8, 128, 1024]⟩
abbrev S2x8x3x128x1024 : Shape := ⟨5, ![2, 8, 3, 128, 1024]⟩
abbrev S2x8x3x1024x1024 : Shape := ⟨5, ![2, 8, 3, 1024, 1024]⟩
abbrev S_ : Shape := ⟨0, ![]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S2x8x3x1024 : Shape := ⟨4, ![2, 8, 3, 1024]⟩
abbrev S2x8x3x1024x1 : Shape := ⟨5, ![2, 8, 3, 1024, 1]⟩
abbrev S2x8x3x1024x128 : Shape := ⟨5, ![2, 8, 3, 1024, 128]⟩
abbrev S2x1024x8x3x128 : Shape := ⟨5, ![2, 1024, 8, 3, 128]⟩
abbrev S2x1024x3072 : Shape := ⟨3, ![2, 1024, 3072]⟩

abbrev nBuf : Space → Nat
  | .hbm => 35
  | .vmem => 0
  | .smem => 0
  | _ => 0

abbrev bufTy : (tb : Table) → Fin (tcTables nBuf tb) → BufTy
  | .hbm, ⟨0, _⟩ => ⟨S2x24x128x1024, .bf16⟩
  | .hbm, ⟨1, _⟩ => ⟨S2x8x1024x128, .bf16⟩
  | .hbm, ⟨2, _⟩ => ⟨S2x8x128x1024, .bf16⟩
  | .hbm, ⟨3, _⟩ => ⟨S2x8x3x128x1024, .bf16⟩
  | .hbm, ⟨4, _⟩ => ⟨S2x8x3x1024x1024, .f32⟩
  | .hbm, ⟨5, _⟩ => ⟨S_, .f32⟩
  | .hbm, ⟨6, _⟩ => ⟨S2x8x3x1024x1024, .f32⟩
  | .hbm, ⟨7, _⟩ => ⟨S2x8x3x1024x1024, .f32⟩
  | .hbm, ⟨8, _⟩ => ⟨S1024, .i32⟩
  | .hbm, ⟨9, _⟩ => ⟨S1x1024, .i32⟩
  | .hbm, ⟨10, _⟩ => ⟨S1024x1, .i32⟩
  | .hbm, ⟨11, _⟩ => ⟨S1024x1024, .i32⟩
  | .hbm, ⟨12, _⟩ => ⟨S1024x1024, .i32⟩
  | .hbm, ⟨13, _⟩ => ⟨S1024x1024, .i1⟩
  | .hbm, ⟨14, _⟩ => ⟨S_, .f32⟩
  | .hbm, ⟨15, _⟩ => ⟨S_, .f32⟩
  | .hbm, ⟨16, _⟩ => ⟨S2x8x3x1024x1024, .i1⟩
  | .hbm, ⟨17, _⟩ => ⟨S2x8x3x1024x1024, .f32⟩
  | .hbm, ⟨18, _⟩ => ⟨S2x8x3x1024x1024, .f32⟩
  | .hbm, ⟨19, _⟩ => ⟨S_, .f32⟩
  | .hbm, ⟨20, _⟩ => ⟨S2x8x3x1024, .f32⟩
  | .hbm, ⟨21, _⟩ => ⟨S2x8x3x1024x1, .f32⟩
  | .hbm, ⟨22, _⟩ => ⟨S2x8x3x1024x1024, .f32⟩
  | .hbm, ⟨23, _⟩ => ⟨S2x8x3x1024x1024, .f32⟩
  | .hbm, ⟨24, _⟩ => ⟨S2x8x3x1024x1024, .f32⟩
  | .hbm, ⟨25, _⟩ => ⟨S_, .f32⟩
  | .hbm, ⟨26, _⟩ => ⟨S2x8x3x1024, .f32⟩
  | .hbm, ⟨27, _⟩ => ⟨S2x8x3x1024x1024, .bf16⟩
  | .hbm, ⟨28, _⟩ => ⟨S2x8x3x1024x128, .f32⟩
  | .hbm, ⟨29, _⟩ => ⟨S2x8x3x1024x1, .f32⟩
  | .hbm, ⟨30, _⟩ => ⟨S2x8x3x1024x128, .f32⟩
  | .hbm, ⟨31, _⟩ => ⟨S2x8x3x1024x128, .f32⟩
  | .hbm, ⟨32, _⟩ => ⟨S2x8x3x1024x128, .bf16⟩
  | .hbm, ⟨33, _⟩ => ⟨S2x1024x8x3x128, .bf16⟩
  | .hbm, ⟨34, _⟩ => ⟨S2x1024x3072, .bf16⟩
  | _, _ => ⟨S2x24x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== KernelK.lean ====
abbrev S2x1024x8x128 : Shape := ⟨4, ![2, 1024, 8, 128]⟩
abbrev S2x8x4x1024 : Shape := ⟨4, ![2, 8, 4, 1024]⟩
abbrev S1x256x8x128 : Shape := ⟨4, ![1, 256, 8, 128]⟩
abbrev S1x8x4x256 : Shape := ⟨4, ![1, 8, 4, 256]⟩
abbrev S8x1024x128 : Shape := ⟨3, ![8, 1024, 128]⟩
abbrev S4x128x256 : Shape := ⟨3, ![4, 128, 256]⟩
abbrev S16x256 : Shape := ⟨2, ![16, 256]⟩
abbrev S2x2x72x128 : Shape := ⟨4, ![2, 2, 72, 128]⟩
abbrev S2048x128 : Shape := ⟨2, ![2048, 128]⟩
abbrev S1024x128 : Shape := ⟨2, ![1024, 128]⟩
abbrev S256x128 : Shape := ⟨2, ![256, 128]⟩
abbrev S1x256x2x128 : Shape := ⟨4, ![1, 256, 2, 128]⟩
abbrev S1x256x1x128 : Shape := ⟨4, ![1, 256, 1, 128]⟩
abbrev S128x256 : Shape := ⟨2, ![128, 256]⟩
abbrev S1x128x256 : Shape := ⟨3, ![1, 128, 256]⟩
abbrev S1x32x256 : Shape := ⟨3, ![1, 32, 256]⟩
abbrev S32x256 : Shape := ⟨2, ![32, 256]⟩
abbrev S8x256 : Shape := ⟨2, ![8, 256]⟩
abbrev S8x128 : Shape := ⟨2, ![8, 128]⟩
abbrev S1x2x72x128 : Shape := ⟨4, ![1, 2, 72, 128]⟩
abbrev S2x72x128 : Shape := ⟨3, ![2, 72, 128]⟩
abbrev S1x72x128 : Shape := ⟨3, ![1, 72, 128]⟩
abbrev S72x128 : Shape := ⟨2, ![72, 128]⟩
abbrev S16x128 : Shape := ⟨2, ![16, 128]⟩
abbrev S4x256 : Shape := ⟨2, ![4, 256]⟩
abbrev S1x1x4x256 : Shape := ⟨4, ![1, 1, 4, 256]⟩
abbrev S1x256 : Shape := ⟨2, ![1, 256]⟩
abbrev S1x256x4x128 : Shape := ⟨4, ![1, 256, 4, 128]⟩
abbrev S1x256x128 : Shape := ⟨3, ![1, 256, 128]⟩
abbrev S2x1024x8x4 : Shape := ⟨4, ![2, 1024, 8, 4]⟩

abbrev nBuf : Space → Nat
  | .hbm => 4
  | .vmem => 13
  | .smem => 0
  | _ => 0

abbrev bufTy : (tb : Table) → Fin (tcTables nBuf tb) → BufTy
  | .hbm, ⟨0, _⟩ => ⟨S2x1024x8x128, .bf16⟩
  | .hbm, ⟨1, _⟩ => ⟨S2x1024x8x128, .fp8e4m3⟩
  | .hbm, ⟨2, _⟩ => ⟨S2x8x4x1024, .i8⟩
  | .hbm, ⟨3, _⟩ => ⟨S2x1024x8x4, .i8⟩
  | .local _ .vmem, ⟨0, _⟩ => ⟨S1x256x8x128, .bf16⟩
  | .local _ .vmem, ⟨1, _⟩ => ⟨S1x256x8x128, .bf16⟩
  | .local _ .vmem, ⟨2, _⟩ => ⟨S1x256x8x128, .fp8e4m3⟩
  | .local _ .vmem, ⟨3, _⟩ => ⟨S1x256x8x128, .fp8e4m3⟩
  | .local _ .vmem, ⟨4, _⟩ => ⟨S1x8x4x256, .i8⟩
  | .local _ .vmem, ⟨5, _⟩ => ⟨S1x8x4x256, .i8⟩
  | .local _ .vmem, ⟨6, _⟩ => ⟨S8x1024x128, .bf16⟩
  | .local _ .vmem, ⟨7, _⟩ => ⟨S4x128x256, .bf16⟩
  | .local _ .vmem, ⟨8, _⟩ => ⟨S4x128x256, .fp8e4m3⟩
  | .local _ .vmem, ⟨9, _⟩ => ⟨S16x256, .i32⟩
  | .local _ .vmem, ⟨10, _⟩ => ⟨S16x256, .i32⟩
  | .local _ .vmem, ⟨11, _⟩ => ⟨S2x2x72x128, .i32⟩
  | .local _ .vmem, ⟨12, _⟩ => ⟨S4x128x256, .bf16⟩
  | _, _ => ⟨S2x1024x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![2, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_971 : Index := 0#32
  let arg1 : BitVec 32 := BitVec.ofNat 32 (i 1).val
  let c256_i32 : BitVec 32 := 256#32
  let v0 : BitVec 32 := Scalar.muli arg1 c256_i32
  let v1 : BitVec 32 := v0
  let v1307 : Index := Scalar.indexCast v1
  let c0_972 : Index := 0#32
  ![0, v1307.toNat, 0]
def k0_off2 (i : grid0.Coords) : Fin 3 → Nat :=
  let c1_976 : Index := 1#32
  let arg1 : BitVec 32 := BitVec.ofNat 32 (i 1).val
  let c256_i32 : BitVec 32 := 256#32
  let v0 : BitVec 32 := Scalar.muli arg1 c256_i32
  let v1 : BitVec 32 := v0
  let v1314 : Index := Scalar.indexCast v1
  let c0_977 : Index := 0#32
  ![1, v1314.toNat, 0]
def k0_off3 (i : grid0.Coords) : Fin 3 → Nat :=
  let c2_981 : Index := 2#32
  let arg1 : BitVec 32 := BitVec.ofNat 32 (i 1).val
  let c256_i32 : BitVec 32 := 256#32
  let v0 : BitVec 32 := Scalar.muli arg1 c256_i32
  let v1 : BitVec 32 := v0
  let v1321 : Index := Scalar.indexCast v1
  let c0_982 : Index := 0#32
  ![2, v1321.toNat, 0]
def k0_off4 (i : grid0.Coords) : Fin 3 → Nat :=
  let c3_986 : Index := 3#32
  let arg1 : BitVec 32 := BitVec.ofNat 32 (i 1).val
  let c256_i32 : BitVec 32 := 256#32
  let v0 : BitVec 32 := Scalar.muli arg1 c256_i32
  let v1 : BitVec 32 := v0
  let v1328 : Index := Scalar.indexCast v1
  let c0_987 : Index := 0#32
  ![3, v1328.toNat, 0]
def k0_off5 (i : grid0.Coords) : Fin 3 → Nat :=
  let c4_1999 : Index := 4#32
  let arg1 : BitVec 32 := BitVec.ofNat 32 (i 1).val
  let c256_i32 : BitVec 32 := 256#32
  let v0 : BitVec 32 := Scalar.muli arg1 c256_i32
  let v1 : BitVec 32 := v0
  let v2637 : Index := Scalar.indexCast v1
  let c0_2000 : Index := 0#32
  ![4, v2637.toNat, 0]
def k0_off6 (i : grid0.Coords) : Fin 3 → Nat :=
  let c5_2004 : Index := 5#32
  let arg1 : BitVec 32 := BitVec.ofNat 32 (i 1).val
  let c256_i32 : BitVec 32 := 256#32
  let v0 : BitVec 32 := Scalar.muli arg1 c256_i32
  let v1 : BitVec 32 := v0
  let v2644 : Index := Scalar.indexCast v1
  let c0_2005 : Index := 0#32
  ![5, v2644.toNat, 0]
def k0_off7 (i : grid0.Coords) : Fin 3 → Nat :=
  let c6_2009 : Index := 6#32
  let arg1 : BitVec 32 := BitVec.ofNat 32 (i 1).val
  let c256_i32 : BitVec 32 := 256#32
  let v0 : BitVec 32 := Scalar.muli arg1 c256_i32
  let v1 : BitVec 32 := v0
  let v2651 : Index := Scalar.indexCast v1
  let c0_2010 : Index := 0#32
  ![6, v2651.toNat, 0]
def k0_off8 (i : grid0.Coords) : Fin 3 → Nat :=
  let c7_2014 : Index := 7#32
  let arg1 : BitVec 32 := BitVec.ofNat 32 (i 1).val
  let c256_i32 : BitVec 32 := 256#32
  let v0 : BitVec 32 := Scalar.muli arg1 c256_i32
  let v1 : BitVec 32 := v0
  let v2658 : Index := Scalar.indexCast v1
  let c0_2015 : Index := 0#32
  ![7, v2658.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelKIdeal.lean ====
abbrev S2x1024x8x128 : Shape := ⟨4, ![2, 1024, 8, 128]⟩
abbrev S2x8x4x1024 : Shape := ⟨4, ![2, 8, 4, 1024]⟩
abbrev S1x256x8x128 : Shape := ⟨4, ![1, 256, 8, 128]⟩
abbrev S1x8x4x256 : Shape := ⟨4, ![1, 8, 4, 256]⟩
abbrev S8x1024x128 : Shape := ⟨3, ![8, 1024, 128]⟩
abbrev S4x128x256 : Shape := ⟨3, ![4, 128, 256]⟩
abbrev S16x256 : Shape := ⟨2, ![16, 256]⟩
abbrev S2x2x72x128 : Shape := ⟨4, ![2, 2, 72, 128]⟩
abbrev S2x2x72x2x128 : Shape := ⟨5, ![2, 2, 72, 2, 128]⟩
abbrev S2x2x72x1x128 : Shape := ⟨5, ![2, 2, 72, 1, 128]⟩
abbrev S2048x128 : Shape := ⟨2, ![2048, 128]⟩
abbrev S1024x128 : Shape := ⟨2, ![1024, 128]⟩
abbrev S256x128 : Shape := ⟨2, ![256, 128]⟩
abbrev S1x256x2x128 : Shape := ⟨4, ![1, 256, 2, 128]⟩
abbrev S1x256x1x128 : Shape := ⟨4, ![1, 256, 1, 128]⟩
abbrev S128x256 : Shape := ⟨2, ![128, 256]⟩
abbrev S1x128x256 : Shape := ⟨3, ![1, 128, 256]⟩
abbrev S1x32x256 : Shape := ⟨3, ![1, 32, 256]⟩
abbrev S32x256 : Shape := ⟨2, ![32, 256]⟩
abbrev S8x256 : Shape := ⟨2, ![8, 256]⟩
abbrev S8x128 : Shape := ⟨2, ![8, 128]⟩
abbrev S1x2x72x2x128 : Shape := ⟨5, ![1, 2, 72, 2, 128]⟩
abbrev S2x72x2x128 : Shape := ⟨4, ![2, 72, 2, 128]⟩
abbrev S1x72x2x128 : Shape := ⟨4, ![1, 72, 2, 128]⟩
abbrev S72x2x128 : Shape := ⟨3, ![72, 2, 128]⟩
abbrev S8x2x128 : Shape := ⟨3, ![8, 2, 128]⟩
abbrev S8x1x128 : Shape := ⟨3, ![8, 1, 128]⟩
abbrev S16x128 : Shape := ⟨2, ![16, 128]⟩
abbrev S4x256 : Shape := ⟨2, ![4, 256]⟩
abbrev S1x1x4x256 : Shape := ⟨4, ![1, 1, 4, 256]⟩
abbrev S1x256 : Shape := ⟨2, ![1, 256]⟩
abbrev S1x256x4x128 : Shape := ⟨4, ![1, 256, 4, 128]⟩
abbrev S1x256x128 : Shape := ⟨3, ![1, 256, 128]⟩
abbrev S2x1024x8x4 : Shape := ⟨4, ![2, 1024, 8, 4]⟩

abbrev nBuf : Space → Nat
  | .hbm => 4
  | .vmem => 13
  | .smem => 0
  | _ => 0

abbrev bufTy : (tb : Table) → Fin (tcTables nBuf tb) → BufTy
  | .hbm, ⟨0, _⟩ => ⟨S2x1024x8x128, .bf16⟩
  | .hbm, ⟨1, _⟩ => ⟨S2x1024x8x128, .fp8e4m3⟩
  | .hbm, ⟨2, _⟩ => ⟨S2x8x4x1024, .i8⟩
  | .hbm, ⟨3, _⟩ => ⟨S2x1024x8x4, .i8⟩
  | .local _ .vmem, ⟨0, _⟩ => ⟨S1x256x8x128, .bf16⟩
  | .local _ .vmem, ⟨1, _⟩ => ⟨S1x256x8x128, .bf16⟩
  | .local _ .vmem, ⟨2, _⟩ => ⟨S1x256x8x128, .fp8e4m3⟩
  | .local _ .vmem, ⟨3, _⟩ => ⟨S1x256x8x128, .fp8e4m3⟩
  | .local _ .vmem, ⟨4, _⟩ => ⟨S1x8x4x256, .i8⟩
  | .local _ .vmem, ⟨5, _⟩ => ⟨S1x8x4x256, .i8⟩
  | .local _ .vmem, ⟨6, _⟩ => ⟨S8x1024x128, .bf16⟩
  | .local _ .vmem, ⟨7, _⟩ => ⟨S4x128x256, .bf16⟩
  | .local _ .vmem, ⟨8, _⟩ => ⟨S4x128x256, .fp8e4m3⟩
  | .local _ .vmem, ⟨9, _⟩ => ⟨S16x256, .i32⟩
  | .local _ .vmem, ⟨10, _⟩ => ⟨S16x256, .i32⟩
  | .local _ .vmem, ⟨11, _⟩ => ⟨S2x2x72x2x128, .bf16⟩
  | .local _ .vmem, ⟨12, _⟩ => ⟨S4x128x256, .bf16⟩
  | _, _ => ⟨S2x1024x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0_971 : Index := 0#32
  let arg1 : BitVec 32 := BitVec.ofNat 32 (i 1).val
  let c256_i32 : BitVec 32 := 256#32
  let v0 : BitVec 32 := Scalar.muli arg1 c256_i32
  let v1 : BitVec 32 := v0
  let v1307 : Index := Scalar.indexCast v1
  let c0_972 : Index := 0#32
  ![0, v1307.toNat, 0]
def k0_off2 (i : grid0.Coords) : Fin 3 → Nat :=
  let c1_976 : Index := 1#32
  let arg1 : BitVec 32 := BitVec.ofNat 32 (i 1).val
  let c256_i32 : BitVec 32 := 256#32
  let v0 : BitVec 32 := Scalar.muli arg1 c256_i32
  let v1 : BitVec 32 := v0
  let v1314 : Index := Scalar.indexCast v1
  let c0_977 : Index := 0#32
  ![1, v1314.toNat, 0]
def k0_off3 (i : grid0.Coords) : Fin 3 → Nat :=
  let c2_981 : Index := 2#32
  let arg1 : BitVec 32 := BitVec.ofNat 32 (i 1).val
  let c256_i32 : BitVec 32 := 256#32
  let v0 : BitVec 32 := Scalar.muli arg1 c256_i32
  let v1 : BitVec 32 := v0
  let v1321 : Index := Scalar.indexCast v1
  let c0_982 : Index := 0#32
  ![2, v1321.toNat, 0]
def k0_off4 (i : grid0.Coords) : Fin 3 → Nat :=
  let c3_986 : Index := 3#32
  let arg1 : BitVec 32 := BitVec.ofNat 32 (i 1).val
  let c256_i32 : BitVec 32 := 256#32
  let v0 : BitVec 32 := Scalar.muli arg1 c256_i32
  let v1 : BitVec 32 := v0
  let v1328 : Index := Scalar.indexCast v1
  let c0_987 : Index := 0#32
  ![3, v1328.toNat, 0]
def k0_off5 (i : grid0.Coords) : Fin 3 → Nat :=
  let c4_1999 : Index := 4#32
  let arg1 : BitVec 32 := BitVec.ofNat 32 (i 1).val
  let c256_i32 : BitVec 32 := 256#32
  let v0 : BitVec 32 := Scalar.muli arg1 c256_i32
  let v1 : BitVec 32 := v0
  let v2637 : Index := Scalar.indexCast v1
  let c0_2000 : Index := 0#32
  ![4, v2637.toNat, 0]
def k0_off6 (i : grid0.Coords) : Fin 3 → Nat :=
  let c5_2004 : Index := 5#32
  let arg1 : BitVec 32 := BitVec.ofNat 32 (i 1).val
  let c256_i32 : BitVec 32 := 256#32
  let v0 : BitVec 32 := Scalar.muli arg1 c256_i32
  let v1 : BitVec 32 := v0
  let v2644 : Index := Scalar.indexCast v1
  let c0_2005 : Index := 0#32
  ![5, v2644.toNat, 0]
def k0_off7 (i : grid0.Coords) : Fin 3 → Nat :=
  let c6_2009 : Index := 6#32
  let arg1 : BitVec 32 := BitVec.ofNat 32 (i 1).val
  let c256_i32 : BitVec 32 := 256#32
  let v0 : BitVec 32 := Scalar.muli arg1 c256_i32
  let v1 : BitVec 32 := v0
  let v2651 : Index := Scalar.indexCast v1
  let c0_2010 : Index := 0#32
  ![6, v2651.toNat, 0]
def k0_off8 (i : grid0.Coords) : Fin 3 → Nat :=
  let c7_2014 : Index := 7#32
  let arg1 : BitVec 32 := BitVec.ofNat 32 (i 1).val
  let c256_i32 : BitVec 32 := 256#32
  let v0 : BitVec 32 := Scalar.muli arg1 c256_i32
  let v1 : BitVec 32 := v0
  let v2658 : Index := Scalar.indexCast v1
  let c0_2015 : Index := 0#32
  ![7, v2658.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x8x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKIdeal.lean ====
abbrev S2x1024x8x128 : Shape := ⟨4, ![2, 1024, 8, 128]⟩
abbrev S2x1024x8x4x32 : Shape := ⟨5, ![2, 1024, 8, 4, 32]⟩
abbrev S_ : Shape := ⟨0, ![]⟩
abbrev S2x1024x8x4 : Shape := ⟨4, ![2, 1024, 8, 4]⟩
abbrev S2x1024x8x4x1 : Shape := ⟨5, ![2, 1024, 8, 4, 1]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x8x128, .bf16⟩
  | .hbm, ⟨1, _⟩ => ⟨S2x1024x8x128, .f32⟩
  | .hbm, ⟨2, _⟩ => ⟨S2x1024x8x4x32, .f32⟩
  | .hbm, ⟨3, _⟩ => ⟨S2x1024x8x4x32, .f32⟩
  | .hbm, ⟨4, _⟩ => ⟨S_, .f32⟩
  | .hbm, ⟨5, _⟩ => ⟨S2x1024x8x4, .f32⟩
  | .hbm, ⟨6, _⟩ => ⟨S_, .f32⟩
  | .hbm, ⟨7, _⟩ => ⟨S2x1024x8x4, .f32⟩
  | .hbm, ⟨8, _⟩ => ⟨S2x1024x8x4, .f32⟩
  | .hbm, ⟨9, _⟩ => ⟨S2x1024x8x4, .f32⟩
  | .hbm, ⟨10, _⟩ => ⟨S_, .f32⟩
  | .hbm, ⟨11, _⟩ => ⟨S2x1024x8x4, .f32⟩
  | .hbm, ⟨12, _⟩ => ⟨S2x1024x8x4, .f32⟩
  | .hbm, ⟨13, _⟩ => ⟨S2x1024x8x4, .f32⟩
  | .hbm, ⟨14, _⟩ => ⟨S2x1024x8x4, .f32⟩
  | .hbm, ⟨15, _⟩ => ⟨S_, .f32⟩
  | .hbm, ⟨16, _⟩ => ⟨S2x1024x8x4, .f32⟩
  | .hbm, ⟨17, _⟩ => ⟨S2x1024x8x4, .f32⟩
  | .hbm, ⟨18, _⟩ => ⟨S_, .f32⟩
  | .hbm, ⟨19, _⟩ => ⟨S2x1024x8x4, .f32⟩
  | .hbm, ⟨20, _⟩ => ⟨S2x1024x8x4, .i1⟩
  | .hbm, ⟨21, _⟩ => ⟨S_, .f32⟩
  | .hbm, ⟨22, _⟩ => ⟨S_, .f32⟩
  | .hbm, ⟨23, _⟩ => ⟨S2x1024x8x4, .f32⟩
  | .hbm, ⟨24, _⟩ => ⟨S2x1024x8x4, .f32⟩
  | .hbm, ⟨25, _⟩ => ⟨S_, .f32⟩
  | .hbm, ⟨26, _⟩ => ⟨S2x1024x8x4, .f32⟩
  | .hbm, ⟨27, _⟩ => ⟨S2x1024x8x4, .f32⟩
  | .hbm, ⟨28, _⟩ => ⟨S2x1024x8x4, .f32⟩
  | .hbm, ⟨29, _⟩ => ⟨S2x1024x8x4x1, .f32⟩
  | .hbm, ⟨30, _⟩ => ⟨S2x1024x8x4x32, .f32⟩
  | .hbm, ⟨31, _⟩ => ⟨S2x1024x8x4x32, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x1024x8x4x32, .f32⟩
  | .hbm, ⟨36, _⟩ => ⟨S2x1024x8x4x32, .f32⟩
  | .hbm, ⟨37, _⟩ => ⟨S_, .f32⟩
  | .hbm, ⟨38, _⟩ => ⟨S2x1024x8x4x32, .f32⟩
  | .hbm, ⟨39, _⟩ => ⟨S2x1024x8x4x32, .f32⟩
  | .hbm, ⟨40, _⟩ => ⟨S2x1024x8x4x32, .fp8e4m3⟩
  | .hbm, ⟨41, _⟩ => ⟨S2x1024x8x4, .i32⟩
  | .hbm, ⟨42, _⟩ => ⟨S_, .i32⟩
  | .hbm, ⟨43, _⟩ => ⟨S2x1024x8x4, .i32⟩
  | .hbm, ⟨44, _⟩ => ⟨S2x1024x8x4, .i32⟩
  | .hbm, ⟨45, _⟩ => ⟨S2x1024x8x4, .i8⟩
  | .hbm, ⟨46, _⟩ => ⟨S2x1024x8x128, .fp8e4m3⟩
  | _, _ => ⟨S2x1024x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Proof.Attn.lean ====
/-
  One key/value head of one query tile, as a program: three query heads against the keys of `N` full chunks of 256
  and of the diagonal chunk. The printed loop bodies of the kernel are this program at `N = 0, 1, 2, 3`.
-/
module

public import Idealize.ShloMosaic.Lib.VecWindow
public import Idealize.ShloMosaic.Lib.Claim
public import Idealize.ShloMosaic.Lib.Affine

@[expose] public section

noncomputable section

namespace Attn

open Idealize.ShloMosaic Idealize.SL.Sem

abbrev S1d (a : ℕ) : Shape := ⟨1, ![a]⟩
abbrev S2d (a b : ℕ) : Shape := ⟨2, ![a, b]⟩
abbrev S3d (a b c : ℕ) : Shape := ⟨3, ![a, b, c]⟩
abbrev S4d (a b c d : ℕ) : Shape := ⟨4, ![a, b, c, d]⟩

theorem inb2 {A B a b x y : ℕ} (h0 : x + a ≤ A) (h1 : y + b ≤ B) :
    ∀ i, (![x, y] : Fin 2 → ℕ) i + (![a, b] : Fin 2 → ℕ) i ≤ (S2d A B).size i := by
  intro i; fin_cases i <;> assumption

theorem inb3 {A B C a b c x y z : ℕ} (h0 : x + a ≤ A) (h1 : y + b ≤ B) (h2 : z + c ≤ C) :
    ∀ i, (![x, y, z] : Fin 3 → ℕ) i + (![a, b, c] : Fin 3 → ℕ) i ≤ (S3d A B C).size i := by
  intro i; fin_cases i <;> assumption

theorem pos2 {a b : ℕ} (h0 : 0 < a) (h1 : 0 < b) : 0 < (S2d a b).numel := by
  simp only [Shape.numel, Fin.prod_univ_two]; exact Nat.mul_pos h0 h1

theorem pos3 {a b c : ℕ} (h0 : 0 < a) (h1 : 0 < b) (h2 : 0 < c) : 0 < (S3d a b c).numel := by
  simp only [Shape.numel, Fin.prod_univ_three]; exact Nat.mul_pos (Nat.mul_pos h0 h1) h2

theorem cat_top : Shape.Concatenates [S2d 128 128, S2d 128 128] (S2d 128 256) 1 := by decide
theorem cat_m : Shape.Concatenates [S2d 8 128, S2d 8 128] (S2d 8 256) 1 := by decide

section Prog

variable {F : FTy → Type} [FloatOps F]

/-! ### The values -/

/-- Keys times query: the scores of one chunk of 256 keys against the tile's 256 queries, keys down. -/
def sTile (k : FVec F (S3d 1 256 128) .bf16) (q : FVec F (S3d 1 128 256) .bf16) : FVec F (S2d 256 256) .f32 :=
  matmul (DotDims.plain 256 128 256) none (shapeCast (S2d 256 128) k (by decide)) (shapeCast (S2d 128 256) q (by decide))
    (constant (S2d 256 256) .f32 0x00000000#32)

/-- The column maxima of a full chunk, folded to eight rows. -/
def mFull (s : FVec F (S2d 256 256) .f32) : FVec F (S2d 8 256) .f32 :=
  multiReduction .maximumf [0] (S2d 8 256) (shapeCast (S3d 32 8 256) s (by decide)) 0xFF800000#32 (by decide) (.inl rfl) rfl

/-- The diagonal chunk's upper 128 rows: the left square masked, the right one whole. -/
def topTile (s : FVec F (S2d 256 256) .f32) (mk : FVec F (S2d 128 128) .f32) : FVec F (S2d 128 256) .f32 :=
  concatenate (S2d 128 256) 1
    [⟨S2d 128 128, addf (extractStridedSlice (S2d 128 128) ![0, 0] s (by decide)) mk⟩,
     ⟨S2d 128 128, extractStridedSlice (S2d 128 128) ![0, 128] s (by decide)⟩] cat_top

/-- The diagonal chunk's lower right square, masked. -/
def lowTile (s : FVec F (S2d 256 256) .f32) (mk : FVec F (S2d 128 128) .f32) : FVec F (S2d 128 128) .f32 :=
  addf (extractStridedSlice (S2d 128 128) ![128, 128] s (by decide)) mk

/-- The column maxima of the diagonal chunk, folded to eight rows. -/
def mDiag (top : FVec F (S2d 128 256) .f32) (low : FVec F (S2d 128 128) .f32) : FVec F (S2d 8 256) .f32 :=
  let mt : FVec F (S2d 8 256) .f32 :=
    multiReduction .maximumf [0] (S2d 8 256) (shapeCast (S3d 16 8 256) top (by decide)) 0xFF800000#32 (by decide) (.inl rfl) rfl
  let ml : FVec F (S2d 8 128) .f32 :=
    multiReduction .maximumf [0] (S2d 8 128) (shapeCast (S3d 16 8 128) low (by decide)) 0xFF800000#32 (by decide) (.inl rfl) rfl
  concatenate (S2d 8 256) 1
    [⟨S2d 8 128, extractStridedSlice (S2d 8 128) ![0, 0] mt (by decide)⟩,
     ⟨S2d 8 128, maximumf (extractStridedSlice (S2d 8 128) ![0, 128] mt (by decide)) ml⟩] cat_m

/-- The maximum carried from chunk to chunk: the first chunk's own, then the larger. -/
def mJoin (m : Option (FVec F (S2d 8 256) .f32)) (mt : FVec F (S2d 8 256) .f32) : FVec F (S2d 8 256) .f32 :=
  match m with
  | none => mt
  | some m => maximumf m mt

/-- Eight rows of maxima to one row. -/
def mRow (m : FVec F (S2d 8 256) .f32) : FVec F (S2d 1 256) .f32 :=
  shapeCast (S2d 1 256) (multiReduction .maximumf [0] (S1d 256) m 0xFF800000#32 (by decide) (.inl rfl) rfl) (by decide)

/-- The weights of 32 keys: `2 ^ ((s − m) · c)`. -/
def pBlk (c : F .f32) (m : FVec F (S2d 1 256) .f32) (s : FVec F (S3d 1 32 256) .f32) : FVec F (S2d 32 256) .f32 :=
  exp2 (mulf (subf (shapeCast (S2d 32 256) s (by decide)) (broadcastTo (S2d 32 256) m (by decide))) (broadcast (S2d 32 256) c))

/-- The same on the right 128 queries. -/
def pHalf (c : F .f32) (m : FVec F (S2d 1 256) .f32) (s : FVec F (S3d 1 32 128) .f32) : FVec F (S2d 32 128) .f32 :=
  exp2 (mulf (subf (shapeCast (S2d 32 128) s (by decide))
    (broadcastTo (S2d 32 128) (extractStridedSlice (S2d 1 128) ![0, 128] m (by decide)) (by decide))) (broadcast (S2d 32 128) c))

def lBlk (l : FVec F (S2d 8 256) .f32) (p : FVec F (S2d 32 256) .f32) : FVec F (S2d 8 256) .f32 :=
  addf l (multiReduction .add [0] (S2d 8 256) (shapeCast (S3d 4 8 256) p (by decide)) 0x00000000#32 (by decide) (.inl rfl) rfl)

def lHalf (l : FVec F (S2d 8 128) .f32) (p : FVec F (S2d 32 128) .f32) : FVec F (S2d 8 128) .f32 :=
  addf l (multiReduction .add [0] (S2d 8 128) (shapeCast (S3d 4 8 128) p (by decide)) 0x00000000#32 (by decide) (.inl rfl) rfl)

/-- The sums of the weights: eight rows and the right half's eight rows to one row. -/
def lRow (l : FVec F (S2d 8 256) .f32) (lh : FVec F (S2d 8 128) .f32) : FVec F (S2d 1 256) .f32 :=
  shapeCast (S2d 1 256) (multiReduction .add [0] (S1d 256)
    (concatenate (S2d 8 256) 1
      [⟨S2d 8 128, extractStridedSlice (S2d 8 128) ![0, 0] l (by decide)⟩,
       ⟨S2d 8 128, addf (extractStridedSlice (S2d 8 128) ![0, 128] l (by decide)) lh⟩] cat_m)
    0x00000000#32 (by decide) (.inl rfl) rfl) (by decide)

def pStore (p : FVec F (S2d 32 256) .f32) : FVec F (S3d 1 32 256) .fp8e4m3 :=
  shapeCast (S3d 1 32 256) (truncf .fp8e4m3 p (by decide)) (by decide)

def pHalfStore (p : FVec F (S2d 32 128) .f32) : FVec F (S3d 1 32 128) .fp8e4m3 :=
  shapeCast (S3d 1 32 128) (truncf .fp8e4m3 p (by decide)) (by decide)

def pZero : FVec F (S3d 1 32 128) .fp8e4m3 :=
  shapeCast (S3d 1 32 128) (broadcast (S2d 32 128) (Scalar.ofBits .fp8e4m3 0x00#8)) (by decide)

theorem cast_v (N : ℕ) : (S3d 1 128 (256 * (N + 1))).ShapeCasts (S2d 128 (256 * (N + 1))) := by
  simp [Shape.ShapeCasts, Shape.numel, Fin.prod_univ_succ]

theorem cast_p (N : ℕ) : (S3d 1 (256 * (N + 1)) 256).ShapeCasts (S2d (256 * (N + 1)) 256) := by
  simp [Shape.ShapeCasts, Shape.numel, Fin.prod_univ_succ]

/-- The head's output tile: values times weights, times the inverse of the sum, queries down. -/
def oTile (N : ℕ) (v : FVec F (S3d 1 128 (256 * (N + 1))) .bf16) (p : FVec F (S3d 1 (256 * (N + 1)) 256) .fp8e4m3)
    (l : FVec F (S2d 1 256) .f32) : FVec F (S3d 1 256 128) .bf16 :=
  shapeCast (S3d 1 256 128) (transpose (S2d 256 128) [1, 0] (truncf .bf16
    (mulf (matmul (DotDims.plain 128 (256 * (N + 1)) 256) none (shapeCast (S2d 128 (256 * (N + 1))) v (cast_v N))
        (shapeCast (S2d (256 * (N + 1)) 256) p (cast_p N)) (constant (S2d 128 256) .f32 0x00000000#32))
      (broadcastTo (S2d 128 256) (divf (broadcast (S2d 1 256) (Scalar.ofBits .f32 0x3F800000#32)) l) (by decide)))
    (by decide)) (by decide)) (by decide)

/-! ### The program -/

variable {nD : ℕ} {τ : Topo} {sig : RefSig} {Λ₀ : Labels}

/-- Running a body for the counters `0, …, N − 1` in order, one value carried through. -/
def loopN {α : Type} : (N : ℕ) → ((j : ℕ) → j < N → α → Prog (TpuEff nD τ sig (Elt F) Λ₀ .tc) α) → α → Prog (TpuEff nD τ sig (Elt F) Λ₀ .tc) α
  | 0, _, a => pure a
  | N + 1, body, a => do
    let b ← loopN N (fun j h => body j (Nat.lt_succ_of_lt h)) a
    body N (Nat.lt_succ_self N) b

/-- A counted loop is its trips in order. -/
theorem forFrom_concat {E : Type → Type} {n : ℕ} {α : Type} (body : Fin n → α → Prog E α) (k : Fin n) :
    ∀ (l : List (Fin n)) (a : α), Scf.forFrom body (l ++ [k]) a = (Scf.forFrom body l a >>= body k)
  | [], a => by
    show (body k a >>= fun b => Scf.forFrom body [] b) = (Prog.ret a >>= body k)
    exact bind_pure (body k a)
  | j :: l, a => by
    show (body j a >>= fun b => Scf.forFrom body (l ++ [k]) b) = ((body j a >>= fun b => Scf.forFrom body l b) >>= body k)
    rw [bind_assoc]; exact congrArg _ (funext fun b => forFrom_concat body k l b)

theorem forFrom_map {E : Type → Type} {n m : ℕ} {α : Type} (body : Fin n → α → Prog E α) (f : Fin m → Fin n) :
    ∀ (l : List (Fin m)) (a : α), Scf.forFrom body (l.map f) a = Scf.forFrom (fun k => body (f k)) l a
  | [], _ => rfl
  | j :: l, a => congrArg (body (f j) a >>= ·) (funext fun b => forFrom_map body f l b)

theorem forFrom_finRange {α : Type} : ∀ (n : ℕ) (body : Fin n → α → Prog (TpuEff nD τ sig (Elt F) Λ₀ .tc) α) (a : α),
    Scf.forFrom body (List.finRange n) a = loopN n (fun j h => body ⟨j, h⟩) a
  | 0, _, _ => by rw [List.finRange_zero]; rfl
  | n + 1, body, a => by
    rw [List.finRange_succ_last, forFrom_concat, forFrom_map, forFrom_finRange n]; rfl

/-- The buffers a tile works on: the query, key and value blocks that came in, then queries, keys, values, result, scores, weights and the diagonal mask. -/
structure Refs (sig : RefSig) where
  qi : Memref sig .tc .vmem (S4d 1 24 128 256) .bf16
  ki : Memref sig .tc .vmem (S4d 1 8 256 128) .bf16
  vi : Memref sig .tc .vmem (S4d 1 8 128 256) .bf16
  q : Memref sig .tc .vmem (S3d 24 128 256) .bf16
  k : Memref sig .tc .vmem (S3d 8 1024 128) .bf16
  v : Memref sig .tc .vmem (S3d 8 128 1024) .bf16
  o : Memref sig .tc .vmem (S3d 1 256 3072) .bf16
  s : Memref sig .tc .vmem (S3d 3 1024 256) .f32
  p : Memref sig .tc .vmem (S3d 3 1024 256) .fp8e4m3
  m : Memref sig .tc .vmem (S2d 128 128) .f32
  hq : q.IsWhole
  hk : k.IsWhole
  hv : v.IsWhole
  ho : o.IsWhole
  hp : p.IsWhole

/-- A load of a box of a three-axis buffer. -/
def ld3 {A B C : ℕ} {e : EltTy} (m : Memref sig .tc .vmem (S3d A B C) e) (off : Fin 3 → ℕ) (a b c : ℕ)
    (h : ∀ i, off i + (![a, b, c] : Fin 3 → ℕ) i ≤ (S3d A B C).size i) (hp : 0 < (S3d a b c).numel) :
    Prog (TpuEff nD τ sig (Elt F) Λ₀ .tc) (Vec F (S3d a b c) e) :=
  Prog.lift (.load m (Rect.unit (s := S3d A B C) off ![a, b, c] h).toLoadRect (View.loadsAt_vmem hp))

/-- A load of the whole mask. -/
def ldm (m : Memref sig .tc .vmem (S2d 128 128) .f32) : Prog (TpuEff nD τ sig (Elt F) Λ₀ .tc) (Vec F (S2d 128 128) .f32) :=
  Prog.lift (.load m (Rect.unit (s := S2d 128 128) ![0, 0] ![128, 128] (inb2 (by decide) (by decide))).toLoadRect
    (View.loadsAt_vmem (pos2 (by decide) (by decide))))

/-- An unmasked store of a box of a three-axis buffer. -/
def st3 {A B C : ℕ} {e : EltTy} (m : Memref sig .tc .vmem (S3d A B C) e) (off : Fin 3 → ℕ) (a b c : ℕ)
    (h : ∀ i, off i + (![a, b, c] : Fin 3 → ℕ) i ≤ (S3d A B C).size i) (w : Vec F (S3d a b c) e)
    (hs : (m.access (Rect.unit (s := S3d A B C) off ![a, b, c] h)).Stores Finset.univ) :
    Prog (TpuEff nD τ sig (Elt F) Λ₀ .tc) PUnit :=
  Prog.lift (.store m (Rect.unit (s := S3d A B C) off ![a, b, c] h) w Finset.univ hs (.inl rfl))

theorem packed32 {A B C : ℕ} {off : Fin 3 → ℕ} {b c : ℕ} (j d : ℕ) (h1 : off 1 = 32 * j) (hb : b = 32 * d)
    (h : ∀ i, off i + (![1, b, c] : Fin 3 → ℕ) i ≤ (S3d A B C).size i) :
    (Rect.unit (s := S3d A B C) off ![1, b, c] h).PackedRows 4 :=
  Affine.packed_dvd (s := S3d A B C) (Nat.le_succ 2) (by show 4 ∣ off 1; rw [h1]; omega) (by show 4 ∣ b; omega)

theorem packedO {A B C : ℕ} {x z c : ℕ} (h : ∀ i, (![x, 0, z] : Fin 3 → ℕ) i + (![1, 256, c] : Fin 3 → ℕ) i ≤ (S3d A B C).size i) :
    (Rect.unit (s := S3d A B C) ![x, 0, z] ![1, 256, c] h).PackedRows 2 :=
  Affine.packed_dvd (s := S3d A B C) (Nat.le_succ 2) (by show 2 ∣ 0; omega) (by show 2 ∣ 256; omega)

/-- The scores of query head `g`: stored chunk by chunk, the running maximum returned. -/
def scores (R : Refs sig) (N : ℕ) (hN : N < 4) (kv : ℕ) (hkv : kv < 8) (g : ℕ) (hg : g < 3) :
    Prog (TpuEff nD τ sig (Elt F) Λ₀ .tc) (FVec F (S2d 1 256) .f32) := do
  let q ← ld3 R.q ![3 * kv + g, 0, 0] 1 128 256 (inb3 (by omega) (by decide) (by decide)) (by decide)
  let m ← loopN N (fun c hc m => do
    let k ← ld3 R.k ![kv, 256 * c, 0] 1 256 128 (inb3 (by omega) (by omega) (by decide)) (by decide)
    let _ ← ld3 R.s ![g, 256 * c, 0] 1 256 256 (inb3 (by omega) (by omega) (by decide)) (by decide)
    st3 R.s ![g, 256 * c, 0] 1 256 256 (inb3 (by omega) (by omega) (by decide)) (shapeCast (S3d 1 256 256) (sTile k q) (by decide))
      (View.stores_vmem_bits_univ (pos3 (by decide) (by decide) (by decide)) rfl)
    pure (some (mJoin m (mFull (sTile k q))))) none
  let k ← ld3 R.k ![kv, 256 * N, 0] 1 256 128 (inb3 (by omega) (by omega) (by decide)) (by decide)
  let mk ← ldm R.m
  let mk' ← ldm R.m
  let _ ← ld3 R.s ![g, 256 * N, 0] 1 128 256 (inb3 (by omega) (by omega) (by decide)) (by decide)
  st3 R.s ![g, 256 * N, 0] 1 128 256 (inb3 (by omega) (by omega) (by decide))
    (shapeCast (S3d 1 128 256) (topTile (sTile k q) mk) (by decide)) (View.stores_vmem_bits_univ (pos3 (by decide) (by decide) (by decide)) rfl)
  let _ ← ld3 R.s ![g, 256 * N + 128, 128] 1 128 128 (inb3 (by omega) (by omega) (by decide)) (by decide)
  st3 R.s ![g, 256 * N + 128, 128] 1 128 128 (inb3 (by omega) (by omega) (by decide))
    (shapeCast (S3d 1 128 128) (lowTile (sTile k q) mk') (by decide)) (View.stores_vmem_bits_univ (pos3 (by decide) (by decide) (by decide)) rfl)
  pure (mRow (mJoin m (mDiag (topTile (sTile k q) mk) (lowTile (sTile k q) mk'))))

/-- The weights and the output tile of query head `g`, from its stored scores and their maximum. -/
def attend (c : F .f32) (R : Refs sig) (N : ℕ) (hN : N < 4) (kv : ℕ) (hkv : kv < 8) (g : ℕ) (hg : g < 3) (m : FVec F (S2d 1 256) .f32) :
    Prog (TpuEff nD τ sig (Elt F) Λ₀ .tc) PUnit := do
  let l ← loopN (8 * N + 4) (fun j hj l => do
    let s ← ld3 R.s ![g, 32 * j, 0] 1 32 256 (inb3 (by omega) (by omega) (by decide)) (by decide)
    let _ ← ld3 R.p ![g, 32 * j, 0] 1 32 256 (inb3 (by omega) (by omega) (by decide)) (by decide)
    st3 R.p ![g, 32 * j, 0] 1 32 256 (inb3 (by omega) (by omega) (by decide)) (pStore (pBlk c m s))
      (View.stores_vmem (pos3 (by decide) (by decide) (by decide)) (R.hp.storeExact_slice rfl _ (packed32 j 1 rfl rfl _)) (fun _ => rfl))
    pure (lBlk l (pBlk c m s))) (broadcast (S2d 8 256) (Scalar.ofBits .f32 0x00000000#32))
  let lh ← loopN 4 (fun j hj l => do
    let s ← ld3 R.s ![g, 256 * N + 128 + 32 * j, 128] 1 32 128 (inb3 (by omega) (by omega) (by decide)) (by decide)
    let _ ← ld3 R.p ![g, 256 * N + 128 + 32 * j, 0] 1 32 128 (inb3 (by omega) (by omega) (by decide)) (by decide)
    st3 R.p ![g, 256 * N + 128 + 32 * j, 0] 1 32 128 (inb3 (by omega) (by omega) (by decide)) pZero
      (View.stores_vmem (pos3 (by decide) (by decide) (by decide)) (R.hp.storeExact_slice rfl _ (packed32 (8 * N + 4 + j) 1 (by show _ + _ = _; omega) rfl _)) (fun _ => rfl))
    let _ ← ld3 R.p ![g, 256 * N + 128 + 32 * j, 128] 1 32 128 (inb3 (by omega) (by omega) (by decide)) (by decide)
    st3 R.p ![g, 256 * N + 128 + 32 * j, 128] 1 32 128 (inb3 (by omega) (by omega) (by decide)) (pHalfStore (pHalf c m s))
      (View.stores_vmem (pos3 (by decide) (by decide) (by decide)) (R.hp.storeExact_slice rfl _ (packed32 (8 * N + 4 + j) 1 (by show _ + _ = _; omega) rfl _)) (fun _ => rfl))
    pure (lHalf l (pHalf c m s))) (broadcast (S2d 8 128) (Scalar.ofBits .f32 0x00000000#32))
  let v ← ld3 R.v ![kv, 0, 0] 1 128 (256 * (N + 1)) (inb3 (by omega) (by decide) (by omega)) (pos3 (by decide) (by decide) (by omega))
  let p ← ld3 R.p ![g, 0, 0] 1 (256 * (N + 1)) 256 (inb3 (by omega) (by omega) (by decide)) (pos3 (by decide) (by omega) (by decide))
  let _ ← ld3 R.o ![0, 0, (3 * kv + g) * 128] 1 256 128 (inb3 (by decide) (by decide) (by omega)) (by decide)
  st3 R.o ![0, 0, (3 * kv + g) * 128] 1 256 128 (inb3 (by decide) (by decide) (by omega)) (oTile N v p (lRow l lh))
    (View.stores_vmem (pos3 (by decide) (by decide) (by decide)) (R.ho.storeExact_slice rfl _ (packedO _)) (fun _ => rfl))

/-- One key/value head: the scores of its three query heads, then their weights and outputs. -/
def kvHead (c : F .f32) (R : Refs sig) (N : ℕ) (hN : N < 4) (kv : ℕ) (hkv : kv < 8) : Prog (TpuEff nD τ sig (Elt F) Λ₀ .tc) PUnit := do
  let m0 ← scores R N hN kv hkv 0 (by decide)
  let m1 ← scores R N hN kv hkv 1 (by decide)
  let m2 ← scores R N hN kv hkv 2 (by decide)
  attend c R N hN kv hkv 0 (by decide) m0
  attend c R N hN kv hkv 1 (by decide) m1
  attend c R N hN kv hkv 2 (by decide) m2

/-! ### The whole tile -/

/-- The causal mask of one diagonal square, keys down: `0` where the key is not after the query, `−∞` elsewhere. -/
def maskVal : FVec F (S2d 128 128) .f32 :=
  select (cmpi .sle (iota .tc (S2d 128 128) 32 [0] (by decide)) (iota .tc (S2d 128 128) 32 [1] (by decide)))
    (broadcast (S2d 128 128) (Scalar.ofBits .f32 0x00000000#32)) (broadcast (S2d 128 128) (Scalar.ofBits .f32 0xFF800000#32))

/-- The mask, written at the first point of the grid. -/
def maskInit (R : Refs sig) : Prog (TpuEff nD τ sig (Elt F) Λ₀ .tc) PUnit := do
  let _ ← ldm R.m
  Prog.lift (.store R.m (Rect.unit (s := S2d 128 128) ![0, 0] ![128, 128] (inb2 (by decide) (by decide)))
    (shapeCast (S2d 128 128) maskVal (by decide)) Finset.univ
    (View.stores_vmem_bits_univ (pos2 (by decide) (by decide)) rfl) (.inl rfl))

theorem inb4 {A B C D a b c d x y z w : ℕ} (h0 : x + a ≤ A) (h1 : y + b ≤ B) (h2 : z + c ≤ C) (h3 : w + d ≤ D) :
    ∀ i, (![x, y, z, w] : Fin 4 → ℕ) i + (![a, b, c, d] : Fin 4 → ℕ) i ≤ (S4d A B C D).size i := by
  intro i; fin_cases i <;> assumption

/-- A load of a box of a four-axis buffer. -/
def ld4 {A B C D : ℕ} {e : EltTy} (m : Memref sig .tc .vmem (S4d A B C D) e) (off : Fin 4 → ℕ) (a b c d : ℕ)
    (h : ∀ i, off i + (![a, b, c, d] : Fin 4 → ℕ) i ≤ (S4d A B C D).size i) (hp : 0 < (S4d a b c d).numel) :
    Prog (TpuEff nD τ sig (Elt F) Λ₀ .tc) (Vec F (S4d a b c d) e) :=
  Prog.lift (.load m (Rect.unit (s := S4d A B C D) off ![a, b, c, d] h).toLoadRect (View.loadsAt_vmem hp))

def kCopy (x : Vec F (S4d 1 1 256 128) .bf16) : Vec F (S3d 1 256 128) .bf16 :=
  shapeCast (S3d 1 256 128) (shapeCast (S2d 256 128) x (by decide)) (by decide)

def vCopy (x : Vec F (S4d 1 1 128 256) .bf16) : Vec F (S3d 1 128 256) .bf16 :=
  shapeCast (S3d 1 128 256) (shapeCast (S2d 128 256) x (by decide)) (by decide)

def qCopy (x : Vec F (S4d 1 24 128 256) .bf16) : Vec F (S3d 24 128 256) .bf16 :=
  shapeCast (S3d 24 128 256) (shapeCast (S3d 24 128 256) x (by decide)) (by decide)

theorem packedV {A B C : ℕ} {x z c : ℕ} (h : ∀ i, (![x, 0, z] : Fin 3 → ℕ) i + (![1, 128, c] : Fin 3 → ℕ) i ≤ (S3d A B C).size i) :
    (Rect.unit (s := S3d A B C) ![x, 0, z] ![1, 128, c] h).PackedRows 2 :=
  Affine.packed_dvd (s := S3d A B C) (Nat.le_succ 2) (by show 2 ∣ 0; omega) (by show 2 ∣ 128; omega)

theorem packedK {A B C : ℕ} {x y c : ℕ} (h : ∀ i, (![x, 256 * y, 0] : Fin 3 → ℕ) i + (![1, 256, c] : Fin 3 → ℕ) i ≤ (S3d A B C).size i) :
    (Rect.unit (s := S3d A B C) ![x, 256 * y, 0] ![1, 256, c] h).PackedRows 2 :=
  Affine.packed_dvd (s := S3d A B C) (Nat.le_succ 2) (by show 2 ∣ 256 * y; omega) (by show 2 ∣ 256; omega)

theorem packedQ (h : ∀ i, (![0, 0, 0] : Fin 3 → ℕ) i + (![24, 128, 256] : Fin 3 → ℕ) i ≤ (S3d 24 128 256).size i) :
    (Rect.unit (s := S3d 24 128 256) ![0, 0, 0] ![24, 128, 256] h).PackedRows 2 :=
  Affine.packed_dvd (s := S3d 24 128 256) (Nat.le_succ 2) (by show 2 ∣ 0; omega) (by show 2 ∣ 128; omega)

/-- The point's key and value blocks copied behind the earlier ones, then its queries. -/
def copies (R : Refs sig) (N : ℕ) (hN : N < 4) : Prog (TpuEff nD τ sig (Elt F) Λ₀ .tc) PUnit := do
  loopN 8 (fun h hh _ => do
    let k ← ld4 R.ki ![0, h, 0, 0] 1 1 256 128 (inb4 (by decide) (by omega) (by decide) (by decide)) (by decide)
    let _ ← ld3 R.k ![h, 256 * N, 0] 1 256 128 (inb3 (by omega) (by omega) (by decide)) (by decide)
    st3 R.k ![h, 256 * N, 0] 1 256 128 (inb3 (by omega) (by omega) (by decide)) (kCopy k)
      (View.stores_vmem (pos3 (by decide) (by decide) (by decide)) (R.hk.storeExact_slice rfl _ (packedK _)) (fun _ => rfl))
    let v ← ld4 R.vi ![0, h, 0, 0] 1 1 128 256 (inb4 (by decide) (by omega) (by decide) (by decide)) (by decide)
    let _ ← ld3 R.v ![h, 0, 256 * N] 1 128 256 (inb3 (by omega) (by decide) (by omega)) (by decide)
    st3 R.v ![h, 0, 256 * N] 1 128 256 (inb3 (by omega) (by decide) (by omega)) (vCopy v)
      (View.stores_vmem (pos3 (by decide) (by decide) (by decide)) (R.hv.storeExact_slice rfl _ (packedV _)) (fun _ => rfl))
    pure ()) ()
  let q ← ld4 R.qi ![0, 0, 0, 0] 1 24 128 256 (inb4 (by decide) (by decide) (by decide) (by decide)) (by decide)
  let _ ← ld3 R.q ![0, 0, 0] 24 128 256 (inb3 (by decide) (by decide) (by decide)) (by decide)
  st3 R.q ![0, 0, 0] 24 128 256 (inb3 (by decide) (by decide) (by decide)) (qCopy q)
    (View.stores_vmem (pos3 (by decide) (by decide) (by decide)) (R.hq.storeExact_slice rfl _ (packedQ _)) (fun _ => rfl))

/-- What a point of the grid does before its heads: the mask at the first, the copies. -/
def prologue (first : Bool) (R : Refs sig) (N : ℕ) (hN : N < 4) : Prog (TpuEff nD τ sig (Elt F) Λ₀ .tc) PUnit := do
  cond first (maskInit R) (pure ⟨⟩)
  copies R N hN

/-- The eight key/value heads. -/
def heads (c : F .f32) (R : Refs sig) (N : ℕ) (hN : N < 4) : Prog (TpuEff nD τ sig (Elt F) Λ₀ .tc) PUnit :=
  loopN 8 (fun kv hkv _ => kvHead c R N hN kv hkv) ⟨⟩

end Prog

end Attn
-- ==== Proof.Body.lean ====
/-
  The printed body of the kernel, point by point of its grid, is the tile program of `Attn`.
-/
module
public import proofs.«01_k».proof.Proof.Gen.Kernel.Skeleton
public import proofs.«01_k».proof.Proof.Attn
@[expose] public section
set_option maxRecDepth 65536
noncomputable section
namespace Cert.Kernel.Gen
open Idealize.ShloMosaic Idealize.SL.Sem
variable {F : FTy → Type} [FloatOps F]

/-- The number the scores are multiplied by before the exponential. -/
abbrev coef : F .f32 := Scalar.ofBits .f32 0x3E0293EE#32

/-- The body's buffers, named. -/
def refs (arg2 : Memref sig .tc .vmem S1x24x128x256 .bf16) (harg2 : arg2.IsWhole) (arg3 : Memref sig .tc .vmem S1x8x256x128 .bf16) (harg3 : arg3.IsWhole) (arg4 : Memref sig .tc .vmem S1x8x128x256 .bf16) (harg4 : arg4.IsWhole) (arg5 : Memref sig .tc .vmem S1x256x3072 .bf16) (harg5 : arg5.IsWhole)
  (arg6 : Memref sig .tc .vmem S24x128x256 .bf16) (harg6 : arg6.IsWhole) (arg7 : Memref sig .tc .vmem S8x1024x128 .bf16) (harg7 : arg7.IsWhole) (arg8 : Memref sig .tc .vmem S8x128x1024 .bf16) (harg8 : arg8.IsWhole)
  (arg9 : Memref sig .tc .vmem S3x1024x256 .f32) (harg9 : arg9.IsWhole) (arg10 : Memref sig .tc .vmem S3x1024x256 .fp8e4m3) (harg10 : arg10.IsWhole) (arg11 : Memref sig .tc .vmem S128x128 .f32) (harg11 : arg11.IsWhole) : Attn.Refs sig :=
  ⟨arg2, arg3, arg4, arg6, arg7, arg8, arg5, arg9, arg10, arg11, harg6, harg7, harg8, harg5, harg10⟩

section
variable (arg2 : Memref sig .tc .vmem S1x24x128x256 .bf16) (harg2 : arg2.IsWhole) (arg3 : Memref sig .tc .vmem S1x8x256x128 .bf16) (harg3 : arg3.IsWhole) (arg4 : Memref sig .tc .vmem S1x8x128x256 .bf16) (harg4 : arg4.IsWhole) (arg5 : Memref sig .tc .vmem S1x256x3072 .bf16) (harg5 : arg5.IsWhole)
  (arg6 : Memref sig .tc .vmem S24x128x256 .bf16) (harg6 : arg6.IsWhole) (arg7 : Memref sig .tc .vmem S8x1024x128 .bf16) (harg7 : arg7.IsWhole) (arg8 : Memref sig .tc .vmem S8x128x1024 .bf16) (harg8 : arg8.IsWhole)
  (arg9 : Memref sig .tc .vmem S3x1024x256 .f32) (harg9 : arg9.IsWhole) (arg10 : Memref sig .tc .vmem S3x1024x256 .fp8e4m3) (harg10 : arg10.IsWhole) (arg11 : Memref sig .tc .vmem S128x128 .f32) (harg11 : arg11.IsWhole)

/-- Each trip of the loop of the points with 0 full blocks before them is one key/value head; -/
theorem trip1 (i : grid0.Coords) (cst : F .f32) (h : k0_cond2 i = 1#1) (j : ℕ) (hj : j < 8) :
    k0_t1_body (F := F) i arg2 harg2 arg3 harg3 arg4 harg4 arg5 harg5 arg6 harg6 arg7 harg7 arg8 harg8 arg9 harg9 arg10 harg10 arg11 harg11 cst h ⟨j, hj⟩ ()
      = Attn.kvHead cst (refs arg2 harg2 arg3 harg3 arg4 harg4 arg5 harg5 arg6 harg6 arg7 harg7 arg8 harg8 arg9 harg9 arg10 harg10 arg11 harg11) 0 (by decide) j hj := by
  match j, hj with
  | 0, _ => show _ = _; chain_rfl
  | 1, _ => show _ = _; chain_rfl
  | 2, _ => show _ = _; chain_rfl
  | 3, _ => show _ = _; chain_rfl
  | 4, _ => show _ = _; chain_rfl
  | 5, _ => show _ = _; chain_rfl
  | 6, _ => show _ = _; chain_rfl
  | 7, _ => show _ = _; chain_rfl

/-- the whole loop is the eight heads. -/
theorem loop1 (i : grid0.Coords) (cst : F .f32) (h : k0_cond2 i = 1#1) :
    Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 cst h)
      = Attn.heads cst (refs arg2 harg2 arg3 harg3 arg4 harg4 arg5 harg5 arg6 harg6 arg7 harg7 arg8 harg8 arg9 harg9 arg10 harg10 arg11 harg11) 0 (by decide) :=
  (Scf.for_eq _ _ _ _ _ _).trans ((Attn.forFrom_finRange 8 _ _).trans
    (congrArg (fun b => Attn.loopN 8 b ()) (funext fun j => funext fun hj => funext fun _ => trip1 arg2 harg2 arg3 harg3 arg4 harg4 arg5 harg5 arg6 harg6 arg7 harg7 arg8 harg8 arg9 harg9 arg10 harg10 arg11 harg11 i cst h j hj)))

/-- Each trip of the loop of the points with 1 full blocks before them is one key/value head; -/
theorem trip2 (i : grid0.Coords) (cst : F .f32) (h : k0_cond3 i = 1#1) (j : ℕ) (hj : j < 8) :
    k0_t2_body (F := F) i arg2 harg2 arg3 harg3 arg4 harg4 arg5 harg5 arg6 harg6 arg7 harg7 arg8 harg8 arg9 harg9 arg10 harg10 arg11 harg11 cst h ⟨j, hj⟩ ()
      = Attn.kvHead cst (refs arg2 harg2 arg3 harg3 arg4 harg4 arg5 harg5 arg6 harg6 arg7 harg7 arg8 harg8 arg9 harg9 arg10 harg10 arg11 harg11) 1 (by decide) j hj := by
  match j, hj with
  | 0, _ => show _ = _; chain_rfl
  | 1, _ => show _ = _; chain_rfl
  | 2, _ => show _ = _; chain_rfl
  | 3, _ => show _ = _; chain_rfl
  | 4, _ => show _ = _; chain_rfl
  | 5, _ => show _ = _; chain_rfl
  | 6, _ => show _ = _; chain_rfl
  | 7, _ => show _ = _; chain_rfl

/-- the whole loop is the eight heads. -/
theorem loop2 (i : grid0.Coords) (cst : F .f32) (h : k0_cond3 i = 1#1) :
    Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 cst h)
      = Attn.heads cst (refs arg2 harg2 arg3 harg3 arg4 harg4 arg5 harg5 arg6 harg6 arg7 harg7 arg8 harg8 arg9 harg9 arg10 harg10 arg11 harg11) 1 (by decide) :=
  (Scf.for_eq _ _ _ _ _ _).trans ((Attn.forFrom_finRange 8 _ _).trans
    (congrArg (fun b => Attn.loopN 8 b ()) (funext fun j => funext fun hj => funext fun _ => trip2 arg2 harg2 arg3 harg3 arg4 harg4 arg5 harg5 arg6 harg6 arg7 harg7 arg8 harg8 arg9 harg9 arg10 harg10 arg11 harg11 i cst h j hj)))

/-- Each trip of the loop of the points with 2 full blocks before them is one key/value head; -/
theorem trip3 (i : grid0.Coords) (cst : F .f32) (h : k0_cond4 i = 1#1) (j : ℕ) (hj : j < 8) :
    k0_t3_body (F := F) i arg2 harg2 arg3 harg3 arg4 harg4 arg5 harg5 arg6 harg6 arg7 harg7 arg8 harg8 arg9 harg9 arg10 harg10 arg11 harg11 cst h ⟨j, hj⟩ ()
      = Attn.kvHead cst (refs arg2 harg2 arg3 harg3 arg4 harg4 arg5 harg5 arg6 harg6 arg7 harg7 arg8 harg8 arg9 harg9 arg10 harg10 arg11 harg11) 2 (by decide) j hj := by
  match j, hj with
  | 0, _ => show _ = _; chain_rfl
  | 1, _ => show _ = _; chain_rfl
  | 2, _ => show _ = _; chain_rfl
  | 3, _ => show _ = _; chain_rfl
  | 4, _ => show _ = _; chain_rfl
  | 5, _ => show _ = _; chain_rfl
  | 6, _ => show _ = _; chain_rfl
  | 7, _ => show _ = _; chain_rfl

/-- the whole loop is the eight heads. -/
theorem loop3 (i : grid0.Coords) (cst : F .f32) (h : k0_cond4 i = 1#1) :
    Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 cst h)
      = Attn.heads cst (refs arg2 harg2 arg3 harg3 arg4 harg4 arg5 harg5 arg6 harg6 arg7 harg7 arg8 harg8 arg9 harg9 arg10 harg10 arg11 harg11) 2 (by decide) :=
  (Scf.for_eq _ _ _ _ _ _).trans ((Attn.forFrom_finRange 8 _ _).trans
    (congrArg (fun b => Attn.loopN 8 b ()) (funext fun j => funext fun hj => funext fun _ => trip3 arg2 harg2 arg3 harg3 arg4 harg4 arg5 harg5 arg6 harg6 arg7 harg7 arg8 harg8 arg9 harg9 arg10 harg10 arg11 harg11 i cst h j hj)))

/-- Each trip of the loop of the points with 3 full blocks before them is one key/value head; -/
theorem trip4 (i : grid0.Coords) (cst : F .f32) (h : k0_cond5 i = 1#1) (j : ℕ) (hj : j < 8) :
    k0_t4_body (F := F) i arg2 harg2 arg3 harg3 arg4 harg4 arg5 harg5 arg6 harg6 arg7 harg7 arg8 harg8 arg9 harg9 arg10 harg10 arg11 harg11 cst h ⟨j, hj⟩ ()
      = Attn.kvHead cst (refs arg2 harg2 arg3 harg3 arg4 harg4 arg5 harg5 arg6 harg6 arg7 harg7 arg8 harg8 arg9 harg9 arg10 harg10 arg11 harg11) 3 (by decide) j hj := by
  match j, hj with
  | 0, _ => show _ = _; chain_rfl
  | 1, _ => show _ = _; chain_rfl
  | 2, _ => show _ = _; chain_rfl
  | 3, _ => show _ = _; chain_rfl
  | 4, _ => show _ = _; chain_rfl
  | 5, _ => show _ = _; chain_rfl
  | 6, _ => show _ = _; chain_rfl
  | 7, _ => show _ = _; chain_rfl

/-- the whole loop is the eight heads. -/
theorem loop4 (i : grid0.Coords) (cst : F .f32) (h : k0_cond5 i = 1#1) :
    Scf.Loop.for k0_t4_loop (k0_t4_ok i h) ⟨⟩ (k0_t4_body (F := F) i arg2 harg2 arg3 harg3 arg4 harg4 arg5 harg5 arg6 harg6 arg7 harg7 arg8 harg8 arg9 harg9 arg10 harg10 arg11 harg11 cst h)
      = Attn.heads cst (refs arg2 harg2 arg3 harg3 arg4 harg4 arg5 harg5 arg6 harg6 arg7 harg7 arg8 harg8 arg9 harg9 arg10 harg10 arg11 harg11) 3 (by decide) :=
  (Scf.for_eq _ _ _ _ _ _).trans ((Attn.forFrom_finRange 8 _ _).trans
    (congrArg (fun b => Attn.loopN 8 b ()) (funext fun j => funext fun hj => funext fun _ => trip4 arg2 harg2 arg3 harg3 arg4 harg4 arg5 harg5 arg6 harg6 arg7 harg7 arg8 harg8 arg9 harg9 arg10 harg10 arg11 harg11 i cst h j hj)))

theorem cond_at0 : k0_cond2 (grid0.coords ⟨0, by decide⟩) = 1#1 := by chain_rfl

theorem pre_at0 : cc0__kernel (F := F) (grid0.coords ⟨0, by decide⟩) arg2 harg2 arg3 harg3 arg4 harg4 arg5 harg5 arg6 harg6 arg7 harg7 arg8 harg8 arg9 harg9 arg10 harg10 arg11 harg11
    = (do Attn.prologue true (refs arg2 harg2 arg3 harg3 arg4 harg4 arg5 harg5 arg6 harg6 arg7 harg7 arg8 harg8 arg9 harg9 arg10 harg10 arg11 harg11) 0 (by decide)
          Scf.Loop.for k0_t1_loop (k0_t1_ok _ cond_at0) ⟨⟩ (k0_t1_body (F := F) _ arg2 harg2 arg3 harg3 arg4 harg4 arg5 harg5 arg6 harg6 arg7 harg7 arg8 harg8 arg9 harg9 arg10 harg10 arg11 harg11 coef cond_at0)
          pure ⟨⟩) := by chain_rfl

theorem cond_at1 : k0_cond3 (grid0.coords ⟨1, by decide⟩) = 1#1 := by chain_rfl

theorem pre_at1 : cc0__kernel (F := F) (grid0.coords ⟨1, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 1 (by decide)
          Scf.Loop.for k0_t2_loop (k0_t2_ok _ cond_at1) ⟨⟩ (k0_t2_body (F := F) _ arg2 harg2 arg3 harg3 arg4 harg4 arg5 harg5 arg6 harg6 arg7 harg7 arg8 harg8 arg9 harg9 arg10 harg10 arg11 harg11 coef cond_at1)
          pure ⟨⟩) := by chain_rfl

theorem cond_at2 : k0_cond4 (grid0.coords ⟨2, by decide⟩) = 1#1 := by chain_rfl

theorem pre_at2 : cc0__kernel (F := F) (grid0.coords ⟨2, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 2 (by decide)
          Scf.Loop.for k0_t3_loop (k0_t3_ok _ cond_at2) ⟨⟩ (k0_t3_body (F := F) _ arg2 harg2 arg3 harg3 arg4 harg4 arg5 harg5 arg6 harg6 arg7 harg7 arg8 harg8 arg9 harg9 arg10 harg10 arg11 harg11 coef cond_at2)
          pure ⟨⟩) := by chain_rfl

theorem cond_at3 : k0_cond5 (grid0.coords ⟨3, by decide⟩) = 1#1 := by chain_rfl

theorem pre_at3 : cc0__kernel (F := F) (grid0.coords ⟨3, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 3 (by decide)
          Scf.Loop.for k0_t4_loop (k0_t4_ok _ cond_at3) ⟨⟩ (k0_t4_body (F := F) _ arg2 harg2 arg3 harg3 arg4 harg4 arg5 harg5 arg6 harg6 arg7 harg7 arg8 harg8 arg9 harg9 arg10 harg10 arg11 harg11 coef cond_at3)
          pure ⟨⟩) := by chain_rfl

theorem cond_at4 : k0_cond2 (grid0.coords ⟨4, by decide⟩) = 1#1 := by chain_rfl

theorem pre_at4 : cc0__kernel (F := F) (grid0.coords ⟨4, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 0 (by decide)
          Scf.Loop.for k0_t1_loop (k0_t1_ok _ cond_at4) ⟨⟩ (k0_t1_body (F := F) _ arg2 harg2 arg3 harg3 arg4 harg4 arg5 harg5 arg6 harg6 arg7 harg7 arg8 harg8 arg9 harg9 arg10 harg10 arg11 harg11 coef cond_at4)
          pure ⟨⟩) := by chain_rfl

theorem cond_at5 : k0_cond3 (grid0.coords ⟨5, by decide⟩) = 1#1 := by chain_rfl

theorem pre_at5 : cc0__kernel (F := F) (grid0.coords ⟨5, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 1 (by decide)
          Scf.Loop.for k0_t2_loop (k0_t2_ok _ cond_at5) ⟨⟩ (k0_t2_body (F := F) _ arg2 harg2 arg3 harg3 arg4 harg4 arg5 harg5 arg6 harg6 arg7 harg7 arg8 harg8 arg9 harg9 arg10 harg10 arg11 harg11 coef cond_at5)
          pure ⟨⟩) := by chain_rfl

theorem cond_at6 : k0_cond4 (grid0.coords ⟨6, by decide⟩) = 1#1 := by chain_rfl

theorem pre_at6 : cc0__kernel (F := F) (grid0.coords ⟨6, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 2 (by decide)
          Scf.Loop.for k0_t3_loop (k0_t3_ok _ cond_at6) ⟨⟩ (k0_t3_body (F := F) _ arg2 harg2 arg3 harg3 arg4 harg4 arg5 harg5 arg6 harg6 arg7 harg7 arg8 harg8 arg9 harg9 arg10 harg10 arg11 harg11 coef cond_at6)
          pure ⟨⟩) := by chain_rfl

theorem cond_at7 : k0_cond5 (grid0.coords ⟨7, by decide⟩) = 1#1 := by chain_rfl

theorem pre_at7 : cc0__kernel (F := F) (grid0.coords ⟨7, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 3 (by decide)
          Scf.Loop.for k0_t4_loop (k0_t4_ok _ cond_at7) ⟨⟩ (k0_t4_body (F := F) _ arg2 harg2 arg3 harg3 arg4 harg4 arg5 harg5 arg6 harg6 arg7 harg7 arg8 harg8 arg9 harg9 arg10 harg10 arg11 harg11 coef cond_at7)
          pure ⟨⟩) := by chain_rfl

/-- At every point of the grid the body is the mask (at the first point), the copies and the eight heads. -/
theorem body_eq (t : Fin cfg0.N) : cc0__kernel (F := F) (grid0.coords t) arg2 harg2 arg3 harg3 arg4 harg4 arg5 harg5 arg6 harg6 arg7 harg7 arg8 harg8 arg9 harg9 arg10 harg10 arg11 harg11
    = (do Attn.prologue (decide (t.val = 0)) (refs arg2 harg2 arg3 harg3 arg4 harg4 arg5 harg5 arg6 harg6 arg7 harg7 arg8 harg8 arg9 harg9 arg10 harg10 arg11 harg11) (t.val % 4) (Nat.mod_lt _ (by decide))
          Attn.heads coef (refs arg2 harg2 arg3 harg3 arg4 harg4 arg5 harg5 arg6 harg6 arg7 harg7 arg8 harg8 arg9 harg9 arg10 harg10 arg11 harg11) (t.val % 4) (Nat.mod_lt _ (by decide))
          pure ⟨⟩) := by
  match t with
  | ⟨0, _⟩ => exact (pre_at0 arg2 harg2 arg3 harg3 arg4 harg4 arg5 harg5 arg6 harg6 arg7 harg7 arg8 harg8 arg9 harg9 arg10 harg10 arg11 harg11).trans (by rw [loop1]; chain_rfl)
  | ⟨1, _⟩ => exact (pre_at1 arg2 harg2 arg3 harg3 arg4 harg4 arg5 harg5 arg6 harg6 arg7 harg7 arg8 harg8 arg9 harg9 arg10 harg10 arg11 harg11).trans (by rw [loop2]; chain_rfl)
  | ⟨2, _⟩ => exact (pre_at2 arg2 harg2 arg3 harg3 arg4 harg4 arg5 harg5 arg6 harg6 arg7 harg7 arg8 harg8 arg9 harg9 arg10 harg10 arg11 harg11).trans (by rw [loop3]; chain_rfl)
  | ⟨3, _⟩ => exact (pre_at3 arg2 harg2 arg3 harg3 arg4 harg4 arg5 harg5 arg6 harg6 arg7 harg7 arg8 harg8 arg9 harg9 arg10 harg10 arg11 harg11).trans (by rw [loop4]; chain_rfl)
  | ⟨4, _⟩ => exact (pre_at4 arg2 harg2 arg3 harg3 arg4 harg4 arg5 harg5 arg6 harg6 arg7 harg7 arg8 harg8 arg9 harg9 arg10 harg10 arg11 harg11).trans (by rw [loop1]; chain_rfl)
  | ⟨5, _⟩ => exact (pre_at5 arg2 harg2 arg3 harg3 arg4 harg4 arg5 harg5 arg6 harg6 arg7 harg7 arg8 harg8 arg9 harg9 arg10 harg10 arg11 harg11).trans (by rw [loop2]; chain_rfl)
  | ⟨6, _⟩ => exact (pre_at6 arg2 harg2 arg3 harg3 arg4 harg4 arg5 harg5 arg6 harg6 arg7 harg7 arg8 harg8 arg9 harg9 arg10 harg10 arg11 harg11).trans (by rw [loop3]; chain_rfl)
  | ⟨7, _⟩ => exact (pre_at7 arg2 harg2 arg3 harg3 arg4 harg4 arg5 harg5 arg6 harg6 arg7 harg7 arg8 harg8 arg9 harg9 arg10 harg10 arg11 harg11).trans (by rw [loop4]; chain_rfl)
  | ⟨n + 8, h⟩ => exact absurd (show n + 8 < 8 from h) (by omega)
end
end Cert.Kernel.Gen
end
-- ==== Proof.Runs.lean ====
/-
  Running the tile program over owned buffers. The ten buffers of a tile are held at known contents (`own`), and
  `Runs σ p Post` says: started with the contents `σ`, the program `p` ends with contents and a value related by `Post`.
-/
module

public import proofs.«01_k».proof.Proof.Attn

@[expose] public section

noncomputable section

namespace Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : ℕ} {τ : Topo} {sig : RefSig} {Λ₀ : Labels} {U : Type} [URA U]

local notation "𝕄" => MT nD τ sig Unit (Elt F) ℕ U ℕ

/-- What the ten buffers hold. -/
structure St (F : FTy → Type) [FloatOps F] where
  qi : Vec F (S4d 1 24 128 256) .bf16
  ki : Vec F (S4d 1 8 256 128) .bf16
  vi : Vec F (S4d 1 8 128 256) .bf16
  q : Vec F (S3d 24 128 256) .bf16
  k : Vec F (S3d 8 1024 128) .bf16
  v : Vec F (S3d 8 128 1024) .bf16
  o : Vec F (S3d 1 256 3072) .bf16
  s : Vec F (S3d 3 1024 256) .f32
  p : Vec F (S3d 3 1024 256) .fp8e4m3
  m : Vec F (S2d 128 128) .f32

/-- Core `c` owns the ten buffers at the contents `σ`. -/
def own (c : Dev nD) (R : Refs sig) (σ : St F) : sProp 𝕄 :=
  iprop(owns (c : Thread nD τ) R.qi fullShare σ.qi ∗ owns (c : Thread nD τ) R.ki fullShare σ.ki ∗ owns (c : Thread nD τ) R.vi fullShare σ.vi
    ∗ owns (c : Thread nD τ) R.o fullShare σ.o ∗ owns (c : Thread nD τ) R.q fullShare σ.q ∗ owns (c : Thread nD τ) R.k fullShare σ.k
    ∗ owns (c : Thread nD τ) R.v fullShare σ.v ∗ owns (c : Thread nD τ) R.s fullShare σ.s ∗ owns (c : Thread nD τ) R.p fullShare σ.p
    ∗ owns (c : Thread nD τ) R.m fullShare σ.m)

/-! ### One buffer out of the ten -/

/-- `P` holds `A x`, and with `A y` in its place it is `G y`. -/
def Focus {X : Type} (P : sProp 𝕄) (A : X → sProp 𝕄) (x : X) (G : X → sProp 𝕄) : Prop := P ⊢ iprop(A x ∗ ∀ y, A y -∗ G y)

theorem Focus.head {X : Type} (A : X → sProp 𝕄) (B : sProp 𝕄) (x : X) : Focus iprop(A x ∗ B) A x (fun y => iprop(A y ∗ B)) := by
  unfold Focus
  iintro ⟨HA, HB⟩
  isplitl [HA]; · iexact HA
  iintro %y HA
  isplitl [HA]; · iexact HA
  iexact HB

theorem Focus.last {X : Type} (A : X → sProp 𝕄) (x : X) : Focus (A x) A x A := by
  unfold Focus
  iintro HA
  isplitl [HA]; · iexact HA
  iintro %y HA
  iexact HA

theorem Focus.tail {X : Type} {P : sProp 𝕄} {A : X → sProp 𝕄} {x : X} {G : X → sProp 𝕄} (h : Focus P A x G) (B : sProp 𝕄) :
    Focus iprop(B ∗ P) A x (fun y => iprop(B ∗ G y)) := by
  unfold Focus at h ⊢
  refine (sep_mono_right h).trans ?_
  iintro ⟨HB, HA, HG⟩
  isplitl [HA]; · iexact HA
  iintro %y HA
  isplitl [HB]; · iexact HB
  iapply HG
  iexact HA

/-- One buffer of the tile: its memref, and its contents among the ten. -/
structure Slot (c : Dev nD) (R : Refs sig) (s : Shape) (e : EltTy) where
  m : Memref sig .tc .vmem s e
  get : St F → Vec F s e
  set : St F → Vec F s e → St F
  set_get : ∀ σ, set σ (get σ) = σ
  focus : ∀ σ, Focus (own (τ := τ) (U := U) c R σ) (fun x => owns (c : Thread nD τ) m fullShare x) (get σ) (fun y => own c R (set σ y))

variable (c : Dev nD) (R : Refs sig)

def slotQi : Slot (F := F) (τ := τ) (U := U) c R (S4d 1 24 128 256) .bf16 := ⟨R.qi, St.qi, fun σ y => { σ with qi := y }, fun _ => rfl, fun _ => Focus.head _ _ _⟩
def slotKi : Slot (F := F) (τ := τ) (U := U) c R (S4d 1 8 256 128) .bf16 := ⟨R.ki, St.ki, fun σ y => { σ with ki := y }, fun _ => rfl, fun _ => (Focus.head _ _ _).tail _⟩
def slotVi : Slot (F := F) (τ := τ) (U := U) c R (S4d 1 8 128 256) .bf16 := ⟨R.vi, St.vi, fun σ y => { σ with vi := y }, fun _ => rfl, fun _ => ((Focus.head _ _ _).tail _).tail _⟩
def slotO : Slot (F := F) (τ := τ) (U := U) c R (S3d 1 256 3072) .bf16 := ⟨R.o, St.o, fun σ y => { σ with o := y }, fun _ => rfl, fun _ => (((Focus.head _ _ _).tail _).tail _).tail _⟩
def slotQ : Slot (F := F) (τ := τ) (U := U) c R (S3d 24 128 256) .bf16 := ⟨R.q, St.q, fun σ y => { σ with q := y }, fun _ => rfl, fun _ => ((((Focus.head _ _ _).tail _).tail _).tail _).tail _⟩
def slotK : Slot (F := F) (τ := τ) (U := U) c R (S3d 8 1024 128) .bf16 := ⟨R.k, St.k, fun σ y => { σ with k := y }, fun _ => rfl, fun _ => (((((Focus.head _ _ _).tail _).tail _).tail _).tail _).tail _⟩
def slotV : Slot (F := F) (τ := τ) (U := U) c R (S3d 8 128 1024) .bf16 := ⟨R.v, St.v, fun σ y => { σ with v := y }, fun _ => rfl, fun _ => ((((((Focus.head _ _ _).tail _).tail _).tail _).tail _).tail _).tail _⟩
def slotS : Slot (F := F) (τ := τ) (U := U) c R (S3d 3 1024 256) .f32 := ⟨R.s, St.s, fun σ y => { σ with s := y }, fun _ => rfl, fun _ => (((((((Focus.head _ _ _).tail _).tail _).tail _).tail _).tail _).tail _).tail _⟩
def slotP : Slot (F := F) (τ := τ) (U := U) c R (S3d 3 1024 256) .fp8e4m3 := ⟨R.p, St.p, fun σ y => { σ with p := y }, fun _ => rfl, fun _ => ((((((((Focus.head _ _ _).tail _).tail _).tail _).tail _).tail _).tail _).tail _).tail _⟩
def slotM : Slot (F := F) (τ := τ) (U := U) c R (S2d 128 128) .f32 := ⟨R.m, St.m, fun σ y => { σ with m := y }, fun _ => rfl, fun _ => (((((((((Focus.last _ _).tail _).tail _).tail _).tail _).tail _).tail _).tail _).tail _).tail _⟩

/-! ### Running -/

variable (defs : Defs nD τ sig (Elt F) Λ₀) (E : Set ℕ)

/-- Started at the contents `σ`, `p` ends at contents and a value related by `Post`. -/
def Runs {α : Type} (U : Type) [URA U] (σ : St F) (p : Prog (TpuEff nD τ sig (Elt F) Λ₀ .tc) α) (Post : St F → α → Prop) : Prop :=
  ∀ Q : α → sProp (MT nD τ sig Unit (Elt F) ℕ U ℕ),
    iprop(own c R σ ∗ (∀ σ' a, ⌜Post σ' a⌝ -∗ own c R σ' -∗ Q a)) ⊢ wp frame (wpE defs Variants.none (c : Thread nD τ) none) E p Q

variable {c R defs E}

theorem Runs.pure {α : Type} {σ : St F} {a : α} {Post : St F → α → Prop} (h : Post σ a) : Runs c R defs E U σ (pure a) Post := by
  intro Q
  rw [wp_pure]
  refine BIBase.Entails.trans ?_ BI.fupd_intro
  iintro ⟨H, HQ⟩
  iapply HQ $$ %σ %a
  · ipureintro; exact h
  · iexact H

theorem Runs.bind {α β : Type} {σ : St F} {p : Prog (TpuEff nD τ sig (Elt F) Λ₀ .tc) α} {k : α → Prog (TpuEff nD τ sig (Elt F) Λ₀ .tc) β}
    {P : St F → α → Prop} {Post : St F → β → Prop} (hp : Runs c R defs E U σ p P) (hk : ∀ σ' a, P σ' a → Runs c R defs E U σ' (k a) Post) :
    Runs c R defs E U σ (p >>= k) Post := by
  intro Q
  rw [wp_bind]
  refine BIBase.Entails.trans ?_ (hp _)
  iintro ⟨H, HQ⟩
  isplitl [H]; · iexact H
  iintro %σ' %a %h H
  iapply (hk σ' a h Q)
  isplitl [H]; · iexact H
  iexact HQ

theorem Runs.mono {α : Type} {σ : St F} {p : Prog (TpuEff nD τ sig (Elt F) Λ₀ .tc) α} {P P' : St F → α → Prop}
    (hp : Runs c R defs E U σ p P) (h : ∀ σ' a, P σ' a → P' σ' a) : Runs c R defs E U σ p P' := by
  intro Q
  refine BIBase.Entails.trans ?_ (hp Q)
  iintro ⟨H, HQ⟩
  isplitl [H]; · iexact H
  iintro %σ' %a %hP H
  iapply HQ $$ %σ' %a
  · ipureintro; exact h _ _ hP
  · iexact H

/-- A load reads a window of its buffer. -/
theorem Runs.load {s : Shape} {e : EltTy} (L : Slot (F := F) (τ := τ) (U := U) c R s e) {β : Type} {off size : Fin s.rank → ℕ} {inb : ∀ a, off a + size a ≤ s.size a}
    {hl : L.m.view.LoadsAt (Rect.unit off size inb).toLoadRect} {k : ((Rect.unit off size inb).shape.Idx → Elt F e) → Prog (TpuEff nD τ sig (Elt F) Λ₀ .tc) β}
    {σ : St F} {Post : St F → β → Prop} (h : Runs c R defs E U σ (k (VecWindow.window (L.get σ) off size inb)) Post) :
    Runs c R defs E U σ (Prog.lift (.load L.m (Rect.unit off size inb).toLoadRect hl) >>= k) Post := by
  intro Q
  refine (sep_mono_left (L.focus σ)).trans ?_
  unfold owns
  show _ ⊢ wp frame _ E (.op (.load L.m (Rect.unit off size inb).toLoadRect hl) k) Q
  iintro ⟨⟨⟨%f, %hf, H⟩, HG⟩, HQ⟩
  iapply (wp_load Variants.none (c : Thread nD τ) none E (L.m.view.setOn_subset_set _)) $$ H
  iintro H
  rw [View.readAt_unit L.m.view f inb rfl inb, hf]
  iapply (h Q)
  isplitl [H HG]
  · ihave HG := HG $$ %(L.get σ)
    dsimp only
    rw [L.set_get]
    iapply HG
    iexists f
    isplitr; · ipureintro; exact hf
    iexact H
  iexact HQ

/-- A store puts its payload over a window of its buffer. -/
theorem Runs.store {s : Shape} {e : EltTy} (L : Slot (F := F) (τ := τ) (U := U) c R s e) {off size : Fin s.rank → ℕ} {inb : ∀ a, off a + size a ≤ s.size a}
    {w : (Rect.unit off size inb).shape.Idx → Elt F e} {hx : (L.m.access (Rect.unit off size inb)).Stores Finset.univ}
    {hm : Finset.univ = Finset.univ ∨ ∀ a, (Rect.unit off size inb).stride a = 1} {σ : St F} {Post : St F → PUnit → Prop}
    (h : Post (L.set σ (VecWindow.put (L.get σ) off size w)) ⟨⟩) :
    Runs c R defs E U σ (Prog.lift (.store L.m (Rect.unit off size inb) w Finset.univ hx hm)) Post := by
  intro Q
  refine (sep_mono_left (L.focus σ)).trans ?_
  unfold owns
  unfold Prog.lift
  iintro ⟨⟨⟨%f, %hf, H⟩, HG⟩, HQ⟩
  iapply (wp_store_writes₀ Variants.none (c : Thread nD τ) none E (L.m.view.set_slice_subset _)) $$ H
  iintro H
  rw [wp_ret]
  iapply BI.fupd_intro
  iapply HQ $$ %_ %_ [] [H HG]
  · ipureintro; exact h
  · iapply HG
    iexists _
    isplitr
    swap; · iexact H
    ipureintro
    rw [View.read_writes_cons_put _ _ _ _ _ rfl, View.writes_nil, hf]

/-- A loop by an invariant of the contents and the value carried. -/
theorem Runs.loopN {α : Type} : ∀ {N : ℕ} {body : (j : ℕ) → j < N → α → Prog (TpuEff nD τ sig (Elt F) Λ₀ .tc) α} (I : ℕ → St F → α → Prop) {σ : St F} {a : α},
    I 0 σ a → (∀ j (h : j < N) σ a, I j σ a → Runs c R defs E U σ (body j h a) (I (j + 1))) → Runs c R defs E U σ (Attn.loopN N body a) (I N)
  | 0, _, _, _, _, h0, _ => Runs.pure h0
  | N + 1, _, I, _, _, h0, hb =>
    (Runs.loopN I h0 fun j h => hb j (Nat.lt_succ_of_lt h)).bind fun σ' a' h' => hb N (Nat.lt_succ_self N) σ' a' h'

end Attn

end
-- ==== Proof.Safe.lean ====
/-
  The tile program runs from any contents of its buffers.
-/
module

public import proofs.«01_k».proof.Proof.Runs

@[expose] public section

noncomputable section

namespace Attn

open Idealize.ShloMosaic Idealize.ShloMosaic.TcCoe
open Idealize.SL Idealize.SL.RA Idealize.SL.BI Idealize.SL.Sem

variable {F : FTy → Type} [FloatOps F]
variable {nD : ℕ} {τ : Topo} {sig : RefSig} {Λ₀ : Labels} {U : Type} [URA U]
variable {c : Dev nD} {R : Refs sig} {defs : Defs nD τ sig (Elt F) Λ₀} {E : Set ℕ}

theorem Runs.storeK {s : Shape} {e : EltTy} (L : Slot (F := F) (τ := τ) (U := U) c R s e) {β : Type} {off size : Fin s.rank → ℕ} {inb : ∀ a, off a + size a ≤ s.size a}
    {w : (Rect.unit off size inb).shape.Idx → Elt F e} {hx : (L.m.access (Rect.unit off size inb)).Stores Finset.univ}
    {hm : Finset.univ = Finset.univ ∨ ∀ a, (Rect.unit off size inb).stride a = 1} {k : PUnit → Prog (TpuEff nD τ sig (Elt F) Λ₀ .tc) β}
    {σ : St F} {Post : St F → β → Prop} (h : Runs c R defs E U (L.set σ (VecWindow.put (L.get σ) off size w)) (k ⟨⟩) Post) :
    Runs c R defs E U σ (Prog.lift (.store L.m (Rect.unit off size inb) w Finset.univ hx hm) >>= k) Post :=
  (Runs.store L (Post := fun σ' _ => σ' = L.set σ (VecWindow.put (L.get σ) off size w)) rfl).bind fun _ _ e => e ▸ h

/-- What the heads read and never write: the blocks that came in, the copies, the mask. -/
def St.fixed (σ : St F) := (σ.qi, σ.ki, σ.vi, σ.q, σ.k, σ.v, σ.m)

/-- Scores run from any contents, and leave what the heads never write. -/
theorem scores_safe (σ : St F) (N : ℕ) (hN : N < 4) (kv : ℕ) (hkv : kv < 8) (g : ℕ) (hg : g < 3) :
    Runs c R defs E U σ (scores R N hN kv hkv g hg) fun σ' _ => σ'.fixed = σ.fixed := by
  unfold scores
  refine Runs.load (slotQ c R) ?_
  refine (Runs.loopN (fun _ σ' _ => σ'.fixed = σ.fixed) rfl ?_).bind fun σ' m e => ?_
  · intro j hj σ' m e
    refine Runs.load (slotK c R) (Runs.load (slotS c R) (Runs.storeK (slotS c R) (Runs.pure e)))
  · exact Runs.load (slotK c R) (Runs.load (slotM c R) (Runs.load (slotM c R) (Runs.load (slotS c R) (Runs.storeK (slotS c R)
      (Runs.load (slotS c R) (Runs.storeK (slotS c R) (Runs.pure e)))))))

/-- Attending runs from any contents, and leaves what the heads never write. -/
theorem attend_safe (cst : F .f32) (σ : St F) (N : ℕ) (hN : N < 4) (kv : ℕ) (hkv : kv < 8) (g : ℕ) (hg : g < 3) (m : FVec F (S2d 1 256) .f32) :
    Runs c R defs E U σ (attend cst R N hN kv hkv g hg m) fun σ' _ => σ'.fixed = σ.fixed := by
  unfold attend
  refine (Runs.loopN (fun _ σ' _ => σ'.fixed = σ.fixed) rfl ?_).bind fun σ' l e => ?_
  · intro j hj σ' l e
    exact Runs.load (slotS c R) (Runs.load (slotP c R) (Runs.storeK (slotP c R) (Runs.pure e)))
  refine (Runs.loopN (fun _ σ' _ => σ'.fixed = σ.fixed) e ?_).bind fun σ' l e => ?_
  · intro j hj σ' l e
    exact Runs.load (slotS c R) (Runs.load (slotP c R) (Runs.storeK (slotP c R) (Runs.load (slotP c R) (Runs.storeK (slotP c R) (Runs.pure e)))))
  · exact Runs.load (slotV c R) (Runs.load (slotP c R) (Runs.load (slotO c R) (Runs.store (slotO c R) e)))

/-- The heads run from any contents, and leave what they never write. -/
theorem heads_safe (cst : F .f32) (σ : St F) (N : ℕ) (hN : N < 4) :
    Runs c R defs E U σ (heads cst R N hN) fun σ' _ => σ'.fixed = σ.fixed := by
  unfold heads
  refine Runs.loopN (fun _ σ' _ => σ'.fixed = σ.fixed) rfl fun kv hkv σ' _ e => ?_
  exact (scores_safe _ _ _ _ _ _ _).bind fun _ _ e0 => (scores_safe _ _ _ _ _ _ _).bind fun _ _ e1 => (scores_safe _ _ _ _ _ _ _).bind fun _ _ e2 =>
    (attend_safe _ _ _ _ _ _ _ _ _).bind fun _ _ e3 => (attend_safe _ _ _ _ _ _ _ _ _).bind fun _ _ e4 =>
      (attend_safe _ _ _ _ _ _ _ _ _).mono fun _ _ e5 => e5.trans (e4.trans (e3.trans (e2.trans (e1.trans (e0.trans e)))))

/-- The mask leaves everything else as it was. -/
def afterMask (first : Bool) (σ : St F) : St F := if first then { σ with m := VecWindow.put (s := S2d 128 128) σ.m ![0, 0] ![128, 128] (shapeCast (S2d 128 128) maskVal (by decide)) } else σ

theorem maskInit_runs (first : Bool) (σ : St F) : Runs c R defs E U σ (cond first (maskInit R) (pure ⟨⟩)) fun σ' _ => σ' = afterMask first σ := by
  cases first
  · exact Runs.pure rfl
  · exact Runs.load (slotM c R) (Runs.store (slotM c R) rfl)

/-- One head's key and value block copied. -/
def afterCopy (N h : ℕ) (hh : h < 8) (σ : St F) : St F :=
  { σ with
    k := VecWindow.put (s := S3d 8 1024 128) σ.k ![h, 256 * N, 0] ![1, 256, 128]
      (kCopy (VecWindow.window (s := S4d 1 8 256 128) σ.ki ![0, h, 0, 0] ![1, 1, 256, 128] (inb4 (by decide) (by omega) (by decide) (by decide))))
    v := VecWindow.put (s := S3d 8 128 1024) σ.v ![h, 0, 256 * N] ![1, 128, 256]
      (vCopy (VecWindow.window (s := S4d 1 8 128 256) σ.vi ![0, h, 0, 0] ![1, 1, 128, 256] (inb4 (by decide) (by omega) (by decide) (by decide)))) }

/-- The first `n` heads' blocks copied. -/
def afterCopies (N : ℕ) : (n : ℕ) → n ≤ 8 → St F → St F
  | 0, _, σ => σ
  | n + 1, h, σ => afterCopy N n h (afterCopies N n (Nat.le_of_succ_le h) σ)

/-- Everything copied. -/
def afterAll (N : ℕ) (σ : St F) : St F :=
  { afterCopies N 8 le_rfl σ with
    q := VecWindow.put (s := S3d 24 128 256) σ.q ![0, 0, 0] ![24, 128, 256]
      (qCopy (VecWindow.window (s := S4d 1 24 128 256) σ.qi ![0, 0, 0, 0] ![1, 24, 128, 256] (inb4 (by decide) (by decide) (by decide) (by decide)))) }

theorem afterCopies_keep (N n : ℕ) (h : n ≤ 8) (σ : St F) :
    afterCopies N n h σ = { σ with k := (afterCopies N n h σ).k, v := (afterCopies N n h σ).v } := by
  induction n with
  | zero => rfl
  | succ n ih => unfold afterCopies afterCopy; rw [ih]

theorem copies_runs (σ : St F) (N : ℕ) (hN : N < 4) : Runs c R defs E U σ (copies R N hN) fun σ' _ => σ' = afterAll N σ := by
  unfold copies
  refine (Runs.loopN (fun n σ' _ => ∃ h : n ≤ 8, σ' = afterCopies N n h σ) ⟨Nat.zero_le _, rfl⟩ ?_).bind fun σ' _ h => ?_
  · rintro j hj σ' _ ⟨h, rfl⟩
    exact Runs.load (slotKi c R) (Runs.load (slotK c R) (Runs.storeK (slotK c R)
      (Runs.load (slotVi c R) (Runs.load (slotV c R) (Runs.storeK (slotV c R) (Runs.pure ⟨hj, rfl⟩))))))
  · obtain ⟨-, rfl⟩ := h
    refine Runs.load (slotQi c R) (Runs.load (slotQ c R) (Runs.store (slotQ c R) ?_))
    unfold afterAll
    rw [afterCopies_keep N 8 le_rfl σ]
    rfl

/-- What the heads find: the mask and the copies made. -/
def start (first : Bool) (N : ℕ) (σ : St F) : St F := afterAll N (afterMask first σ)

theorem prologue_runs (first : Bool) (σ : St F) (N : ℕ) (hN : N < 4) :
    Runs c R defs E U σ (prologue first R N hN) fun σ' _ => σ' = start first N σ :=
  (maskInit_runs first σ).bind fun _ _ e => by subst e; exact copies_runs _ N hN

/-- The whole point runs from any contents, and leaves the blocks that came in. -/
theorem point_safe (cst : F .f32) (first : Bool) (σ : St F) (N : ℕ) (hN : N < 4) :
    Runs c R defs E U σ (do prologue first R N hN; heads cst R N hN; Pure.pure ⟨⟩ : Prog (TpuEff nD τ sig (Elt F) Λ₀ .tc) PUnit)
      fun σ' _ => σ'.qi = σ.qi ∧ σ'.ki = σ.ki ∧ σ'.vi = σ.vi := by
  refine (prologue_runs first σ N hN).bind fun σ' _ e => ?_
  subst e
  refine (heads_safe cst _ N hN).bind fun σ' _ e => Runs.pure ?_
  simp only [St.fixed, Prod.mk.injEq] at e
  obtain ⟨e1, e2, e3, -⟩ := e
  rw [e1, e2, e3]
  unfold start afterAll
  rw [afterCopies_keep]
  cases first <;> exact ⟨rfl, rfl, rfl⟩

end Attn

end
-- ==== Proof.FrameK.lean ====
/-
  The frame of `Kernel`: its body, run from any contents of its buffers, ends, and leaves the input blocks as they were.
-/
module

public import proofs.«01_k».proof.Proof.Gen.Kernel.Frame
public import proofs.«01_k».proof.Proof.Body
public import proofs.«01_k».proof.Proof.Safe

@[expose] public section

noncomputable section

namespace Cert.Proof.FrameK

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Everything the body leaves is forgotten but the input blocks. -/
def forgets : Fin cfg0.W → Bool := fun w => w.val == 3

/-- The proof data: each input's buffer at its block, nothing said of the output or the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The buffers the body works on at point `t`. -/
abbrev refsAt (t : Fin cfg0.N) : Attn.Refs sig :=
  refs (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)

/-- The body at point `t` is the tile program. -/
theorem bodyAt_eq (t : Fin cfg0.N) : bodyAt0 (F := F) t = (do
    Attn.prologue (decide (t.val = 0)) (refsAt t) (t.val % 4) (Nat.mod_lt _ (by decide))
    Attn.heads coef (refsAt t) (t.val % 4) (Nat.mod_lt _ (by decide))
    pure ⟨⟩) := body_eq _ _ _ _ _ _ _ _ _ _ _ _ _ _ _ _ _ _ _ _ t

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The body at any point, from any contents of the output's buffer and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, HP⟩, Ho, ⟨%d0, H0⟩, ⟨%d1, H1⟩, ⟨%d2, H2⟩, ⟨%d3, H3⟩⟩
  iapply (Attn.point_safe (c := c) (R := refsAt t) (U := UR sig nD τ) (defs := defs₀) (E := Set.univ) coef _
    ⟨iblk m c 0 t, iblk m c 1 t, iblk m c 2 t, f0, f1, f2, d3, f3, f4, f5⟩ (t.val % 4) (Nat.mod_lt _ (by decide)) _)
  unfold Attn.own
  isplitl [S0 S1 S2 S3 S4 S5 H0 H1 H2 H3]
  · isplitl [H0]; · iexact H0
    isplitl [H1]; · iexact H1
    isplitl [H2]; · iexact H2
    isplitl [H3]; · iexact H3
    isplitl [S0]; · rw [← owns_whole]; exact BIBase.Entails.rfl
    isplitl [S1]; · rw [← owns_whole]; exact BIBase.Entails.rfl
    isplitl [S2]; · rw [← owns_whole]; exact BIBase.Entails.rfl
    isplitl [S3]; · rw [← owns_whole]; exact BIBase.Entails.rfl
    isplitl [S4]; · rw [← owns_whole]; exact BIBase.Entails.rfl
    rw [← owns_whole]; exact BIBase.Entails.rfl
  iintro %σ' %a %e ⟨H0, H1, H2, H3, S0, S1, S2, S3, S4, S5⟩
  obtain ⟨e0, e1, e2⟩ := e
  rw [e0, e1, e2]
  isplitl [S0 S1 S2 S3 S4 S5 HP]
  · isplitr [HP]
    · isplitl [S0]; · iexists σ'.q; rw [← owns_whole]; exact BIBase.Entails.rfl
      isplitl [S1]; · iexists σ'.k; rw [← owns_whole]; exact BIBase.Entails.rfl
      isplitl [S2]; · iexists σ'.v; rw [← owns_whole]; exact BIBase.Entails.rfl
      isplitl [S3]; · iexists σ'.s; rw [← owns_whole]; exact BIBase.Entails.rfl
      isplitl [S4]; · iexists σ'.p; rw [← owns_whole]; exact BIBase.Entails.rfl
      iexists σ'.m; rw [← owns_whole]; exact BIBase.Entails.rfl
    iexact HP
  isplitl [Ho]; · iexact Ho
  isplitl [H0]; · iexact H0
  isplitl [H1]; · iexact H1
  isplitl [H2]; · iexact H2
  iexists σ'.o; iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main :
    θ_run (defs (F := F)) (onTc (τ := τ) (main (F := F))) ⟨m, fun _ => 0, ρ⟩
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call ends, leaves its three arguments as they were, and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := F)) _ _).mono (fun _ ⟨h, hz⟩ => ⟨fun c =>
    ⟨(Pipeline.RDat.FramePost.arr_in h c 0 rfl).trans ((A_eq m c 0).trans (V_main_arg0 m c)),
     (Pipeline.RDat.FramePost.arr_in h c 1 rfl).trans ((A_eq m c 1).trans (V_main_arg1 m c)),
     (Pipeline.RDat.FramePost.arr_in h c 2 rfl).trans ((A_eq m c 2).trans (V_main_arg2 m c))⟩, hz⟩) (run_main m ρ)

end Cert.Proof.FrameK

end
-- ==== Proof.BodyIdeal.lean ====
/-
  The printed body of the kernel, point by point of its grid, is the tile program of `Attn`.
-/
module
public import proofs.«01_k».proof.Proof.Gen.KernelIdeal.Skeleton
public import proofs.«01_k».proof.Proof.Attn
@[expose] public section
set_option maxRecDepth 65536
noncomputable section
namespace Cert.KernelIdeal.Gen
open Idealize.ShloMosaic Idealize.SL.Sem
variable {F : FTy → Type} [FloatOps F] [Named F]

/-- The number the scores are multiplied by before the exponential. -/
abbrev coef : F .f32 := Named.named κ "coef" 0x3E0293EE#32

/-- The body's buffers, named. -/
def refs (arg2 : Memref sig .tc .vmem S1x24x128x256 .bf16) (harg2 : arg2.IsWhole) (arg3 : Memref sig .tc .vmem S1x8x256x128 .bf16) (harg3 : arg3.IsWhole) (arg4 : Memref sig .tc .vmem S1x8x128x256 .bf16) (harg4 : arg4.IsWhole) (arg5 : Memref sig .tc .vmem S1x256x3072 .bf16) (harg5 : arg5.IsWhole)
  (arg6 : Memref sig .tc .vmem S24x128x256 .bf16) (harg6 : arg6.IsWhole) (arg7 : Memref sig .tc .vmem S8x1024x128 .bf16) (harg7 : arg7.IsWhole) (arg8 : Memref sig .tc .vmem S8x128x1024 .bf16) (harg8 : arg8.IsWhole)
  (arg9 : Memref sig .tc .vmem S3x1024x256 .f32) (harg9 : arg9.IsWhole) (arg10 : Memref sig .tc .vmem S3x1024x256 .fp8e4m3) (harg10 : arg10.IsWhole) (arg11 : Memref sig .tc .vmem S128x128 .f32) (harg11 : arg11.IsWhole) : Attn.Refs sig :=
  ⟨arg2, arg3, arg4, arg6, arg7, arg8, arg5, arg9, arg10, arg11, harg6, harg7, harg8, harg5, harg10⟩

section
variable (arg2 : Memref sig .tc .vmem S1x24x128x256 .bf16) (harg2 : arg2.IsWhole) (arg3 : Memref sig .tc .vmem S1x8x256x128 .bf16) (harg3 : arg3.IsWhole) (arg4 : Memref sig .tc .vmem S1x8x128x256 .bf16) (harg4 : arg4.IsWhole) (arg5 : Memref sig .tc .vmem S1x256x3072 .bf16) (harg5 : arg5.IsWhole)
  (arg6 : Memref sig .tc .vmem S24x128x256 .bf16) (harg6 : arg6.IsWhole) (arg7 : Memref sig .tc .vmem S8x1024x128 .bf16) (harg7 : arg7.IsWhole) (arg8 : Memref sig .tc .vmem S8x128x1024 .bf16) (harg8 : arg8.IsWhole)
  (arg9 : Memref sig .tc .vmem S3x1024x256 .f32) (harg9 : arg9.IsWhole) (arg10 : Memref sig .tc .vmem S3x1024x256 .fp8e4m3) (harg10 : arg10.IsWhole) (arg11 : Memref sig .tc .vmem S128x128 .f32) (harg11 : arg11.IsWhole)

/-- Each trip of the loop of the points with 0 full blocks before them is one key/value head; -/
theorem trip1 (i : grid0.Coords) (cst : F .f32) (h : k0_cond2 i = 1#1) (j : ℕ) (hj : j < 8) :
    k0_t1_body (F := F) i arg2 harg2 arg3 harg3 arg4 harg4 arg5 harg5 arg6 harg6 arg7 harg7 arg8 harg8 arg9 harg9 arg10 harg10 arg11 harg11 cst h ⟨j, hj⟩ ()
      = Attn.kvHead cst (refs arg2 harg2 arg3 harg3 arg4 harg4 arg5 harg5 arg6 harg6 arg7 harg7 arg8 harg8 arg9 harg9 arg10 harg10 arg11 harg11) 0 (by decide) j hj := by
  match j, hj with
  | 0, _ => show _ = _; chain_rfl
  | 1, _ => show _ = _; chain_rfl
  | 2, _ => show _ = _; chain_rfl
  | 3, _ => show _ = _; chain_rfl
  | 4, _ => show _ = _; chain_rfl
  | 5, _ => show _ = _; chain_rfl
  | 6, _ => show _ = _; chain_rfl
  | 7, _ => show _ = _; chain_rfl

/-- the whole loop is the eight heads. -/
theorem loop1 (i : grid0.Coords) (cst : F .f32) (h : k0_cond2 i = 1#1) :
    Scf.Loop.for k0_t1_loop (k0_t1_ok i h) ⟨⟩ (k0_t1_body (F := F) i arg2 harg2 arg3 harg3 arg4 harg4 arg5 harg5 arg6 harg6 arg7 harg7 arg8 harg8 arg9 harg9 arg10 harg10 arg11 harg11 cst h)
      = Attn.heads cst (refs arg2 harg2 arg3 harg3 arg4 harg4 arg5 harg5 arg6 harg6 arg7 harg7 arg8 harg8 arg9 harg9 arg10 harg10 arg11 harg11) 0 (by decide) :=
  (Scf.for_eq _ _ _ _ _ _).trans ((Attn.forFrom_finRange 8 _ _).trans
    (congrArg (fun b => Attn.loopN 8 b ()) (funext fun j => funext fun hj => funext fun _ => trip1 arg2 harg2 arg3 harg3 arg4 harg4 arg5 harg5 arg6 harg6 arg7 harg7 arg8 harg8 arg9 harg9 arg10 harg10 arg11 harg11 i cst h j hj)))

/-- Each trip of the loop of the points with 1 full blocks before them is one key/value head; -/
theorem trip2 (i : grid0.Coords) (cst : F .f32) (h : k0_cond3 i = 1#1) (j : ℕ) (hj : j < 8) :
    k0_t2_body (F := F) i arg2 harg2 arg3 harg3 arg4 harg4 arg5 harg5 arg6 harg6 arg7 harg7 arg8 harg8 arg9 harg9 arg10 harg10 arg11 harg11 cst h ⟨j, hj⟩ ()
      = Attn.kvHead cst (refs arg2 harg2 arg3 harg3 arg4 harg4 arg5 harg5 arg6 harg6 arg7 harg7 arg8 harg8 arg9 harg9 arg10 harg10 arg11 harg11) 1 (by decide) j hj := by
  match j, hj with
  | 0, _ => show _ = _; chain_rfl
  | 1, _ => show _ = _; chain_rfl
  | 2, _ => show _ = _; chain_rfl
  | 3, _ => show _ = _; chain_rfl
  | 4, _ => show _ = _; chain_rfl
  | 5, _ => show _ = _; chain_rfl
  | 6, _ => show _ = _; chain_rfl
  | 7, _ => show _ = _; chain_rfl

/-- the whole loop is the eight heads. -/
theorem loop2 (i : grid0.Coords) (cst : F .f32) (h : k0_cond3 i = 1#1) :
    Scf.Loop.for k0_t2_loop (k0_t2_ok i h) ⟨⟩ (k0_t2_body (F := F) i arg2 harg2 arg3 harg3 arg4 harg4 arg5 harg5 arg6 harg6 arg7 harg7 arg8 harg8 arg9 harg9 arg10 harg10 arg11 harg11 cst h)
      = Attn.heads cst (refs arg2 harg2 arg3 harg3 arg4 harg4 arg5 harg5 arg6 harg6 arg7 harg7 arg8 harg8 arg9 harg9 arg10 harg10 arg11 harg11) 1 (by decide) :=
  (Scf.for_eq _ _ _ _ _ _).trans ((Attn.forFrom_finRange 8 _ _).trans
    (congrArg (fun b => Attn.loopN 8 b ()) (funext fun j => funext fun hj => funext fun _ => trip2 arg2 harg2 arg3 harg3 arg4 harg4 arg5 harg5 arg6 harg6 arg7 harg7 arg8 harg8 arg9 harg9 arg10 harg10 arg11 harg11 i cst h j hj)))

/-- Each trip of the loop of the points with 2 full blocks before them is one key/value head; -/
theorem trip3 (i : grid0.Coords) (cst : F .f32) (h : k0_cond4 i = 1#1) (j : ℕ) (hj : j < 8) :
    k0_t3_body (F := F) i arg2 harg2 arg3 harg3 arg4 harg4 arg5 harg5 arg6 harg6 arg7 harg7 arg8 harg8 arg9 harg9 arg10 harg10 arg11 harg11 cst h ⟨j, hj⟩ ()
      = Attn.kvHead cst (refs arg2 harg2 arg3 harg3 arg4 harg4 arg5 harg5 arg6 harg6 arg7 harg7 arg8 harg8 arg9 harg9 arg10 harg10 arg11 harg11) 2 (by decide) j hj := by
  match j, hj with
  | 0, _ => show _ = _; chain_rfl
  | 1, _ => show _ = _; chain_rfl
  | 2, _ => show _ = _; chain_rfl
  | 3, _ => show _ = _; chain_rfl
  | 4, _ => show _ = _; chain_rfl
  | 5, _ => show _ = _; chain_rfl
  | 6, _ => show _ = _; chain_rfl
  | 7, _ => show _ = _; chain_rfl

/-- the whole loop is the eight heads. -/
theorem loop3 (i : grid0.Coords) (cst : F .f32) (h : k0_cond4 i = 1#1) :
    Scf.Loop.for k0_t3_loop (k0_t3_ok i h) ⟨⟩ (k0_t3_body (F := F) i arg2 harg2 arg3 harg3 arg4 harg4 arg5 harg5 arg6 harg6 arg7 harg7 arg8 harg8 arg9 harg9 arg10 harg10 arg11 harg11 cst h)
      = Attn.heads cst (refs arg2 harg2 arg3 harg3 arg4 harg4 arg5 harg5 arg6 harg6 arg7 harg7 arg8 harg8 arg9 harg9 arg10 harg10 arg11 harg11) 2 (by decide) :=
  (Scf.for_eq _ _ _ _ _ _).trans ((Attn.forFrom_finRange 8 _ _).trans
    (congrArg (fun b => Attn.loopN 8 b ()) (funext fun j => funext fun hj => funext fun _ => trip3 arg2 harg2 arg3 harg3 arg4 harg4 arg5 harg5 arg6 harg6 arg7 harg7 arg8 harg8 arg9 harg9 arg10 harg10 arg11 harg11 i cst h j hj)))

/-- Each trip of the loop of the points with 3 full blocks before them is one key/value head; -/
theorem trip4 (i : grid0.Coords) (cst : F .f32) (h : k0_cond5 i = 1#1) (j : ℕ) (hj : j < 8) :
    k0_t4_body (F := F) i arg2 harg2 arg3 harg3 arg4 harg4 arg5 harg5 arg6 harg6 arg7 harg7 arg8 harg8 arg9 harg9 arg10 harg10 arg11 harg11 cst h ⟨j, hj⟩ ()
      = Attn.kvHead cst (refs arg2 harg2 arg3 harg3 arg4 harg4 arg5 harg5 arg6 harg6 arg7 harg7 arg8 harg8 arg9 harg9 arg10 harg10 arg11 harg11) 3 (by decide) j hj := by
  match j, hj with
  | 0, _ => show _ = _; chain_rfl
  | 1, _ => show _ = _; chain_rfl
  | 2, _ => show _ = _; chain_rfl
  | 3, _ => show _ = _; chain_rfl
  | 4, _ => show _ = _; chain_rfl
  | 5, _ => show _ = _; chain_rfl
  | 6, _ => show _ = _; chain_rfl
  | 7, _ => show _ = _; chain_rfl

/-- the whole loop is the eight heads. -/
theorem loop4 (i : grid0.Coords) (cst : F .f32) (h : k0_cond5 i = 1#1) :
    Scf.Loop.for k0_t4_loop (k0_t4_ok i h) ⟨⟩ (k0_t4_body (F := F) i arg2 harg2 arg3 harg3 arg4 harg4 arg5 harg5 arg6 harg6 arg7 harg7 arg8 harg8 arg9 harg9 arg10 harg10 arg11 harg11 cst h)
      = Attn.heads cst (refs arg2 harg2 arg3 harg3 arg4 harg4 arg5 harg5 arg6 harg6 arg7 harg7 arg8 harg8 arg9 harg9 arg10 harg10 arg11 harg11) 3 (by decide) :=
  (Scf.for_eq _ _ _ _ _ _).trans ((Attn.forFrom_finRange 8 _ _).trans
    (congrArg (fun b => Attn.loopN 8 b ()) (funext fun j => funext fun hj => funext fun _ => trip4 arg2 harg2 arg3 harg3 arg4 harg4 arg5 harg5 arg6 harg6 arg7 harg7 arg8 harg8 arg9 harg9 arg10 harg10 arg11 harg11 i cst h j hj)))

theorem cond_at0 : k0_cond2 (grid0.coords ⟨0, by decide⟩) = 1#1 := by chain_rfl

theorem pre_at0 : cc0__kernel (F := F) (grid0.coords ⟨0, by decide⟩) arg2 harg2 arg3 harg3 arg4 harg4 arg5 harg5 arg6 harg6 arg7 harg7 arg8 harg8 arg9 harg9 arg10 harg10 arg11 harg11
    = (do Attn.prologue true (refs arg2 harg2 arg3 harg3 arg4 harg4 arg5 harg5 arg6 harg6 arg7 harg7 arg8 harg8 arg9 harg9 arg10 harg10 arg11 harg11) 0 (by decide)
          Scf.Loop.for k0_t1_loop (k0_t1_ok _ cond_at0) ⟨⟩ (k0_t1_body (F := F) _ arg2 harg2 arg3 harg3 arg4 harg4 arg5 harg5 arg6 harg6 arg7 harg7 arg8 harg8 arg9 harg9 arg10 harg10 arg11 harg11 coef cond_at0)
          pure ⟨⟩) := by chain_rfl

theorem cond_at1 : k0_cond3 (grid0.coords ⟨1, by decide⟩) = 1#1 := by chain_rfl

theorem pre_at1 : cc0__kernel (F := F) (grid0.coords ⟨1, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 1 (by decide)
          Scf.Loop.for k0_t2_loop (k0_t2_ok _ cond_at1) ⟨⟩ (k0_t2_body (F := F) _ arg2 harg2 arg3 harg3 arg4 harg4 arg5 harg5 arg6 harg6 arg7 harg7 arg8 harg8 arg9 harg9 arg10 harg10 arg11 harg11 coef cond_at1)
          pure ⟨⟩) := by chain_rfl

theorem cond_at2 : k0_cond4 (grid0.coords ⟨2, by decide⟩) = 1#1 := by chain_rfl

theorem pre_at2 : cc0__kernel (F := F) (grid0.coords ⟨2, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 2 (by decide)
          Scf.Loop.for k0_t3_loop (k0_t3_ok _ cond_at2) ⟨⟩ (k0_t3_body (F := F) _ arg2 harg2 arg3 harg3 arg4 harg4 arg5 harg5 arg6 harg6 arg7 harg7 arg8 harg8 arg9 harg9 arg10 harg10 arg11 harg11 coef cond_at2)
          pure ⟨⟩) := by chain_rfl

theorem cond_at3 : k0_cond5 (grid0.coords ⟨3, by decide⟩) = 1#1 := by chain_rfl

theorem pre_at3 : cc0__kernel (F := F) (grid0.coords ⟨3, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 3 (by decide)
          Scf.Loop.for k0_t4_loop (k0_t4_ok _ cond_at3) ⟨⟩ (k0_t4_body (F := F) _ arg2 harg2 arg3 harg3 arg4 harg4 arg5 harg5 arg6 harg6 arg7 harg7 arg8 harg8 arg9 harg9 arg10 harg10 arg11 harg11 coef cond_at3)
          pure ⟨⟩) := by chain_rfl

theorem cond_at4 : k0_cond2 (grid0.coords ⟨4, by decide⟩) = 1#1 := by chain_rfl

theorem pre_at4 : cc0__kernel (F := F) (grid0.coords ⟨4, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 0 (by decide)
          Scf.Loop.for k0_t1_loop (k0_t1_ok _ cond_at4) ⟨⟩ (k0_t1_body (F := F) _ arg2 harg2 arg3 harg3 arg4 harg4 arg5 harg5 arg6 harg6 arg7 harg7 arg8 harg8 arg9 harg9 arg10 harg10 arg11 harg11 coef cond_at4)
          pure ⟨⟩) := by chain_rfl

theorem cond_at5 : k0_cond3 (grid0.coords ⟨5, by decide⟩) = 1#1 := by chain_rfl

theorem pre_at5 : cc0__kernel (F := F) (grid0.coords ⟨5, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 1 (by decide)
          Scf.Loop.for k0_t2_loop (k0_t2_ok _ cond_at5) ⟨⟩ (k0_t2_body (F := F) _ arg2 harg2 arg3 harg3 arg4 harg4 arg5 harg5 arg6 harg6 arg7 harg7 arg8 harg8 arg9 harg9 arg10 harg10 arg11 harg11 coef cond_at5)
          pure ⟨⟩) := by chain_rfl

theorem cond_at6 : k0_cond4 (grid0.coords ⟨6, by decide⟩) = 1#1 := by chain_rfl

theorem pre_at6 : cc0__kernel (F := F) (grid0.coords ⟨6, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 2 (by decide)
          Scf.Loop.for k0_t3_loop (k0_t3_ok _ cond_at6) ⟨⟩ (k0_t3_body (F := F) _ arg2 harg2 arg3 harg3 arg4 harg4 arg5 harg5 arg6 harg6 arg7 harg7 arg8 harg8 arg9 harg9 arg10 harg10 arg11 harg11 coef cond_at6)
          pure ⟨⟩) := by chain_rfl

theorem cond_at7 : k0_cond5 (grid0.coords ⟨7, by decide⟩) = 1#1 := by chain_rfl

theorem pre_at7 : cc0__kernel (F := F) (grid0.coords ⟨7, by decide⟩) arg2 harg2 arg3 harg3 arg4 harg4 arg5 harg5 arg6 harg6 arg7 harg7 arg8 harg8 arg9 harg9 arg10 harg10 arg11 harg11
    = (do Attn.prologue false (refs arg2 harg2 arg3 harg3 arg4 harg4 arg5 harg5 arg6 harg6 arg7 harg7 arg8 harg8 arg9 harg9 arg10 harg10 arg11 harg11) 3 (by decide)
          Scf.Loop.for k0_t4_loop (k0_t4_ok _ cond_at7) ⟨⟩ (k0_t4_body (F := F) _ arg2 harg2 arg3 harg3 arg4 harg4 arg5 harg5 arg6 harg6 arg7 harg7 arg8 harg8 arg9 harg9 arg10 harg10 arg11 harg11 coef cond_at7)
          pure ⟨⟩) := by chain_rfl

/-- At every point of the grid the body is the mask (at the first point), the copies and the eight heads. -/
theorem body_eq (t : Fin cfg0.N) : cc0__kernel (F := F) (grid0.coords t) arg2 harg2 arg3 harg3 arg4 harg4 arg5 harg5 arg6 harg6 arg7 harg7 arg8 harg8 arg9 harg9 arg10 harg10 arg11 harg11
    = (do Attn.prologue (decide (t.val = 0)) (refs arg2 harg2 arg3 harg3 arg4 harg4 arg5 harg5 arg6 harg6 arg7 harg7 arg8 harg8 arg9 harg9 arg10 harg10 arg11 harg11) (t.val % 4) (Nat.mod_lt _ (by decide))
          Attn.heads coef (refs arg2 harg2 arg3 harg3 arg4 harg4 arg5 harg5 arg6 harg6 arg7 harg7 arg8 harg8 arg9 harg9 arg10 harg10 arg11 harg11) (t.val % 4) (Nat.mod_lt _ (by decide))
          pure ⟨⟩) := by
  match t with
  | ⟨0, _⟩ => exact (pre_at0 arg2 harg2 arg3 harg3 arg4 harg4 arg5 harg5 arg6 harg6 arg7 harg7 arg8 harg8 arg9 harg9 arg10 harg10 arg11 harg11).trans (by rw [loop1]; chain_rfl)
  | ⟨1, _⟩ => exact (pre_at1 arg2 harg2 arg3 harg3 arg4 harg4 arg5 harg5 arg6 harg6 arg7 harg7 arg8 harg8 arg9 harg9 arg10 harg10 arg11 harg11).trans (by rw [loop2]; chain_rfl)
  | ⟨2, _⟩ => exact (pre_at2 arg2 harg2 arg3 harg3 arg4 harg4 arg5 harg5 arg6 harg6 arg7 harg7 arg8 harg8 arg9 harg9 arg10 harg10 arg11 harg11).trans (by rw [loop3]; chain_rfl)
  | ⟨3, _⟩ => exact (pre_at3 arg2 harg2 arg3 harg3 arg4 harg4 arg5 harg5 arg6 harg6 arg7 harg7 arg8 harg8 arg9 harg9 arg10 harg10 arg11 harg11).trans (by rw [loop4]; chain_rfl)
  | ⟨4, _⟩ => exact (pre_at4 arg2 harg2 arg3 harg3 arg4 harg4 arg5 harg5 arg6 harg6 arg7 harg7 arg8 harg8 arg9 harg9 arg10 harg10 arg11 harg11).trans (by rw [loop1]; chain_rfl)
  | ⟨5, _⟩ => exact (pre_at5 arg2 harg2 arg3 harg3 arg4 harg4 arg5 harg5 arg6 harg6 arg7 harg7 arg8 harg8 arg9 harg9 arg10 harg10 arg11 harg11).trans (by rw [loop2]; chain_rfl)
  | ⟨6, _⟩ => exact (pre_at6 arg2 harg2 arg3 harg3 arg4 harg4 arg5 harg5 arg6 harg6 arg7 harg7 arg8 harg8 arg9 harg9 arg10 harg10 arg11 harg11).trans (by rw [loop3]; chain_rfl)
  | ⟨7, _⟩ => exact (pre_at7 arg2 harg2 arg3 harg3 arg4 harg4 arg5 harg5 arg6 harg6 arg7 harg7 arg8 harg8 arg9 harg9 arg10 harg10 arg11 harg11).trans (by rw [loop4]; chain_rfl)
  | ⟨n + 8, h⟩ => exact absurd (show n + 8 < 8 from h) (by omega)
end
end Cert.KernelIdeal.Gen
end
-- ==== Proof.FrameI.lean ====
/-
  The frame of `KernelIdeal`: its body, run from any contents of its buffers, ends, and leaves the input blocks as they were.
-/
module

public import proofs.«01_k».proof.Proof.Gen.KernelIdeal.Frame
public import proofs.«01_k».proof.Proof.BodyIdeal
public import proofs.«01_k».proof.Proof.Safe

@[expose] public section

noncomputable section

namespace Cert.Proof.FrameI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Everything the body leaves is forgotten but the input blocks. -/
def forgets : Fin cfg0.W → Bool := fun w => w.val == 3

/-- The proof data: each input's buffer at its block, nothing said of the output or the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The buffers the body works on at point `t`. -/
abbrev refsAt (t : Fin cfg0.N) : Attn.Refs sig :=
  refs (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)

/-- The body at point `t` is the tile program. -/
theorem bodyAt_eq (t : Fin cfg0.N) : bodyAt0 (F := F) t = (do
    Attn.prologue (decide (t.val = 0)) (refsAt t) (t.val % 4) (Nat.mod_lt _ (by decide))
    Attn.heads coef (refsAt t) (t.val % 4) (Nat.mod_lt _ (by decide))
    pure ⟨⟩) := body_eq _ _ _ _ _ _ _ _ _ _ _ _ _ _ _ _ _ _ _ _ t

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The body at any point, from any contents of the output's buffer and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, HP⟩, Ho, ⟨%d0, H0⟩, ⟨%d1, H1⟩, ⟨%d2, H2⟩, ⟨%d3, H3⟩⟩
  iapply (Attn.point_safe (c := c) (R := refsAt t) (U := UR sig nD τ) (defs := defs₀) (E := Set.univ) coef _
    ⟨iblk m c 0 t, iblk m c 1 t, iblk m c 2 t, f0, f1, f2, d3, f3, f4, f5⟩ (t.val % 4) (Nat.mod_lt _ (by decide)) _)
  unfold Attn.own
  isplitl [S0 S1 S2 S3 S4 S5 H0 H1 H2 H3]
  · isplitl [H0]; · iexact H0
    isplitl [H1]; · iexact H1
    isplitl [H2]; · iexact H2
    isplitl [H3]; · iexact H3
    isplitl [S0]; · rw [← owns_whole]; exact BIBase.Entails.rfl
    isplitl [S1]; · rw [← owns_whole]; exact BIBase.Entails.rfl
    isplitl [S2]; · rw [← owns_whole]; exact BIBase.Entails.rfl
    isplitl [S3]; · rw [← owns_whole]; exact BIBase.Entails.rfl
    isplitl [S4]; · rw [← owns_whole]; exact BIBase.Entails.rfl
    rw [← owns_whole]; exact BIBase.Entails.rfl
  iintro %σ' %a %e ⟨H0, H1, H2, H3, S0, S1, S2, S3, S4, S5⟩
  obtain ⟨e0, e1, e2⟩ := e
  rw [e0, e1, e2]
  isplitl [S0 S1 S2 S3 S4 S5 HP]
  · isplitr [HP]
    · isplitl [S0]; · iexists σ'.q; rw [← owns_whole]; exact BIBase.Entails.rfl
      isplitl [S1]; · iexists σ'.k; rw [← owns_whole]; exact BIBase.Entails.rfl
      isplitl [S2]; · iexists σ'.v; rw [← owns_whole]; exact BIBase.Entails.rfl
      isplitl [S3]; · iexists σ'.s; rw [← owns_whole]; exact BIBase.Entails.rfl
      isplitl [S4]; · iexists σ'.p; rw [← owns_whole]; exact BIBase.Entails.rfl
      iexists σ'.m; rw [← owns_whole]; exact BIBase.Entails.rfl
    iexact HP
  isplitl [Ho]; · iexact Ho
  isplitl [H0]; · iexact H0
  isplitl [H1]; · iexact H1
  isplitl [H2]; · iexact H2
  iexists σ'.o; iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main :
    θ_run (defs (F := F)) (onTc (τ := τ) (main (F := F))) ⟨m, fun _ => 0, ρ⟩
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call ends, leaves its three arguments as they were, and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := F)) _ _).mono (fun _ ⟨h, hz⟩ => ⟨fun c =>
    ⟨(Pipeline.RDat.FramePost.arr_in h c 0 rfl).trans ((A_eq m c 0).trans (V_main_arg0 m c)),
     (Pipeline.RDat.FramePost.arr_in h c 1 rfl).trans ((A_eq m c 1).trans (V_main_arg1 m c)),
     (Pipeline.RDat.FramePost.arr_in h c 2 rfl).trans ((A_eq m c 2).trans (V_main_arg2 m c))⟩, hz⟩) (run_main m ρ)

end Cert.Proof.FrameI

end
-- ==== Proof.Rd.lean ====
/-
  Arrays of extended reals read at natural-number positions, zero outside: the windows, the stores and the layout
  operations of the tile program at such a reading.
-/
module

public import proofs.«01_k».proof.Proof.Attn
public import Idealize.ShloMosaic.Lib.Pipeline.Value
public import Idealize.ShloMosaic.Lib.ValueIdx
public import Idealize.ShloMosaic.PureOps.Ideal.Laws

@[expose] public section

noncomputable section

namespace Attn

open Idealize.ShloMosaic

def ix2 {A B : ℕ} (a b : ℕ) (ha : a < A) (hb : b < B) : (S2d A B).Idx := fun i => match i with
  | ⟨0, _⟩ => ⟨a, ha⟩
  | ⟨1, _⟩ => ⟨b, hb⟩

def ix3 {A B C : ℕ} (a b c : ℕ) (ha : a < A) (hb : b < B) (hc : c < C) : (S3d A B C).Idx := fun i => match i with
  | ⟨0, _⟩ => ⟨a, ha⟩
  | ⟨1, _⟩ => ⟨b, hb⟩
  | ⟨2, _⟩ => ⟨c, hc⟩

def ix4 {A B C D : ℕ} (a b c d : ℕ) (ha : a < A) (hb : b < B) (hc : c < C) (hd : d < D) : (S4d A B C D).Idx := fun i => match i with
  | ⟨0, _⟩ => ⟨a, ha⟩
  | ⟨1, _⟩ => ⟨b, hb⟩
  | ⟨2, _⟩ => ⟨c, hc⟩
  | ⟨3, _⟩ => ⟨d, hd⟩

/-- A matrix at a position, zero outside. -/
def rd2 {A B : ℕ} (x : (S2d A B).Idx → EReal) (a b : ℕ) : EReal := if h : a < A ∧ b < B then x (ix2 a b h.1 h.2) else 0

/-- A three-axis array at a position, zero outside. -/
def rd3 {A B C : ℕ} (x : (S3d A B C).Idx → EReal) (a b c : ℕ) : EReal :=
  if h : a < A ∧ b < B ∧ c < C then x (ix3 a b c h.1 h.2.1 h.2.2) else 0

/-- A four-axis array at a position, zero outside. -/
def rd4 {A B C D : ℕ} (x : (S4d A B C D).Idx → EReal) (a b c d : ℕ) : EReal :=
  if h : a < A ∧ b < B ∧ c < C ∧ d < D then x (ix4 a b c d h.1 h.2.1 h.2.2.1 h.2.2.2) else 0

variable {A B C D : ℕ}

theorem rd2_of (x : (S2d A B).Idx → EReal) {a b : ℕ} (ha : a < A) (hb : b < B) : rd2 x a b = x (ix2 a b ha hb) := dif_pos ⟨ha, hb⟩
theorem rd3_of (x : (S3d A B C).Idx → EReal) {a b c : ℕ} (ha : a < A) (hb : b < B) (hc : c < C) : rd3 x a b c = x (ix3 a b c ha hb hc) :=
  dif_pos ⟨ha, hb, hc⟩
theorem rd4_of (x : (S4d A B C D).Idx → EReal) {a b c d : ℕ} (ha : a < A) (hb : b < B) (hc : c < C) (hd : d < D) :
    rd4 x a b c d = x (ix4 a b c d ha hb hc hd) := dif_pos ⟨ha, hb, hc, hd⟩

theorem idx2_eq (j : (S2d A B).Idx) : j = ix2 (j 0).val (j 1).val (j 0).isLt (j 1).isLt := by
  funext i; match i with
  | ⟨0, _⟩ => rfl
  | ⟨1, _⟩ => rfl

theorem idx3_eq (j : (S3d A B C).Idx) : j = ix3 (j 0).val (j 1).val (j 2).val (j 0).isLt (j 1).isLt (j 2).isLt := by
  funext i; match i with
  | ⟨0, _⟩ => rfl
  | ⟨1, _⟩ => rfl
  | ⟨2, _⟩ => rfl

theorem idx4_eq (j : (S4d A B C D).Idx) : j = ix4 (j 0).val (j 1).val (j 2).val (j 3).val (j 0).isLt (j 1).isLt (j 2).isLt (j 3).isLt := by
  funext i; match i with
  | ⟨0, _⟩ => rfl
  | ⟨1, _⟩ => rfl
  | ⟨2, _⟩ => rfl
  | ⟨3, _⟩ => rfl

theorem at2 (x : (S2d A B).Idx → EReal) (j : (S2d A B).Idx) : x j = rd2 x (j 0).val (j 1).val :=
  (congrArg x (idx2_eq j)).trans (rd2_of x (j 0).isLt (j 1).isLt).symm
theorem at3 (x : (S3d A B C).Idx → EReal) (j : (S3d A B C).Idx) : x j = rd3 x (j 0).val (j 1).val (j 2).val :=
  (congrArg x (idx3_eq j)).trans (rd3_of x (j 0).isLt (j 1).isLt (j 2).isLt).symm
theorem at4 (x : (S4d A B C D).Idx → EReal) (j : (S4d A B C D).Idx) : x j = rd4 x (j 0).val (j 1).val (j 2).val (j 3).val :=
  (congrArg x (idx4_eq j)).trans (rd4_of x (j 0).isLt (j 1).isLt (j 2).isLt (j 3).isLt).symm

/-- Two three-axis arrays agree if they do at every position. -/
theorem ext3 {x y : (S3d A B C).Idx → EReal} (h : ∀ a b c, a < A → b < B → c < C → rd3 x a b c = rd3 y a b c) : x = y := by
  funext j; rw [at3 x, at3 y]; exact h _ _ _ (j 0).isLt (j 1).isLt (j 2).isLt

/-! ### Windows and stores -/

theorem rd3_window (x : (S3d A B C).Idx → EReal) {o0 o1 o2 n0 n1 n2 a b c : ℕ} (h : ∀ i, (![o0, o1, o2] : Fin 3 → ℕ) i + (![n0, n1, n2] : Fin 3 → ℕ) i ≤ (S3d A B C).size i)
    (ha : a < n0) (hb : b < n1) (hc : c < n2) :
    rd3 (A := n0) (B := n1) (C := n2) (VecWindow.window (s := S3d A B C) x ![o0, o1, o2] ![n0, n1, n2] h) a b c = rd3 x (o0 + a) (o1 + b) (o2 + c) := by
  have h0 : o0 + n0 ≤ A := h 0
  have h1 : o1 + n1 ≤ B := h 1
  have h2 : o2 + n2 ≤ C := h 2
  rw [rd3_of _ ha hb hc, rd3_of x (by omega : o0 + a < A) (by omega : o1 + b < B) (by omega : o2 + c < C)]
  show x _ = x _
  congr 1; funext i; match i with
  | ⟨0, _⟩ => exact Fin.ext (by show o0 + 1 * a = o0 + a; omega)
  | ⟨1, _⟩ => exact Fin.ext (by show o1 + 1 * b = o1 + b; omega)
  | ⟨2, _⟩ => exact Fin.ext (by show o2 + 1 * c = o2 + c; omega)

theorem rd4_window (x : (S4d A B C D).Idx → EReal) {o0 o1 o2 o3 n0 n1 n2 n3 a b c d : ℕ}
    (h : ∀ i, (![o0, o1, o2, o3] : Fin 4 → ℕ) i + (![n0, n1, n2, n3] : Fin 4 → ℕ) i ≤ (S4d A B C D).size i)
    (ha : a < n0) (hb : b < n1) (hc : c < n2) (hd : d < n3) :
    rd4 (A := n0) (B := n1) (C := n2) (D := n3) (VecWindow.window (s := S4d A B C D) x ![o0, o1, o2, o3] ![n0, n1, n2, n3] h) a b c d
      = rd4 x (o0 + a) (o1 + b) (o2 + c) (o3 + d) := by
  have h0 : o0 + n0 ≤ A := h 0
  have h1 : o1 + n1 ≤ B := h 1
  have h2 : o2 + n2 ≤ C := h 2
  have h3 : o3 + n3 ≤ D := h 3
  rw [rd4_of _ ha hb hc hd, rd4_of x (by omega : o0 + a < A) (by omega : o1 + b < B) (by omega : o2 + c < C) (by omega : o3 + d < D)]
  show x _ = x _
  congr 1; funext i; match i with
  | ⟨0, _⟩ => exact Fin.ext (by show o0 + 1 * a = o0 + a; omega)
  | ⟨1, _⟩ => exact Fin.ext (by show o1 + 1 * b = o1 + b; omega)
  | ⟨2, _⟩ => exact Fin.ext (by show o2 + 1 * c = o2 + c; omega)
  | ⟨3, _⟩ => exact Fin.ext (by show o3 + 1 * d = o3 + d; omega)

/-- A store read inside its box is the payload, -/
theorem rd3_put_in (x : (S3d A B C).Idx → EReal) {o0 o1 o2 n0 n1 n2 a b c : ℕ} (w : (S3d n0 n1 n2).Idx → EReal)
    (h : ∀ i, (![o0, o1, o2] : Fin 3 → ℕ) i + (![n0, n1, n2] : Fin 3 → ℕ) i ≤ (S3d A B C).size i)
    (ha : o0 ≤ a ∧ a < o0 + n0) (hb : o1 ≤ b ∧ b < o1 + n1) (hc : o2 ≤ c ∧ c < o2 + n2) :
    rd3 (VecWindow.put (s := S3d A B C) x ![o0, o1, o2] ![n0, n1, n2] w) a b c = rd3 w (a - o0) (b - o1) (c - o2) := by
  have h0 : o0 + n0 ≤ A := h 0
  have h1 : o1 + n1 ≤ B := h 1
  have h2 : o2 + n2 ≤ C := h 2
  rw [rd3_of _ (by omega : a < A) (by omega : b < B) (by omega : c < C), rd3_of w (by omega : a - o0 < n0) (by omega : b - o1 < n1) (by omega : c - o2 < n2)]
  unfold VecWindow.put
  rw [dif_pos (fun i => match i with
    | ⟨0, _⟩ => ha
    | ⟨1, _⟩ => hb
    | ⟨2, _⟩ => hc)]
  congr 1; funext i; match i with
  | ⟨0, _⟩ => rfl
  | ⟨1, _⟩ => rfl
  | ⟨2, _⟩ => rfl

/-- and outside it what was there. -/
theorem rd3_put_out (x : (S3d A B C).Idx → EReal) {o0 o1 o2 n0 n1 n2 a b c : ℕ} (w : (S3d n0 n1 n2).Idx → EReal)
    (h : ¬ ((o0 ≤ a ∧ a < o0 + n0) ∧ (o1 ≤ b ∧ b < o1 + n1) ∧ (o2 ≤ c ∧ c < o2 + n2))) :
    rd3 (VecWindow.put (s := S3d A B C) x ![o0, o1, o2] ![n0, n1, n2] w) a b c = rd3 x a b c := by
  unfold rd3
  split
  · unfold VecWindow.put
    rw [dif_neg (fun hh => h ⟨hh 0, hh 1, hh 2⟩)]
  · rfl

theorem rd2_put_full (x w : (S2d A B).Idx → EReal) {a b : ℕ} (ha : a < A) (hb : b < B) :
    rd2 (VecWindow.put (s := S2d A B) x ![0, 0] ![A, B] w) a b = rd2 w a b := by
  rw [rd2_of _ ha hb, rd2_of w ha hb]
  unfold VecWindow.put
  rw [dif_pos (fun i => match i with
    | ⟨0, _⟩ => ⟨Nat.zero_le _, by show a < 0 + A; omega⟩
    | ⟨1, _⟩ => ⟨Nat.zero_le _, by show b < 0 + B; omega⟩)]
  congr 1; funext i; match i with
  | ⟨0, _⟩ => rfl
  | ⟨1, _⟩ => rfl

theorem rd2_window_full (x : (S2d A B).Idx → EReal) (h : ∀ i, (![0, 0] : Fin 2 → ℕ) i + (![A, B] : Fin 2 → ℕ) i ≤ (S2d A B).size i) (a b : ℕ) :
    rd2 (A := A) (B := B) (VecWindow.window (s := S2d A B) x ![0, 0] ![A, B] h) a b = rd2 x a b := by
  unfold rd2
  split
  · show x _ = x _
    congr 1; funext i; match i with
    | ⟨0, _⟩ => exact Fin.ext (by show 0 + 1 * a = a; omega)
    | ⟨1, _⟩ => exact Fin.ext (by show 0 + 1 * b = b; omega)
  · rfl

/-! ### Layout -/

theorem rm2 {a b : ℕ} (ha : a < A) (hb : b < B) : ((S2d A B).rowMajor (ix2 a b ha hb)).val = a * B + b := by
  rw [Shape.rowMajor_val_two]; rfl
theorem rm3 {a b c : ℕ} (ha : a < A) (hb : b < B) (hc : c < C) : ((S3d A B C).rowMajor (ix3 a b c ha hb hc)).val = (a * B + b) * C + c := by
  rw [Shape.rowMajor_val_three]; rfl
theorem rm4 {a b c d : ℕ} (ha : a < A) (hb : b < B) (hc : c < C) (hd : d < D) :
    ((S4d A B C D).rowMajor (ix4 a b c d ha hb hc hd)).val = ((a * B + b) * C + c) * D + d := by
  rw [Shape.rowMajor_val_four]; rfl

/-- A unit leading axis dropped, -/
theorem rd2_drop (x : (S3d 1 B C).Idx → EReal) (h : (S3d 1 B C).ShapeCasts (S2d B C)) (b c : ℕ) :
    rd2 (shapeCast (S2d B C) x h) b c = rd3 x 0 b c := by
  by_cases hh : b < B ∧ c < C
  · rw [rd2_of _ hh.1 hh.2, rd3_of x Nat.one_pos hh.1 hh.2]
    exact shapeCast_apply x h _ _ (by rw [rm2, rm3, Nat.zero_mul, Nat.zero_add])
  · rw [rd2, dif_neg hh, rd3, dif_neg fun g => hh g.2]

/-- and added. -/
theorem rd3_add (x : (S2d B C).Idx → EReal) (h : (S2d B C).ShapeCasts (S3d 1 B C)) (b c : ℕ) :
    rd3 (shapeCast (S3d 1 B C) x h) 0 b c = rd2 x b c := by
  by_cases hh : b < B ∧ c < C
  · rw [rd2_of _ hh.1 hh.2, rd3_of _ Nat.one_pos hh.1 hh.2]
    exact shapeCast_apply x h _ _ (by rw [rm2, rm3, Nat.zero_mul, Nat.zero_add])
  · rw [rd2, dif_neg hh, rd3, dif_neg fun g => hh g.2]

/-- Two unit leading axes made one. -/
theorem rd3_of4 (x : (S4d 1 1 C D).Idx → EReal) (h : (S4d 1 1 C D).ShapeCasts (S2d C D)) (h' : (S2d C D).ShapeCasts (S3d 1 C D)) (c d : ℕ) :
    rd3 (shapeCast (S3d 1 C D) (shapeCast (S2d C D) x h) h') 0 c d = rd4 x 0 0 c d := by
  rw [rd3_add]
  by_cases hh : c < C ∧ d < D
  · rw [rd2_of _ hh.1 hh.2, rd4_of _ Nat.one_pos Nat.one_pos hh.1 hh.2]
    exact shapeCast_apply x h _ _ (by rw [rm2, rm4]; simp only [Nat.zero_mul, Nat.zero_add])
  · rw [rd2, dif_neg hh, rd4, dif_neg fun g => hh g.2.2]

/-- A unit leading axis of four dropped. -/
theorem rd3_drop4 (x : (S4d 1 B C D).Idx → EReal) (h : (S4d 1 B C D).ShapeCasts (S3d B C D)) (b c d : ℕ) :
    rd3 (shapeCast (S3d B C D) x h) b c d = rd4 x 0 b c d := by
  by_cases hh : b < B ∧ c < C ∧ d < D
  · rw [rd3_of _ hh.1 hh.2.1 hh.2.2, rd4_of _ Nat.one_pos hh.1 hh.2.1 hh.2.2]
    exact shapeCast_apply x h _ _ (by rw [rm3, rm4]; simp only [Nat.zero_mul, Nat.zero_add])
  · rw [rd3, dif_neg hh, rd4, dif_neg fun g => hh g.2]

/-- Rows grouped by eights: row `8 a + b` is row `b` of group `a`. -/
theorem rd3_group {n : ℕ} (x : (S2d B C).Idx → EReal) (h : (S2d B C).ShapeCasts (S3d n 8 C)) (hB : B = 8 * n) {a b c : ℕ} (hb : b < 8) :
    rd3 (shapeCast (S3d n 8 C) x h) a b c = rd2 x (8 * a + b) c := by
  by_cases hh : a < n ∧ c < C
  · rw [rd3_of _ hh.1 hb hh.2, rd2_of x (by omega : 8 * a + b < B) hh.2]
    exact shapeCast_apply x h _ _ (by rw [rm2, rm3, Nat.mul_comm 8 a])
  · rw [rd2, dif_neg (by omega), rd3, dif_neg (by omega)]

theorem rd2_slice {o0 o1 A' B' : ℕ} (x : (S2d A B).Idx → EReal) (h : (S2d A B).Slices ![o0, o1] (S2d A' B')) {a b : ℕ} (ha : a < A') (hb : b < B') :
    rd2 (extractStridedSlice (S2d A' B') ![o0, o1] x h) a b = rd2 x (o0 + a) (o1 + b) := by
  have h0 : o0 + A' ≤ A := h.2 0
  have h1 : o1 + B' ≤ B := h.2 1
  rw [rd2_of _ ha hb, rd2_of x (by omega : o0 + a < A) (by omega : o1 + b < B)]
  exact extractStridedSlice_apply _ x h _ _ fun i => match i with
    | ⟨0, _⟩ => rfl
    | ⟨1, _⟩ => rfl

/-- Two matrices side by side. -/
theorem rd2_cat {B' : ℕ} (x : (S2d A B).Idx → EReal) (y : (S2d A B').Idx → EReal) (h : Shape.Concatenates [S2d A B, S2d A B'] (S2d A (B + B')) 1) {a b : ℕ}
    (ha : a < A) (hb : b < B + B') :
    rd2 (concatenate (S2d A (B + B')) 1 [⟨S2d A B, x⟩, ⟨S2d A B', y⟩] h) a b = if b < B then rd2 x a b else rd2 y a (b - B) := by
  rw [rd2_of _ ha hb]
  split
  · rename_i hlt
    rw [rd2_of x ha hlt]
    exact concatenate_pair_apply_left (t := S2d A (B + B')) (s₁ := S2d A B) (s₂ := S2d A B') 1 x y h _ rfl _ fun i => match i with
      | ⟨0, _⟩ => rfl
      | ⟨1, _⟩ => rfl
  · rename_i hge
    rw [rd2_of y ha (by omega : b - B < B')]
    exact concatenate_pair_apply_right (t := S2d A (B + B')) (s₁ := S2d A B) (s₂ := S2d A B') 1 x y h _ rfl rfl _ (fun i => match i with
      | ⟨0, _⟩ => fun _ => rfl
      | ⟨1, _⟩ => fun hn => absurd rfl hn) (by show (b - B) + B = b; omega)

/-- One row repeated. -/
theorem rd2_rows (x : (S2d 1 B).Idx → EReal) (h : (S2d 1 B).Broadcasts (S2d A B)) (hB : B ≠ 1) {a b : ℕ} (ha : a < A) (hb : b < B) :
    rd2 (broadcastTo (S2d A B) x h) a b = rd2 x 0 b := by
  rw [rd2_of _ ha hb, rd2_of x Nat.one_pos hb]
  exact broadcastTo_apply x h _ _ fun i => match i with
    | ⟨0, _⟩ => (if_pos rfl).symm
    | ⟨1, _⟩ => (if_neg hB).symm

theorem rd2_transpose (x : (S2d A B).Idx → EReal) (h : (S2d A B).Transposes [1, 0] (S2d B A)) (a b : ℕ) :
    rd2 (transpose (S2d B A) [1, 0] x h) b a = rd2 x a b := by
  by_cases hh : a < A ∧ b < B
  · rw [rd2_of _ hh.2 hh.1, rd2_of x hh.1 hh.2]
    exact transpose_apply _ x h _ _ fun i => match i with
      | ⟨0, _⟩ => rfl
      | ⟨1, _⟩ => rfl
  · rw [rd2, dif_neg (by omega), rd2, dif_neg (by omega)]

end Attn

end
-- ==== Proof.Tiles.lean ====
/-
  The tile program's values at the ideal instance, position by position.
-/
module

public import proofs.«01_k».proof.Proof.Rd

@[expose] public section

noncomputable section

namespace Attn

open Idealize.ShloMosaic

/-! ### Constants -/

theorem ofBits_zero : Ideal.ofBits .f32 0x00000000#32 = 0 := Ideal.ofBits_zero_f32
theorem ofBits_negInf : Ideal.ofBits .f32 0xFF800000#32 = ⊥ := by simp [Ideal.ofBits, Ideal.ieee]
theorem ofBits_one : Ideal.ofBits .f32 0x3F800000#32 = 1 := by simp [Ideal.ofBits, Ideal.ieee, -EReal.coe_mul]; norm_num
theorem ofBits_zero8 : Ideal.ofBits .fp8e4m3 0x00#8 = 0 := by simp [Ideal.ofBits, Ideal.e4m3fn]
theorem ofBits_scale : Ideal.ofBits .f32 0x3DB504F3#32 = ((11863283 * 134217728⁻¹ : ℝ) : EReal) := by
  simp [Ideal.ofBits, Ideal.ieee, -EReal.coe_mul]; norm_num

/-! ### Products -/

variable {A B C : ℕ}

/-- A product into zeros is the sum of products. -/
theorem rd2_matmul {φ₁ φ₂ : FTy} (K : ℕ) (x : FVec Ideal (S2d A K) φ₁) (y : FVec Ideal (S2d K B) φ₂) {a b : ℕ} (ha : a < A) (hb : b < B) :
    rd2 (matmul (DotDims.plain A K B) none x y (constant (S2d A B) .f32 0x00000000#32)) a b = ∑ d ∈ Finset.range K, rd2 x a d * rd2 y d b := by
  rw [rd2_of _ ha hb, matmul, Ideal.matmul_constant_zero_apply, ← Equiv.sum_comp (ValueIdx.contrEquiv1 (DotDims.plain A K B) K rfl rfl).symm, Finset.sum_range]
  refine Finset.sum_congr rfl fun k _ => ?_
  have hk := ValueIdx.contrEquiv1_symm_val (DotDims.plain A K B) K rfl rfl k
  have el : (DotDims.plain A K B).lhsIdx (ix2 a b ha hb) ((ValueIdx.contrEquiv1 (DotDims.plain A K B) K rfl rfl).symm k) = ix2 a k.val ha k.isLt :=
    funext fun i => Fin.ext (by
      match i with
      | ⟨0, _⟩ => rfl
      | ⟨1, _⟩ => exact ((DotDims.plain A K B).lhsIdx_val_of_single rfl _ _).trans hk)
  have er : (DotDims.plain A K B).rhsIdx (ix2 a b ha hb) ((ValueIdx.contrEquiv1 (DotDims.plain A K B) K rfl rfl).symm k) = ix2 k.val b k.isLt hb :=
    funext fun i => Fin.ext (by
      match i with
      | ⟨0, _⟩ => exact ((DotDims.plain A K B).rhsIdx_val_of_single rfl _ _).trans hk
      | ⟨1, _⟩ => rfl)
  rw [el, er, rd2_of x ha k.isLt, rd2_of y k.isLt hb]

/-! ### Reductions -/

/-- A fold of maxima from the bottom is below `x` just if every term is. -/
theorem fold_max_le {n : ℕ} (f : Fin n → EReal) (x : EReal) : (Finset.univ : Finset (Fin n)).fold max ⊥ f ≤ x ↔ ∀ i, f i ≤ x := by
  rw [Finset.fold_max_le]
  simp

theorem lift3 {n : ℕ} (x : (S3d n B C).Idx → EReal) (h : (S3d n B C).Reduces [0] (S2d B C)) {b c : ℕ} (hb : b < B) (hc : c < C) (k : Fin n) :
    x (h.lift (ix2 b c hb hc) k) = rd3 x k.val b c := by
  rw [at3 x]; rfl

theorem lift2 {n : ℕ} (x : (S2d n C).Idx → EReal) (h : (S2d n C).Reduces [0] (S1d C)) {c : ℕ} (hc : c < C) (j : (S1d C).Idx) (hj : (j 0).val = c) (k : Fin n) :
    x (h.lift j k) = rd2 x k.val c := by
  rw [at2 x, ← hj]; rfl

theorem rd2_max_le {n : ℕ} (s : FVec Ideal (S3d n B C) .f32) (h : (S3d n B C).Reduces [0] (S2d B C)) (hφ) (hacc) {b c : ℕ} (hb : b < B) (hc : c < C) (x : EReal) :
    rd2 (multiReduction .maximumf [0] (S2d B C) s 0xFF800000#32 h hφ hacc) b c ≤ x ↔ ∀ k < n, rd3 s k b c ≤ x := by
  rw [rd2_of _ hb hc, Ideal.multiReduction_maximumf_single]
  rw [show (FloatOps.ofBits .f32 0xFF800000#32 : Ideal .f32) = (⊥ : EReal) from ofBits_negInf]
  exact (fold_max_le _ x).trans ⟨fun g k hk => (lift3 s h hb hc ⟨k, hk⟩).ge.trans (g (⟨k, hk⟩ : Fin n)),
    fun g k => (lift3 s h hb hc k).le.trans (g k.val k.isLt)⟩

theorem rd2_sum {n : ℕ} (s : FVec Ideal (S3d n B C) .f32) (h : (S3d n B C).Reduces [0] (S2d B C)) (hφ) (hacc) {b c : ℕ} (hb : b < B) (hc : c < C) :
    rd2 (multiReduction .add [0] (S2d B C) s 0x00000000#32 h hφ hacc) b c = ∑ k ∈ Finset.range n, rd3 s k b c := by
  rw [rd2_of _ hb hc, Ideal.multiReduction_add_single, Finset.sum_range]
  exact Finset.sum_congr rfl fun k _ => lift3 s h hb hc k

def ix1 (c : ℕ) (hc : c < C) : (S1d C).Idx := fun i => match i with | ⟨0, _⟩ => ⟨c, hc⟩

theorem row_max_le {n : ℕ} (m : FVec Ideal (S2d n C) .f32) (h : (S2d n C).Reduces [0] (S1d C)) (hφ) (hacc) {c : ℕ} (hc : c < C) (x : EReal) :
    multiReduction .maximumf [0] (S1d C) m 0xFF800000#32 h hφ hacc (ix1 c hc) ≤ x ↔ ∀ k < n, rd2 m k c ≤ x := by
  rw [Ideal.multiReduction_maximumf_single, show (FloatOps.ofBits .f32 0xFF800000#32 : Ideal .f32) = (⊥ : EReal) from ofBits_negInf]
  exact (fold_max_le _ x).trans ⟨fun g k hk => (lift2 m h hc (ix1 c hc) rfl ⟨k, hk⟩).ge.trans (g (⟨k, hk⟩ : Fin n)),
    fun g k => (lift2 m h hc (ix1 c hc) rfl k).le.trans (g k.val k.isLt)⟩

theorem row_sum {n : ℕ} (m : FVec Ideal (S2d n C) .f32) (h : (S2d n C).Reduces [0] (S1d C)) (hφ) (hacc) {c : ℕ} (hc : c < C) :
    multiReduction .add [0] (S1d C) m 0x00000000#32 h hφ hacc (ix1 c hc) = ∑ k ∈ Finset.range n, rd2 m k c := by
  rw [Ideal.multiReduction_add_single, Finset.sum_range]
  exact Finset.sum_congr rfl fun k _ => lift2 m h hc (ix1 c hc) rfl k

theorem cast_row (v : (S1d C).Idx → EReal) (h : (S1d C).ShapeCasts (S2d 1 C)) {c : ℕ} (hc : c < C) :
    rd2 (shapeCast (S2d 1 C) v h) 0 c = v (ix1 c hc) := by
  rw [rd2_of _ Nat.one_pos hc]
  exact shapeCast_apply v h _ _ (by rw [rm2, Shape.rowMajor_val_one, Nat.zero_mul, Nat.zero_add]; rfl)

/-- Row `r` of `8 n` rows is row `r % 8` of group `r / 8`. -/
theorem forall_group (n : ℕ) (P : ℕ → Prop) : (∀ b < 8, ∀ a < n, P (8 * a + b)) ↔ ∀ r < 8 * n, P r := by
  constructor
  · intro g r hr
    have := g (r % 8) (Nat.mod_lt _ (by decide)) (r / 8) (by omega)
    rwa [Nat.div_add_mod] at this
  · intro g b hb a ha
    exact g _ (by omega)

theorem sum_group (f : ℕ → EReal) : ∀ n, ∑ b ∈ Finset.range 8, ∑ a ∈ Finset.range n, f (8 * a + b) = ∑ r ∈ Finset.range (8 * n), f r
  | 0 => by simp
  | n + 1 => by
    simp only [Finset.sum_range_succ _ n, Finset.sum_add_distrib]
    rw [sum_group f n, Nat.mul_succ, Finset.sum_range_add]

/-! ### The tiles -/

section
variable (k : FVec Ideal (S3d 1 256 128) .bf16) (q : FVec Ideal (S3d 1 128 256) .bf16)

/-- A score is the product of its key row and its query column. -/
theorem rd2_sTile {r c : ℕ} (hr : r < 256) (hc : c < 256) : rd2 (sTile k q) r c = ∑ d ∈ Finset.range 128, rd3 k 0 r d * rd3 q 0 d c := by
  unfold sTile
  rw [rd2_matmul 128 _ _ hr hc]
  simp only [rd2_drop]

end

/-- The diagonal mask: zero on and above the diagonal, the bottom below. -/
theorem rd2_mask {a b : ℕ} (ha : a < 128) (hb : b < 128) :
    rd2 (shapeCast (S2d 128 128) (maskVal (F := Ideal)) (by decide)) a b = if a ≤ b then 0 else ⊥ := by
  rw [rd2_of _ ha hb, shapeCast_apply _ _ _ (ix2 a b ha hb) rfl]
  show (if IntOp.cmpi .sle (BitVec.ofNat 32 (0 * 128 + a)) (BitVec.ofNat 32 (0 * 128 + b)) = 1#1 then (Ideal.ofBits .f32 0x00000000#32 : EReal) else Ideal.ofBits .f32 0xFF800000#32) = _
  rw [ofBits_zero, ofBits_negInf, Nat.zero_mul, Nat.zero_add, Nat.zero_add]
  have : (IntOp.cmpi .sle (BitVec.ofNat 32 a) (BitVec.ofNat 32 b) = 1#1) ↔ a ≤ b := by
    have ea : (BitVec.ofNat 32 a).toInt = a := by rw [BitVec.toInt_ofNat']; exact Int.bmod_eq_of_le (by omega) (by omega)
    have eb : (BitVec.ofNat 32 b).toInt = b := by rw [BitVec.toInt_ofNat']; exact Int.bmod_eq_of_le (by omega) (by omega)
    rw [IntOp.cmpi, BitVec.sle, ea, eb]
    by_cases h : a ≤ b <;> simp [h]
  simp only [this]

/-! ### Elementwise -/

theorem rd2_addf {φ : FTy} (x y : FVec Ideal (S2d A B) φ) {a b : ℕ} (ha : a < A) (hb : b < B) : rd2 (addf x y) a b = rd2 x a b + rd2 y a b := by
  rw [rd2_of _ ha hb, rd2_of x ha hb, rd2_of y ha hb]; rfl
theorem rd2_subf {φ : FTy} (x y : FVec Ideal (S2d A B) φ) {a b : ℕ} (ha : a < A) (hb : b < B) : rd2 (subf x y) a b = rd2 x a b - rd2 y a b := by
  rw [rd2_of _ ha hb, rd2_of x ha hb, rd2_of y ha hb]; rfl
theorem rd2_mulf {φ : FTy} (x y : FVec Ideal (S2d A B) φ) {a b : ℕ} (ha : a < A) (hb : b < B) : rd2 (mulf x y) a b = rd2 x a b * rd2 y a b := by
  rw [rd2_of _ ha hb, rd2_of x ha hb, rd2_of y ha hb]; rfl
theorem rd2_divf {φ : FTy} (x y : FVec Ideal (S2d A B) φ) {a b : ℕ} (ha : a < A) (hb : b < B) : rd2 (divf x y) a b = Ideal.div (rd2 x a b) (rd2 y a b) := by
  rw [rd2_of _ ha hb, rd2_of x ha hb, rd2_of y ha hb]; rfl
theorem rd2_maxf {φ : FTy} (x y : FVec Ideal (S2d A B) φ) {a b : ℕ} (ha : a < A) (hb : b < B) : rd2 (maximumf x y) a b = max (rd2 x a b) (rd2 y a b) := by
  rw [rd2_of _ ha hb, rd2_of x ha hb, rd2_of y ha hb]; rfl
theorem rd2_exp2 {φ : FTy} (x : FVec Ideal (S2d A B) φ) {a b : ℕ} (ha : a < A) (hb : b < B) : rd2 (exp2 x) a b = Ideal.exp2 (rd2 x a b) := by
  rw [rd2_of _ ha hb, rd2_of x ha hb]; rfl
theorem rd2_splat (x : EReal) {a b : ℕ} (ha : a < A) (hb : b < B) : rd2 (broadcast (S2d A B) x) a b = x := by
  rw [rd2_of _ ha hb]; rfl

/-! ### The tiles of one head -/

theorem rd2_topTile (s : FVec Ideal (S2d 256 256) .f32) (mk : FVec Ideal (S2d 128 128) .f32) {a c : ℕ} (ha : a < 128) (hc : c < 256) :
    rd2 (topTile s mk) a c = if c < 128 then rd2 s a c + rd2 mk a c else rd2 s a c := by
  unfold topTile
  refine (rd2_cat (B := 128) (B' := 128) _ _ cat_top ha hc).trans ?_
  split
  · rename_i h
    rw [rd2_addf _ _ ha h, rd2_slice _ _ ha h, Nat.zero_add, Nat.zero_add]
  · rw [rd2_slice _ _ ha (by omega), Nat.zero_add, Nat.add_sub_cancel' (by omega)]

theorem rd2_lowTile (s : FVec Ideal (S2d 256 256) .f32) (mk : FVec Ideal (S2d 128 128) .f32) {a b : ℕ} (ha : a < 128) (hb : b < 128) :
    rd2 (lowTile s mk) a b = rd2 s (128 + a) (128 + b) + rd2 mk a b := by
  unfold lowTile
  rw [rd2_addf _ _ ha hb, rd2_slice _ _ ha hb]

theorem mFull_le (s : FVec Ideal (S2d 256 256) .f32) {c : ℕ} (hc : c < 256) (x : EReal) :
    (∀ b < 8, rd2 (mFull s) b c ≤ x) ↔ ∀ r < 256, rd2 s r c ≤ x := by
  rw [← forall_group 32 fun r => rd2 s r c ≤ x]
  refine forall₂_congr fun b hb => ?_
  unfold mFull
  refine (rd2_max_le _ _ _ _ hb hc _).trans (forall₂_congr fun a _ => ?_)
  rw [rd3_group s _ rfl hb]

theorem mDiag_le (top : FVec Ideal (S2d 128 256) .f32) (low : FVec Ideal (S2d 128 128) .f32) {c : ℕ} (hc : c < 256) (x : EReal) :
    (∀ b < 8, rd2 (mDiag top low) b c ≤ x) ↔ (∀ r < 128, rd2 top r c ≤ x) ∧ (128 ≤ c → ∀ r < 128, rd2 low r (c - 128) ≤ x) := by
  rw [← forall_group 16 fun r => rd2 top r c ≤ x, ← forall_group 16 fun r => rd2 low r (c - 128) ≤ x]
  have key : ∀ b < 8, (rd2 (mDiag top low) b c ≤ x ↔ (∀ a < 16, rd2 top (8 * a + b) c ≤ x) ∧ (128 ≤ c → ∀ a < 16, rd2 low (8 * a + b) (c - 128) ≤ x)) := by
    intro b hb
    unfold mDiag
    dsimp only
    rw [(rd2_cat (B := 128) (B' := 128) _ _ cat_m hb hc)]
    split
    · rename_i h
      rw [rd2_slice _ _ hb h, Nat.zero_add, Nat.zero_add]
      refine (rd2_max_le _ _ _ _ hb hc _).trans ?_
      simp only [rd3_group (n := 16) top _ rfl hb]
      exact ⟨fun g => ⟨g, fun hh => absurd hh (by omega)⟩, fun g => g.1⟩
    · rename_i h
      have h' : c - 128 < 128 := by omega
      rw [rd2_maxf _ _ hb h', rd2_slice _ _ hb h', Nat.zero_add, Nat.add_sub_cancel' (by omega), max_le_iff]
      refine (and_congr (rd2_max_le _ _ _ _ hb hc _) (rd2_max_le _ _ _ _ hb h' _)).trans ?_
      simp only [rd3_group (n := 16) top _ rfl hb, rd3_group (n := 16) low _ rfl hb]
      exact and_congr_right fun _ => ⟨fun g _ => g, fun g => g (by omega)⟩
  constructor
  · intro g
    exact ⟨fun b hb => ((key b hb).1 (g b hb)).1, fun h b hb => ((key b hb).1 (g b hb)).2 h⟩
  · intro g b hb
    exact (key b hb).2 ⟨g.1 b hb, fun h => g.2 h b hb⟩

theorem mRow_le (m : FVec Ideal (S2d 8 256) .f32) {c : ℕ} (hc : c < 256) (x : EReal) :
    rd2 (mRow m) 0 c ≤ x ↔ ∀ b < 8, rd2 m b c ≤ x := by
  unfold mRow
  rw [cast_row _ _ hc]
  exact row_max_le m _ _ _ hc x

/-- The bound that a running maximum stands for. -/
def OptLe (m : Option (FVec Ideal (S2d 8 256) .f32)) (c : ℕ) (x : EReal) : Prop := ∀ v, m = some v → ∀ b < 8, rd2 v b c ≤ x

theorem mJoin_le (m : Option (FVec Ideal (S2d 8 256) .f32)) (mt : FVec Ideal (S2d 8 256) .f32) {c : ℕ} (hc : c < 256) (x : EReal) :
    (∀ b < 8, rd2 (mJoin m mt) b c ≤ x) ↔ OptLe m c x ∧ ∀ b < 8, rd2 mt b c ≤ x := by
  cases m with
  | none => exact ⟨fun g => ⟨fun v h => (by cases h), g⟩, fun g => g.2⟩
  | some v =>
    show (∀ b < 8, rd2 (maximumf v mt) b c ≤ x) ↔ _
    constructor
    · intro g
      refine ⟨fun w h b hb => ?_, fun b hb => ?_⟩
      · cases h; have := g b hb; rw [rd2_maxf _ _ hb hc] at this; exact (le_max_left _ _).trans this
      · have := g b hb; rw [rd2_maxf _ _ hb hc] at this; exact (le_max_right _ _).trans this
    · intro g b hb
      rw [rd2_maxf _ _ hb hc]
      exact max_le (g.1 v rfl b hb) (g.2 b hb)

theorem rd2_pBlk (cst : EReal) (m : FVec Ideal (S2d 1 256) .f32) (s : FVec Ideal (S3d 1 32 256) .f32) {a c : ℕ} (ha : a < 32) (hc : c < 256) :
    rd2 (pBlk (F := Ideal) cst m s) a c = Ideal.exp2 ((rd3 s 0 a c - rd2 m 0 c) * cst) := by
  unfold pBlk
  rw [rd2_exp2 _ ha hc, rd2_mulf _ _ ha hc, rd2_subf _ _ ha hc, rd2_drop, rd2_rows _ _ (by decide) ha hc]
  exact congrArg _ (congrArg _ (rd2_splat _ ha hc))

theorem rd2_pHalf (cst : EReal) (m : FVec Ideal (S2d 1 256) .f32) (s : FVec Ideal (S3d 1 32 128) .f32) {a c : ℕ} (ha : a < 32) (hc : c < 128) :
    rd2 (pHalf (F := Ideal) cst m s) a c = Ideal.exp2 ((rd3 s 0 a c - rd2 m 0 (128 + c)) * cst) := by
  unfold pHalf
  rw [rd2_exp2 _ ha hc, rd2_mulf _ _ ha hc, rd2_subf _ _ ha hc, rd2_drop, rd2_rows _ _ (by decide) ha hc, rd2_slice _ _ Nat.one_pos hc]
  exact congrArg _ (congrArg _ (rd2_splat _ ha hc))

theorem lBlk_sum (l : FVec Ideal (S2d 8 256) .f32) (p : FVec Ideal (S2d 32 256) .f32) {c : ℕ} (hc : c < 256) :
    ∑ b ∈ Finset.range 8, rd2 (lBlk l p) b c = ∑ b ∈ Finset.range 8, rd2 l b c + ∑ r ∈ Finset.range 32, rd2 p r c := by
  rw [← sum_group (fun r => rd2 p r c) 4, ← Finset.sum_add_distrib]
  refine Finset.sum_congr rfl fun b hb => ?_
  have hb := Finset.mem_range.1 hb
  unfold lBlk
  rw [rd2_addf _ _ hb hc]
  exact congrArg _ ((rd2_sum _ _ _ _ hb hc).trans (Finset.sum_congr rfl fun a _ => rd3_group p _ rfl hb))

theorem lHalf_sum (l : FVec Ideal (S2d 8 128) .f32) (p : FVec Ideal (S2d 32 128) .f32) {c : ℕ} (hc : c < 128) :
    ∑ b ∈ Finset.range 8, rd2 (lHalf l p) b c = ∑ b ∈ Finset.range 8, rd2 l b c + ∑ r ∈ Finset.range 32, rd2 p r c := by
  rw [← sum_group (fun r => rd2 p r c) 4, ← Finset.sum_add_distrib]
  refine Finset.sum_congr rfl fun b hb => ?_
  have hb := Finset.mem_range.1 hb
  unfold lHalf
  rw [rd2_addf _ _ hb hc]
  exact congrArg _ ((rd2_sum _ _ _ _ hb hc).trans (Finset.sum_congr rfl fun a _ => rd3_group p _ rfl hb))

theorem rd2_lRow (l : FVec Ideal (S2d 8 256) .f32) (lh : FVec Ideal (S2d 8 128) .f32) {c : ℕ} (hc : c < 256) :
    rd2 (lRow l lh) 0 c = ∑ b ∈ Finset.range 8, rd2 l b c + if c < 128 then 0 else ∑ b ∈ Finset.range 8, rd2 lh b (c - 128) := by
  unfold lRow
  rw [cast_row _ _ hc]
  have key : ∀ b < 8, rd2 (concatenate (S2d 8 256) 1
      [⟨S2d 8 128, extractStridedSlice (S2d 8 128) ![0, 0] l (by decide)⟩,
       ⟨S2d 8 128, addf (extractStridedSlice (S2d 8 128) ![0, 128] l (by decide)) lh⟩] cat_m) b c = rd2 l b c + if c < 128 then 0 else rd2 lh b (c - 128) := by
    intro b hb
    rw [(rd2_cat (B := 128) (B' := 128) _ _ cat_m hb hc)]
    split
    · rename_i h
      rw [rd2_slice _ _ hb h, Nat.zero_add, Nat.zero_add, add_zero]
    · rw [rd2_addf _ _ hb (by omega), rd2_slice _ _ hb (by omega), Nat.zero_add, Nat.add_sub_cancel' (by omega)]
  refine (row_sum _ _ _ _ hc).trans ((Finset.sum_congr rfl fun b hb => key b (Finset.mem_range.1 hb)).trans ?_)
  rw [Finset.sum_add_distrib]
  split
  · simp
  · rfl

theorem rd3_pStore (p : FVec Ideal (S2d 32 256) .f32) (a c : ℕ) : rd3 (pStore p) 0 a c = rd2 p a c := rd3_add p _ a c
theorem rd3_pHalfStore (p : FVec Ideal (S2d 32 128) .f32) (a c : ℕ) : rd3 (pHalfStore p) 0 a c = rd2 p a c := rd3_add p _ a c
theorem rd3_pZero (a c : ℕ) : rd3 (pZero (F := Ideal)) 0 a c = 0 := by
  unfold pZero
  rw [rd3_add]
  unfold rd2
  split
  · exact ofBits_zero8
  · rfl

theorem rd3_oTile (N : ℕ) (v : FVec Ideal (S3d 1 128 (256 * (N + 1))) .bf16) (p : FVec Ideal (S3d 1 (256 * (N + 1)) 256) .fp8e4m3)
    (l : FVec Ideal (S2d 1 256) .f32) {c d : ℕ} (hc : c < 256) (hd : d < 128) :
    rd3 (oTile N v p l) 0 c d = (∑ r ∈ Finset.range (256 * (N + 1)), rd3 v 0 d r * rd3 p 0 r c) * Ideal.div 1 (rd2 l 0 c) := by
  unfold oTile
  rw [rd3_add, rd2_transpose]
  refine (rd2_mulf _ _ hd hc).trans ?_
  rw [rd2_matmul _ _ _ hd hc, rd2_rows _ _ (by decide) hd hc, rd2_divf _ _ Nat.one_pos hc]
  simp only [rd2_drop]
  exact congrArg _ (congrArg (Ideal.div · _) ((rd2_splat _ Nat.one_pos hc).trans ofBits_one))

end Attn

end
-- ==== Proof.Heads.lean ====
/-
  What the heads leave in the output block at the ideal instance, position by position.
-/
module

public import proofs.«01_k».proof.Proof.Tiles
public import proofs.«01_k».proof.Proof.Safe

@[expose] public section

noncomputable section

namespace Attn

open Idealize.ShloMosaic Idealize.ShloMosaic.TcCoe
open Idealize.SL Idealize.SL.RA Idealize.SL.BI Idealize.SL.Sem

/-! ### The values -/

/-- The score of key row `r` against query column `c`, before the mask. -/
def raw (σ : St Ideal) (kv h r c : ℕ) : EReal := ∑ d ∈ Finset.range 128, rd3 σ.k kv r d * rd3 σ.q h d c

/-- The score: the bottom where the key comes after the query. -/
def sc (σ : St Ideal) (N kv h r c : ℕ) : EReal := if r ≤ 256 * N + c then raw σ kv h r c else ⊥

/-- The largest score of a query. -/
def top (σ : St Ideal) (N kv h c : ℕ) : EReal := (Finset.range (256 * (N + 1))).sup fun r => sc σ N kv h r c

/-- The weight of key row `r` for query column `c`. -/
def wt (cst : EReal) (σ : St Ideal) (N kv h r c : ℕ) : EReal := Ideal.exp2 ((sc σ N kv h r c - top σ N kv h c) * cst)

/-- The attention of query column `c` at value row `d`. -/
def outv (cst : EReal) (σ : St Ideal) (N kv h c d : ℕ) : EReal :=
  (∑ r ∈ Finset.range (256 * (N + 1)), rd3 σ.v kv d r * wt cst σ N kv h r c) * Ideal.div 1 (∑ r ∈ Finset.range (256 * (N + 1)), wt cst σ N kv h r c)

variable {σ σ' : St Ideal}

theorem fixed_iff : σ'.fixed = σ.fixed ↔ σ'.qi = σ.qi ∧ σ'.ki = σ.ki ∧ σ'.vi = σ.vi ∧ σ'.q = σ.q ∧ σ'.k = σ.k ∧ σ'.v = σ.v ∧ σ'.m = σ.m := by
  simp only [St.fixed, Prod.mk.injEq]

theorem raw_congr (e : σ'.fixed = σ.fixed) : raw σ' = raw σ := by
  obtain ⟨-, -, -, eq, ek, -, -⟩ := fixed_iff.1 e
  unfold raw; rw [eq, ek]
theorem sc_congr (e : σ'.fixed = σ.fixed) : sc σ' = sc σ := by unfold sc; rw [raw_congr e]
theorem top_congr (e : σ'.fixed = σ.fixed) : top σ' = top σ := by unfold top; rw [sc_congr e]
theorem wt_congr (cst : EReal) (e : σ'.fixed = σ.fixed) : wt cst σ' = wt cst σ := by unfold wt; rw [sc_congr e, top_congr e]
theorem outv_congr (cst : EReal) (e : σ'.fixed = σ.fixed) : outv cst σ' = outv cst σ := by
  obtain ⟨-, -, -, -, -, ev, -⟩ := fixed_iff.1 e
  unfold outv; rw [wt_congr cst e, ev]

/-- A key after the query weighs nothing. -/
theorem wt_zero {cst : EReal} (hc : 0 < cst) {N kv h r c : ℕ} (hr : 256 * N + c < r) : wt cst σ N kv h r c = 0 := by
  unfold wt sc
  rw [if_neg (by omega), sub_eq_add_neg, EReal.bot_add, EReal.bot_mul_of_pos hc]
  rfl

/-! ### Tiles of windows -/

theorem tile_raw (σ : St Ideal) {kv h n : ℕ} {wk : FVec Ideal (S3d 1 256 128) .bf16} {wq : FVec Ideal (S3d 1 128 256) .bf16} {h1} {h2}
    (hk : ∃ x, x = σ.k ∧ wk = VecWindow.window (s := S3d 8 1024 128) x ![kv, 256 * n, 0] ![1, 256, 128] h1)
    (hq : ∃ x, x = σ.q ∧ wq = VecWindow.window (s := S3d 24 128 256) x ![h, 0, 0] ![1, 128, 256] h2) (r c : ℕ) (hr : r < 256) (hc : c < 256) :
    rd2 (sTile (F := Ideal) wk wq) r c = raw σ kv h (256 * n + r) c := by
  obtain ⟨_, rfl, rfl⟩ := hk
  obtain ⟨_, rfl, rfl⟩ := hq
  rw [rd2_sTile _ _ hr hc]
  refine Finset.sum_congr rfl fun d hd => ?_
  have hd := Finset.mem_range.1 hd
  rw [rd3_window σ.k h1 Nat.one_pos hr hd, rd3_window σ.q h2 Nat.one_pos hd hc]
  simp only [Nat.add_zero, Nat.zero_add]

variable {nD : ℕ} {τ : Topo} {sig : RefSig} {Λ₀ : Labels} {U : Type} [URA U]
variable {c : Dev nD} {R : Refs sig} {defs : Defs nD τ sig (Elt Ideal) Λ₀} {E : Set ℕ}

/-- A load, its value named. -/
theorem Runs.load' {s : Shape} {e : EltTy} (L : Slot (F := Ideal) (τ := τ) (U := U) c R s e) {β : Type} {off size : Fin s.rank → ℕ} {inb : ∀ a, off a + size a ≤ s.size a}
    {hl : L.m.view.LoadsAt (Rect.unit off size inb).toLoadRect} {k : ((Rect.unit off size inb).shape.Idx → Elt Ideal e) → Prog (TpuEff nD τ sig (Elt Ideal) Λ₀ .tc) β}
    {σ : St Ideal} {Post : St Ideal → β → Prop} (h : ∀ w, w = VecWindow.window (L.get σ) off size inb → Runs c R defs E U σ (k w) Post) :
    Runs c R defs E U σ (Prog.lift (.load L.m (Rect.unit off size inb).toLoadRect hl) >>= k) Post := Runs.load L (h _ rfl)

/-- The mask buffer holds the causal mask. -/
def MaskOk (mk : Vec Ideal (S2d 128 128) .f32) : Prop := ∀ a b, a < 128 → b < 128 → rd2 mk a b = if a ≤ b then 0 else ⊥

/-- The scores of query head `g` stand in the score buffer wherever they are read. -/
def Stored (s : Vec Ideal (S3d 3 1024 256) .f32) (N g : ℕ) (S : ℕ → ℕ → EReal) : Prop :=
  ∀ r c, c < 256 → r < 256 * (N + 1) → (r < 256 * N + 128 ∨ 128 ≤ c) → rd3 s g r c = S r c

/-- What the first `n` chunks of scores leave. -/
def ScoreInv (σ : St Ideal) (kv g n : ℕ) (σ' : St Ideal) (m : Option (FVec Ideal (S2d 8 256) .f32)) : Prop :=
  σ'.fixed = σ.fixed ∧ σ'.o = σ.o ∧ (∀ g' r c, g' ≠ g → rd3 σ'.s g' r c = rd3 σ.s g' r c)
    ∧ (∀ r c, r < 256 * n → c < 256 → rd3 σ'.s g r c = raw σ kv (3 * kv + g) r c)
    ∧ ∀ c, c < 256 → ∀ x, OptLe m c x ↔ ∀ r < 256 * n, raw σ kv (3 * kv + g) r c ≤ x

theorem optLe_some {v : FVec Ideal (S2d 8 256) .f32} {c : ℕ} {x : EReal} : OptLe (some v) c x ↔ ∀ b < 8, rd2 v b c ≤ x :=
  ⟨fun g => g v rfl, fun g w h => by cases h; exact g⟩

/-- The scores of a query head: stored, and their maxima returned. -/
theorem scores_val (σ : St Ideal) (hm : MaskOk σ.m) (N : ℕ) (hN : N < 4) (kv : ℕ) (hkv : kv < 8) (g : ℕ) (hg : g < 3) :
    Runs c R defs E U σ (scores R N hN kv hkv g hg) fun σ' m => σ'.fixed = σ.fixed ∧ σ'.o = σ.o
      ∧ (∀ g' r c, g' ≠ g → rd3 σ'.s g' r c = rd3 σ.s g' r c) ∧ Stored σ'.s N g (sc σ N kv (3 * kv + g))
      ∧ ∀ c, c < 256 → rd2 m 0 c = top σ N kv (3 * kv + g) c := by
  unfold scores
  refine Runs.load' (slotQ c R) fun wq hq => ?_
  refine (Runs.loopN (ScoreInv σ kv g) ⟨rfl, rfl, fun _ _ _ _ => rfl, fun r c hr => absurd hr (by omega), fun c _ x => ⟨fun _ r hr => absurd hr (by omega), fun _ v h => by cases h⟩⟩ ?_).bind fun σ' m e => ?_
  · rintro j hj σ' m ⟨e1, e2, e3, e4, e5⟩
    refine Runs.load' (slotK c R) fun wk hk => Runs.load (slotS c R) (Runs.storeK (slotS c R) (Runs.pure ?_))
    obtain ⟨-, -, -, eq, ek, ev, em⟩ := fixed_iff.1 e1
    have hT := tile_raw σ (h := 3 * kv + g) (n := j) ⟨_, ek, hk⟩ ⟨_, rfl, hq⟩
    refine ⟨e1, e2, fun g' r c hne => (rd3_put_out _ _ (by omega)).trans (e3 g' r c hne), fun r c hr hc => ?_, fun c hc x => ?_⟩
    · by_cases h : r < 256 * j
      · exact (rd3_put_out _ _ (by omega)).trans (e4 r c h hc)
      · refine (rd3_put_in _ _ (inb3 (by omega) (by omega) (by decide)) ⟨by omega, by omega⟩ ⟨by omega, by omega⟩ ⟨by omega, by omega⟩).trans ?_
        rw [Nat.sub_self, Nat.sub_zero]
        refine (rd3_add _ _ _ _).trans ?_
        rw [hT _ _ (by omega) hc, Nat.add_sub_cancel' (by omega)]
    · rw [optLe_some, mJoin_le _ _ hc, mFull_le _ hc, e5 c hc]
      constructor
      · rintro ⟨h1, h2⟩ r hr
        by_cases h : r < 256 * j
        · exact h1 r h
        · have := h2 (r - 256 * j) (by omega)
          rwa [hT _ _ (by omega) hc, Nat.add_sub_cancel' (by omega)] at this
      · intro h
        exact ⟨fun r hr => h r (by omega), fun r hr => by rw [hT _ _ hr hc]; exact h _ (by omega)⟩
  · obtain ⟨e1, e2, e3, e4, e5⟩ := e
    obtain ⟨-, -, -, eq, ek, ev, em⟩ := fixed_iff.1 e1
    refine Runs.load' (slotK c R) fun wk hk => Runs.load' (slotM c R) fun mk hmk => Runs.load' (slotM c R) fun mk' hmk' => Runs.load (slotS c R) (Runs.storeK (slotS c R)
      (Runs.load (slotS c R) (Runs.storeK (slotS c R) (Runs.pure ?_))))
    have hT := tile_raw σ (h := 3 * kv + g) (n := N) ⟨_, ek, hk⟩ ⟨_, rfl, hq⟩
    have hM : ∀ a b, a < 128 → b < 128 → rd2 mk a b = if a ≤ b then 0 else ⊥ := fun a b ha hb => by
      rw [hmk, ← hm a b ha hb, ← em]; exact rd2_window_full σ'.m _ a b
    have hmm : mk' = mk := hmk'.trans hmk.symm
    subst hmm
    have hadd : ∀ (y : EReal) (a b : ℕ), (y + if a ≤ b then 0 else ⊥) = if a ≤ b then y else ⊥ := fun y a b => by
      split
      · exact add_zero y
      · exact EReal.add_bot y
    have hTop : ∀ a c, a < 128 → c < 256 → rd2 (topTile (F := Ideal) (sTile wk wq) mk') a c = sc σ N kv (3 * kv + g) (256 * N + a) c := fun a c ha hc => by
      rw [rd2_topTile _ _ ha hc]
      unfold sc
      split
      · rename_i h
        rw [hT _ _ (by omega) hc, hM _ _ ha h, hadd]
        exact if_congr (by omega) rfl rfl
      · rw [hT _ _ (by omega) hc, if_pos (by omega)]
    have hLow : ∀ a b, a < 128 → b < 128 → rd2 (lowTile (F := Ideal) (sTile wk wq) mk') a b = sc σ N kv (3 * kv + g) (256 * N + 128 + a) (128 + b) := fun a b ha hb => by
      rw [rd2_lowTile _ _ ha hb, hT _ _ (by omega) (by omega), hM _ _ ha hb, hadd, ← Nat.add_assoc]
      unfold sc
      exact if_congr (by omega) rfl rfl
    refine ⟨e1, e2, fun g' r c hne => (rd3_put_out _ _ (by omega)).trans ((rd3_put_out _ _ (by omega)).trans (e3 g' r c hne)), fun r c hc hr har => ?_, fun c hc => ?_⟩
    · by_cases h : r < 256 * N
      · refine (rd3_put_out _ _ (by omega)).trans ((rd3_put_out _ _ (by omega)).trans ((e4 r c h hc).trans ?_))
        unfold sc; rw [if_pos (by omega)]
      · by_cases h' : r < 256 * N + 128
        · refine (rd3_put_out _ _ (by omega)).trans ((rd3_put_in _ _ (inb3 (by omega) (by omega) (by decide)) ⟨by omega, by omega⟩ ⟨by omega, by omega⟩ ⟨by omega, by omega⟩).trans ?_)
          rw [Nat.sub_self, Nat.sub_zero]
          refine (rd3_add _ _ _ _).trans ?_
          rw [hTop _ _ (by omega) hc, Nat.add_sub_cancel' (by omega)]
        · refine (rd3_put_in _ _ (inb3 (by omega) (by omega) (by decide)) ⟨by omega, by omega⟩ ⟨by omega, by omega⟩ ⟨by omega, by omega⟩).trans ?_
          rw [Nat.sub_self]
          refine (rd3_add _ _ _ _).trans ?_
          rw [hLow _ _ (by omega) (by omega), Nat.add_sub_cancel' (by omega), Nat.add_sub_cancel' (by omega)]
    · refine eq_of_forall_ge_iff fun x => ?_
      rw [mRow_le _ hc, mJoin_le _ _ hc, mDiag_le _ _ hc, e5 c hc]
      unfold top
      rw [Finset.sup_le_iff]
      constructor
      · rintro ⟨h1, h2, h3⟩ r hr
        have hr := Finset.mem_range.1 hr
        by_cases h : r < 256 * N
        · unfold sc; rw [if_pos (by omega)]; exact h1 r h
        · by_cases h' : r < 256 * N + 128
          · have := h2 (r - 256 * N) (by omega)
            rwa [hTop _ _ (by omega) hc, Nat.add_sub_cancel' (by omega)] at this
          · by_cases hc' : 128 ≤ c
            · have := h3 hc' (r - (256 * N + 128)) (by omega)
              rwa [hLow _ _ (by omega) (by omega), Nat.add_sub_cancel' (by omega), Nat.add_sub_cancel' (by omega)] at this
            · unfold sc; rw [if_neg (by omega)]; exact bot_le
      · intro h
        refine ⟨fun r hr => ?_, fun r hr => ?_, fun hc' r hr => ?_⟩
        · have := h r (Finset.mem_range.2 (by omega))
          unfold sc at this; rwa [if_pos (by omega)] at this
        · rw [hTop _ _ hr hc]; exact h _ (Finset.mem_range.2 (by omega))
        · rw [hLow _ _ hr (by omega), Nat.add_sub_cancel' hc']; exact h _ (Finset.mem_range.2 (by omega))

/-- What the first `n` blocks of weights leave. -/
def WeightInv (σ : St Ideal) (g : ℕ) (W : ℕ → ℕ → EReal) (n : ℕ) (σ' : St Ideal) : Prop :=
  σ'.fixed = σ.fixed ∧ σ'.s = σ.s ∧ σ'.o = σ.o ∧ ∀ r c, r < n → c < 256 → rd3 σ'.p g r c = W r c

/-- A query head's output: its columns of the output block hold the attention, the others what they did. -/
theorem attend_val {cst : EReal} (hcst : 0 < cst) (σ : St Ideal) (N : ℕ) (hN : N < 4) (kv : ℕ) (hkv : kv < 8) (g : ℕ) (hg : g < 3)
    (m : FVec Ideal (S2d 1 256) .f32) (hs : Stored σ.s N g (sc σ N kv (3 * kv + g))) (hm : ∀ c, c < 256 → rd2 m 0 c = top σ N kv (3 * kv + g) c) :
    Runs c R defs E U σ (attend (F := Ideal) cst R N hN kv hkv g hg m) fun σ' _ => σ'.fixed = σ.fixed ∧ σ'.s = σ.s
      ∧ (∀ c j, ¬ ((3 * kv + g) * 128 ≤ j ∧ j < (3 * kv + g) * 128 + 128) → rd3 σ'.o 0 c j = rd3 σ.o 0 c j)
      ∧ ∀ c d, c < 256 → d < 128 → rd3 σ'.o 0 c ((3 * kv + g) * 128 + d) = outv cst σ N kv (3 * kv + g) c d := by
  generalize hW : wt cst σ N kv (3 * kv + g) = W
  have hw : ∀ r c, c < 256 → r < 256 * (N + 1) → (r < 256 * N + 128 ∨ 128 ≤ c) → Ideal.exp2 ((rd3 σ.s g r c - rd2 m 0 c) * cst) = W r c := fun r c hc hr h => by
    rw [hs r c hc hr h, hm c hc, ← hW]; rfl
  have hz : ∀ r c, 256 * N + c < r → W r c = 0 := fun r c h => by rw [← hW]; exact wt_zero hcst h
  unfold attend
  refine (Runs.loopN (fun n σ' l => WeightInv σ g W (32 * n) σ' ∧ ∀ c, c < 256 → ∑ b ∈ Finset.range 8, rd2 l b c = ∑ r ∈ Finset.range (32 * n), W r c)
    ⟨⟨rfl, rfl, rfl, fun r c hr => absurd hr (by omega)⟩, fun c hc => ?_⟩ ?_).bind fun σ' l e => ?_
  · rw [Nat.mul_zero, Finset.sum_range_zero]
    exact Finset.sum_eq_zero fun b hb => (rd2_splat _ (Finset.mem_range.1 hb) hc).trans ofBits_zero
  · rintro j hj σ' l ⟨⟨e1, e2, e3, e4⟩, e5⟩
    refine Runs.load' (slotS c R) fun ws hws => Runs.load (slotP c R) (Runs.storeK (slotP c R) (Runs.pure ?_))
    have hP : ∀ r c, r < 32 → c < 256 → rd2 (pBlk (F := Ideal) cst m ws) r c = W (32 * j + r) c := fun r c hr hc => by
      rw [rd2_pBlk _ _ _ hr hc, ← hw _ c hc (by omega) (by omega), hws, ← e2]
      refine congrArg (fun x => Ideal.exp2 ((x - _) * cst)) ((rd3_window σ'.s (inb3 (by omega) (by omega) (by decide)) Nat.one_pos hr hc).trans ?_)
      simp only [Nat.add_zero, Nat.zero_add]
    refine ⟨⟨e1, e2, e3, fun r c hr hc => ?_⟩, fun c hc => ?_⟩
    · by_cases h : r < 32 * j
      · exact (rd3_put_out _ _ (by omega)).trans (e4 r c h hc)
      · refine (rd3_put_in _ _ (inb3 (by omega) (by omega) (by decide)) ⟨by omega, by omega⟩ ⟨by omega, by omega⟩ ⟨by omega, by omega⟩).trans ?_
        rw [Nat.sub_self, Nat.sub_zero]
        refine (rd3_pStore _ _ _).trans ?_
        rw [hP _ _ (by omega) hc, Nat.add_sub_cancel' (by omega)]
    · rw [lBlk_sum _ _ hc, e5 c hc, Nat.mul_succ, Finset.sum_range_add]
      exact congrArg _ (Finset.sum_congr rfl fun r hr => hP r c (Finset.mem_range.1 hr) hc)
  obtain ⟨e, hl⟩ := e
  rw [show 32 * (8 * N + 4) = 256 * N + 128 by omega] at e hl
  refine (Runs.loopN (fun n σ' lh => WeightInv σ g W (256 * N + 128 + 32 * n) σ'
    ∧ ∀ c, c < 128 → ∑ b ∈ Finset.range 8, rd2 lh b c = ∑ r ∈ Finset.range (32 * n), W (256 * N + 128 + r) (128 + c))
    ⟨e, fun c hc => ?_⟩ ?_).bind fun σ' lh e => ?_
  · rw [Nat.mul_zero, Finset.sum_range_zero]
    exact Finset.sum_eq_zero fun b hb => (rd2_splat _ (Finset.mem_range.1 hb) hc).trans ofBits_zero
  · rintro j hj σ' l ⟨⟨e1, e2, e3, e4⟩, e5⟩
    refine Runs.load' (slotS c R) fun ws hws => Runs.load (slotP c R) (Runs.storeK (slotP c R) (Runs.load (slotP c R) (Runs.storeK (slotP c R) (Runs.pure ?_))))
    have hP : ∀ r c, r < 32 → c < 128 → rd2 (pHalf (F := Ideal) cst m ws) r c = W (256 * N + 128 + 32 * j + r) (128 + c) := fun r c hr hc => by
      rw [rd2_pHalf _ _ _ hr hc, ← hw _ (128 + c) (by omega) (by omega) (by omega), hws, ← e2]
      refine congrArg (fun x => Ideal.exp2 ((x - _) * cst)) ((rd3_window σ'.s (inb3 (by omega) (by omega) (by decide)) Nat.one_pos hr hc).trans ?_)
      simp only [Nat.add_zero]
    refine ⟨⟨e1, e2, e3, fun r c hr hc => ?_⟩, fun c hc => ?_⟩
    · by_cases h : r < 256 * N + 128 + 32 * j
      · exact (rd3_put_out _ _ (by omega)).trans ((rd3_put_out _ _ (by omega)).trans (e4 r c h hc))
      · by_cases h' : c < 128
        · refine (rd3_put_out _ _ (by omega)).trans ((rd3_put_in _ _ (inb3 (by omega) (by omega) (by decide)) ⟨by omega, by omega⟩ ⟨by omega, by omega⟩ ⟨by omega, by omega⟩).trans ?_)
          rw [Nat.sub_self, hz r c (by omega)]
          exact rd3_pZero _ _
        · refine (rd3_put_in _ _ (inb3 (by omega) (by omega) (by decide)) ⟨by omega, by omega⟩ ⟨by omega, by omega⟩ ⟨by omega, by omega⟩).trans ?_
          rw [Nat.sub_self]
          refine (rd3_pHalfStore _ _ _).trans ?_
          rw [hP _ _ (by omega) (by omega), Nat.add_sub_cancel' (by omega), Nat.add_sub_cancel' (by omega)]
    · rw [lHalf_sum _ _ hc, e5 c hc, Nat.mul_succ, Finset.sum_range_add]
      exact congrArg _ (Finset.sum_congr rfl fun r hr => by rw [hP r c (Finset.mem_range.1 hr) hc, Nat.add_assoc])
  obtain ⟨⟨e1, e2, e3, e4⟩, hlh⟩ := e
  refine Runs.load' (slotV c R) fun wv hwv => Runs.load' (slotP c R) fun wp hwp => Runs.load (slotO c R) (Runs.store (slotO c R) ?_)
  obtain ⟨-, -, -, -, -, ev, -⟩ := fixed_iff.1 e1
  refine ⟨e1, e2, fun c j h => ?_, fun c d hc hd => ?_⟩
  · exact (rd3_put_out _ _ (by omega)).trans (by show rd3 σ'.o 0 c j = _; rw [e3])
  · refine (rd3_put_in _ _ (inb3 (by omega) (by omega) (by omega)) ⟨by omega, by omega⟩ ⟨by omega, by omega⟩ ⟨by omega, by omega⟩).trans ?_
    rw [Nat.sub_self, Nat.sub_zero, Nat.add_sub_cancel_left]
    refine (rd3_oTile N wv wp _ hc hd).trans ?_
    unfold outv
    rw [hW]
    have hL : rd2 (lRow (F := Ideal) l lh) 0 c = ∑ r ∈ Finset.range (256 * (N + 1)), W r c := by
      rw [rd2_lRow _ _ hc, hl c hc, show 256 * (N + 1) = 256 * N + 128 + 128 by omega, Finset.sum_range_add _ (256 * N + 128) 128]
      refine congrArg _ ?_
      split
      · exact (Finset.sum_eq_zero fun r _ => hz _ _ (by omega)).symm
      · rw [hlh _ (by omega), Nat.add_sub_cancel' (by omega)]
    rw [hL]
    refine congrArg (· * _) (Finset.sum_congr rfl fun r hr => ?_)
    have hr := Finset.mem_range.1 hr
    rw [← e4 r c (by omega) hc, hwv, hwp, ← ev]
    refine congrArg₂ (· * ·) ((rd3_window σ'.v (inb3 (by omega) (by omega) (by omega)) Nat.one_pos hd hr).trans ?_)
      ((rd3_window σ'.p (inb3 (by omega) (by omega) (by omega)) Nat.one_pos hr hc).trans ?_)
    · simp only [Nat.add_zero, Nat.zero_add]
    · simp only [Nat.add_zero, Nat.zero_add]

/-- The columns of the first `n` query heads hold the attention. -/
def Done (cst : EReal) (σ : St Ideal) (N n : ℕ) (o : Vec Ideal (S3d 1 256 3072) .bf16) : Prop :=
  ∀ h c d, h < n → c < 256 → d < 128 → rd3 o 0 c (h * 128 + d) = outv cst σ N (h / 3) h c d

theorem Done.step {cst : EReal} {N kv g : ℕ} (hg : g < 3) {o o' : Vec Ideal (S3d 1 256 3072) .bf16} (h : Done cst σ N (3 * kv + g) o)
    (h1 : ∀ c j, ¬ ((3 * kv + g) * 128 ≤ j ∧ j < (3 * kv + g) * 128 + 128) → rd3 o' 0 c j = rd3 o 0 c j)
    (h2 : ∀ c d, c < 256 → d < 128 → rd3 o' 0 c ((3 * kv + g) * 128 + d) = outv cst σ N kv (3 * kv + g) c d) : Done cst σ N (3 * kv + g + 1) o' := by
  intro k c d hk hc hd
  by_cases e : k = 3 * kv + g
  · subst e
    rw [h2 c d hc hd, show (3 * kv + g) / 3 = kv by omega]
  · rw [h1 c _ (by omega)]
    exact h k c d (by omega) hc hd

/-- Every query head's columns of the output block hold its attention. -/
theorem heads_val {cst : EReal} (hcst : 0 < cst) (σ : St Ideal) (hm : MaskOk σ.m) (N : ℕ) (hN : N < 4) :
    Runs c R defs E U σ (heads (F := Ideal) cst R N hN) fun σ' _ => σ'.fixed = σ.fixed ∧ Done cst σ N 24 σ'.o := by
  unfold heads
  refine Runs.loopN (fun n σ' _ => σ'.fixed = σ.fixed ∧ Done cst σ N (3 * n) σ'.o) ⟨rfl, fun h c d hh => absurd hh (by omega)⟩ fun kv hkv σ₁ _ e => ?_
  obtain ⟨e0, ed⟩ := e
  have hm₁ : ∀ σ' : St Ideal, σ'.fixed = σ.fixed → MaskOk σ'.m := fun σ' e => by
    obtain ⟨-, -, -, -, -, -, em⟩ := fixed_iff.1 e
    rw [em]; exact hm
  unfold kvHead
  refine (scores_val _ (hm₁ _ e0) N hN kv hkv 0 _).bind fun σ₂ m0 ⟨f0, o0, k0, s0, t0⟩ => ?_
  have e1 := f0.trans e0
  refine (scores_val _ (hm₁ _ e1) N hN kv hkv 1 _).bind fun σ₃ m1 ⟨f1, o1, k1, s1, t1⟩ => ?_
  have e2 := f1.trans e1
  refine (scores_val _ (hm₁ _ e2) N hN kv hkv 2 _).bind fun σ₄ m2 ⟨f2, o2, k2, s2, t2⟩ => ?_
  have e3 := f2.trans e2
  rw [sc_congr e0] at s0
  rw [top_congr e0] at t0
  rw [sc_congr e1] at s1
  rw [top_congr e1] at t1
  rw [sc_congr e2] at s2
  rw [top_congr e2] at t2
  have s0' : Stored σ₄.s N 0 (sc σ N kv (3 * kv + 0)) := fun r c hc hr h => ((k2 0 r c (by decide)).trans (k1 0 r c (by decide))).trans (s0 r c hc hr h)
  have s1' : Stored σ₄.s N 1 (sc σ N kv (3 * kv + 1)) := fun r c hc hr h => (k2 1 r c (by decide)).trans (s1 r c hc hr h)
  have ed : Done cst σ N (3 * kv) σ₄.o := by rw [o2, o1, o0]; exact ed
  refine (attend_val hcst _ N hN kv hkv 0 _ m0 (by rw [sc_congr e3]; exact s0') (by rw [top_congr e3]; exact t0)).bind fun σ₅ _ ⟨f3, a3, b3, c3⟩ => ?_
  have e4 := f3.trans e3
  refine (attend_val hcst _ N hN kv hkv 1 _ m1 (by rw [sc_congr e4, a3]; exact s1') (by rw [top_congr e4]; exact t1)).bind fun σ₆ _ ⟨f4, a4, b4, c4⟩ => ?_
  have e5 := f4.trans e4
  refine (attend_val hcst _ N hN kv hkv 2 _ m2 (by rw [sc_congr e5, a4, a3]; exact s2) (by rw [top_congr e5]; exact t2)).mono fun σ₇ _ ⟨f5, a5, b5, c5⟩ => ?_
  rw [outv_congr cst e3] at c3
  rw [outv_congr cst e4] at c4
  rw [outv_congr cst e5] at c5
  exact ⟨f5.trans e5, ((ed.step (g := 0) (by decide) b3 c3).step (g := 1) (by decide) b4 c4).step (g := 2) (by decide) b5 c5⟩

end Attn

end
-- ==== Proof.Value.lean ====
/-
  The tile program's values in terms of the arrays the blocks come from.
-/
module

public import proofs.«01_k».proof.Proof.Heads

@[expose] public section

noncomputable section

namespace Attn

open Idealize.ShloMosaic Idealize.ShloMosaic.TcCoe
open Idealize.SL Idealize.SL.RA Idealize.SL.BI Idealize.SL.Sem

/-! ### The attention of three arrays -/

section
variable (cst : EReal) (Q : Vec Ideal (S4d 2 24 128 1024) .bf16) (K : Vec Ideal (S4d 2 8 1024 128) .bf16) (V : Vec Ideal (S4d 2 8 128 1024) .bf16)

/-- The score of key `r` against query `i` of head `h`, before the mask. -/
def rawA (b h r i : ℕ) : EReal := ∑ d ∈ Finset.range 128, rd4 K b (h / 3) r d * rd4 Q b h d i

/-- The score: the bottom where the key comes after the query. -/
def scA (b h r i : ℕ) : EReal := if r ≤ i then rawA Q K b h r i else ⊥

/-- The largest score of a query. -/
def topA (b h i : ℕ) : EReal := (Finset.range 1024).sup fun r => scA Q K b h r i

/-- The weight of key `r` for query `i`. -/
def wtA (b h r i : ℕ) : EReal := Ideal.exp2 ((scA Q K b h r i - topA Q K b h i) * cst)

/-- The attention of query `i` of head `h` at value row `d`. -/
def outA (b h i d : ℕ) : EReal :=
  (∑ r ∈ Finset.range 1024, rd4 V b (h / 3) d r * wtA cst Q K b h r i) * Ideal.div 1 (∑ r ∈ Finset.range 1024, wtA cst Q K b h r i)

/-- The result: the attention of every batch, query and head. -/
def resultA : Vec Ideal (S3d 2 1024 3072) .bf16 := fun j => outA cst Q K V (j 0).val ((j 2).val / 128) (j 1).val ((j 2).val % 128)

/-- The block of the result at batch `b` and query tile `N`. -/
def blockA (b N : ℕ) : Vec Ideal (S3d 1 256 3072) .bf16 := fun j => outA cst Q K V b ((j 2).val / 128) (256 * N + (j 1).val) ((j 2).val % 128)

end

variable {cst : EReal} {Q : Vec Ideal (S4d 2 24 128 1024) .bf16} {K : Vec Ideal (S4d 2 8 1024 128) .bf16} {V : Vec Ideal (S4d 2 8 128 1024) .bf16}

/-! ### The copies -/

theorem afterCopies_val (N : ℕ) (hN : N < 4) (σ : St Ideal) : ∀ (n : ℕ) (h : n ≤ 8),
    (∀ kv r d, r < 256 * N → rd3 (afterCopies N n h σ).k kv r d = rd3 σ.k kv r d)
    ∧ (∀ kv r d, kv < n → r < 256 → d < 128 → rd3 (afterCopies N n h σ).k kv (256 * N + r) d = rd4 σ.ki 0 kv r d)
    ∧ (∀ kv r d, r < 256 * N → rd3 (afterCopies N n h σ).v kv d r = rd3 σ.v kv d r)
    ∧ (∀ kv r d, kv < n → r < 256 → d < 128 → rd3 (afterCopies N n h σ).v kv d (256 * N + r) = rd4 σ.vi 0 kv d r)
  | 0, _ => ⟨fun _ _ _ _ => rfl, fun _ _ _ hk => absurd hk (by omega), fun _ _ _ _ => rfl, fun _ _ _ hk => absurd hk (by omega)⟩
  | n + 1, h => by
    obtain ⟨a1, a2, a3, a4⟩ := afterCopies_val N hN σ n (Nat.le_of_succ_le h)
    unfold afterCopies afterCopy
    have ek : (afterCopies N n (Nat.le_of_succ_le h) σ).ki = σ.ki := by rw [afterCopies_keep]
    have ev : (afterCopies N n (Nat.le_of_succ_le h) σ).vi = σ.vi := by rw [afterCopies_keep]
    refine ⟨fun kv r d hr => (rd3_put_out _ _ (by omega)).trans (a1 kv r d hr), fun kv r d hk hr hd => ?_,
      fun kv r d hr => (rd3_put_out _ _ (by omega)).trans (a3 kv r d hr), fun kv r d hk hr hd => ?_⟩
    · by_cases e : kv = n
      · subst e
        refine (rd3_put_in _ _ (inb3 (by omega) (by omega) (by decide)) ⟨by omega, by omega⟩ ⟨by omega, by omega⟩ ⟨by omega, by omega⟩).trans ?_
        rw [Nat.sub_self, Nat.sub_zero, Nat.add_sub_cancel_left, ek]
        refine (rd3_of4 _ _ _ _ _).trans ((rd4_window σ.ki (inb4 (by decide) (by omega) (by decide) (by decide)) Nat.one_pos Nat.one_pos hr hd).trans ?_)
        simp only [Nat.add_zero, Nat.zero_add]
      · exact (rd3_put_out _ _ (by omega)).trans (a2 kv r d (by omega) hr hd)
    · by_cases e : kv = n
      · subst e
        refine (rd3_put_in _ _ (inb3 (by omega) (by decide) (by omega)) ⟨by omega, by omega⟩ ⟨by omega, by omega⟩ ⟨by omega, by omega⟩).trans ?_
        rw [Nat.sub_self, Nat.sub_zero, Nat.add_sub_cancel_left, ev]
        refine (rd3_of4 _ _ _ _ _).trans ((rd4_window σ.vi (inb4 (by decide) (by omega) (by decide) (by decide)) Nat.one_pos Nat.one_pos hd hr).trans ?_)
        simp only [Nat.add_zero, Nat.zero_add]
      · exact (rd3_put_out _ _ (by omega)).trans (a4 kv r d (by omega) hr hd)

/-- The copies hold the first `n` keys and values of batch `b`. -/
def Copied (K : Vec Ideal (S4d 2 8 1024 128) .bf16) (V : Vec Ideal (S4d 2 8 128 1024) .bf16) (b n : ℕ)
    (k : Vec Ideal (S3d 8 1024 128) .bf16) (v : Vec Ideal (S3d 8 128 1024) .bf16) : Prop :=
  ∀ kv r d, kv < 8 → r < n → d < 128 → rd3 k kv r d = rd4 K b kv r d ∧ rd3 v kv d r = rd4 V b kv d r

/-- What the heads find at query tile `N` of batch `b`. -/
structure Ready (Q : Vec Ideal (S4d 2 24 128 1024) .bf16) (K : Vec Ideal (S4d 2 8 1024 128) .bf16) (V : Vec Ideal (S4d 2 8 128 1024) .bf16)
    (b N : ℕ) (σ : St Ideal) : Prop where
  mask : MaskOk σ.m
  copied : Copied K V b (256 * (N + 1)) σ.k σ.v
  query : ∀ h d c, h < 24 → d < 128 → c < 256 → rd3 σ.q h d c = rd4 Q b h d (256 * N + c)

/-- The prologue makes the buffers ready. -/
theorem start_ready {b N : ℕ} (hN : N < 4) {first : Bool} {σ : St Ideal} (hm : first = false → MaskOk σ.m) (hc : Copied K V b (256 * N) σ.k σ.v)
    (hq : ∀ h d c, h < 24 → d < 128 → c < 256 → rd4 σ.qi 0 h d c = rd4 Q b h d (256 * N + c))
    (hk : ∀ kv r d, kv < 8 → r < 256 → d < 128 → rd4 σ.ki 0 kv r d = rd4 K b kv (256 * N + r) d)
    (hv : ∀ kv d r, kv < 8 → d < 128 → r < 256 → rd4 σ.vi 0 kv d r = rd4 V b kv d (256 * N + r)) : Ready Q K V b N (start first N σ) := by
  have hmask : MaskOk (afterMask first σ).m := by
    cases first with
    | false => exact hm rfl
    | true => exact fun a b ha hb => (rd2_put_full _ _ ha hb).trans (rd2_mask ha hb)
  have hσ : (afterMask first σ).k = σ.k ∧ (afterMask first σ).v = σ.v ∧ (afterMask first σ).qi = σ.qi ∧ (afterMask first σ).ki = σ.ki ∧ (afterMask first σ).vi = σ.vi := by
    cases first <;> exact ⟨rfl, rfl, rfl, rfl, rfl⟩
  obtain ⟨e1, e2, e3, e4, e5⟩ := hσ
  unfold start
  generalize afterMask first σ = σ₁ at *
  obtain ⟨a1, a2, a3, a4⟩ := afterCopies_val N hN σ₁ 8 le_rfl
  refine ⟨?_, fun kv r d hkv hr hd => ?_, fun h d c hh hd hc => ?_⟩
  · unfold afterAll; rw [afterCopies_keep]; exact hmask
  · show rd3 (afterCopies N 8 le_rfl σ₁).k kv r d = _ ∧ rd3 (afterCopies N 8 le_rfl σ₁).v kv d r = _
    by_cases h : r < 256 * N
    · rw [a1 kv r d h, a3 kv r d h, e1, e2]
      exact hc kv r d hkv h hd
    · obtain ⟨r', rfl⟩ : ∃ r', r = 256 * N + r' := ⟨r - 256 * N, by omega⟩
      rw [a2 kv r' d hkv (by omega) hd, a4 kv r' d hkv (by omega) hd, e4, e5]
      exact ⟨hk kv r' d hkv (by omega) hd, hv kv d r' hkv hd (by omega)⟩
  · unfold afterAll
    refine (rd3_put_in _ _ (inb3 (by decide) (by decide) (by decide)) ⟨by omega, by omega⟩ ⟨by omega, by omega⟩ ⟨by omega, by omega⟩).trans ?_
    rw [Nat.sub_zero, Nat.sub_zero, Nat.sub_zero]
    refine (rd3_of _ hh hd hc).trans ((shapeCast_apply _ _ _ (ix3 h d c hh hd hc) rfl).trans ?_)
    refine (rd3_of _ hh hd hc).symm.trans ((rd3_drop4 _ _ _ _ _).trans ?_)
    refine (rd4_window _ (inb4 (by decide) (by decide) (by decide) (by decide)) Nat.one_pos hh hd hc).trans ?_
    simp only [Nat.zero_add]
    rw [e3]; exact hq h d c hh hd hc

/-! ### The output block -/

section
variable {b N : ℕ} {σ : St Ideal} (R : Ready Q K V b N σ)
include R

theorem Ready.raw {h r c : ℕ} (hh : h < 24) (hr : r < 256 * (N + 1)) (hc : c < 256) : raw σ (h / 3) h r c = rawA Q K b h r (256 * N + c) := by
  unfold Attn.raw rawA
  refine Finset.sum_congr rfl fun d hd => ?_
  have hd := Finset.mem_range.1 hd
  rw [(R.copied (h / 3) r d (by omega) hr hd).1, R.query h d c hh hd hc]

theorem Ready.sc {h r c : ℕ} (hh : h < 24) (hr : r < 256 * (N + 1)) (hc : c < 256) : sc σ N (h / 3) h r c = scA Q K b h r (256 * N + c) := by
  unfold Attn.sc scA
  rw [R.raw hh hr hc]

theorem Ready.top (hN : N < 4) {h c : ℕ} (hh : h < 24) (hc : c < 256) : top σ N (h / 3) h c = topA Q K b h (256 * N + c) := by
  refine eq_of_forall_ge_iff fun x => ?_
  unfold Attn.top topA
  rw [Finset.sup_le_iff, Finset.sup_le_iff]
  constructor
  · intro g r hr
    by_cases h' : r < 256 * (N + 1)
    · rw [← R.sc hh h' hc]; exact g r (Finset.mem_range.2 h')
    · unfold scA; rw [if_neg (by omega)]; exact bot_le
  · intro g r hr
    have hr := Finset.mem_range.1 hr
    rw [R.sc hh hr hc]; exact g r (Finset.mem_range.2 (by omega))

theorem Ready.wt (hN : N < 4) {h r c : ℕ} (hh : h < 24) (hr : r < 256 * (N + 1)) (hc : c < 256) :
    wt cst σ N (h / 3) h r c = wtA cst Q K b h r (256 * N + c) := by
  unfold Attn.wt wtA
  rw [R.sc hh hr hc, R.top hN hh hc]
end

theorem wtA_zero (hcst : 0 < cst) {b h r i : ℕ} (hr : i < r) : wtA cst Q K b h r i = 0 := by
  unfold wtA scA
  rw [if_neg (by omega), sub_eq_add_neg, EReal.bot_add, EReal.bot_mul_of_pos hcst]
  rfl

/-- A sum over the keys of the tile is a sum over all keys, if the later ones add nothing. -/
theorem sum_extend (f : ℕ → EReal) {n : ℕ} (hn : n ≤ 1024) (hz : ∀ r, n ≤ r → f r = 0) : ∑ r ∈ Finset.range n, f r = ∑ r ∈ Finset.range 1024, f r := by
  obtain ⟨k, hk⟩ := Nat.exists_eq_add_of_le hn
  rw [hk, Finset.sum_range_add, Finset.sum_eq_zero (s := Finset.range k) fun r _ => hz _ (by omega), add_zero]

theorem Ready.out {b N : ℕ} {σ : St Ideal} (R : Ready Q K V b N σ) (hcst : 0 < cst) (hN : N < 4) {h c d : ℕ} (hh : h < 24) (hc : c < 256) (hd : d < 128) :
    outv cst σ N (h / 3) h c d = outA cst Q K V b h (256 * N + c) d := by
  unfold outv outA
  have hz : ∀ r, 256 * (N + 1) ≤ r → wtA cst Q K b h r (256 * N + c) = 0 := fun r hr => wtA_zero hcst (by omega)
  rw [← sum_extend (fun r => wtA cst Q K b h r (256 * N + c)) (n := 256 * (N + 1)) (by omega) hz,
    ← sum_extend (fun r => rd4 V b (h / 3) d r * wtA cst Q K b h r (256 * N + c)) (n := 256 * (N + 1)) (by omega) fun r hr => by rw [hz r hr, mul_zero]]
  refine congrArg₂ (fun x y => x * Ideal.div 1 y) (Finset.sum_congr rfl fun r hr => ?_) (Finset.sum_congr rfl fun r hr => ?_)
  · have hr := Finset.mem_range.1 hr
    rw [R.wt hN hh hr hc, (R.copied (h / 3) r d (by omega) hr hd).2]
  · exact R.wt hN hh (Finset.mem_range.1 hr) hc

/-- The output block after the heads. -/
theorem Ready.block {b N : ℕ} {σ : St Ideal} (R : Ready Q K V b N σ) (hcst : 0 < cst) (hN : N < 4) {o : Vec Ideal (S3d 1 256 3072) .bf16}
    (h : Done cst σ N 24 o) : o = blockA cst Q K V b N := by
  funext j
  have h0 : (j 0).val < 1 := (j 0).isLt
  have h1 : (j 1).val < 256 := (j 1).isLt
  have h2 : (j 2).val < 3072 := (j 2).isLt
  rw [at3 o j, show (j 0).val = 0 by omega]
  unfold blockA
  rw [← R.out hcst hN (by omega) h1 (Nat.mod_lt _ (by decide)), ← h _ _ _ (by omega) h1 (Nat.mod_lt _ (by decide)), Nat.div_add_mod']

variable {nD : ℕ} {τ : Topo} {sig : RefSig} {Λ₀ : Labels} {U : Type} [URA U]
variable {c : Dev nD} {R : Refs sig} {defs : Defs nD τ sig (Elt Ideal) Λ₀} {E : Set ℕ}

/-- A whole point of the grid: the output block is the attention, and the copies and the mask stand for the next point. -/
theorem point_val {b N : ℕ} (hN : N < 4) (hcst : 0 < cst) {first : Bool} {σ : St Ideal} (hm : first = false → MaskOk σ.m) (hc : Copied K V b (256 * N) σ.k σ.v)
    (hq : ∀ h d c, h < 24 → d < 128 → c < 256 → rd4 σ.qi 0 h d c = rd4 Q b h d (256 * N + c))
    (hk : ∀ kv r d, kv < 8 → r < 256 → d < 128 → rd4 σ.ki 0 kv r d = rd4 K b kv (256 * N + r) d)
    (hv : ∀ kv d r, kv < 8 → d < 128 → r < 256 → rd4 σ.vi 0 kv d r = rd4 V b kv d (256 * N + r)) :
    Runs c R defs E U σ (do prologue first R N hN; heads (F := Ideal) cst R N hN; Pure.pure ⟨⟩ : Prog (TpuEff nD τ sig (Elt Ideal) Λ₀ .tc) PUnit)
      fun σ' _ => σ'.qi = σ.qi ∧ σ'.ki = σ.ki ∧ σ'.vi = σ.vi ∧ σ'.o = blockA cst Q K V b N ∧ MaskOk σ'.m ∧ Copied K V b (256 * (N + 1)) σ'.k σ'.v := by
  refine (prologue_runs first σ N hN).bind fun σ' _ e => ?_
  subst e
  have hR := start_ready (Q := Q) hN hm hc hq hk hv
  refine (heads_val hcst _ hR.mask N hN).bind fun σ' _ ⟨e, ho⟩ => Runs.pure ?_
  obtain ⟨e1, e2, e3, e4, e5, e6, e7⟩ := fixed_iff.1 e
  rw [e1, e2, e3, e5, e6, e7]
  have hs : (start first N σ).qi = σ.qi ∧ (start first N σ).ki = σ.ki ∧ (start first N σ).vi = σ.vi := by
    unfold start afterAll
    rw [afterCopies_keep]
    cases first <;> exact ⟨rfl, rfl, rfl⟩
  exact ⟨hs.1, hs.2.1, hs.2.2, hR.block hcst hN ho, hR.mask, hR.copied⟩

end Attn

end
-- ==== Proof.Track.lean ====
/-
  The value of `KernelIdeal`: the scratch tracked from point to point, the result array is the attention of the arguments.
-/
module

public import proofs.«01_k».proof.Proof.FrameI
public import proofs.«01_k».proof.Proof.Value
public import Idealize.ShloMosaic.Lib.Pipeline.Value

@[expose] public section

noncomputable section

namespace Cert.Proof.Track

open Cert.KernelIdeal Cert.KernelIdeal.Gen Attn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open FrameI (refsAt bodyAt_eq defs₀_row)

local notation "𝕄" => MT nD τ sig Unit (Elt Ideal) ℕ (UR sig nD τ) ℕ

variable (m : (ℓ : Loc nD τ sig) → Buf (Elt Ideal) ℓ) (ρ : Dev nD → PrngReg)

/-- The number the scores are multiplied by: the scale over the logarithm of two. -/
theorem coef_eq : (coef : Ideal .f32) = (((11863283 * 134217728⁻¹) * (Real.log 2)⁻¹ : ℝ) : EReal) :=
  IdealRules.named_const.ideal_named_scalar _ _ _ _ rfl

theorem coef_pos : (0 : EReal) < (coef : Ideal .f32) := by
  rw [coef_eq, ← EReal.coe_zero, EReal.coe_lt_coe_iff]
  have : 0 < Real.log 2 := Real.log_pos (by norm_num)
  positivity

/-- The three argument arrays of core `c`. -/
abbrev argQ (c : Dev nD) : Vec Ideal (S4d 2 24 128 1024) .bf16 := m ((c.tc : Thread nD τ).loc main_arg0)
abbrev argK (c : Dev nD) : Vec Ideal (S4d 2 8 1024 128) .bf16 := m ((c.tc : Thread nD τ).loc main_arg1)
abbrev argV (c : Dev nD) : Vec Ideal (S4d 2 8 128 1024) .bf16 := m ((c.tc : Thread nD τ).loc main_arg2)

/-! ### The blocks -/

theorem index0 : ∀ t : Fin cfg0.N, win0_0.index t 0 = t.val / 4 ∧ win0_0.index t 1 = 0 ∧ win0_0.index t 2 = 0 ∧ win0_0.index t 3 = t.val % 4 :=
  (by decide +kernel : ∀ t : Fin grid0.N, _)
theorem index1 : ∀ t : Fin cfg0.N, win0_1.index t 0 = t.val / 4 ∧ win0_1.index t 1 = 0 ∧ win0_1.index t 2 = t.val % 4 ∧ win0_1.index t 3 = 0 :=
  (by decide +kernel : ∀ t : Fin grid0.N, _)
theorem index2 : ∀ t : Fin cfg0.N, win0_2.index t 0 = t.val / 4 ∧ win0_2.index t 1 = 0 ∧ win0_2.index t 2 = 0 ∧ win0_2.index t 3 = t.val % 4 :=
  (by decide +kernel : ∀ t : Fin grid0.N, _)
theorem index3 : ∀ t : Fin cfg0.N, win0_3.index t 0 = t.val / 4 ∧ win0_3.index t 1 = t.val % 4 ∧ win0_3.index t 2 = 0 :=
  (by decide +kernel : ∀ t : Fin grid0.N, _)

theorem t_lt (t : Fin cfg0.N) : t.val < 8 := t.isLt

theorem blkQ (c : Dev nD) (t : Fin cfg0.N) (h d x : ℕ) (hh : h < 24) (hd : d < 128) (hx : x < 256) :
    rd4 (A := 1) (B := 24) (C := 128) (D := 256) (iblk m c 0 t) 0 h d x = rd4 (argQ m c) (t.val / 4) h d (256 * (t.val % 4) + x) := by
  have ht := t_lt t
  obtain ⟨i0, i1, i2, i3⟩ := index0 t
  rw [rd4_of _ Nat.one_pos hh hd hx, rd4_of _ (by omega : t.val / 4 < 2) hh hd (by omega : 256 * (t.val % 4) + x < 1024)]
  unfold iblk
  rw [View.read_apply]
  show V m c main_arg0 _ = m (c.tc.loc main_arg0) _
  unfold V
  refine congrArg _ (funext fun a => Fin.ext ?_)
  match a with
  | ⟨0, _⟩ => show win0_0.index t 0 * 1 + 1 * 0 = t.val / 4; omega
  | ⟨1, _⟩ => show win0_0.index t 1 * 24 + 1 * h = h; omega
  | ⟨2, _⟩ => show win0_0.index t 2 * 128 + 1 * d = d; omega
  | ⟨3, _⟩ => show win0_0.index t 3 * 256 + 1 * x = 256 * (t.val % 4) + x; omega

theorem blkK (c : Dev nD) (t : Fin cfg0.N) (h r d : ℕ) (hh : h < 8) (hr : r < 256) (hd : d < 128) :
    rd4 (A := 1) (B := 8) (C := 256) (D := 128) (iblk m c 1 t) 0 h r d = rd4 (argK m c) (t.val / 4) h (256 * (t.val % 4) + r) d := by
  have ht := t_lt t
  obtain ⟨i0, i1, i2, i3⟩ := index1 t
  rw [rd4_of _ Nat.one_pos hh hr hd, rd4_of _ (by omega : t.val / 4 < 2) hh (by omega : 256 * (t.val % 4) + r < 1024) hd]
  unfold iblk
  rw [View.read_apply]
  show V m c main_arg1 _ = m (c.tc.loc main_arg1) _
  unfold V
  refine congrArg _ (funext fun a => Fin.ext ?_)
  match a with
  | ⟨0, _⟩ => show win0_1.index t 0 * 1 + 1 * 0 = t.val / 4; omega
  | ⟨1, _⟩ => show win0_1.index t 1 * 8 + 1 * h = h; omega
  | ⟨2, _⟩ => show win0_1.index t 2 * 256 + 1 * r = 256 * (t.val % 4) + r; omega
  | ⟨3, _⟩ => show win0_1.index t 3 * 128 + 1 * d = d; omega

theorem blkV (c : Dev nD) (t : Fin cfg0.N) (h d r : ℕ) (hh : h < 8) (hd : d < 128) (hr : r < 256) :
    rd4 (A := 1) (B := 8) (C := 128) (D := 256) (iblk m c 2 t) 0 h d r = rd4 (argV m c) (t.val / 4) h d (256 * (t.val % 4) + r) := by
  have ht := t_lt t
  obtain ⟨i0, i1, i2, i3⟩ := index2 t
  rw [rd4_of _ Nat.one_pos hh hd hr, rd4_of _ (by omega : t.val / 4 < 2) hh hd (by omega : 256 * (t.val % 4) + r < 1024)]
  unfold iblk
  rw [View.read_apply]
  show V m c main_arg2 _ = m (c.tc.loc main_arg2) _
  unfold V
  refine congrArg _ (funext fun a => Fin.ext ?_)
  match a with
  | ⟨0, _⟩ => show win0_2.index t 0 * 1 + 1 * 0 = t.val / 4; omega
  | ⟨1, _⟩ => show win0_2.index t 1 * 8 + 1 * h = h; omega
  | ⟨2, _⟩ => show win0_2.index t 2 * 128 + 1 * d = d; omega
  | ⟨3, _⟩ => show win0_2.index t 3 * 256 + 1 * r = 256 * (t.val % 4) + r; omega

/-! ### The scratch from point to point -/

/-- Before point `n`: the mask stands after the first point, and the copies hold the batch's keys and values of the tiles before this one. -/
def Inv (c : Dev nD) (n : ℕ) (k : Vec Ideal (S3d 8 1024 128) .bf16) (v : Vec Ideal (S3d 8 128 1024) .bf16) (mk : Vec Ideal (S2d 128 128) .f32) : Prop :=
  (0 < n → MaskOk mk) ∧ Copied (argK m c) (argV m c) (n / 4) (256 * (n % 4)) k v

theorem Inv.next {c : Dev nD} {n : ℕ} {k : Vec Ideal (S3d 8 1024 128) .bf16} {v : Vec Ideal (S3d 8 128 1024) .bf16} {mk : Vec Ideal (S2d 128 128) .f32}
    (h1 : MaskOk mk) (h2 : Copied (argK m c) (argV m c) (n / 4) (256 * (n % 4 + 1)) k v) : Inv m c (n + 1) k v mk := by
  refine ⟨fun _ => h1, fun kv r d hk hr hd => ?_⟩
  by_cases h : n % 4 = 3
  · omega
  · rw [show (n + 1) / 4 = n / 4 by omega]
    exact h2 kv r d hk (by omega) hd

/-- The scratch buffers before point `n`. -/
def PhiS (c : Dev nD) (n : ℕ) (_ : n ≤ cfg0.N) : sProp 𝕄 :=
  iprop((∃ (f0 : Vec Ideal (S3d 24 128 256) .bf16) (f1 : Vec Ideal (S3d 8 1024 128) .bf16) (f2 : Vec Ideal (S3d 8 128 1024) .bf16)
      (f3 : Vec Ideal (S3d 3 1024 256) .f32) (f4 : Vec Ideal (S3d 3 1024 256) .fp8e4m3) (f5 : Vec Ideal (S2d 128 128) .f32), ⌜Inv m c n f1 f2 f5⌝
    ∗ owns (c : Thread nD τ) (Memref.whole cc0_scratch0) fullShare f0 ∗ owns (c : Thread nD τ) (Memref.whole cc0_scratch1) fullShare f1
    ∗ owns (c : Thread nD τ) (Memref.whole cc0_scratch2) fullShare f2 ∗ owns (c : Thread nD τ) (Memref.whole cc0_scratch3) fullShare f3
    ∗ owns (c : Thread nD τ) (Memref.whole cc0_scratch4) fullShare f4 ∗ owns (c : Thread nD τ) (Memref.whole cc0_scratch5) fullShare f5) ∗ ∃ r, prngReg c r)

/-- The proof data: each input's buffer at its block, the output's at the attention, the scratch tracked. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockA (coef (F := Ideal)) (argQ m c) (argK m c) (argV m c) (t.val / 4) (t.val % 4)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = blockA (coef (F := Ideal)) (argQ m c) (argK m c) (argV m c) (t.val / 4) (t.val % 4) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem Phi_start (c : Dev nD) (t : Fin cfg0.N) : (dats m 0 c).Φ t.castSucc = PhiS m c t.val (Nat.le_of_lt t.isLt) := by
  dsimp only [dats]; exact Pipeline.Dat.Φ_castSucc (PhiS m c) t

theorem Phi_end (c : Dev nD) (t : Fin cfg0.N) : (dats m 0 c).Φ t.succ = PhiS m c (t.val + 1) t.isLt := by
  dsimp only [dats]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point leaves the attention of its queries in the output's buffer. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  rw [bodyAt_eq]
  simp only [before0_0, before0_1, before0_2]
  rw [show (dats m 0 c).owesAt () t.succ = (dats m 0 c).owesAt () t.castSucc from rfl,
    after0_0, after0_1, after0_2, after0_3, Phi_start, Phi_end]
  unfold PhiS
  iintro ⟨⟨⟨%f0, %f1, %f2, %f3, %f4, %f5, %hI, S0, S1, S2, S3, S4, S5⟩, HP⟩, Ho, ⟨%d0, H0⟩, ⟨%d1, H1⟩, ⟨%d2, H2⟩, ⟨%d3, H3⟩⟩
  iapply (Attn.point_val (c := c) (R := refsAt t) (U := UR sig nD τ) (defs := defs₀) (E := Set.univ) (b := t.val / 4) (N := t.val % 4)
    (Q := argQ m c) (K := argK m c) (V := argV m c) (Nat.mod_lt _ (by decide)) coef_pos (first := decide (t.val = 0))
    (σ := ⟨iblk m c 0 t, iblk m c 1 t, iblk m c 2 t, f0, f1, f2, (dats m 0 c).before 3 t d3, f3, f4, f5⟩)
    (fun h => hI.1 (Nat.pos_of_ne_zero (of_decide_eq_false h))) hI.2 (blkQ m c t) (blkK m c t) (blkV m c t) _)
  unfold Attn.own
  isplitl [S0 S1 S2 S3 S4 S5 H0 H1 H2 H3]
  · isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    isplitl [S4]; · iexact S4
    iexact S5
  iintro %σ' %a %e ⟨H0, H1, H2, H3, S0, S1, S2, S3, S4, S5⟩
  obtain ⟨e0, e1, e2, e3, e4, e5⟩ := e
  rw [e0, e1, e2, e3]
  isplitl [S0 S1 S2 S3 S4 S5 HP]
  · isplitr [HP]
    · iexists σ'.q, σ'.k, σ'.v, σ'.s, σ'.p, σ'.m
      isplitr
      · ipureintro; exact Inv.next m e4 e5
      isplitl [S0]; · iexact S0
      isplitl [S1]; · iexact S1
      isplitl [S2]; · iexact S2
      isplitl [S3]; · iexact S3
      isplitl [S4]; · iexact S4
      iexact S5
    iexact HP
  isplitl [Ho]; · iexact Ho
  isplitl [H0]; · iexact H0
  isplitl [H1]; · iexact H1
  isplitl [H2]; · iexact H2
  iexact H3

/-- Every point stores the output. -/
theorem idle3 (t : Fin cfg0.N) : cfg0.idle 3 (cfg0.grid.coords t) = false := (by decide +kernel : ∀ t : Fin grid0.N, idle0 3 (grid0.coords t) = false) t

theorem body_obligation (c : Dev nD) : BodyObligation (dats m 0 c) (defs₀ (F := Ideal)) Variants.none () Set.univ := fun t => by
  rw [bigSep_W0, bigSep_W0, defs₀_row, idle3]
  exact triple_restated (sound_body m c t) rfl .rfl fun _ => .rfl

theorem scratch_in (c : Dev nD) : Pipeline.ΦA spec0 c ⊢ (dats m 0 c).Φ 0 := by
  rw [show (dats m 0 c).Φ 0 = PhiS m c 0 (Nat.zero_le _) by dsimp only [dats]; rfl]
  unfold Pipeline.ΦA PhiS
  rw [scopedRest0_eq]
  simp only [owns_whole]
  iintro ⟨⟨⟨%f0, S0⟩, ⟨%f1, S1⟩, ⟨%f2, S2⟩, ⟨%f3, S3⟩, ⟨%f4, S4⟩, ⟨%f5, S5⟩⟩, HP⟩
  isplitr [HP]
  · iexists f0, f1, f2, f3, f4, f5
    isplitr
    · ipureintro; exact ⟨fun h => absurd h (by omega), fun kv r d hk hr hd => absurd hr (by omega)⟩
    isplitl [S0]; · iexact S0
    isplitl [S1]; · iexact S1
    isplitl [S2]; · iexact S2
    isplitl [S3]; · iexact S3
    isplitl [S4]; · iexact S4
    iexact S5
  iexact HP

theorem scratch_out (c : Dev nD) : (dats m 0 c).Φ (Fin.last cfg0.N) ⊢ Pipeline.ΦA spec0 c := by
  rw [show (dats m 0 c).Φ (Fin.last cfg0.N) = PhiS m c cfg0.N le_rfl by dsimp only [dats]; rfl]
  unfold Pipeline.ΦA PhiS
  rw [scopedRest0_eq]
  simp only [owns_whole]
  iintro ⟨⟨%f0, %f1, %f2, %f3, %f4, %f5, %hI, S0, S1, S2, S3, S4, S5⟩, HP⟩
  isplitr [HP]
  · isplitl [S0]; · iexists f0; iexact S0
    isplitl [S1]; · iexists f1; iexact S1
    isplitl [S2]; · iexists f2; iexact S2
    isplitl [S3]; · iexists f3; iexact S3
    isplitl [S4]; · iexists f4; iexact S4
    iexists f5; iexact S5
  iexact HP

set_option backward.isDefEq.respectTransparency.types false in
theorem run_main : θ_run (defs (F := Ideal)) (onTc (τ := τ) (main (F := Ideal))) (s₀ m ρ) (Pipeline.FramePost cfgs (dats m) 0 (V m)) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := scratch_in m) (hout := scratch_out m)

/-! ### The result array -/

/-- The result: the attention of the arguments. -/
abbrev result (c : Dev nD) : Buf (Elt Ideal) ((c : Thread nD τ).loc main_v0) := resultA (coef (F := Ideal)) (argQ m c) (argK m c) (argV m c)

theorem flushed_eq (c : Dev nD) (t : Fin cfg0.N) (_ : (cfg0.win 3).flush t = true) :
    (dats m 0 c).flushed 3 t = ((cfg0.win 3).blk t).view.read (Elt Ideal) (result m c) := by
  have ht := t_lt t
  obtain ⟨i0, i1, i2⟩ := index3 t
  show (cfg0.win 3).cut (grid0.coords t) ((dats m 0 c).after 3 t) = _
  rw [after0_3]
  funext j
  rw [View.read_apply]
  have h0 : (j 0).val < 1 := (j 0).isLt
  have h1 : (j 1).val < 256 := (j 1).isLt
  have h2 : (j 2).val < 3072 := (j 2).isLt
  show outA (coef (F := Ideal)) _ _ _ (t.val / 4) ((j 2).val / 128) (256 * (t.val % 4) + (j 1).val) ((j 2).val % 128)
    = outA (coef (F := Ideal)) _ _ _ (win0_3.index t 0 * 1 + 1 * (j 0).val) ((win0_3.index t 2 * 3072 + 1 * (j 2).val) / 128) (win0_3.index t 1 * 256 + 1 * (j 1).val)
      ((win0_3.index t 2 * 3072 + 1 * (j 2).val) % 128)
  rw [i0, i1, i2]
  congr 1 <;> omega

theorem final_o (c : Dev nD) : (dats m 0 c).arrAt 3 cfg0.N = result m c :=
  (dats m 0 c).arrAt_eq_of_cover 3 (result m c) (flushed_eq m c) fun i => by
    have h0 : (i 0 : Nat) < 2 := (i 0).isLt
    have h1 : (i 1 : Nat) < 1024 := (i 1).isLt
    have h2 : (i 2 : Nat) < 3072 := (i 2).isLt
    obtain ⟨t, ht⟩ : ∃ t : Fin cfg0.N, t.val = 4 * (i 0).val + (i 1).val / 256 :=
      ⟨⟨4 * (i 0 : Nat) + (i 1 : Nat) / 256, by show _ < 8; omega⟩, rfl⟩
    obtain ⟨i0, i1, i2⟩ := index3 t
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [i0]; omega
    | ⟨1, _⟩ => show win0_3.index t 1 * 256 ≤ (i 1 : Nat) ∧ (i 1 : Nat) < win0_3.index t 1 * 256 + 256
                rw [i1]; omega
    | ⟨2, _⟩ => show win0_3.index t 2 * 3072 ≤ (i 2 : Nat) ∧ (i 2 : Nat) < win0_3.index t 2 * 3072 + 3072
                rw [i2]; omega

/-- The call ends with the attention of its arguments in the result array, the arguments as they were. -/
theorem run : θ_run (defs (F := Ideal)) (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨((h c).1 3).trans (final_o m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.Proof.Track

end
-- ==== Proof.Softmax.lean ====
/-
  The softmax of finite scores: in base two with the maximum taken before the scale, and in base e with the scale taken
  before the maximum, the weights are the same and their sum is not zero.
-/
module

public import proofs.«01_k».proof.Proof.Value

@[expose] public section

noncomputable section

namespace Attn

open Idealize.ShloMosaic

/-- A score behind the causal mask. -/
def masked (x : ℕ → EReal) (i r : ℕ) : EReal := if r ≤ i then x r else ⊥

/-- The largest masked score of a query is one of its scores, and scaling every score scales it. -/
theorem top_attained (x : ℕ → ℝ) (s : ℝ) (hs : 0 < s) {i : ℕ} (hi : i < 1024) :
    ∃ t, t ≤ i ∧ (Finset.range 1024).sup (masked (fun r => (x r : EReal)) i) = (x t : EReal)
      ∧ (Finset.range 1024).sup (masked (fun r => (x r : EReal) * (s : EReal)) i) = ((x t * s : ℝ) : EReal) := by
  obtain ⟨t, ht, hm⟩ := Finset.exists_max_image (Finset.range (i + 1)) x ⟨0, by simp⟩
  have ht' : t ≤ i := by simpa [Nat.lt_succ_iff] using ht
  have hm' : ∀ r, r ≤ i → x r ≤ x t := fun r hr => hm r (by simpa [Nat.lt_succ_iff] using hr)
  refine ⟨t, ht', le_antisymm (Finset.sup_le fun r _ => ?_) ?_, le_antisymm (Finset.sup_le fun r _ => ?_) ?_⟩
  · unfold masked; split
    · rename_i h; exact EReal.coe_le_coe_iff.2 (hm' r h)
    · exact bot_le
  · refine le_trans (le_of_eq ?_) (Finset.le_sup (f := masked _ i) (Finset.mem_range.2 (lt_of_le_of_lt ht' hi)))
    rw [masked, if_pos ht']
  · unfold masked; split
    · rename_i h; refine (EReal.coe_mul _ _).symm.trans_le ?_; exact EReal.coe_le_coe_iff.2 (mul_le_mul_of_nonneg_right (hm' r h) hs.le)
    · exact bot_le
  · refine le_trans (le_of_eq ?_) (Finset.le_sup (f := masked _ i) (Finset.mem_range.2 (lt_of_le_of_lt ht' hi)))
    rw [masked, if_pos ht', EReal.coe_mul]

/-- Powers of two at the scale over log two are powers of e at the scale. -/
theorem exp2_scaled (y s : ℝ) : Ideal.exp2 ((y : EReal) * ((s * (Real.log 2)⁻¹ : ℝ) : EReal)) = Ideal.exp ((y * s : ℝ) : EReal) := by
  rw [← EReal.coe_mul]
  show ((Real.rpow 2 (y * (s * (Real.log 2)⁻¹)) : ℝ) : EReal) = ((Real.exp (y * s) : ℝ) : EReal)
  have h2 : Real.log 2 ≠ 0 := (Real.log_pos (by norm_num)).ne'
  congr 1
  show (2 : ℝ) ^ (y * (s * (Real.log 2)⁻¹)) = _
  rw [Real.rpow_def_of_pos (by norm_num)]
  congr 1
  field_simp

/-- The two forms of a weight. -/
theorem weight_eq (x : ℕ → ℝ) (s : ℝ) (hs : 0 < s) {i : ℕ} (hi : i < 1024) (r : ℕ) :
    Ideal.exp2 ((masked (fun r => (x r : EReal)) i r - (Finset.range 1024).sup (masked (fun r => (x r : EReal)) i)) * ((s * (Real.log 2)⁻¹ : ℝ) : EReal))
      = Ideal.exp (masked (fun r => (x r : EReal) * (s : EReal)) i r - (Finset.range 1024).sup (masked (fun r => (x r : EReal) * (s : EReal)) i)) := by
  obtain ⟨t, ht, h1, h2⟩ := top_attained x s hs hi
  rw [h1, h2, masked, masked]
  split
  · rw [← EReal.coe_mul, ← EReal.coe_sub, ← EReal.coe_sub, exp2_scaled, sub_mul]
  · have hp : 0 < s * (Real.log 2)⁻¹ := mul_pos hs (inv_pos.2 (Real.log_pos (by norm_num)))
    rw [EReal.bot_sub, EReal.bot_sub, EReal.bot_mul_coe_of_pos hp]
    rfl

theorem exp_nonneg (y : EReal) : 0 ≤ Ideal.exp y := by
  induction y using EReal.rec with
  | bot => exact le_rfl
  | top => exact le_top
  | coe r => exact EReal.coe_nonneg.2 (Real.exp_pos r).le

/-- The weights of a query do not sum to zero: the largest score's weight is one. -/
theorem weights_ne_zero (x : ℕ → ℝ) (s : ℝ) (hs : 0 < s) {i : ℕ} (hi : i < 1024) :
    (∑ r ∈ Finset.range 1024, Ideal.exp (masked (fun r => (x r : EReal) * (s : EReal)) i r
      - (Finset.range 1024).sup (masked (fun r => (x r : EReal) * (s : EReal)) i))) ≠ 0 := by
  obtain ⟨t, ht, h1, h2⟩ := top_attained x s hs hi
  rw [h2]
  refine (lt_of_lt_of_le ?_ (Finset.single_le_sum (fun r _ => exp_nonneg _) (Finset.mem_range.2 (lt_of_le_of_lt ht hi)))).ne'
  rw [masked, if_pos ht, ← EReal.coe_mul, ← EReal.coe_sub, sub_self]
  show (0 : EReal) < ((Real.exp 0 : ℝ) : EReal)
  rw [Real.exp_zero]
  exact zero_lt_one

/-- A product with the reciprocal is the quotient, off zero. -/
theorem mul_recip (o l : EReal) (hl : l ≠ 0) : o * Ideal.div 1 l = Ideal.div o l := by
  rw [Ideal.div, Ideal.div, if_neg hl, if_neg hl, one_mul]

/-- The attention of one query: both forms. -/
theorem attention_eq (x : ℕ → ℝ) (v : ℕ → EReal) (s : ℝ) (hs : 0 < s) {i : ℕ} (hi : i < 1024) {w w' : ℕ → EReal}
    (hw : ∀ r, w r = Ideal.exp2 ((masked (fun r => (x r : EReal)) i r - (Finset.range 1024).sup (masked (fun r => (x r : EReal)) i)) * ((s * (Real.log 2)⁻¹ : ℝ) : EReal)))
    (hw' : ∀ r, w' r = Ideal.exp (masked (fun r => (x r : EReal) * (s : EReal)) i r - (Finset.range 1024).sup (masked (fun r => (x r : EReal) * (s : EReal)) i))) :
    (∑ r ∈ Finset.range 1024, v r * w r) * Ideal.div 1 (∑ r ∈ Finset.range 1024, w r)
      = Ideal.div (∑ r ∈ Finset.range 1024, w' r * v r) (∑ r ∈ Finset.range 1024, w' r) := by
  have e : w = w' := funext fun r => by rw [hw, hw', weight_eq x s hs hi]
  have hz : (∑ r ∈ Finset.range 1024, w r) ≠ 0 := by
    rw [e, Finset.sum_congr rfl fun r _ => hw' r]; exact weights_ne_zero x s hs hi
  rw [mul_recip _ _ hz, e]
  congr 1
  exact Finset.sum_congr rfl fun r _ => mul_comm _ _

/-- A sum of products of real numbers is a real number. -/
theorem sum_real {n : ℕ} {f g : ℕ → EReal} (hf : ∀ k < n, ∃ r : ℝ, f k = r) (hg : ∀ k < n, ∃ r : ℝ, g k = r) :
    ∃ r : ℝ, (∑ k ∈ Finset.range n, f k * g k) = r := by
  induction n with
  | zero => exact ⟨0, by simp⟩
  | succ n ih =>
    obtain ⟨a, ha⟩ := ih (fun k hk => hf k (by omega)) (fun k hk => hg k (by omega))
    obtain ⟨b, hb⟩ := hf n (by omega)
    obtain ⟨c, hc⟩ := hg n (by omega)
    exact ⟨a + b * c, by rw [Finset.sum_range_succ, ha, hb, hc, EReal.coe_add, EReal.coe_mul]⟩

end Attn

end
-- ==== Proof.Ref.lean ====
/-
  The reference read at an index, and its equality with the attention of finite queries and keys.
-/
module

public import proofs.«01_k».proof.Proof.Gen.ReferenceIdeal.Read
public import proofs.«01_k».proof.Proof.Softmax
public import proofs.«01_k».proof.Pre_finite
public import Idealize.ShloMosaic.Lib.ReduceAll

@[expose] public section

noncomputable section

namespace Cert.Proof.Ref

open Cert.ReferenceIdeal Cert.ReferenceIdeal.Gen Cert.ReferenceIdeal.Read Attn
open Idealize.ShloMosaic

/-- The scale of the scores. -/
abbrev scale : ℝ := 11863283 * 134217728⁻¹

theorem scale_pos : 0 < scale := by unfold scale; positivity

variable (Q : Vec Ideal (S4d 2 24 128 1024) .bf16) (K : Vec Ideal (S4d 2 8 1024 128) .bf16) (V : Vec Ideal (S4d 2 8 128 1024) .bf16)

/-- The head that an index of a grouped array names. -/
abbrev head (g k : ℕ) : ℕ := 3 * g + k

/-- The product of keys and queries. -/
theorem raw_apply (j : S2x8x3x1024x1024.Idx) :
    val_main_v1 (F := Ideal) Q K j = rawA Q K (j 0).val (head (j 1).val (j 2).val) (j 4).val (j 3).val := by
  have h0 : (j 0).val < 2 := (j 0).isLt
  have h1 : (j 1).val < 8 := (j 1).isLt
  have h2 : (j 2).val < 3 := (j 2).isLt
  have h3 : (j 3).val < 1024 := (j 3).isLt
  have h4 : (j 4).val < 1024 := (j 4).isLt
  rw [val_main_v1_apply, rawA, Finset.sum_range]
  refine Finset.sum_congr rfl fun k _ => ?_
  have hk : k.val < 128 := k.isLt
  rw [val_main_v0_apply, at4 (A := 2) (B := 24) (C := 128) (D := 1024) Q, at4 (A := 2) (B := 8) (C := 1024) (D := 128) K, mul_comm]
  show rd4 K (j 0).val (j 1).val (j 4).val k.val
      * rd4 Q ((((((j 0).val * 8 + (j 1).val) * 3 + (j 2).val) * 128 + k.val) * 1024 + (j 3).val) / 3145728)
          ((((((j 0).val * 8 + (j 1).val) * 3 + (j 2).val) * 128 + k.val) * 1024 + (j 3).val) / 131072 % 24)
          ((((((j 0).val * 8 + (j 1).val) * 3 + (j 2).val) * 128 + k.val) * 1024 + (j 3).val) / 1024 % 128)
          ((((((j 0).val * 8 + (j 1).val) * 3 + (j 2).val) * 128 + k.val) * 1024 + (j 3).val) % 1024) = _
  simp only [head]
  congr 2 <;> omega

/-- The visible positions. -/
theorem visible_iff {a b : ℕ} (ha : a < 1024) (hb : b < 1024) :
    (IntOp.cmpi .sle (BitVec.ofNat 32 a) (BitVec.ofNat 32 b) = 1#1) ↔ a ≤ b := by
  have ea : (BitVec.ofNat 32 a).toInt = a := by rw [BitVec.toInt_ofNat']; exact Int.bmod_eq_of_le (by omega) (by omega)
  have eb : (BitVec.ofNat 32 b).toInt = b := by rw [BitVec.toInt_ofNat']; exact Int.bmod_eq_of_le (by omega) (by omega)
  rw [IntOp.cmpi, BitVec.sle, ea, eb]
  by_cases h : a ≤ b <;> simp [h]

/-- The scaled scores behind the mask. -/
theorem masked_apply (j : S2x8x3x1024x1024.Idx) :
    val_main_v10 (F := Ideal) Q K j
      = masked (fun r => rawA Q K (j 0).val (head (j 1).val (j 2).val) r (j 3).val * (scale : EReal)) (j 3).val (j 4).val := by
  rw [val_main_v10_apply, val_main_call0_v1_apply, val_main_v9_apply, val_main_v7_apply, val_main_v5_apply, val_main_v4_apply,
    val_main_v8_apply, val_main_v6_apply, val_main_v4_apply, val_main_v3_apply, val_main_v2_apply, val_main_cst_apply,
    val_main_call0_v2_apply, val_main_call0_v0_apply, val_main_cst_0_apply, raw_apply]
  show (if IntOp.cmpi .sle (BitVec.ofNat 32 (j 4).val) (BitVec.ofNat 32 (j 3).val) = 1#1 then
    (rawA Q K (j 0).val (head (j 1).val (j 2).val) (j 4).val (j 3).val * Ideal.ofBits .f32 0x3DB504F3#32 : EReal) else Ideal.ofBits .f32 0xFF800000#32) = _
  rw [ofBits_scale, ofBits_negInf, masked]
  simp only [visible_iff (j 4).isLt (j 3).isLt]

/-- The indices of a row. -/
theorem row_idx (j : S2x8x3x1024.Idx) (i : S2x8x3x1024x1024.Idx) (h : reducesTo_S2x8x3x1024x1024_S2x8x3x1024_d4.drop i = j) :
    i = idx_main_v16 j ⟨(i 4).val, (i 4).isLt⟩ := by
  subst h
  funext a
  apply Fin.ext
  match a with
  | ⟨0, _⟩ => rfl
  | ⟨1, _⟩ => rfl
  | ⟨2, _⟩ => rfl
  | ⟨3, _⟩ => rfl
  | ⟨4, _⟩ => rfl

theorem drop_idx (j : S2x8x3x1024.Idx) (k : Fin 1024) : reducesTo_S2x8x3x1024x1024_S2x8x3x1024_d4.drop (idx_main_v16 j k) = j := by
  funext a
  apply Fin.ext
  match a with
  | ⟨0, _⟩ => rfl
  | ⟨1, _⟩ => rfl
  | ⟨2, _⟩ => rfl
  | ⟨3, _⟩ => rfl

/-- The largest score of a row. -/
theorem top_apply (j : S2x8x3x1024.Idx) :
    val_main_v11 (F := Ideal) Q K j = (Finset.range 1024).sup
      (masked (fun r => rawA Q K (j 0).val (head (j 1).val (j 2).val) r (j 3).val * (scale : EReal)) (j 3).val) := by
  unfold val_main_v11
  rw [Host.reduce_eq_fold]
  refine eq_of_forall_ge_iff fun B => (Finset.fold_max_le B).trans ?_
  rw [Finset.sup_le_iff]
  refine ⟨fun h r hr => ?_, fun h => ⟨?_, fun i hi => ?_⟩⟩
  · have := h.2 (idx_main_v16 j ⟨r, Finset.mem_range.1 hr⟩) (Finset.mem_filter.2 ⟨Finset.mem_univ _, drop_idx j _⟩)
    exact (masked_apply Q K _).ge.trans this
  · exact (show (Ideal.ofBits .f32 0xFF800000#32 : EReal) ≤ B from ofBits_negInf.le.trans bot_le)
  · rw [row_idx j i (Finset.mem_filter.1 hi).2]
    exact (masked_apply Q K _).le.trans (h (i 4).val (Finset.mem_range.2 (i 4).isLt))

/-- The weight of key `r` for query `i`. -/
def weight (b h i r : ℕ) : EReal :=
  Ideal.exp (masked (fun r => rawA Q K b h r i * (scale : EReal)) i r
    - (Finset.range 1024).sup (masked (fun r => rawA Q K b h r i * (scale : EReal)) i))

theorem weight_apply (j : S2x8x3x1024x1024.Idx) :
    val_main_v15 (F := Ideal) Q K j = weight Q K (j 0).val (head (j 1).val (j 2).val) (j 3).val (j 4).val := by
  rw [val_main_v15_apply, val_main_v14_apply, val_main_v13_apply, val_main_v12_apply, masked_apply, top_apply]
  rfl

theorem total_apply (j : S2x8x3x1024.Idx) :
    val_main_v16 (F := Ideal) Q K j = ∑ r ∈ Finset.range 1024, weight Q K (j 0).val (head (j 1).val (j 2).val) (j 3).val r := by
  rw [val_main_v16_apply, val_main_cst_2_apply, show (FloatOps.ofBits .f32 0x00000000#32 : Ideal .f32) = (0 : EReal) from ofBits_zero, zero_add,
    Finset.sum_range]
  exact Finset.sum_congr rfl fun k _ => weight_apply Q K _

theorem product_apply (j : S2x8x3x1024x128.Idx) :
    val_main_v18 (F := Ideal) Q K V j
      = ∑ r ∈ Finset.range 1024, weight Q K (j 0).val (head (j 1).val (j 2).val) (j 3).val r * rd4 V (j 0).val (j 1).val (j 4).val r := by
  rw [val_main_v18_apply, Finset.sum_range]
  refine Finset.sum_congr rfl fun k _ => ?_
  rw [val_main_v17_apply, at4 (A := 2) (B := 8) (C := 128) (D := 1024) V]
  exact congrArg (· * _) (weight_apply Q K _)

/-- The reference's result. -/
theorem result_apply (j : S2x1024x3072.Idx) :
    val_main_v24 (F := Ideal) Q K V j
      = Ideal.div (∑ r ∈ Finset.range 1024, weight Q K (j 0).val ((j 2).val / 128) (j 1).val r * rd4 V (j 0).val ((j 2).val / 128 / 3) ((j 2).val % 128) r)
          (∑ r ∈ Finset.range 1024, weight Q K (j 0).val ((j 2).val / 128) (j 1).val r) := by
  have h0 : (j 0).val < 2 := (j 0).isLt
  have h1 : (j 1).val < 1024 := (j 1).isLt
  have h2 : (j 2).val < 3072 := (j 2).isLt
  rw [val_main_v24_apply, val_main_v23_apply, val_main_v22_apply, val_main_v21_apply, val_main_v20_apply, val_main_v19_apply, product_apply, total_apply]
  have e0 : (((j 0).val * 1024 + (j 1).val) * 3072 + (j 2).val) / 3145728 = (j 0).val := by omega
  have e1 : (((j 0).val * 1024 + (j 1).val) * 3072 + (j 2).val) / 3072 % 1024 = (j 1).val := by omega
  have e2 : (((j 0).val * 1024 + (j 1).val) * 3072 + (j 2).val) / 384 % 8 = (j 2).val / 128 / 3 := by omega
  have e3 : 3 * ((((j 0).val * 1024 + (j 1).val) * 3072 + (j 2).val) / 384 % 8) + (((j 0).val * 1024 + (j 1).val) * 3072 + (j 2).val) / 128 % 3
    = (j 2).val / 128 := by omega
  have e4 : (((j 0).val * 1024 + (j 1).val) * 3072 + (j 2).val) % 128 = (j 2).val % 128 := by omega
  show Ideal.div (∑ r ∈ Finset.range 1024, weight Q K ((((j 0).val * 1024 + (j 1).val) * 3072 + (j 2).val) / 3145728)
        (3 * ((((j 0).val * 1024 + (j 1).val) * 3072 + (j 2).val) / 384 % 8) + (((j 0).val * 1024 + (j 1).val) * 3072 + (j 2).val) / 128 % 3)
        ((((j 0).val * 1024 + (j 1).val) * 3072 + (j 2).val) / 3072 % 1024) r
      * rd4 V ((((j 0).val * 1024 + (j 1).val) * 3072 + (j 2).val) / 3145728) ((((j 0).val * 1024 + (j 1).val) * 3072 + (j 2).val) / 384 % 8)
        ((((j 0).val * 1024 + (j 1).val) * 3072 + (j 2).val) % 128) r)
    (∑ r ∈ Finset.range 1024, weight Q K ((((j 0).val * 1024 + (j 1).val) * 3072 + (j 2).val) / 3145728)
        (3 * ((((j 0).val * 1024 + (j 1).val) * 3072 + (j 2).val) / 384 % 8) + (((j 0).val * 1024 + (j 1).val) * 3072 + (j 2).val) / 128 % 3)
        ((((j 0).val * 1024 + (j 1).val) * 3072 + (j 2).val) / 3072 % 1024) r) = _
  rw [e3, e0, e1, e2, e4]

/-! ### Finite arguments -/

instance facts : Cert.Pre_finite.Facts where
  bitsLt_bf16_f32 := by decide
  bcast_S_S2x24x128x1024 := by decide
  reducesTo_S2x24x128x1024_S_d0_1_2_3 := by decide
  h_S_ := by decide
  bcast_S_S2x8x1024x128 := by decide
  reducesTo_S2x8x1024x128_S_d0_1_2_3 := by decide

theorem ofBits_inf : Ideal.ofBits .f32 0x7F800000#32 = ⊤ := by simp [Ideal.ofBits, Ideal.ieee]

theorem real_of_abs {x : EReal} (h : Ideal.cmp .olt (max x (-x)) (Ideal.ofBits .f32 0x7F800000#32) = 1#1) : ∃ r : ℝ, x = r := by
  rw [ofBits_inf] at h
  have h' : max x (-x) < ⊤ := by
    by_contra hn
    simp [Ideal.cmp, hn] at h
  induction x using EReal.rec with
  | bot => simp at h'
  | top => simp at h'
  | coe r => exact ⟨r, rfl⟩

/-- The precondition says that every query and key is a real number. -/
theorem finite_of (h : Cert.Pre_finite.fn (F := Ideal) Q K V = fun _ => 1#1) : (∀ i, ∃ r : ℝ, Q i = r) ∧ ∀ i, ∃ r : ℝ, K i = r := by
  have h' := congrFun h (fun a => a.elim0)
  obtain ⟨a, b⟩ := IntOp.andi_eq_one.1 h'
  exact ⟨fun i => real_of_abs (Host.reduce_andi_all _ _ _ _ _ a i), fun i => real_of_abs (Host.reduce_andi_all _ _ _ _ _ b i)⟩

theorem rd4_real {A B C D : ℕ} {x : (S4d A B C D).Idx → EReal} (h : ∀ i, ∃ r : ℝ, x i = r) (a b c d : ℕ) (ha : a < A) (hb : b < B) (hc : c < C) (hd : d < D) :
    ∃ r : ℝ, rd4 x a b c d = r := by rw [rd4_of x ha hb hc hd]; exact h _

/-- On finite queries and keys the reference is the attention. -/
theorem result_eq (h : Cert.Pre_finite.fn (F := Ideal) Q K V = fun _ => 1#1) :
    val_main_v24 (F := Ideal) Q K V = resultA ((scale * (Real.log 2)⁻¹ : ℝ) : EReal) Q K V := by
  obtain ⟨hQ, hK⟩ := finite_of Q K V h
  funext j
  have h0 : (j 0).val < 2 := (j 0).isLt
  have h1 : (j 1).val < 1024 := (j 1).isLt
  have h2 : (j 2).val < 3072 := (j 2).isLt
  rw [result_apply]
  show _ = outA _ Q K V (j 0).val ((j 2).val / 128) (j 1).val ((j 2).val % 128)
  have hx : ∀ r, ∃ x : ℝ, r < 1024 → rawA Q K (j 0).val ((j 2).val / 128) r (j 1).val = x := fun r => by
    by_cases hr : r < 1024
    · obtain ⟨x, e⟩ := sum_real (n := 128) (fun k hk => rd4_real hK (j 0).val ((j 2).val / 128 / 3) r k h0 (by omega) hr hk)
        (fun k hk => rd4_real hQ (j 0).val ((j 2).val / 128) k (j 1).val h0 (by omega) hk h1)
      exact ⟨x, fun _ => e⟩
    · exact ⟨0, fun g => absurd g hr⟩
  choose x hx using hx
  have e1 : ∀ r, scA Q K (j 0).val ((j 2).val / 128) r (j 1).val = masked (fun r => (x r : EReal)) (j 1).val r := fun r => by
    unfold scA masked; split
    · rw [hx r (by omega)]
    · rfl
  have e2 : ∀ r, masked (fun r => rawA Q K (j 0).val ((j 2).val / 128) r (j 1).val * (scale : EReal)) (j 1).val r
      = masked (fun r => (x r : EReal) * (scale : EReal)) (j 1).val r := fun r => by
    unfold masked; split
    · exact congrArg (· * (scale : EReal)) (hx r (by omega))
    · rfl
  refine (attention_eq x _ scale scale_pos h1 (fun r => ?_) (fun r => ?_)).symm
  · rw [wtA, topA, e1, funext e1]
  · rw [weight, e2, show masked (fun r => rawA Q K (j 0).val ((j 2).val / 128) r (j 1).val * (scale : EReal)) (j 1).val = _ from funext e2]

end Cert.Proof.Ref

end
-- ==== Proof.QRuns.lean ====
/-
  Running a program over owned buffers, whatever the buffers are. `O σ` says a core owns its buffers at the contents `σ`, a
  `Slot` is one buffer of them, and `Runs O σ p Post` says: started with the contents `σ`, the program `p` ends with contents
  and a value related by `Post`.
-/
module

public import proofs.«01_k».proof.Proof.Runs

@[expose] public section

noncomputable section

namespace Quant

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : ℕ} {τ : Topo} {sig : RefSig} {Λ₀ : Labels} {U : Type} [URA U]

local notation "𝕄" => MT nD τ sig Unit (Elt F) ℕ U ℕ

variable {S : Type} {c : Dev nD} {O : S → sProp (MT nD τ sig Unit (Elt F) ℕ U ℕ)}

/-- One buffer: its memref, and its contents among the buffers'. -/
structure Slot (c : Dev nD) (O : S → sProp 𝕄) (s : Shape) (e : EltTy) where
  m : Memref sig .tc .vmem s e
  get : S → Vec F s e
  set : S → Vec F s e → S
  set_get : ∀ σ, set σ (get σ) = σ
  focus : ∀ σ, Attn.Focus (O σ) (fun x => owns (c : Thread nD τ) m fullShare x) (get σ) (fun y => O (set σ y))

variable {defs : Defs nD τ sig (Elt F) Λ₀} {E : Set ℕ}

/-- Started at the contents `σ`, `p` ends at contents and a value related by `Post`. -/
def Runs {α : Type} (c : Dev nD) (O : S → sProp 𝕄) (defs : Defs nD τ sig (Elt F) Λ₀) (E : Set ℕ) (σ : S)
    (p : Prog (TpuEff nD τ sig (Elt F) Λ₀ .tc) α) (Post : S → α → Prop) : Prop :=
  ∀ Q : α → sProp 𝕄,
    iprop(O σ ∗ (∀ σ' a, ⌜Post σ' a⌝ -∗ O σ' -∗ Q a)) ⊢ wp frame (wpE defs Variants.none (c : Thread nD τ) none) E p Q

theorem Runs.pure {α : Type} {σ : S} {a : α} {Post : S → α → Prop} (h : Post σ a) : Runs c O defs E σ (pure a) Post := by
  intro Q
  rw [wp_pure]
  refine BIBase.Entails.trans ?_ BI.fupd_intro
  iintro ⟨H, HQ⟩
  iapply HQ $$ %σ %a
  · ipureintro; exact h
  · iexact H

theorem Runs.bind {α β : Type} {σ : S} {p : Prog (TpuEff nD τ sig (Elt F) Λ₀ .tc) α} {k : α → Prog (TpuEff nD τ sig (Elt F) Λ₀ .tc) β}
    {P : S → α → Prop} {Post : S → β → Prop} (hp : Runs c O defs E σ p P) (hk : ∀ σ' a, P σ' a → Runs c O defs E σ' (k a) Post) :
    Runs c O defs E σ (p >>= k) Post := by
  intro Q
  rw [wp_bind]
  refine BIBase.Entails.trans ?_ (hp _)
  iintro ⟨H, HQ⟩
  isplitl [H]; · iexact H
  iintro %σ' %a %h H
  iapply (hk σ' a h Q)
  isplitl [H]; · iexact H
  iexact HQ

theorem Runs.mono {α : Type} {σ : S} {p : Prog (TpuEff nD τ sig (Elt F) Λ₀ .tc) α} {P P' : S → α → Prop}
    (hp : Runs c O defs E σ p P) (h : ∀ σ' a, P σ' a → P' σ' a) : Runs c O defs E σ p P' := by
  intro Q
  refine BIBase.Entails.trans ?_ (hp Q)
  iintro ⟨H, HQ⟩
  isplitl [H]; · iexact H
  iintro %σ' %a %hP H
  iapply HQ $$ %σ' %a
  · ipureintro; exact h _ _ hP
  · iexact H

/-- A load reads a window of its buffer. -/
theorem Runs.load {s : Shape} {e : EltTy} (L : Slot c O s e) {β : Type} {off size : Fin s.rank → ℕ} {inb : ∀ a, off a + size a ≤ s.size a}
    {hl : L.m.view.LoadsAt (Rect.unit off size inb).toLoadRect} {k : ((Rect.unit off size inb).shape.Idx → Elt F e) → Prog (TpuEff nD τ sig (Elt F) Λ₀ .tc) β}
    {σ : S} {Post : S → β → Prop} (h : Runs c O defs E σ (k (VecWindow.window (L.get σ) off size inb)) Post) :
    Runs c O defs E σ (Prog.lift (.load L.m (Rect.unit off size inb).toLoadRect hl) >>= k) Post := by
  intro Q
  refine (sep_mono_left (L.focus σ)).trans ?_
  unfold owns
  show _ ⊢ wp frame _ E (.op (.load L.m (Rect.unit off size inb).toLoadRect hl) k) Q
  iintro ⟨⟨⟨%f, %hf, H⟩, HG⟩, HQ⟩
  iapply (wp_load Variants.none (c : Thread nD τ) none E (L.m.view.setOn_subset_set _)) $$ H
  iintro H
  rw [View.readAt_unit L.m.view f inb rfl inb, hf]
  iapply (h Q)
  isplitl [H HG]
  · ihave HG := HG $$ %(L.get σ)
    dsimp only
    rw [L.set_get]
    iapply HG
    iexists f
    isplitr; · ipureintro; exact hf
    iexact H
  iexact HQ

/-- A store puts its payload over a window of its buffer. -/
theorem Runs.store {s : Shape} {e : EltTy} (L : Slot c O s e) {off size : Fin s.rank → ℕ} {inb : ∀ a, off a + size a ≤ s.size a}
    {w : (Rect.unit off size inb).shape.Idx → Elt F e} {hx : (L.m.access (Rect.unit off size inb)).Stores Finset.univ}
    {hm : Finset.univ = Finset.univ ∨ ∀ a, (Rect.unit off size inb).stride a = 1} {σ : S} {Post : S → PUnit → Prop}
    (h : Post (L.set σ (VecWindow.put (L.get σ) off size w)) ⟨⟩) :
    Runs c O defs E σ (Prog.lift (.store L.m (Rect.unit off size inb) w Finset.univ hx hm)) Post := by
  intro Q
  refine (sep_mono_left (L.focus σ)).trans ?_
  unfold owns
  unfold Prog.lift
  iintro ⟨⟨⟨%f, %hf, H⟩, HG⟩, HQ⟩
  iapply (wp_store_writes₀ Variants.none (c : Thread nD τ) none E (L.m.view.set_slice_subset _)) $$ H
  iintro H
  rw [wp_ret]
  iapply BI.fupd_intro
  iapply HQ $$ %_ %_ [] [H HG]
  · ipureintro; exact h
  · iapply HG
    iexists _
    isplitr
    swap; · iexact H
    ipureintro
    rw [View.read_writes_cons_put _ _ _ _ _ rfl, View.writes_nil, hf]

theorem Runs.storeK {s : Shape} {e : EltTy} (L : Slot c O s e) {β : Type} {off size : Fin s.rank → ℕ} {inb : ∀ a, off a + size a ≤ s.size a}
    {w : (Rect.unit off size inb).shape.Idx → Elt F e} {hx : (L.m.access (Rect.unit off size inb)).Stores Finset.univ}
    {hm : Finset.univ = Finset.univ ∨ ∀ a, (Rect.unit off size inb).stride a = 1} {k : PUnit → Prog (TpuEff nD τ sig (Elt F) Λ₀ .tc) β}
    {σ : S} {Post : S → β → Prop} (h : Runs c O defs E (L.set σ (VecWindow.put (L.get σ) off size w)) (k ⟨⟩) Post) :
    Runs c O defs E σ (Prog.lift (.store L.m (Rect.unit off size inb) w Finset.univ hx hm) >>= k) Post :=
  (Runs.store L (Post := fun σ' _ => σ' = L.set σ (VecWindow.put (L.get σ) off size w)) rfl).bind fun _ _ e => e ▸ h

/-- A store into part of a word loads the words, changes them and stores them back. -/
theorem Runs.storeSub {s : Shape} {e : EltTy} (L : Slot c O s e) {off size : Fin s.rank → ℕ} {inb : ∀ a, off a + size a ≤ s.size a}
    {w : ((Rect.unit off size inb).shape.Idx → Elt F e) → (Rect.unit off size inb).shape.Idx → Elt F e}
    {hl : L.m.view.LoadsAt (Rect.unit off size inb).toLoadRect} {hs : (L.m.access (Rect.unit off size inb)).Stores Finset.univ}
    {σ : S} {Post : S → PUnit → Prop}
    (h : Post (L.set σ (VecWindow.put (L.get σ) off size (w (VecWindow.window (L.get σ) off size inb)))) ⟨⟩) :
    Runs c O defs E σ (storeSubelements L.m (Rect.unit off size inb) w hl hs) Post := by
  unfold storeSubelements
  exact Runs.load (k := fun old => Prog.lift (.store L.m (Rect.unit off size inb) (w old) Finset.univ hs (.inl rfl))) (hl := hl) L (Runs.store L h)

theorem Runs.storeSubK {s : Shape} {e : EltTy} (L : Slot c O s e) {β : Type} {off size : Fin s.rank → ℕ} {inb : ∀ a, off a + size a ≤ s.size a}
    {w : ((Rect.unit off size inb).shape.Idx → Elt F e) → (Rect.unit off size inb).shape.Idx → Elt F e}
    {hl : L.m.view.LoadsAt (Rect.unit off size inb).toLoadRect} {hs : (L.m.access (Rect.unit off size inb)).Stores Finset.univ}
    {k : PUnit → Prog (TpuEff nD τ sig (Elt F) Λ₀ .tc) β} {σ : S} {Post : S → β → Prop}
    (h : Runs c O defs E (L.set σ (VecWindow.put (L.get σ) off size (w (VecWindow.window (L.get σ) off size inb)))) (k ⟨⟩) Post) :
    Runs c O defs E σ (storeSubelements L.m (Rect.unit off size inb) w hl hs >>= k) Post :=
  (Runs.storeSub L (Post := fun σ' _ => σ' = L.set σ (VecWindow.put (L.get σ) off size (w (VecWindow.window (L.get σ) off size inb)))) rfl).bind
    fun _ _ e => e ▸ h

/-! ### A part of a buffer, reached by two slices -/

/-- What the part of a buffer reached by two slices holds. -/
def part {α : Type} {s s₁ s₂ : Shape} (r₀ : Rect s) (h₁ : s₁.numel = r₀.shape.numel) (r₁ : Rect s₁) (h₂ : s₂.numel = r₁.shape.numel) (X : s.Idx → α) : s₂.Idx → α :=
  fun x => X (r₀.emb (Shape.reshapeEquiv h₁ (r₁.emb (Shape.reshapeEquiv h₂ x))))

theorem part_set {κ : Kind} {sp : Space} {s s₁ s₂ : Shape} {e : EltTy} (v : View sig κ sp s e) {r₀ : Rect s} (h₁ : s₁.numel = r₀.shape.numel) {r₁ : Rect s₁} (h₂ : s₂.numel = r₁.shape.numel) :
    ((((v.slice r₀).reshape s₁ h₁).slice r₁).reshape s₂ h₂).set ⊆ v.set := by
  rw [View.set_reshape]
  refine (View.set_slice_subset _ _).trans ?_
  rw [View.set_reshape]
  exact View.set_slice_subset _ _

/-- A load reads the part at its places. -/
theorem Runs.loadPart {s s₁ s₂ : Shape} {e : EltTy} (L : Slot c O s e) {β : Type} {r₀ : Rect s} {h₀ : ∀ a, r₀.stride a = 1} {hq₁ : r₀.shape.Squeezes s₁}
    {r₁ : Rect s₁} {h₁ : ∀ a, r₁.stride a = 1} {hq₂ : r₁.shape.Squeezes s₂} {lr : LoadRect s₂}
    {hl : ((((L.m.slice r₀ h₀).squeeze s₁ hq₁).slice r₁ h₁).squeeze s₂ hq₂).view.LoadsAt lr}
    {k : (lr.shape.Idx → Elt F e) → Prog (TpuEff nD τ sig (Elt F) Λ₀ .tc) β}
    {σ : S} {Post : S → β → Prop} (h : Runs c O defs E σ (k (fun y => part r₀ hq₁.numel_eq r₁ hq₂.numel_eq (L.get σ) (lr.idx y))) Post) :
    Runs c O defs E σ (Prog.lift (.load ((((L.m.slice r₀ h₀).squeeze s₁ hq₁).slice r₁ h₁).squeeze s₂ hq₂) lr hl) >>= k) Post := by
  intro Q
  refine (sep_mono_left (L.focus σ)).trans ?_
  unfold owns
  show _ ⊢ wp frame _ E (.op (.load ((((L.m.slice r₀ h₀).squeeze s₁ hq₁).slice r₁ h₁).squeeze s₂ hq₂) lr hl) k) Q
  iintro ⟨⟨⟨%f, %hf, H⟩, HG⟩, HQ⟩
  iapply (wp_load (m := (((L.m.slice r₀ h₀).squeeze s₁ hq₁).slice r₁ h₁).squeeze s₂ hq₂) Variants.none (c : Thread nD τ) none E
    ((View.setOn_subset_set _ _).trans (part_set L.m.view hq₁.numel_eq hq₂.numel_eq))) $$ H
  iintro H
  have hv : ((((L.m.slice r₀ h₀).squeeze s₁ hq₁).slice r₁ h₁).squeeze s₂ hq₂).view.readAt (Elt F) lr f
      = fun y => part r₀ hq₁.numel_eq r₁ hq₂.numel_eq (L.get σ) (lr.idx y) := by
    funext y
    rw [← hf]
    rfl
  rw [hv]
  iapply (h Q)
  isplitl [H HG]
  · ihave HG := HG $$ %(L.get σ)
    dsimp only
    rw [L.set_get]
    iapply HG
    iexists f
    isplitr; · ipureintro; exact hf
    iexact H
  iexact HQ

/-- A store changes the part at its places, and nowhere else. -/
theorem Runs.storePartK {s s₁ s₂ : Shape} {e : EltTy} (L : Slot c O s e) {β : Type} {r₀ : Rect s} {h₀ : ∀ a, r₀.stride a = 1} {hq₁ : r₀.shape.Squeezes s₁}
    {r₁ : Rect s₁} {h₁ : ∀ a, r₁.stride a = 1} {hq₂ : r₁.shape.Squeezes s₂} {r : Rect s₂} {w : r.shape.Idx → Elt F e}
    {hx : (((((L.m.slice r₀ h₀).squeeze s₁ hq₁).slice r₁ h₁).squeeze s₂ hq₂).access r).Stores Finset.univ}
    {hm : Finset.univ = Finset.univ ∨ ∀ a, r.stride a = 1}
    {k : PUnit → Prog (TpuEff nD τ sig (Elt F) Λ₀ .tc) β}
    {σ : S} {Post : S → β → Prop}
    (h : ∀ X, (∀ y, part r₀ hq₁.numel_eq r₁ hq₂.numel_eq X (r.emb y) = w y) →
      (∀ x, x ∉ r.set → part r₀ hq₁.numel_eq r₁ hq₂.numel_eq X x = part r₀ hq₁.numel_eq r₁ hq₂.numel_eq (L.get σ) x) →
      Runs c O defs E (L.set σ X) (k ⟨⟩) Post) :
    Runs c O defs E σ (Prog.lift (.store ((((L.m.slice r₀ h₀).squeeze s₁ hq₁).slice r₁ h₁).squeeze s₂ hq₂) r w Finset.univ hx hm) >>= k) Post := by
  intro Q
  refine (sep_mono_left (L.focus σ)).trans ?_
  unfold owns
  show _ ⊢ wp frame _ E (.op (.store ((((L.m.slice r₀ h₀).squeeze s₁ hq₁).slice r₁ h₁).squeeze s₂ hq₂) r w Finset.univ hx hm) k) Q
  iintro ⟨⟨⟨%f, %hf, H⟩, HG⟩, HQ⟩
  iapply (wp_store_writes₀ (m := (((L.m.slice r₀ h₀).squeeze s₁ hq₁).slice r₁ h₁).squeeze s₂ hq₂) Variants.none (c : Thread nD τ) none E
    ((View.set_slice_subset _ _).trans (part_set L.m.view hq₁.numel_eq hq₂.numel_eq))) $$ H
  iintro H
  iapply (h (L.m.view.read (Elt F) (((((L.m.slice r₀ h₀).squeeze s₁ hq₁).slice r₁ h₁).squeeze s₂ hq₂).view.writes (Elt F) f [⟨r, w⟩])) ?_ ?_ Q)
  · intro y
    exact View.read_writes_cons_emb ((((L.m.slice r₀ h₀).squeeze s₁ hq₁).slice r₁ h₁).squeeze s₂ hq₂).view f r w [] y
  · intro x hx
    rw [← hf]
    exact View.read_writes_cons_miss ((((L.m.slice r₀ h₀).squeeze s₁ hq₁).slice r₁ h₁).squeeze s₂ hq₂).view f ⟨r, w⟩ [] x hx
  isplitl [H HG]
  · iapply HG
    iexists _
    isplitr
    swap; · iexact H
    ipureintro; rfl
  iexact HQ

theorem Runs.storePart {s s₁ s₂ : Shape} {e : EltTy} (L : Slot c O s e) {r₀ : Rect s} {h₀ : ∀ a, r₀.stride a = 1} {hq₁ : r₀.shape.Squeezes s₁}
    {r₁ : Rect s₁} {h₁ : ∀ a, r₁.stride a = 1} {hq₂ : r₁.shape.Squeezes s₂} {r : Rect s₂} {w : r.shape.Idx → Elt F e}
    {hx : (((((L.m.slice r₀ h₀).squeeze s₁ hq₁).slice r₁ h₁).squeeze s₂ hq₂).access r).Stores Finset.univ}
    {hm : Finset.univ = Finset.univ ∨ ∀ a, r.stride a = 1} {σ : S} {Post : S → PUnit → Prop}
    (h : ∀ X, (∀ y, part r₀ hq₁.numel_eq r₁ hq₂.numel_eq X (r.emb y) = w y) →
      (∀ x, x ∉ r.set → part r₀ hq₁.numel_eq r₁ hq₂.numel_eq X x = part r₀ hq₁.numel_eq r₁ hq₂.numel_eq (L.get σ) x) → Post (L.set σ X) ⟨⟩) :
    Runs c O defs E σ (Prog.lift (.store ((((L.m.slice r₀ h₀).squeeze s₁ hq₁).slice r₁ h₁).squeeze s₂ hq₂) r w Finset.univ hx hm)) Post := by
  rw [← bind_pure (Prog.lift _)]
  exact Runs.storePartK L fun X h₁ h₂ => Runs.pure (h X h₁ h₂)

end Quant

end
-- ==== Proof.QState.lean ====
/-
  The ten buffers the key quantiser works on: their contents, owning them, and each of them as a `Slot`; and the programs
  over them that end and leave what one sees of the contents as it was.
-/
module

public import proofs.«01_k».proof.Proof.QRuns

@[expose] public section

noncomputable section

namespace Quant

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : ℕ} {τ : Topo} {sig : RefSig} {Λ₀ : Labels} {U : Type} [URA U]

local notation "𝕄" => MT nD τ sig Unit (Elt F) ℕ U ℕ

abbrev S4d (a b c d : ℕ) : Shape := ⟨4, ![a, b, c, d]⟩
abbrev S3d (a b c : ℕ) : Shape := ⟨3, ![a, b, c]⟩
abbrev S2d (a b : ℕ) : Shape := ⟨2, ![a, b]⟩

/-- The memrefs: the key block `x`, its codes `c` and scales `g`, the dequantised keys `d`, and the scratch: the block
    transposed `xt`, its codes transposed `ct`, the two powers of two `u` and `w`, the slab `z` of partial maxima, and the
    dequantised keys transposed `dt`. -/
structure Refs (sig : RefSig) (sl : Shape) (el : EltTy) where
  x : Memref sig .tc .vmem (S4d 1 256 8 128) .bf16
  hx : x.IsWhole
  c : Memref sig .tc .vmem (S4d 1 256 8 128) .fp8e4m3
  hc : c.IsWhole
  g : Memref sig .tc .vmem (S4d 1 8 4 256) .i8
  hg : g.IsWhole
  d : Memref sig .tc .vmem (S3d 8 1024 128) .bf16
  hd : d.IsWhole
  xt : Memref sig .tc .vmem (S3d 4 128 256) .bf16
  hxt : xt.IsWhole
  ct : Memref sig .tc .vmem (S3d 4 128 256) .fp8e4m3
  hct : ct.IsWhole
  u : Memref sig .tc .vmem (S2d 16 256) .i32
  hu : u.IsWhole
  w : Memref sig .tc .vmem (S2d 16 256) .i32
  hw : w.IsWhole
  z : Memref sig .tc .vmem sl el
  hz : z.IsWhole
  dt : Memref sig .tc .vmem (S3d 4 128 256) .bf16
  hdt : dt.IsWhole

/-- What the buffers hold. -/
structure St (F : FTy → Type) [FloatOps F] (sl : Shape) (el : EltTy) where
  x : Vec F (S4d 1 256 8 128) .bf16
  c : Vec F (S4d 1 256 8 128) .fp8e4m3
  g : Vec F (S4d 1 8 4 256) .i8
  d : Vec F (S3d 8 1024 128) .bf16
  xt : Vec F (S3d 4 128 256) .bf16
  ct : Vec F (S3d 4 128 256) .fp8e4m3
  u : Vec F (S2d 16 256) .i32
  w : Vec F (S2d 16 256) .i32
  z : Vec F sl el
  dt : Vec F (S3d 4 128 256) .bf16

variable {sl : Shape} {el : EltTy}

/-- Core `c` owns the buffers at the contents `σ`. -/
def own (c : Dev nD) (R : Refs sig sl el) (σ : St F sl el) : sProp 𝕄 :=
  iprop(owns (c : Thread nD τ) R.x fullShare σ.x ∗ owns (c : Thread nD τ) R.c fullShare σ.c ∗ owns (c : Thread nD τ) R.g fullShare σ.g
    ∗ owns (c : Thread nD τ) R.d fullShare σ.d ∗ owns (c : Thread nD τ) R.xt fullShare σ.xt ∗ owns (c : Thread nD τ) R.ct fullShare σ.ct
    ∗ owns (c : Thread nD τ) R.u fullShare σ.u ∗ owns (c : Thread nD τ) R.w fullShare σ.w ∗ owns (c : Thread nD τ) R.z fullShare σ.z
    ∗ owns (c : Thread nD τ) R.dt fullShare σ.dt)

section Slots

variable (c : Dev nD) (R : Refs sig sl el)

def slotX : Slot c (own (F := F) (τ := τ) (U := U) c R) (S4d 1 256 8 128) .bf16 where
  m := R.x; get σ := σ.x; set σ y := { σ with x := y }; set_get _ := rfl
  focus σ := .head (fun x => owns (c : Thread nD τ) R.x fullShare x) _ σ.x
def slotC : Slot c (own (F := F) (τ := τ) (U := U) c R) (S4d 1 256 8 128) .fp8e4m3 where
  m := R.c; get σ := σ.c; set σ y := { σ with c := y }; set_get _ := rfl
  focus σ := .tail (.head (fun x => owns (c : Thread nD τ) R.c fullShare x) _ σ.c) _
def slotG : Slot c (own (F := F) (τ := τ) (U := U) c R) (S4d 1 8 4 256) .i8 where
  m := R.g; get σ := σ.g; set σ y := { σ with g := y }; set_get _ := rfl
  focus σ := .tail (.tail (.head (fun x => owns (c : Thread nD τ) R.g fullShare x) _ σ.g) _) _
def slotD : Slot c (own (F := F) (τ := τ) (U := U) c R) (S3d 8 1024 128) .bf16 where
  m := R.d; get σ := σ.d; set σ y := { σ with d := y }; set_get _ := rfl
  focus σ := .tail (.tail (.tail (.head (fun x => owns (c : Thread nD τ) R.d fullShare x) _ σ.d) _) _) _
def slotXt : Slot c (own (F := F) (τ := τ) (U := U) c R) (S3d 4 128 256) .bf16 where
  m := R.xt; get σ := σ.xt; set σ y := { σ with xt := y }; set_get _ := rfl
  focus σ := .tail (.tail (.tail (.tail (.head (fun x => owns (c : Thread nD τ) R.xt fullShare x) _ σ.xt) _) _) _) _
def slotCt : Slot c (own (F := F) (τ := τ) (U := U) c R) (S3d 4 128 256) .fp8e4m3 where
  m := R.ct; get σ := σ.ct; set σ y := { σ with ct := y }; set_get _ := rfl
  focus σ := .tail (.tail (.tail (.tail (.tail (.head (fun x => owns (c : Thread nD τ) R.ct fullShare x) _ σ.ct) _) _) _) _) _
def slotU : Slot c (own (F := F) (τ := τ) (U := U) c R) (S2d 16 256) .i32 where
  m := R.u; get σ := σ.u; set σ y := { σ with u := y }; set_get _ := rfl
  focus σ := .tail (.tail (.tail (.tail (.tail (.tail (.head (fun x => owns (c : Thread nD τ) R.u fullShare x) _ σ.u) _) _) _) _) _) _
def slotW : Slot c (own (F := F) (τ := τ) (U := U) c R) (S2d 16 256) .i32 where
  m := R.w; get σ := σ.w; set σ y := { σ with w := y }; set_get _ := rfl
  focus σ := .tail (.tail (.tail (.tail (.tail (.tail (.tail (.head (fun x => owns (c : Thread nD τ) R.w fullShare x) _ σ.w) _) _) _) _) _) _) _
def slotZ : Slot c (own (F := F) (τ := τ) (U := U) c R) sl el where
  m := R.z; get σ := σ.z; set σ y := { σ with z := y }; set_get _ := rfl
  focus σ := .tail (.tail (.tail (.tail (.tail (.tail (.tail (.tail (.head (fun x => owns (c : Thread nD τ) R.z fullShare x) _ σ.z) _) _) _) _) _) _) _) _
def slotDt : Slot c (own (F := F) (τ := τ) (U := U) c R) (S3d 4 128 256) .bf16 where
  m := R.dt; get σ := σ.dt; set σ y := { σ with dt := y }; set_get _ := rfl
  focus σ := .tail (.tail (.tail (.tail (.tail (.tail (.tail (.tail (.tail (.last (fun x => owns (c : Thread nD τ) R.dt fullShare x) σ.dt) _) _) _) _) _) _) _) _) _

end Slots

/-! ### Programs that end and leave what one sees of the contents as it was -/

section Keeps

variable {c : Dev nD} {R : Refs sig sl el} {defs : Defs nD τ sig (Elt F) Λ₀} {E : Set ℕ} {α γ : Type} {κ : St F sl el → γ}

/-- From any contents `p` ends, and what `κ` sees of them is as it was. -/
def Keeps (κ : St F sl el → γ) (c : Dev nD) (R : Refs sig sl el) (U : Type) [URA U] (defs : Defs nD τ sig (Elt F) Λ₀) (E : Set ℕ) (p : Prog (TpuEff nD τ sig (Elt F) Λ₀ .tc) α) : Prop :=
  ∀ σ, Runs c (own (F := F) (τ := τ) (U := U) c R) defs E σ p (fun σ' _ => κ σ' = κ σ)

theorem Keeps.pure (a : α) : Keeps κ c R U defs E (pure a) := fun _ => Runs.pure rfl

theorem Keeps.bind {β : Type} {p : Prog (TpuEff nD τ sig (Elt F) Λ₀ .tc) α} {k : α → Prog (TpuEff nD τ sig (Elt F) Λ₀ .tc) β} (hp : Keeps κ c R U defs E p)
    (hk : ∀ a, Keeps κ c R U defs E (k a)) : Keeps κ c R U defs E (p >>= k) :=
  fun σ => (hp σ).bind fun σ' a e => ((hk a) σ').mono fun _ _ e' => e'.trans e

/-- A store into this buffer leaves what `κ` sees. -/
def Slot.Other (κ : St F sl el → γ) {s : Shape} {e : EltTy} (L : Slot c (own (F := F) (τ := τ) (U := U) c R) s e) : Prop := ∀ σ y, κ (L.set σ y) = κ σ

theorem Keeps.load {s : Shape} {e : EltTy} (L : Slot c (own (F := F) (τ := τ) (U := U) c R) s e) {off size : Fin s.rank → ℕ} {inb : ∀ a, off a + size a ≤ s.size a}
    {hl : L.m.view.LoadsAt (Rect.unit off size inb).toLoadRect} {k : ((Rect.unit off size inb).shape.Idx → Elt F e) → Prog (TpuEff nD τ sig (Elt F) Λ₀ .tc) α}
    (h : ∀ x, Keeps κ c R U defs E (k x)) :
    Keeps κ c R U defs E (Prog.lift (.load L.m (Rect.unit off size inb).toLoadRect hl) >>= k) := fun σ => Runs.load L (h _ σ)

theorem Keeps.store {s : Shape} {e : EltTy} (L : Slot c (own (F := F) (τ := τ) (U := U) c R) s e) (hL : L.Other κ) {off size : Fin s.rank → ℕ} {inb : ∀ a, off a + size a ≤ s.size a}
    {w : (Rect.unit off size inb).shape.Idx → Elt F e} {hx : (L.m.access (Rect.unit off size inb)).Stores Finset.univ}
    {hm : Finset.univ = Finset.univ ∨ ∀ a, (Rect.unit off size inb).stride a = 1} {k : PUnit → Prog (TpuEff nD τ sig (Elt F) Λ₀ .tc) α}
    (h : Keeps κ c R U defs E (k ⟨⟩)) :
    Keeps κ c R U defs E (Prog.lift (.store L.m (Rect.unit off size inb) w Finset.univ hx hm) >>= k) :=
  fun σ => Runs.storeK L ((h _).mono fun _ _ e => e.trans (hL σ _))

theorem Keeps.storeSub {s : Shape} {e : EltTy} (L : Slot c (own (F := F) (τ := τ) (U := U) c R) s e) (hL : L.Other κ) {off size : Fin s.rank → ℕ} {inb : ∀ a, off a + size a ≤ s.size a}
    {w : ((Rect.unit off size inb).shape.Idx → Elt F e) → (Rect.unit off size inb).shape.Idx → Elt F e}
    {hl : L.m.view.LoadsAt (Rect.unit off size inb).toLoadRect} {hs : (L.m.access (Rect.unit off size inb)).Stores Finset.univ}
    {k : PUnit → Prog (TpuEff nD τ sig (Elt F) Λ₀ .tc) α} (h : Keeps κ c R U defs E (k ⟨⟩)) :
    Keeps κ c R U defs E (storeSubelements L.m (Rect.unit off size inb) w hl hs >>= k) :=
  fun σ => Runs.storeSubK L ((h _).mono fun _ _ e => e.trans (hL σ _))

theorem Keeps.loadPart {s s₁ s₂ : Shape} {e : EltTy} (L : Slot c (own (F := F) (τ := τ) (U := U) c R) s e) {r₀ : Rect s} {h₀ : ∀ a, r₀.stride a = 1} {hq₁ : r₀.shape.Squeezes s₁}
    {r₁ : Rect s₁} {h₁ : ∀ a, r₁.stride a = 1} {hq₂ : r₁.shape.Squeezes s₂} {lr : LoadRect s₂}
    {hl : ((((L.m.slice r₀ h₀).squeeze s₁ hq₁).slice r₁ h₁).squeeze s₂ hq₂).view.LoadsAt lr}
    {k : (lr.shape.Idx → Elt F e) → Prog (TpuEff nD τ sig (Elt F) Λ₀ .tc) α} (h : ∀ x, Keeps κ c R U defs E (k x)) :
    Keeps κ c R U defs E (Prog.lift (.load ((((L.m.slice r₀ h₀).squeeze s₁ hq₁).slice r₁ h₁).squeeze s₂ hq₂) lr hl) >>= k) :=
  fun σ => Runs.loadPart L (h _ σ)

theorem Keeps.storePart {s s₁ s₂ : Shape} {e : EltTy} (L : Slot c (own (F := F) (τ := τ) (U := U) c R) s e) (hL : L.Other κ) {r₀ : Rect s} {h₀ : ∀ a, r₀.stride a = 1}
    {hq₁ : r₀.shape.Squeezes s₁} {r₁ : Rect s₁} {h₁ : ∀ a, r₁.stride a = 1} {hq₂ : r₁.shape.Squeezes s₂} {r : Rect s₂} {w : r.shape.Idx → Elt F e}
    {hx : (((((L.m.slice r₀ h₀).squeeze s₁ hq₁).slice r₁ h₁).squeeze s₂ hq₂).access r).Stores Finset.univ}
    {hm : Finset.univ = Finset.univ ∨ ∀ a, r.stride a = 1} {k : PUnit → Prog (TpuEff nD τ sig (Elt F) Λ₀ .tc) α} (h : Keeps κ c R U defs E (k ⟨⟩)) :
    Keeps κ c R U defs E (Prog.lift (.store ((((L.m.slice r₀ h₀).squeeze s₁ hq₁).slice r₁ h₁).squeeze s₂ hq₂) r w Finset.univ hx hm) >>= k) :=
  fun σ => Runs.storePartK L fun X _ _ => (h _).mono fun _ _ e => e.trans (hL σ X)

end Keeps

end Quant

end
-- ==== Proof.QSafe.lean ====
/-
  The body of `KernelK`, part by part: from any contents of its buffers it ends, and leaves the key block as it was.
-/
module

public import proofs.«01_k».proof.Proof.Gen.KernelK.Skeleton
public import proofs.«01_k».proof.Proof.QState

@[expose] public section

noncomputable section

namespace Cert.Proof.QSafe

open Cert.KernelK Cert.KernelK.Gen Quant
open Idealize.ShloMosaic Idealize.ShloMosaic.TcCoe
open Idealize.SL.RA

variable {F : FTy → Type} [BitOps F]
variable {U : Type} [URA U] {c : Dev nD} {defs : Defs nD τ sig (Elt F) Λ₀} {E : Set ℕ}

theorem part1 (i : grid0.Coords) (R : Quant.Refs sig S2x2x72x128 .i32)  : Keeps St.x c R U defs E (k0_part1 i R.x R.hx R.c R.hc R.g R.hg R.d R.hd R.xt R.hxt R.ct R.hct R.u R.hu R.w R.hw R.z R.hz R.dt R.hdt ) := by
  rw [k0_part1_eq_skeleton]; unfold k0_part1_skel
  refine Keeps.load (slotX c R) fun _ => ?_
  refine Keeps.load (slotXt c R) fun _ => ?_
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotX c R) fun _ => ?_
  exact Keeps.pure _

theorem part2 (i : grid0.Coords) (R : Quant.Refs sig S2x2x72x128 .i32) (v33 : IVec S256x128 32) (v34 : IVec S256x128 32) : Keeps St.x c R U defs E (k0_part2 i R.x R.hx R.c R.hc R.g R.hg R.d R.hd R.xt R.hxt R.ct R.hct R.u R.hu R.w R.hw R.z R.hz R.dt R.hdt v33 v34) := by
  rw [k0_part2_eq_skeleton]; unfold k0_part2_skel
  refine Keeps.load (slotXt c R) fun _ => ?_
  refine Keeps.store (slotXt c R) (fun _ _ => rfl) ?_
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  exact Keeps.pure _

theorem part3 (i : grid0.Coords) (R : Quant.Refs sig S2x2x72x128 .i32) (v48 : IVec S8x256 32) (v55 : IVec S8x256 32) (v75 : FVec F S16x256 .bf16) : Keeps St.x c R U defs E (k0_part3 i R.x R.hx R.c R.hc R.g R.hg R.d R.hd R.xt R.hxt R.ct R.hct R.u R.hu R.w R.hw R.z R.hz R.dt R.hdt v48 v55 v75) := by
  rw [k0_part3_eq_skeleton]; unfold k0_part3_skel
  refine Keeps.load (slotXt c R) fun _ => ?_
  refine Keeps.load (slotXt c R) fun _ => ?_
  refine Keeps.load (slotXt c R) fun _ => ?_
  refine Keeps.loadPart (slotZ c R) fun _ => ?_
  refine Keeps.storePart (slotZ c R) (fun _ _ => rfl) ?_
  exact Keeps.pure _

theorem part4 (i : grid0.Coords) (R : Quant.Refs sig S2x2x72x128 .i32) (v62 : IVec S8x256 32) (v69 : IVec S8x256 32) (v76 : IVec S8x256 32) (v106 : IVec S8x128 32) : Keeps St.x c R U defs E (k0_part4 i R.x R.hx R.c R.hc R.g R.hg R.d R.hd R.xt R.hxt R.ct R.hct R.u R.hu R.w R.hw R.z R.hz R.dt R.hdt v62 v69 v76 v106) := by
  rw [k0_part4_eq_skeleton]; unfold k0_part4_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part5 (i : grid0.Coords) (R : Quant.Refs sig S2x2x72x128 .i32) (v83 : IVec S8x256 32) (v90 : IVec S8x256 32) (v97 : IVec S8x256 32) (v137 : IVec S8x128 32) : Keeps St.x c R U defs E (k0_part5 i R.x R.hx R.c R.hc R.g R.hg R.d R.hd R.xt R.hxt R.ct R.hct R.u R.hu R.w R.hw R.z R.hz R.dt R.hdt v83 v90 v97 v137) := by
  rw [k0_part5_eq_skeleton]; unfold k0_part5_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part6 (i : grid0.Coords) (R : Quant.Refs sig S2x2x72x128 .i32)  : Keeps St.x c R U defs E (k0_part6 i R.x R.hx R.c R.hc R.g R.hg R.d R.hd R.xt R.hxt R.ct R.hct R.u R.hu R.w R.hw R.z R.hz R.dt R.hdt ) := by
  rw [k0_part6_eq_skeleton]; unfold k0_part6_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part7 (i : grid0.Coords) (R : Quant.Refs sig S2x2x72x128 .i32) (v167 : FVec F S16x128 .bf16) (v173 : FVec F S16x128 .bf16) (v179 : FVec F S16x128 .bf16) (v185 : FVec F S16x128 .bf16) : Keeps St.x c R U defs E (k0_part7 i R.x R.hx R.c R.hc R.g R.hg R.d R.hd R.xt R.hxt R.ct R.hct R.u R.hu R.w R.hw R.z R.hz R.dt R.hdt v167 v173 v179 v185) := by
  rw [k0_part7_eq_skeleton]; unfold k0_part7_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part8 (i : grid0.Coords) (R : Quant.Refs sig S2x2x72x128 .i32) (v48 : IVec S8x256 32) (v55 : IVec S8x256 32) (v62 : IVec S8x256 32) (v69 : IVec S8x256 32) (v212 : FVec F S16x128 .bf16) (v213 : FVec F S16x128 .bf16) (v214 : FVec F S16x128 .bf16) : Keeps St.x c R U defs E (k0_part8 i R.x R.hx R.c R.hc R.g R.hg R.d R.hd R.xt R.hxt R.ct R.hct R.u R.hu R.w R.hw R.z R.hz R.dt R.hdt v48 v55 v62 v69 v212 v213 v214) := by
  rw [k0_part8_eq_skeleton]; unfold k0_part8_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part9 (i : grid0.Coords) (R : Quant.Refs sig S2x2x72x128 .i32) (v76 : IVec S8x256 32) (v83 : IVec S8x256 32) (v90 : IVec S8x256 32) (v242 : IVec S8x128 32) : Keeps St.x c R U defs E (k0_part9 i R.x R.hx R.c R.hc R.g R.hg R.d R.hd R.xt R.hxt R.ct R.hct R.u R.hu R.w R.hw R.z R.hz R.dt R.hdt v76 v83 v90 v242) := by
  rw [k0_part9_eq_skeleton]; unfold k0_part9_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part10 (i : grid0.Coords) (R : Quant.Refs sig S2x2x72x128 .i32) (v97 : IVec S8x256 32) (v266 : IVec S8x128 32) : Keeps St.x c R U defs E (k0_part10 i R.x R.hx R.c R.hc R.g R.hg R.d R.hd R.xt R.hxt R.ct R.hct R.u R.hu R.w R.hw R.z R.hz R.dt R.hdt v97 v266) := by
  rw [k0_part10_eq_skeleton]; unfold k0_part10_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.loadPart (slotZ c R) fun _ => ?_
  exact Keeps.pure _

theorem part11 (i : grid0.Coords) (R : Quant.Refs sig S2x2x72x128 .i32)  : Keeps St.x c R U defs E (k0_part11 i R.x R.hx R.c R.hc R.g R.hg R.d R.hd R.xt R.hxt R.ct R.hct R.u R.hu R.w R.hw R.z R.hz R.dt R.hdt ) := by
  rw [k0_part11_eq_skeleton]; unfold k0_part11_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part12 (i : grid0.Coords) (R : Quant.Refs sig S2x2x72x128 .i32) (v217 : IVec S8x128 32) (v287 : FVec F S16x128 .bf16) (v293 : FVec F S16x128 .bf16) (v299 : FVec F S16x128 .bf16) (v305 : FVec F S16x128 .bf16) (v311 : FVec F S16x128 .bf16) (v317 : FVec F S16x128 .bf16) : Keeps St.x c R U defs E (k0_part12 i R.x R.hx R.c R.hc R.g R.hg R.d R.hd R.xt R.hxt R.ct R.hct R.u R.hu R.w R.hw R.z R.hz R.dt R.hdt v217 v287 v293 v299 v305 v311 v317) := by
  rw [k0_part12_eq_skeleton]; unfold k0_part12_skel
  refine Keeps.loadPart (slotZ c R) fun _ => ?_
  refine Keeps.loadPart (slotZ c R) fun _ => ?_
  exact Keeps.pure _

theorem part13 (i : grid0.Coords) (R : Quant.Refs sig S2x2x72x128 .i32) (v345 : FVec F S8x256 .f32) (v355 : IVec S8x256 32) (c64_i32 : BitVec 32) : Keeps St.x c R U defs E (k0_part13 i R.x R.hx R.c R.hc R.g R.hg R.d R.hd R.xt R.hxt R.ct R.hct R.u R.hu R.w R.hw R.z R.hz R.dt R.hdt v345 v355 c64_i32) := by
  rw [k0_part13_eq_skeleton]; unfold k0_part13_skel
  exact Keeps.pure _

theorem part14 (i : grid0.Coords) (R : Quant.Refs sig S2x2x72x128 .i32) (v345 : FVec F S8x256 .f32) (v400 : IVec S8x256 32) (c2_i32 : BitVec 32) : Keeps St.x c R U defs E (k0_part14 i R.x R.hx R.c R.hc R.g R.hg R.d R.hd R.xt R.hxt R.ct R.hct R.u R.hu R.w R.hw R.z R.hz R.dt R.hdt v345 v400 c2_i32) := by
  rw [k0_part14_eq_skeleton]; unfold k0_part14_skel
  refine Keeps.load (slotU c R) fun _ => ?_
  refine Keeps.store (slotU c R) (fun _ _ => rfl) ?_
  refine Keeps.load (slotW c R) fun _ => ?_
  exact Keeps.pure _

theorem part15 (i : grid0.Coords) (R : Quant.Refs sig S2x2x72x128 .i32) (v424 : IVec S8x256 32) (v442 : IVec S8x256 32) : Keeps St.x c R U defs E (k0_part15 i R.x R.hx R.c R.hc R.g R.hg R.d R.hd R.xt R.hxt R.ct R.hct R.u R.hu R.w R.hw R.z R.hz R.dt R.hdt v424 v442) := by
  rw [k0_part15_eq_skeleton]; unfold k0_part15_skel
  refine Keeps.store (slotW c R) (fun _ _ => rfl) ?_
  refine Keeps.load (slotG c R) fun _ => ?_
  refine Keeps.store (slotG c R) (fun _ _ => rfl) ?_
  refine Keeps.load (slotG c R) fun _ => ?_
  refine Keeps.store (slotG c R) (fun _ _ => rfl) ?_
  refine Keeps.load (slotXt c R) fun _ => ?_
  refine Keeps.load (slotXt c R) fun _ => ?_
  refine Keeps.load (slotXt c R) fun _ => ?_
  refine Keeps.load (slotXt c R) fun _ => ?_
  exact Keeps.pure _

theorem part16 (i : grid0.Coords) (R : Quant.Refs sig S2x2x72x128 .i32) (v459 : IVec S8x256 32) (v466 : IVec S8x256 32) (v479 : FVec F S16x256 .bf16) : Keeps St.x c R U defs E (k0_part16 i R.x R.hx R.c R.hc R.g R.hg R.d R.hd R.xt R.hxt R.ct R.hct R.u R.hu R.w R.hw R.z R.hz R.dt R.hdt v459 v466 v479) := by
  rw [k0_part16_eq_skeleton]; unfold k0_part16_skel
  refine Keeps.load (slotXt c R) fun _ => ?_
  refine Keeps.load (slotXt c R) fun _ => ?_
  refine Keeps.load (slotXt c R) fun _ => ?_
  refine Keeps.load (slotXt c R) fun _ => ?_
  refine Keeps.loadPart (slotZ c R) fun _ => ?_
  refine Keeps.storePart (slotZ c R) (fun _ _ => rfl) ?_
  exact Keeps.pure _

theorem part17 (i : grid0.Coords) (R : Quant.Refs sig S2x2x72x128 .i32) (v473 : IVec S8x256 32) (v480 : IVec S8x256 32) (v487 : IVec S8x256 32) (v517 : IVec S8x128 32) : Keeps St.x c R U defs E (k0_part17 i R.x R.hx R.c R.hc R.g R.hg R.d R.hd R.xt R.hxt R.ct R.hct R.u R.hu R.w R.hw R.z R.hz R.dt R.hdt v473 v480 v487 v517) := by
  rw [k0_part17_eq_skeleton]; unfold k0_part17_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part18 (i : grid0.Coords) (R : Quant.Refs sig S2x2x72x128 .i32) (v494 : IVec S8x256 32) (v501 : IVec S8x256 32) (v508 : IVec S8x256 32) (v541 : IVec S8x128 32) : Keeps St.x c R U defs E (k0_part18 i R.x R.hx R.c R.hc R.g R.hg R.d R.hd R.xt R.hxt R.ct R.hct R.u R.hu R.w R.hw R.z R.hz R.dt R.hdt v494 v501 v508 v541) := by
  rw [k0_part18_eq_skeleton]; unfold k0_part18_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part19 (i : grid0.Coords) (R : Quant.Refs sig S2x2x72x128 .i32) (v565 : IVec S8x128 32) : Keeps St.x c R U defs E (k0_part19 i R.x R.hx R.c R.hc R.g R.hg R.d R.hd R.xt R.hxt R.ct R.hct R.u R.hu R.w R.hw R.z R.hz R.dt R.hdt v565) := by
  rw [k0_part19_eq_skeleton]; unfold k0_part19_skel
  refine Keeps.loadPart (slotZ c R) fun _ => ?_
  refine Keeps.storePart (slotZ c R) (fun _ _ => rfl) ?_
  refine Keeps.loadPart (slotZ c R) fun _ => ?_
  refine Keeps.loadPart (slotZ c R) fun _ => ?_
  refine Keeps.loadPart (slotZ c R) fun _ => ?_
  exact Keeps.pure _

theorem part20 (i : grid0.Coords) (R : Quant.Refs sig S2x2x72x128 .i32)  : Keeps St.x c R U defs E (k0_part20 i R.x R.hx R.c R.hc R.g R.hg R.d R.hd R.xt R.hxt R.ct R.hct R.u R.hu R.w R.hw R.z R.hz R.dt R.hdt ) := by
  rw [k0_part20_eq_skeleton]; unfold k0_part20_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part21 (i : grid0.Coords) (R : Quant.Refs sig S2x2x72x128 .i32) (v459 : IVec S8x256 32) (v466 : IVec S8x256 32) (v473 : IVec S8x256 32) (v578 : FVec F S16x128 .bf16) (v584 : FVec F S16x128 .bf16) (v590 : FVec F S16x128 .bf16) (v596 : FVec F S16x128 .bf16) (v602 : FVec F S16x128 .bf16) (v608 : FVec F S16x128 .bf16) (v614 : FVec F S16x128 .bf16) : Keeps St.x c R U defs E (k0_part21 i R.x R.hx R.c R.hc R.g R.hg R.d R.hd R.xt R.hxt R.ct R.hct R.u R.hu R.w R.hw R.z R.hz R.dt R.hdt v459 v466 v473 v578 v584 v590 v596 v602 v608 v614) := by
  rw [k0_part21_eq_skeleton]; unfold k0_part21_skel
  refine Keeps.loadPart (slotZ c R) fun _ => ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part22 (i : grid0.Coords) (R : Quant.Refs sig S2x2x72x128 .i32) (v480 : IVec S8x256 32) (v487 : IVec S8x256 32) (v494 : IVec S8x256 32) (v645 : IVec S8x128 32) : Keeps St.x c R U defs E (k0_part22 i R.x R.hx R.c R.hc R.g R.hg R.d R.hd R.xt R.hxt R.ct R.hct R.u R.hu R.w R.hw R.z R.hz R.dt R.hdt v480 v487 v494 v645) := by
  rw [k0_part22_eq_skeleton]; unfold k0_part22_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part23 (i : grid0.Coords) (R : Quant.Refs sig S2x2x72x128 .i32) (v501 : IVec S8x256 32) (v508 : IVec S8x256 32) (v676 : IVec S8x128 32) : Keeps St.x c R U defs E (k0_part23 i R.x R.hx R.c R.hc R.g R.hg R.d R.hd R.xt R.hxt R.ct R.hct R.u R.hu R.w R.hw R.z R.hz R.dt R.hdt v501 v508 v676) := by
  rw [k0_part23_eq_skeleton]; unfold k0_part23_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part24 (i : grid0.Coords) (R : Quant.Refs sig S2x2x72x128 .i32)  : Keeps St.x c R U defs E (k0_part24 i R.x R.hx R.c R.hc R.g R.hg R.d R.hd R.xt R.hxt R.ct R.hct R.u R.hu R.w R.hw R.z R.hz R.dt R.hdt ) := by
  rw [k0_part24_eq_skeleton]; unfold k0_part24_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part25 (i : grid0.Coords) (R : Quant.Refs sig S2x2x72x128 .i32) (v628 : IVec S8x128 32) (v698 : FVec F S16x128 .bf16) (v704 : FVec F S16x128 .bf16) (v710 : FVec F S16x128 .bf16) (v716 : FVec F S16x128 .bf16) (v722 : FVec F S16x128 .bf16) : Keeps St.x c R U defs E (k0_part25 i R.x R.hx R.c R.hc R.g R.hg R.d R.hd R.xt R.hxt R.ct R.hct R.u R.hu R.w R.hw R.z R.hz R.dt R.hdt v628 v698 v704 v710 v716 v722) := by
  rw [k0_part25_eq_skeleton]; unfold k0_part25_skel
  refine Keeps.loadPart (slotZ c R) fun _ => ?_
  refine Keeps.loadPart (slotZ c R) fun _ => ?_
  refine Keeps.loadPart (slotZ c R) fun _ => ?_
  exact Keeps.pure _

theorem part26 (i : grid0.Coords) (R : Quant.Refs sig S2x2x72x128 .i32) (v756 : FVec F S8x256 .f32) (v757 : IVec S8x256 32) (v759 : IVec S8x256 32) : Keeps St.x c R U defs E (k0_part26 i R.x R.hx R.c R.hc R.g R.hg R.d R.hd R.xt R.hxt R.ct R.hct R.u R.hu R.w R.hw R.z R.hz R.dt R.hdt v756 v757 v759) := by
  rw [k0_part26_eq_skeleton]; unfold k0_part26_skel
  exact Keeps.pure _

theorem part27 (i : grid0.Coords) (R : Quant.Refs sig S2x2x72x128 .i32) (v756 : FVec F S8x256 .f32) (v802 : IVec S8x256 32) (v804 : IVec S8x256 32) : Keeps St.x c R U defs E (k0_part27 i R.x R.hx R.c R.hc R.g R.hg R.d R.hd R.xt R.hxt R.ct R.hct R.u R.hu R.w R.hw R.z R.hz R.dt R.hdt v756 v802 v804) := by
  rw [k0_part27_eq_skeleton]; unfold k0_part27_skel
  refine Keeps.load (slotU c R) fun _ => ?_
  refine Keeps.store (slotU c R) (fun _ _ => rfl) ?_
  exact Keeps.pure _

theorem part28 (i : grid0.Coords) (R : Quant.Refs sig S2x2x72x128 .i32) (v835 : IVec S8x256 32) (v846 : IVec S8x256 32) : Keeps St.x c R U defs E (k0_part28 i R.x R.hx R.c R.hc R.g R.hg R.d R.hd R.xt R.hxt R.ct R.hct R.u R.hu R.w R.hw R.z R.hz R.dt R.hdt v835 v846) := by
  rw [k0_part28_eq_skeleton]; unfold k0_part28_skel
  refine Keeps.load (slotW c R) fun _ => ?_
  refine Keeps.store (slotW c R) (fun _ _ => rfl) ?_
  refine Keeps.load (slotG c R) fun _ => ?_
  refine Keeps.store (slotG c R) (fun _ _ => rfl) ?_
  refine Keeps.load (slotG c R) fun _ => ?_
  refine Keeps.store (slotG c R) (fun _ _ => rfl) ?_
  refine Keeps.load (slotXt c R) fun _ => ?_
  refine Keeps.load (slotU c R) fun _ => ?_
  refine Keeps.load (slotW c R) fun _ => ?_
  exact Keeps.pure _

theorem part29 (i : grid0.Coords) (R : Quant.Refs sig S2x2x72x128 .i32) (v877 : FVec F S32x256 .fp8e4m3) (v883 : FVec F S32x256 .bf16) : Keeps St.x c R U defs E (k0_part29 i R.x R.hx R.c R.hc R.g R.hg R.d R.hd R.xt R.hxt R.ct R.hct R.u R.hu R.w R.hw R.z R.hz R.dt R.hdt v877 v883) := by
  rw [k0_part29_eq_skeleton]; unfold k0_part29_skel
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  exact Keeps.pure _

theorem part30 (i : grid0.Coords) (R : Quant.Refs sig S2x2x72x128 .i32)  : Keeps St.x c R U defs E (k0_part30 i R.x R.hx R.c R.hc R.g R.hg R.d R.hd R.xt R.hxt R.ct R.hct R.u R.hu R.w R.hw R.z R.hz R.dt R.hdt ) := by
  rw [k0_part30_eq_skeleton]; unfold k0_part30_skel
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part31 (i : grid0.Coords) (R : Quant.Refs sig S2x2x72x128 .i32) (v954 : FVec F S32x256 .bf16) : Keeps St.x c R U defs E (k0_part31 i R.x R.hx R.c R.hc R.g R.hg R.d R.hd R.xt R.hxt R.ct R.hct R.u R.hu R.w R.hw R.z R.hz R.dt R.hdt v954) := by
  rw [k0_part31_eq_skeleton]; unfold k0_part31_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  exact Keeps.pure _

theorem part32 (i : grid0.Coords) (R : Quant.Refs sig S2x2x72x128 .i32) (v981 : FVec F S32x256 .fp8e4m3) : Keeps St.x c R U defs E (k0_part32 i R.x R.hx R.c R.hc R.g R.hg R.d R.hd R.xt R.hxt R.ct R.hct R.u R.hu R.w R.hw R.z R.hz R.dt R.hdt v981) := by
  rw [k0_part32_eq_skeleton]; unfold k0_part32_skel
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part33 (i : grid0.Coords) (R : Quant.Refs sig S2x2x72x128 .i32) (v1021 : FVec F S32x256 .bf16) (v1025 : FVec F S32x256 .bf16) : Keeps St.x c R U defs E (k0_part33 i R.x R.hx R.c R.hc R.g R.hg R.d R.hd R.xt R.hxt R.ct R.hct R.u R.hu R.w R.hw R.z R.hz R.dt R.hdt v1021 v1025) := by
  rw [k0_part33_eq_skeleton]; unfold k0_part33_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  exact Keeps.pure _

theorem part34 (i : grid0.Coords) (R : Quant.Refs sig S2x2x72x128 .i32) (v1059 : FVec F S32x256 .fp8e4m3) (v1060 : FVec F S32x256 .bf16) (v1064 : FVec F S32x256 .bf16) : Keeps St.x c R U defs E (k0_part34 i R.x R.hx R.c R.hc R.g R.hg R.d R.hd R.xt R.hxt R.ct R.hct R.u R.hu R.w R.hw R.z R.hz R.dt R.hdt v1059 v1060 v1064) := by
  rw [k0_part34_eq_skeleton]; unfold k0_part34_skel
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  exact Keeps.pure _

theorem part35 (i : grid0.Coords) (R : Quant.Refs sig S2x2x72x128 .i32)  : Keeps St.x c R U defs E (k0_part35 i R.x R.hx R.c R.hc R.g R.hg R.d R.hd R.xt R.hxt R.ct R.hct R.u R.hu R.w R.hw R.z R.hz R.dt R.hdt ) := by
  rw [k0_part35_eq_skeleton]; unfold k0_part35_skel
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part36 (i : grid0.Coords) (R : Quant.Refs sig S2x2x72x128 .i32) (v1133 : FVec F S32x256 .bf16) (v1135 : FVec F S32x256 .bf16) : Keeps St.x c R U defs E (k0_part36 i R.x R.hx R.c R.hc R.g R.hg R.d R.hd R.xt R.hxt R.ct R.hct R.u R.hu R.w R.hw R.z R.hz R.dt R.hdt v1133 v1135) := by
  rw [k0_part36_eq_skeleton]; unfold k0_part36_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  exact Keeps.pure _

theorem part37 (i : grid0.Coords) (R : Quant.Refs sig S2x2x72x128 .i32) (v1163 : FVec F S32x256 .fp8e4m3) : Keeps St.x c R U defs E (k0_part37 i R.x R.hx R.c R.hc R.g R.hg R.d R.hd R.xt R.hxt R.ct R.hct R.u R.hu R.w R.hw R.z R.hz R.dt R.hdt v1163) := by
  rw [k0_part37_eq_skeleton]; unfold k0_part37_skel
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part38 (i : grid0.Coords) (R : Quant.Refs sig S2x2x72x128 .i32) (v1203 : FVec F S32x256 .bf16) (v1206 : IVec S16x256 32) : Keeps St.x c R U defs E (k0_part38 i R.x R.hx R.c R.hc R.g R.hg R.d R.hd R.xt R.hxt R.ct R.hct R.u R.hu R.w R.hw R.z R.hz R.dt R.hdt v1203 v1206) := by
  rw [k0_part38_eq_skeleton]; unfold k0_part38_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  exact Keeps.pure _

theorem part39 (i : grid0.Coords) (R : Quant.Refs sig S2x2x72x128 .i32) (v1241 : FVec F S32x256 .fp8e4m3) (v1242 : FVec F S32x256 .bf16) (v1245 : IVec S16x256 32) : Keeps St.x c R U defs E (k0_part39 i R.x R.hx R.c R.hc R.g R.hg R.d R.hd R.xt R.hxt R.ct R.hct R.u R.hu R.w R.hw R.z R.hz R.dt R.hdt v1241 v1242 v1245) := by
  rw [k0_part39_eq_skeleton]; unfold k0_part39_skel
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  exact Keeps.pure _

theorem part40 (i : grid0.Coords) (R : Quant.Refs sig S2x2x72x128 .i32)  : Keeps St.x c R U defs E (k0_part40 i R.x R.hx R.c R.hc R.g R.hg R.d R.hd R.xt R.hxt R.ct R.hct R.u R.hu R.w R.hw R.z R.hz R.dt R.hdt ) := by
  rw [k0_part40_eq_skeleton]; unfold k0_part40_skel
  refine Keeps.load (slotCt c R) fun _ => ?_
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  refine Keeps.load (slotDt c R) fun _ => ?_
  exact Keeps.pure _

theorem part41 (i : grid0.Coords) (R : Quant.Refs sig S2x2x72x128 .i32) (v1 : BitVec 32) (v1305 : FVec F S128x256 .bf16) : Keeps St.x c R U defs E (k0_part41 i R.x R.hx R.c R.hc R.g R.hg R.d R.hd R.xt R.hxt R.ct R.hct R.u R.hu R.w R.hw R.z R.hz R.dt R.hdt v1 v1305) := by
  rw [k0_part41_eq_skeleton]; unfold k0_part41_skel
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotX c R) fun _ => ?_
  refine Keeps.load (slotXt c R) fun _ => ?_
  exact Keeps.pure _

theorem part42 (i : grid0.Coords) (R : Quant.Refs sig S2x2x72x128 .i32) (v1337 : FVec F S128x256 .bf16) : Keeps St.x c R U defs E (k0_part42 i R.x R.hx R.c R.hc R.g R.hg R.d R.hd R.xt R.hxt R.ct R.hct R.u R.hu R.w R.hw R.z R.hz R.dt R.hdt v1337) := by
  rw [k0_part42_eq_skeleton]; unfold k0_part42_skel
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotXt c R) fun _ => ?_
  exact Keeps.pure _

theorem part43 (i : grid0.Coords) (R : Quant.Refs sig S2x2x72x128 .i32) (v1374 : FVec F S32x256 .bf16) (v1375 : FVec F S16x256 .bf16) : Keeps St.x c R U defs E (k0_part43 i R.x R.hx R.c R.hc R.g R.hg R.d R.hd R.xt R.hxt R.ct R.hct R.u R.hu R.w R.hw R.z R.hz R.dt R.hdt v1374 v1375) := by
  rw [k0_part43_eq_skeleton]; unfold k0_part43_skel
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  exact Keeps.pure _

theorem part44 (i : grid0.Coords) (R : Quant.Refs sig S2x2x72x128 .i32) (v1378 : IVec S8x256 32) (v1385 : IVec S8x256 32) (v1392 : IVec S8x256 32) (v1416 : FVec F S32x256 .bf16) (v1417 : FVec F S16x256 .bf16) : Keeps St.x c R U defs E (k0_part44 i R.x R.hx R.c R.hc R.g R.hg R.d R.hd R.xt R.hxt R.ct R.hct R.u R.hu R.w R.hw R.z R.hz R.dt R.hdt v1378 v1385 v1392 v1416 v1417) := by
  rw [k0_part44_eq_skeleton]; unfold k0_part44_skel
  refine Keeps.load (slotXt c R) fun _ => ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part45 (i : grid0.Coords) (R : Quant.Refs sig S2x2x72x128 .i32) (v1399 : IVec S8x256 32) (v1406 : IVec S8x256 32) (v1413 : IVec S8x256 32) (v1444 : IVec S8x128 32) : Keeps St.x c R U defs E (k0_part45 i R.x R.hx R.c R.hc R.g R.hg R.d R.hd R.xt R.hxt R.ct R.hct R.u R.hu R.w R.hw R.z R.hz R.dt R.hdt v1399 v1406 v1413 v1444) := by
  rw [k0_part45_eq_skeleton]; unfold k0_part45_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part46 (i : grid0.Coords) (R : Quant.Refs sig S2x2x72x128 .i32) (v1420 : IVec S8x256 32) (v1427 : IVec S8x256 32) (v1475 : IVec S8x128 32) : Keeps St.x c R U defs E (k0_part46 i R.x R.hx R.c R.hc R.g R.hg R.d R.hd R.xt R.hxt R.ct R.hct R.u R.hu R.w R.hw R.z R.hz R.dt R.hdt v1420 v1427 v1475) := by
  rw [k0_part46_eq_skeleton]; unfold k0_part46_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part47 (i : grid0.Coords) (R : Quant.Refs sig S2x2x72x128 .i32)  : Keeps St.x c R U defs E (k0_part47 i R.x R.hx R.c R.hc R.g R.hg R.d R.hd R.xt R.hxt R.ct R.hct R.u R.hu R.w R.hw R.z R.hz R.dt R.hdt ) := by
  rw [k0_part47_eq_skeleton]; unfold k0_part47_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part48 (i : grid0.Coords) (R : Quant.Refs sig S2x2x72x128 .i32) (v1378 : IVec S8x256 32) (v1497 : FVec F S16x128 .bf16) (v1503 : FVec F S16x128 .bf16) (v1509 : FVec F S16x128 .bf16) (v1515 : FVec F S16x128 .bf16) (v1521 : FVec F S16x128 .bf16) : Keeps St.x c R U defs E (k0_part48 i R.x R.hx R.c R.hc R.g R.hg R.d R.hd R.xt R.hxt R.ct R.hct R.u R.hu R.w R.hw R.z R.hz R.dt R.hdt v1378 v1497 v1503 v1509 v1515 v1521) := by
  rw [k0_part48_eq_skeleton]; unfold k0_part48_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part49 (i : grid0.Coords) (R : Quant.Refs sig S2x2x72x128 .i32) (v1385 : IVec S8x256 32) (v1392 : IVec S8x256 32) (v1399 : IVec S8x256 32) (v1406 : IVec S8x256 32) (v1548 : IVec S8x128 32) (v1553 : Vec F S8x128 .i32) : Keeps St.x c R U defs E (k0_part49 i R.x R.hx R.c R.hc R.g R.hg R.d R.hd R.xt R.hxt R.ct R.hct R.u R.hu R.w R.hw R.z R.hz R.dt R.hdt v1385 v1392 v1399 v1406 v1548 v1553) := by
  rw [k0_part49_eq_skeleton]; unfold k0_part49_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part50 (i : grid0.Coords) (R : Quant.Refs sig S2x2x72x128 .i32) (v1413 : IVec S8x256 32) (v1420 : IVec S8x256 32) (v1427 : IVec S8x256 32) (v1580 : IVec S8x128 32) : Keeps St.x c R U defs E (k0_part50 i R.x R.hx R.c R.hc R.g R.hg R.d R.hd R.xt R.hxt R.ct R.hct R.u R.hu R.w R.hw R.z R.hz R.dt R.hdt v1413 v1420 v1427 v1580) := by
  rw [k0_part50_eq_skeleton]; unfold k0_part50_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part51 (i : grid0.Coords) (R : Quant.Refs sig S2x2x72x128 .i32) (v1604 : IVec S8x128 32) : Keeps St.x c R U defs E (k0_part51 i R.x R.hx R.c R.hc R.g R.hg R.d R.hd R.xt R.hxt R.ct R.hct R.u R.hu R.w R.hw R.z R.hz R.dt R.hdt v1604) := by
  rw [k0_part51_eq_skeleton]; unfold k0_part51_skel
  refine Keeps.loadPart (slotZ c R) fun _ => ?_
  refine Keeps.storePart (slotZ c R) (fun _ _ => rfl) ?_
  refine Keeps.loadPart (slotZ c R) fun _ => ?_
  refine Keeps.loadPart (slotZ c R) fun _ => ?_
  refine Keeps.loadPart (slotZ c R) fun _ => ?_
  exact Keeps.pure _

theorem part52 (i : grid0.Coords) (R : Quant.Refs sig S2x2x72x128 .i32)  : Keeps St.x c R U defs E (k0_part52 i R.x R.hx R.c R.hc R.g R.hg R.d R.hd R.xt R.hxt R.ct R.hct R.u R.hu R.w R.hw R.z R.hz R.dt R.hdt ) := by
  rw [k0_part52_eq_skeleton]; unfold k0_part52_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part53 (i : grid0.Coords) (R : Quant.Refs sig S2x2x72x128 .i32) (v1547 : IVec S8x128 32) (v1617 : FVec F S16x128 .bf16) (v1623 : FVec F S16x128 .bf16) (v1629 : FVec F S16x128 .bf16) (v1635 : FVec F S16x128 .bf16) (v1641 : FVec F S16x128 .bf16) (v1647 : FVec F S16x128 .bf16) (v1653 : FVec F S16x128 .bf16) : Keeps St.x c R U defs E (k0_part53 i R.x R.hx R.c R.hc R.g R.hg R.d R.hd R.xt R.hxt R.ct R.hct R.u R.hu R.w R.hw R.z R.hz R.dt R.hdt v1547 v1617 v1623 v1629 v1635 v1641 v1647 v1653) := by
  rw [k0_part53_eq_skeleton]; unfold k0_part53_skel
  refine Keeps.loadPart (slotZ c R) fun _ => ?_
  exact Keeps.pure _

theorem part54 (i : grid0.Coords) (R : Quant.Refs sig S2x2x72x128 .i32) (v1675 : FVec F S8x256 .f32) (v1694 : IVec S8x256 32) (v1696 : IVec S8x256 32) (v1698 : IVec S8x256 32) (c6291456_i32_1333 : BitVec 32) : Keeps St.x c R U defs E (k0_part54 i R.x R.hx R.c R.hc R.g R.hg R.d R.hd R.xt R.hxt R.ct R.hct R.u R.hu R.w R.hw R.z R.hz R.dt R.hdt v1675 v1694 v1696 v1698 c6291456_i32_1333) := by
  rw [k0_part54_eq_skeleton]; unfold k0_part54_skel
  exact Keeps.pure _

theorem part55 (i : grid0.Coords) (R : Quant.Refs sig S2x2x72x128 .i32) (v1675 : FVec F S8x256 .f32) (v1739 : IVec S8x256 32) (v1741 : IVec S8x256 32) (v1743 : IVec S8x256 32) (c6291456_i32_1348 : BitVec 32) : Keeps St.x c R U defs E (k0_part55 i R.x R.hx R.c R.hc R.g R.hg R.d R.hd R.xt R.hxt R.ct R.hct R.u R.hu R.w R.hw R.z R.hz R.dt R.hdt v1675 v1739 v1741 v1743 c6291456_i32_1348) := by
  rw [k0_part55_eq_skeleton]; unfold k0_part55_skel
  refine Keeps.load (slotU c R) fun _ => ?_
  refine Keeps.store (slotU c R) (fun _ _ => rfl) ?_
  refine Keeps.load (slotW c R) fun _ => ?_
  refine Keeps.store (slotW c R) (fun _ _ => rfl) ?_
  refine Keeps.load (slotG c R) fun _ => ?_
  refine Keeps.store (slotG c R) (fun _ _ => rfl) ?_
  refine Keeps.load (slotG c R) fun _ => ?_
  exact Keeps.pure _

theorem part56 (i : grid0.Coords) (R : Quant.Refs sig S2x2x72x128 .i32) (v1779 : IVec S4x256 8) (v1780 : Vec F S1x1x4x256 .i8) : Keeps St.x c R U defs E (k0_part56 i R.x R.hx R.c R.hc R.g R.hg R.d R.hd R.xt R.hxt R.ct R.hct R.u R.hu R.w R.hw R.z R.hz R.dt R.hdt v1779 v1780) := by
  rw [k0_part56_eq_skeleton]; unfold k0_part56_skel
  refine Keeps.store (slotG c R) (fun _ _ => rfl) ?_
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  exact Keeps.pure _

theorem part57 (i : grid0.Coords) (R : Quant.Refs sig S2x2x72x128 .i32) (v1789 : IVec S8x256 32) (v1796 : IVec S8x256 32) (v1803 : IVec S8x256 32) (v1820 : FVec F S32x256 .bf16) (v1821 : FVec F S16x256 .bf16) : Keeps St.x c R U defs E (k0_part57 i R.x R.hx R.c R.hc R.g R.hg R.d R.hd R.xt R.hxt R.ct R.hct R.u R.hu R.w R.hw R.z R.hz R.dt R.hdt v1789 v1796 v1803 v1820 v1821) := by
  rw [k0_part57_eq_skeleton]; unfold k0_part57_skel
  refine Keeps.load (slotXt c R) fun _ => ?_
  refine Keeps.load (slotXt c R) fun _ => ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part58 (i : grid0.Coords) (R : Quant.Refs sig S2x2x72x128 .i32) (v1810 : IVec S8x256 32) (v1817 : IVec S8x256 32) (v1824 : IVec S8x256 32) (v1855 : IVec S8x128 32) : Keeps St.x c R U defs E (k0_part58 i R.x R.hx R.c R.hc R.g R.hg R.d R.hd R.xt R.hxt R.ct R.hct R.u R.hu R.w R.hw R.z R.hz R.dt R.hdt v1810 v1817 v1824 v1855) := by
  rw [k0_part58_eq_skeleton]; unfold k0_part58_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part59 (i : grid0.Coords) (R : Quant.Refs sig S2x2x72x128 .i32) (v1831 : IVec S8x256 32) (v1838 : IVec S8x256 32) (v1879 : IVec S8x128 32) : Keeps St.x c R U defs E (k0_part59 i R.x R.hx R.c R.hc R.g R.hg R.d R.hd R.xt R.hxt R.ct R.hct R.u R.hu R.w R.hw R.z R.hz R.dt R.hdt v1831 v1838 v1879) := by
  rw [k0_part59_eq_skeleton]; unfold k0_part59_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part60 (i : grid0.Coords) (R : Quant.Refs sig S2x2x72x128 .i32)  : Keeps St.x c R U defs E (k0_part60 i R.x R.hx R.c R.hc R.g R.hg R.d R.hd R.xt R.hxt R.ct R.hct R.u R.hu R.w R.hw R.z R.hz R.dt R.hdt ) := by
  rw [k0_part60_eq_skeleton]; unfold k0_part60_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part61 (i : grid0.Coords) (R : Quant.Refs sig S2x2x72x128 .i32) (v1789 : IVec S8x256 32) (v1908 : FVec F S16x128 .bf16) (v1914 : FVec F S16x128 .bf16) (v1920 : FVec F S16x128 .bf16) (v1926 : FVec F S16x128 .bf16) : Keeps St.x c R U defs E (k0_part61 i R.x R.hx R.c R.hc R.g R.hg R.d R.hd R.xt R.hxt R.ct R.hct R.u R.hu R.w R.hw R.z R.hz R.dt R.hdt v1789 v1908 v1914 v1920 v1926) := by
  rw [k0_part61_eq_skeleton]; unfold k0_part61_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part62 (i : grid0.Coords) (R : Quant.Refs sig S2x2x72x128 .i32) (v1796 : IVec S8x256 32) (v1803 : IVec S8x256 32) (v1810 : IVec S8x256 32) (v1959 : IVec S8x128 32) : Keeps St.x c R U defs E (k0_part62 i R.x R.hx R.c R.hc R.g R.hg R.d R.hd R.xt R.hxt R.ct R.hct R.u R.hu R.w R.hw R.z R.hz R.dt R.hdt v1796 v1803 v1810 v1959) := by
  rw [k0_part62_eq_skeleton]; unfold k0_part62_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part63 (i : grid0.Coords) (R : Quant.Refs sig S2x2x72x128 .i32) (v1817 : IVec S8x256 32) (v1824 : IVec S8x256 32) (v1831 : IVec S8x256 32) (v1983 : IVec S8x128 32) : Keeps St.x c R U defs E (k0_part63 i R.x R.hx R.c R.hc R.g R.hg R.d R.hd R.xt R.hxt R.ct R.hct R.u R.hu R.w R.hw R.z R.hz R.dt R.hdt v1817 v1824 v1831 v1983) := by
  rw [k0_part63_eq_skeleton]; unfold k0_part63_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part64 (i : grid0.Coords) (R : Quant.Refs sig S2x2x72x128 .i32) (v1838 : IVec S8x256 32) (v2014 : IVec S8x128 32) : Keeps St.x c R U defs E (k0_part64 i R.x R.hx R.c R.hc R.g R.hg R.d R.hd R.xt R.hxt R.ct R.hct R.u R.hu R.w R.hw R.z R.hz R.dt R.hdt v1838 v2014) := by
  rw [k0_part64_eq_skeleton]; unfold k0_part64_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.loadPart (slotZ c R) fun _ => ?_
  exact Keeps.pure _

theorem part65 (i : grid0.Coords) (R : Quant.Refs sig S2x2x72x128 .i32)  : Keeps St.x c R U defs E (k0_part65 i R.x R.hx R.c R.hc R.g R.hg R.d R.hd R.xt R.hxt R.ct R.hct R.u R.hu R.w R.hw R.z R.hz R.dt R.hdt ) := by
  rw [k0_part65_eq_skeleton]; unfold k0_part65_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part66 (i : grid0.Coords) (R : Quant.Refs sig S2x2x72x128 .i32) (v1958 : IVec S8x128 32) (v2028 : FVec F S16x128 .bf16) (v2034 : FVec F S16x128 .bf16) (v2040 : FVec F S16x128 .bf16) (v2046 : FVec F S16x128 .bf16) (v2052 : FVec F S16x128 .bf16) (v2058 : FVec F S16x128 .bf16) : Keeps St.x c R U defs E (k0_part66 i R.x R.hx R.c R.hc R.g R.hg R.d R.hd R.xt R.hxt R.ct R.hct R.u R.hu R.w R.hw R.z R.hz R.dt R.hdt v1958 v2028 v2034 v2040 v2046 v2052 v2058) := by
  rw [k0_part66_eq_skeleton]; unfold k0_part66_skel
  refine Keeps.loadPart (slotZ c R) fun _ => ?_
  refine Keeps.loadPart (slotZ c R) fun _ => ?_
  exact Keeps.pure _

theorem part67 (i : grid0.Coords) (R : Quant.Refs sig S2x2x72x128 .i32) (v2086 : FVec F S8x256 .f32) (v2096 : IVec S8x256 32) (v2098 : IVec S8x256 32) (v2102 : IVec S8x256 32) : Keeps St.x c R U defs E (k0_part67 i R.x R.hx R.c R.hc R.g R.hg R.d R.hd R.xt R.hxt R.ct R.hct R.u R.hu R.w R.hw R.z R.hz R.dt R.hdt v2086 v2096 v2098 v2102) := by
  rw [k0_part67_eq_skeleton]; unfold k0_part67_skel
  exact Keeps.pure _

theorem part68 (i : grid0.Coords) (R : Quant.Refs sig S2x2x72x128 .i32) (v2086 : FVec F S8x256 .f32) (v2141 : IVec S8x256 32) (v2143 : IVec S8x256 32) (v2147 : IVec S8x256 32) : Keeps St.x c R U defs E (k0_part68 i R.x R.hx R.c R.hc R.g R.hg R.d R.hd R.xt R.hxt R.ct R.hct R.u R.hu R.w R.hw R.z R.hz R.dt R.hdt v2086 v2141 v2143 v2147) := by
  rw [k0_part68_eq_skeleton]; unfold k0_part68_skel
  refine Keeps.load (slotU c R) fun _ => ?_
  refine Keeps.store (slotU c R) (fun _ _ => rfl) ?_
  refine Keeps.load (slotW c R) fun _ => ?_
  refine Keeps.store (slotW c R) (fun _ _ => rfl) ?_
  refine Keeps.load (slotG c R) fun _ => ?_
  exact Keeps.pure _

theorem part69 (i : grid0.Coords) (R : Quant.Refs sig S2x2x72x128 .i32) (v2165 : IVec S8x256 32) (v2185 : IVec S4x256 8) (v2186 : Vec F S1x1x4x256 .i8) : Keeps St.x c R U defs E (k0_part69 i R.x R.hx R.c R.hc R.g R.hg R.d R.hd R.xt R.hxt R.ct R.hct R.u R.hu R.w R.hw R.z R.hz R.dt R.hdt v2165 v2185 v2186) := by
  rw [k0_part69_eq_skeleton]; unfold k0_part69_skel
  refine Keeps.store (slotG c R) (fun _ _ => rfl) ?_
  refine Keeps.load (slotG c R) fun _ => ?_
  refine Keeps.store (slotG c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  exact Keeps.pure _

theorem part70 (i : grid0.Coords) (R : Quant.Refs sig S2x2x72x128 .i32) (v2220 : Vec F S1x32x256 .bf16) : Keeps St.x c R U defs E (k0_part70 i R.x R.hx R.c R.hc R.g R.hg R.d R.hd R.xt R.hxt R.ct R.hct R.u R.hu R.w R.hw R.z R.hz R.dt R.hdt v2220) := by
  rw [k0_part70_eq_skeleton]; unfold k0_part70_skel
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part71 (i : grid0.Coords) (R : Quant.Refs sig S2x2x72x128 .i32) (v2259 : FVec F S32x256 .fp8e4m3) : Keeps St.x c R U defs E (k0_part71 i R.x R.hx R.c R.hc R.g R.hg R.d R.hd R.xt R.hxt R.ct R.hct R.u R.hu R.w R.hw R.z R.hz R.dt R.hdt v2259) := by
  rw [k0_part71_eq_skeleton]; unfold k0_part71_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  exact Keeps.pure _

theorem part72 (i : grid0.Coords) (R : Quant.Refs sig S2x2x72x128 .i32) (v2285 : FVec F S32x256 .fp8e4m3) : Keeps St.x c R U defs E (k0_part72 i R.x R.hx R.c R.hc R.g R.hg R.d R.hd R.xt R.hxt R.ct R.hct R.u R.hu R.w R.hw R.z R.hz R.dt R.hdt v2285) := by
  rw [k0_part72_eq_skeleton]; unfold k0_part72_skel
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part73 (i : grid0.Coords) (R : Quant.Refs sig S2x2x72x128 .i32) (v2330 : FVec F S32x256 .bf16) : Keeps St.x c R U defs E (k0_part73 i R.x R.hx R.c R.hc R.g R.hg R.d R.hd R.xt R.hxt R.ct R.hct R.u R.hu R.w R.hw R.z R.hz R.dt R.hdt v2330) := by
  rw [k0_part73_eq_skeleton]; unfold k0_part73_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  exact Keeps.pure _

theorem part74 (i : grid0.Coords) (R : Quant.Refs sig S2x2x72x128 .i32) (v2363 : FVec F S32x256 .fp8e4m3) (v2369 : FVec F S32x256 .bf16) : Keeps St.x c R U defs E (k0_part74 i R.x R.hx R.c R.hc R.g R.hg R.d R.hd R.xt R.hxt R.ct R.hct R.u R.hu R.w R.hw R.z R.hz R.dt R.hdt v2363 v2369) := by
  rw [k0_part74_eq_skeleton]; unfold k0_part74_skel
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  exact Keeps.pure _

theorem part75 (i : grid0.Coords) (R : Quant.Refs sig S2x2x72x128 .i32)  : Keeps St.x c R U defs E (k0_part75 i R.x R.hx R.c R.hc R.g R.hg R.d R.hd R.xt R.hxt R.ct R.hct R.u R.hu R.w R.hw R.z R.hz R.dt R.hdt ) := by
  rw [k0_part75_eq_skeleton]; unfold k0_part75_skel
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part76 (i : grid0.Coords) (R : Quant.Refs sig S2x2x72x128 .i32) (v2440 : FVec F S32x256 .bf16) : Keeps St.x c R U defs E (k0_part76 i R.x R.hx R.c R.hc R.g R.hg R.d R.hd R.xt R.hxt R.ct R.hct R.u R.hu R.w R.hw R.z R.hz R.dt R.hdt v2440) := by
  rw [k0_part76_eq_skeleton]; unfold k0_part76_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  exact Keeps.pure _

theorem part77 (i : grid0.Coords) (R : Quant.Refs sig S2x2x72x128 .i32) (v2467 : FVec F S32x256 .fp8e4m3) : Keeps St.x c R U defs E (k0_part77 i R.x R.hx R.c R.hc R.g R.hg R.d R.hd R.xt R.hxt R.ct R.hct R.u R.hu R.w R.hw R.z R.hz R.dt R.hdt v2467) := by
  rw [k0_part77_eq_skeleton]; unfold k0_part77_skel
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part78 (i : grid0.Coords) (R : Quant.Refs sig S2x2x72x128 .i32) (v2507 : FVec F S32x256 .bf16) (v2511 : FVec F S32x256 .bf16) : Keeps St.x c R U defs E (k0_part78 i R.x R.hx R.c R.hc R.g R.hg R.d R.hd R.xt R.hxt R.ct R.hct R.u R.hu R.w R.hw R.z R.hz R.dt R.hdt v2507 v2511) := by
  rw [k0_part78_eq_skeleton]; unfold k0_part78_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  exact Keeps.pure _

theorem part79 (i : grid0.Coords) (R : Quant.Refs sig S2x2x72x128 .i32) (v2545 : FVec F S32x256 .fp8e4m3) (v2546 : FVec F S32x256 .bf16) (v2550 : FVec F S32x256 .bf16) : Keeps St.x c R U defs E (k0_part79 i R.x R.hx R.c R.hc R.g R.hg R.d R.hd R.xt R.hxt R.ct R.hct R.u R.hu R.w R.hw R.z R.hz R.dt R.hdt v2545 v2546 v2550) := by
  rw [k0_part79_eq_skeleton]; unfold k0_part79_skel
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  exact Keeps.pure _

theorem part80 (i : grid0.Coords) (R : Quant.Refs sig S2x2x72x128 .i32)  : Keeps St.x c R U defs E (k0_part80 i R.x R.hx R.c R.hc R.g R.hg R.d R.hd R.xt R.hxt R.ct R.hct R.u R.hu R.w R.hw R.z R.hz R.dt R.hdt ) := by
  rw [k0_part80_eq_skeleton]; unfold k0_part80_skel
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotCt c R) fun _ => ?_
  refine Keeps.load (slotC c R) fun _ => ?_
  refine Keeps.storeSub (slotC c R) (fun _ _ => rfl) ?_
  refine Keeps.load (slotCt c R) fun _ => ?_
  exact Keeps.pure _

theorem part81 (i : grid0.Coords) (R : Quant.Refs sig S2x2x72x128 .i32) (v1 : BitVec 32) (v2617 : FVec F S128x256 .fp8e4m3) : Keeps St.x c R U defs E (k0_part81 i R.x R.hx R.c R.hc R.g R.hg R.d R.hd R.xt R.hxt R.ct R.hct R.u R.hu R.w R.hw R.z R.hz R.dt R.hdt v1 v2617) := by
  rw [k0_part81_eq_skeleton]; unfold k0_part81_skel
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  exact Keeps.pure _

theorem part82 (i : grid0.Coords) (R : Quant.Refs sig S2x2x72x128 .i32)  : Keeps St.x c R U defs E (k0_part82 i R.x R.hx R.c R.hc R.g R.hg R.d R.hd R.xt R.hxt R.ct R.hct R.u R.hu R.w R.hw R.z R.hz R.dt R.hdt ) := by
  rw [k0_part82_eq_skeleton]; unfold k0_part82_skel
  refine Keeps.bind (part1 i R) fun _ => ?_
  refine Keeps.bind (part2 i R _ _) fun _ => ?_
  refine Keeps.bind (part3 i R _ _ _) fun _ => ?_
  refine Keeps.bind (part4 i R _ _ _ _) fun _ => ?_
  refine Keeps.bind (part5 i R _ _ _ _) fun _ => ?_
  refine Keeps.bind (part6 i R) fun _ => ?_
  refine Keeps.bind (part7 i R _ _ _ _) fun _ => ?_
  refine Keeps.bind (part8 i R _ _ _ _ _ _ _) fun _ => ?_
  refine Keeps.bind (part9 i R _ _ _ _) fun _ => ?_
  refine Keeps.bind (part10 i R _ _) fun _ => ?_
  refine Keeps.bind (part11 i R) fun _ => ?_
  refine Keeps.bind (part12 i R _ _ _ _ _ _ _) fun _ => ?_
  refine Keeps.bind (part13 i R _ _ _) fun _ => ?_
  refine Keeps.bind (part14 i R _ _ _) fun _ => ?_
  refine Keeps.bind (part15 i R _ _) fun _ => ?_
  refine Keeps.bind (part16 i R _ _ _) fun _ => ?_
  refine Keeps.bind (part17 i R _ _ _ _) fun _ => ?_
  refine Keeps.bind (part18 i R _ _ _ _) fun _ => ?_
  refine Keeps.bind (part19 i R _) fun _ => ?_
  refine Keeps.bind (part20 i R) fun _ => ?_
  refine Keeps.bind (part21 i R _ _ _ _ _ _ _ _ _ _) fun _ => ?_
  refine Keeps.bind (part22 i R _ _ _ _) fun _ => ?_
  refine Keeps.bind (part23 i R _ _ _) fun _ => ?_
  refine Keeps.bind (part24 i R) fun _ => ?_
  refine Keeps.bind (part25 i R _ _ _ _ _ _) fun _ => ?_
  refine Keeps.bind (part26 i R _ _ _) fun _ => ?_
  refine Keeps.bind (part27 i R _ _ _) fun _ => ?_
  refine Keeps.bind (part28 i R _ _) fun _ => ?_
  refine Keeps.bind (part29 i R _ _) fun _ => ?_
  refine Keeps.bind (part30 i R) fun _ => ?_
  refine Keeps.bind (part31 i R _) fun _ => ?_
  refine Keeps.bind (part32 i R _) fun _ => ?_
  refine Keeps.bind (part33 i R _ _) fun _ => ?_
  refine Keeps.bind (part34 i R _ _ _) fun _ => ?_
  refine Keeps.bind (part35 i R) fun _ => ?_
  refine Keeps.bind (part36 i R _ _) fun _ => ?_
  refine Keeps.bind (part37 i R _) fun _ => ?_
  refine Keeps.bind (part38 i R _ _) fun _ => ?_
  refine Keeps.bind (part39 i R _ _ _) fun _ => ?_
  refine Keeps.bind (part40 i R) fun _ => ?_
  refine Keeps.bind (part41 i R _ _) fun _ => ?_
  refine Keeps.bind (part42 i R _) fun _ => ?_
  refine Keeps.bind (part43 i R _ _) fun _ => ?_
  refine Keeps.bind (part44 i R _ _ _ _ _) fun _ => ?_
  refine Keeps.bind (part45 i R _ _ _ _) fun _ => ?_
  refine Keeps.bind (part46 i R _ _ _) fun _ => ?_
  refine Keeps.bind (part47 i R) fun _ => ?_
  refine Keeps.bind (part48 i R _ _ _ _ _ _) fun _ => ?_
  refine Keeps.bind (part49 i R _ _ _ _ _ _) fun _ => ?_
  refine Keeps.bind (part50 i R _ _ _ _) fun _ => ?_
  refine Keeps.bind (part51 i R _) fun _ => ?_
  refine Keeps.bind (part52 i R) fun _ => ?_
  refine Keeps.bind (part53 i R _ _ _ _ _ _ _ _) fun _ => ?_
  refine Keeps.bind (part54 i R _ _ _ _ _) fun _ => ?_
  refine Keeps.bind (part55 i R _ _ _ _ _) fun _ => ?_
  refine Keeps.bind (part56 i R _ _) fun _ => ?_
  refine Keeps.bind (part57 i R _ _ _ _ _) fun _ => ?_
  refine Keeps.bind (part58 i R _ _ _ _) fun _ => ?_
  refine Keeps.bind (part59 i R _ _ _) fun _ => ?_
  refine Keeps.bind (part60 i R) fun _ => ?_
  exact Keeps.pure _

theorem body (i : grid0.Coords) (R : Quant.Refs sig S2x2x72x128 .i32)  : Keeps St.x c R U defs E (cc0__kernel_k i R.x R.hx R.c R.hc R.g R.hg R.d R.hd R.xt R.hxt R.ct R.hct R.u R.hu R.w R.hw R.z R.hz R.dt R.hdt ) := by
  rw [cc0__kernel_k_eq_skeleton]; unfold cc0__kernel_k_skel
  refine Keeps.bind (part82 i R) fun _ => ?_
  refine Keeps.bind (part61 i R _ _ _ _ _) fun _ => ?_
  refine Keeps.bind (part62 i R _ _ _ _) fun _ => ?_
  refine Keeps.bind (part63 i R _ _ _ _) fun _ => ?_
  refine Keeps.bind (part64 i R _ _) fun _ => ?_
  refine Keeps.bind (part65 i R) fun _ => ?_
  refine Keeps.bind (part66 i R _ _ _ _ _ _ _) fun _ => ?_
  refine Keeps.bind (part67 i R _ _ _ _) fun _ => ?_
  refine Keeps.bind (part68 i R _ _ _ _) fun _ => ?_
  refine Keeps.bind (part69 i R _ _ _) fun _ => ?_
  refine Keeps.bind (part70 i R _) fun _ => ?_
  refine Keeps.bind (part71 i R _) fun _ => ?_
  refine Keeps.bind (part72 i R _) fun _ => ?_
  refine Keeps.bind (part73 i R _) fun _ => ?_
  refine Keeps.bind (part74 i R _ _) fun _ => ?_
  refine Keeps.bind (part75 i R) fun _ => ?_
  refine Keeps.bind (part76 i R _) fun _ => ?_
  refine Keeps.bind (part77 i R _) fun _ => ?_
  refine Keeps.bind (part78 i R _ _) fun _ => ?_
  refine Keeps.bind (part79 i R _ _ _) fun _ => ?_
  refine Keeps.bind (part80 i R) fun _ => ?_
  refine Keeps.bind (part81 i R _ _) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  exact Keeps.pure _

end Cert.Proof.QSafe

end
-- ==== Proof.FrameQK.lean ====
/-
  The frame of `KernelK`: its body, run from any contents of its buffers, ends, and leaves the key block as it was.
-/
module

public import proofs.«01_k».proof.Proof.Gen.KernelK.Frame
public import proofs.«01_k».proof.Proof.QSafe

@[expose] public section

noncomputable section

namespace Cert.Proof.FrameQK

open Cert.KernelK Cert.KernelK.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Everything the body leaves is forgotten but the input block. -/
def forgets : Fin cfg0.W → Bool := fun w => w.val != 0

/-- The proof data: the input's buffer at its block, nothing said of the outputs or the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-- The buffers the body works on at point `t`. -/
abbrev refsAt (t : Fin cfg0.N) : Quant.Refs sig S2x2x72x128 .i32 :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2),
    Memref.whole cc0_scratch0, Memref.isWhole_whole _, Memref.whole cc0_scratch1, Memref.isWhole_whole _, Memref.whole cc0_scratch2, Memref.isWhole_whole _,
    Memref.whole cc0_scratch3, Memref.isWhole_whole _, Memref.whole cc0_scratch4, Memref.isWhole_whole _, Memref.whole cc0_scratch5, Memref.isWhole_whole _,
    Memref.whole cc0_scratch6, Memref.isWhole_whole _⟩

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare d)
    ∗ (∃ d, owns (c : Thread nD τ) (st0_2 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare d)
    ∗ (∃ d, owns (c : Thread nD τ) (st0_2 t) fullShare d))

/-- The body at any point, from any contents of the outputs' buffers and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0]
  rw [show (dats m 0 c).Φ t.succ = (dats m 0 c).Φ t.castSucc from rfl,
    show (dats m 0 c).owesAt () t.succ = (dats m 0 c).owesAt () t.castSucc from rfl, after0_0]
  rw [show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩⟩, HP⟩, Ho, ⟨%d0, H0⟩, ⟨%d1, H1⟩, ⟨%d2, H2⟩⟩
  iapply (QSafe.body (c := c) (U := UR sig nD τ) (defs := defs₀) (E := Set.univ) (grid0.coords t) (refsAt t)
    ⟨iblk m c 0 t, d1, d2, f0, f1, f2, f3, f4, f5, f6⟩ _)
  unfold Quant.own
  isplitl [S0 S1 S2 S3 S4 S5 S6 H0 H1 H2]
  · isplitl [H0]; · iexact H0
    isplitl [H1]; · iexact H1
    isplitl [H2]; · iexact H2
    isplitl [S0]; · rw [← owns_whole]; exact BIBase.Entails.rfl
    isplitl [S1]; · rw [← owns_whole]; exact BIBase.Entails.rfl
    isplitl [S2]; · rw [← owns_whole]; exact BIBase.Entails.rfl
    isplitl [S3]; · rw [← owns_whole]; exact BIBase.Entails.rfl
    isplitl [S4]; · rw [← owns_whole]; exact BIBase.Entails.rfl
    isplitl [S5]; · rw [← owns_whole]; exact BIBase.Entails.rfl
    rw [← owns_whole]; exact BIBase.Entails.rfl
  iintro %σ' %a %e ⟨H0, H1, H2, S0, S1, S2, S3, S4, S5, S6⟩
  rw [show σ'.x = iblk m c 0 t from e]
  isplitl [S0 S1 S2 S3 S4 S5 S6 HP]
  · isplitr [HP]
    · isplitl [S0]; · iexists σ'.d; rw [← owns_whole]; exact BIBase.Entails.rfl
      isplitl [S1]; · iexists σ'.xt; rw [← owns_whole]; exact BIBase.Entails.rfl
      isplitl [S2]; · iexists σ'.ct; rw [← owns_whole]; exact BIBase.Entails.rfl
      isplitl [S3]; · iexists σ'.u; rw [← owns_whole]; exact BIBase.Entails.rfl
      isplitl [S4]; · iexists σ'.w; rw [← owns_whole]; exact BIBase.Entails.rfl
      isplitl [S5]; · iexists σ'.z; rw [← owns_whole]; exact BIBase.Entails.rfl
      iexists σ'.dt; rw [← owns_whole]; exact BIBase.Entails.rfl
    iexact HP
  isplitl [Ho]; · iexact Ho
  isplitl [H0]; · iexact H0
  isplitl [H1]; · iexists σ'.c; iexact H1
  iexists σ'.g; iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

/-- The host line after the call writes its own result only. -/
theorem writes_last : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  exact Finset.mem_singleton.2 (Proc.devRef_injective (τ := τ) _ hb)

set_option backward.isDefEq.respectTransparency.types false in
theorem run_main :
    θ_run (defs (F := F)) (onTc (τ := τ) (main (F := F))) ⟨m, fun _ => 0, ρ⟩
      (fun r => Pipeline.RDat.FramePostR (cfgs 0) (fun c => (dats m 0 c).toRForget forgets) {main_v1} (V m) r ∧ r.2.sem = fun _ => 0) :=
  Pipeline.θ_run_frame_around_T_forget (Q' := _) cfgs (dats m) (0 : Fin 1) launch0 defs₀ Variants.none forgets {main_v1} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_last) (hmain := hmain m Variants.none) (hA := A_eq m) (hΦ := fun _ _ => rfl)

/-- The call ends, leaves its argument as it was, and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run (defs (F := F)) _ _).mono (fun _ ⟨h, hz⟩ => ⟨fun c =>
    (Pipeline.RDat.FramePostR.arr_in h c 0 rfl).trans ((A_eq m c 0).trans (V_main_arg0 m c)), hz⟩) (run_main m ρ)

end Cert.Proof.FrameQK

end
-- ==== Proof.QSafeI.lean ====
/-
  The body of `KernelKIdeal`, part by part: from any contents of its buffers it ends, and leaves the key block as it was.
-/
module

public import proofs.«01_k».proof.Proof.Gen.KernelKIdeal.Skeleton
public import proofs.«01_k».proof.Proof.QState

@[expose] public section

noncomputable section

namespace Cert.Proof.QSafeI

open Cert.KernelKIdeal Cert.KernelKIdeal.Gen Quant
open Idealize.ShloMosaic Idealize.ShloMosaic.TcCoe
open Idealize.SL.RA

variable {F : FTy → Type} [FloatOps F]
variable {U : Type} [URA U] {c : Dev nD} {defs : Defs nD τ sig (Elt F) Λ₀} {E : Set ℕ}

theorem part1 (i : grid0.Coords) (R : Quant.Refs sig S2x2x72x2x128 .bf16)  : Keeps St.x c R U defs E (k0_part1 i R.x R.hx R.c R.hc R.g R.hg R.d R.hd R.xt R.hxt R.ct R.hct R.u R.hu R.w R.hw R.z R.hz R.dt R.hdt ) := by
  rw [k0_part1_eq_skeleton]; unfold k0_part1_skel
  refine Keeps.load (slotX c R) fun _ => ?_
  refine Keeps.load (slotXt c R) fun _ => ?_
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotX c R) fun _ => ?_
  exact Keeps.pure _

theorem part2 (i : grid0.Coords) (R : Quant.Refs sig S2x2x72x2x128 .bf16) (v33_hi : FVec F S256x128 .bf16) : Keeps St.x c R U defs E (k0_part2 i R.x R.hx R.c R.hc R.g R.hg R.d R.hd R.xt R.hxt R.ct R.hct R.u R.hu R.w R.hw R.z R.hz R.dt R.hdt v33_hi) := by
  rw [k0_part2_eq_skeleton]; unfold k0_part2_skel
  refine Keeps.load (slotXt c R) fun _ => ?_
  refine Keeps.store (slotXt c R) (fun _ _ => rfl) ?_
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  exact Keeps.pure _

theorem part3 (i : grid0.Coords) (R : Quant.Refs sig S2x2x72x2x128 .bf16) (v48_lo : FVec F S8x256 .bf16) (v48_hi : FVec F S8x256 .bf16) (v72 : FVec F S32x256 .bf16) (v73 : FVec F S16x256 .bf16) : Keeps St.x c R U defs E (k0_part3 i R.x R.hx R.c R.hc R.g R.hg R.d R.hd R.xt R.hxt R.ct R.hct R.u R.hu R.w R.hw R.z R.hz R.dt R.hdt v48_lo v48_hi v72 v73) := by
  rw [k0_part3_eq_skeleton]; unfold k0_part3_skel
  refine Keeps.load (slotXt c R) fun _ => ?_
  refine Keeps.load (slotXt c R) fun _ => ?_
  refine Keeps.load (slotXt c R) fun _ => ?_
  refine Keeps.loadPart (slotZ c R) fun _ => ?_
  exact Keeps.pure _

theorem part4 (i : grid0.Coords) (R : Quant.Refs sig S2x2x72x2x128 .bf16) (v55_lo : FVec F S8x256 .bf16) (v55_hi : FVec F S8x256 .bf16) (v62_lo : FVec F S8x256 .bf16) (v62_hi : FVec F S8x256 .bf16) (v69_lo : FVec F S8x256 .bf16) (v69_hi : FVec F S8x256 .bf16) (k0_w1 : Vec F S8x2x128 .bf16) : Keeps St.x c R U defs E (k0_part4 i R.x R.hx R.c R.hc R.g R.hg R.d R.hd R.xt R.hxt R.ct R.hct R.u R.hu R.w R.hw R.z R.hz R.dt R.hdt v55_lo v55_hi v62_lo v62_hi v69_lo v69_hi k0_w1) := by
  rw [k0_part4_eq_skeleton]; unfold k0_part4_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part5 (i : grid0.Coords) (R : Quant.Refs sig S2x2x72x2x128 .bf16) (v76_lo : FVec F S8x256 .bf16) (v76_hi : FVec F S8x256 .bf16) (v83_lo : FVec F S8x256 .bf16) (v83_hi : FVec F S8x256 .bf16) (v122_lo : FVec F S8x128 .bf16) (v122_hi : FVec F S8x128 .bf16) : Keeps St.x c R U defs E (k0_part5 i R.x R.hx R.c R.hc R.g R.hg R.d R.hd R.xt R.hxt R.ct R.hct R.u R.hu R.w R.hw R.z R.hz R.dt R.hdt v76_lo v76_hi v83_lo v83_hi v122_lo v122_hi) := by
  rw [k0_part5_eq_skeleton]; unfold k0_part5_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part6 (i : grid0.Coords) (R : Quant.Refs sig S2x2x72x2x128 .bf16) (v90_lo : FVec F S8x256 .bf16) (v90_hi : FVec F S8x256 .bf16) (v97_lo : FVec F S8x256 .bf16) (v97_hi : FVec F S8x256 .bf16) (k0_w6 : Vec F S8x2x128 .bf16) : Keeps St.x c R U defs E (k0_part6 i R.x R.hx R.c R.hc R.g R.hg R.d R.hd R.xt R.hxt R.ct R.hct R.u R.hu R.w R.hw R.z R.hz R.dt R.hdt v90_lo v90_hi v97_lo v97_hi k0_w6) := by
  rw [k0_part6_eq_skeleton]; unfold k0_part6_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part7 (i : grid0.Coords) (R : Quant.Refs sig S2x2x72x2x128 .bf16)  : Keeps St.x c R U defs E (k0_part7 i R.x R.hx R.c R.hc R.g R.hg R.d R.hd R.xt R.hxt R.ct R.hct R.u R.hu R.w R.hw R.z R.hz R.dt R.hdt ) := by
  rw [k0_part7_eq_skeleton]; unfold k0_part7_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part8 (i : grid0.Coords) (R : Quant.Refs sig S2x2x72x2x128 .bf16)  : Keeps St.x c R U defs E (k0_part8 i R.x R.hx R.c R.hc R.g R.hg R.d R.hd R.xt R.hxt R.ct R.hct R.u R.hu R.w R.hw R.z R.hz R.dt R.hdt ) := by
  rw [k0_part8_eq_skeleton]; unfold k0_part8_skel
  refine Keeps.loadPart (slotZ c R) fun _ => ?_
  refine Keeps.loadPart (slotZ c R) fun _ => ?_
  refine Keeps.loadPart (slotZ c R) fun _ => ?_
  exact Keeps.pure _

theorem part9 (i : grid0.Coords) (R : Quant.Refs sig S2x2x72x2x128 .bf16) (v48_lo : FVec F S8x256 .bf16) (v48_hi : FVec F S8x256 .bf16) (v55_lo : FVec F S8x256 .bf16) (v55_hi : FVec F S8x256 .bf16) (v167 : FVec F S16x128 .bf16) (v173 : FVec F S16x128 .bf16) (v179 : FVec F S16x128 .bf16) (v185 : FVec F S16x128 .bf16) (v191 : FVec F S16x128 .bf16) (v197 : FVec F S16x128 .bf16) (v203 : FVec F S16x128 .bf16) : Keeps St.x c R U defs E (k0_part9 i R.x R.hx R.c R.hc R.g R.hg R.d R.hd R.xt R.hxt R.ct R.hct R.u R.hu R.w R.hw R.z R.hz R.dt R.hdt v48_lo v48_hi v55_lo v55_hi v167 v173 v179 v185 v191 v197 v203) := by
  rw [k0_part9_eq_skeleton]; unfold k0_part9_skel
  refine Keeps.loadPart (slotZ c R) fun _ => ?_
  refine Keeps.loadPart (slotZ c R) fun _ => ?_
  refine Keeps.storePart (slotZ c R) (fun _ _ => rfl) ?_
  refine Keeps.loadPart (slotZ c R) fun _ => ?_
  exact Keeps.pure _

theorem part10 (i : grid0.Coords) (R : Quant.Refs sig S2x2x72x2x128 .bf16) (v62_lo : FVec F S8x256 .bf16) (v62_hi : FVec F S8x256 .bf16) (v69_lo : FVec F S8x256 .bf16) (v69_hi : FVec F S8x256 .bf16) (v76_lo : FVec F S8x256 .bf16) (v76_hi : FVec F S8x256 .bf16) (v233_lo : FVec F S8x128 .bf16) (v233_hi : FVec F S8x128 .bf16) : Keeps St.x c R U defs E (k0_part10 i R.x R.hx R.c R.hc R.g R.hg R.d R.hd R.xt R.hxt R.ct R.hct R.u R.hu R.w R.hw R.z R.hz R.dt R.hdt v62_lo v62_hi v69_lo v69_hi v76_lo v76_hi v233_lo v233_hi) := by
  rw [k0_part10_eq_skeleton]; unfold k0_part10_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part11 (i : grid0.Coords) (R : Quant.Refs sig S2x2x72x2x128 .bf16) (v83_lo : FVec F S8x256 .bf16) (v83_hi : FVec F S8x256 .bf16) (v90_lo : FVec F S8x256 .bf16) (v90_hi : FVec F S8x256 .bf16) (v250_lo : FVec F S8x128 .bf16) (v250_hi : FVec F S8x128 .bf16) : Keeps St.x c R U defs E (k0_part11 i R.x R.hx R.c R.hc R.g R.hg R.d R.hd R.xt R.hxt R.ct R.hct R.u R.hu R.w R.hw R.z R.hz R.dt R.hdt v83_lo v83_hi v90_lo v90_hi v250_lo v250_hi) := by
  rw [k0_part11_eq_skeleton]; unfold k0_part11_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part12 (i : grid0.Coords) (R : Quant.Refs sig S2x2x72x2x128 .bf16) (v97_lo : FVec F S8x256 .bf16) (v97_hi : FVec F S8x256 .bf16) (v273_lo : FVec F S8x128 .bf16) (v273_hi : FVec F S8x128 .bf16) : Keeps St.x c R U defs E (k0_part12 i R.x R.hx R.c R.hc R.g R.hg R.d R.hd R.xt R.hxt R.ct R.hct R.u R.hu R.w R.hw R.z R.hz R.dt R.hdt v97_lo v97_hi v273_lo v273_hi) := by
  rw [k0_part12_eq_skeleton]; unfold k0_part12_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.loadPart (slotZ c R) fun _ => ?_
  exact Keeps.pure _

theorem part13 (i : grid0.Coords) (R : Quant.Refs sig S2x2x72x2x128 .bf16)  : Keeps St.x c R U defs E (k0_part13 i R.x R.hx R.c R.hc R.g R.hg R.d R.hd R.xt R.hxt R.ct R.hct R.u R.hu R.w R.hw R.z R.hz R.dt R.hdt ) := by
  rw [k0_part13_eq_skeleton]; unfold k0_part13_skel
  refine Keeps.loadPart (slotZ c R) fun _ => ?_
  refine Keeps.loadPart (slotZ c R) fun _ => ?_
  refine Keeps.loadPart (slotZ c R) fun _ => ?_
  exact Keeps.pure _

theorem part14 (i : grid0.Coords) (R : Quant.Refs sig S2x2x72x2x128 .bf16) (v217_lo : FVec F S8x128 .bf16) (v217_hi : FVec F S8x128 .bf16) (v287 : FVec F S16x128 .bf16) (v293 : FVec F S16x128 .bf16) (v299 : FVec F S16x128 .bf16) (v305 : FVec F S16x128 .bf16) (v311 : FVec F S16x128 .bf16) : Keeps St.x c R U defs E (k0_part14 i R.x R.hx R.c R.hc R.g R.hg R.d R.hd R.xt R.hxt R.ct R.hct R.u R.hu R.w R.hw R.z R.hz R.dt R.hdt v217_lo v217_hi v287 v293 v299 v305 v311) := by
  rw [k0_part14_eq_skeleton]; unfold k0_part14_skel
  refine Keeps.loadPart (slotZ c R) fun _ => ?_
  refine Keeps.loadPart (slotZ c R) fun _ => ?_
  refine Keeps.loadPart (slotZ c R) fun _ => ?_
  exact Keeps.pure _

theorem part15 (i : grid0.Coords) (R : Quant.Refs sig S2x2x72x2x128 .bf16) (v345 : FVec F S8x256 .f32) : Keeps St.x c R U defs E (k0_part15 i R.x R.hx R.c R.hc R.g R.hg R.d R.hd R.xt R.hxt R.ct R.hct R.u R.hu R.w R.hw R.z R.hz R.dt R.hdt v345) := by
  rw [k0_part15_eq_skeleton]; unfold k0_part15_skel
  exact Keeps.pure _

theorem part16 (i : grid0.Coords) (R : Quant.Refs sig S2x2x72x2x128 .bf16) (v345 : FVec F S8x256 .f32) (v382 : IVec S8x256 32) (v384 : IVec S8x256 32) (v389 : FVec F S8x256 .f32) : Keeps St.x c R U defs E (k0_part16 i R.x R.hx R.c R.hc R.g R.hg R.d R.hd R.xt R.hxt R.ct R.hct R.u R.hu R.w R.hw R.z R.hz R.dt R.hdt v345 v382 v384 v389) := by
  rw [k0_part16_eq_skeleton]; unfold k0_part16_skel
  refine Keeps.load (slotU c R) fun _ => ?_
  exact Keeps.pure _

theorem part17 (i : grid0.Coords) (R : Quant.Refs sig S2x2x72x2x128 .bf16) (v424 : IVec S8x256 32) (v431 : IVec S8x256 32) (v432 : Vec F S8x256 .i32) : Keeps St.x c R U defs E (k0_part17 i R.x R.hx R.c R.hc R.g R.hg R.d R.hd R.xt R.hxt R.ct R.hct R.u R.hu R.w R.hw R.z R.hz R.dt R.hdt v424 v431 v432) := by
  rw [k0_part17_eq_skeleton]; unfold k0_part17_skel
  refine Keeps.store (slotU c R) (fun _ _ => rfl) ?_
  refine Keeps.load (slotW c R) fun _ => ?_
  refine Keeps.store (slotW c R) (fun _ _ => rfl) ?_
  refine Keeps.load (slotG c R) fun _ => ?_
  refine Keeps.store (slotG c R) (fun _ _ => rfl) ?_
  refine Keeps.load (slotG c R) fun _ => ?_
  refine Keeps.store (slotG c R) (fun _ _ => rfl) ?_
  refine Keeps.load (slotXt c R) fun _ => ?_
  refine Keeps.load (slotXt c R) fun _ => ?_
  exact Keeps.pure _

theorem part18 (i : grid0.Coords) (R : Quant.Refs sig S2x2x72x2x128 .bf16)  : Keeps St.x c R U defs E (k0_part18 i R.x R.hx R.c R.hc R.g R.hg R.d R.hd R.xt R.hxt R.ct R.hct R.u R.hu R.w R.hw R.z R.hz R.dt R.hdt ) := by
  rw [k0_part18_eq_skeleton]; unfold k0_part18_skel
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  exact Keeps.pure _

theorem part19 (i : grid0.Coords) (R : Quant.Refs sig S2x2x72x2x128 .bf16) (v459_lo : FVec F S8x256 .bf16) (v459_hi : FVec F S8x256 .bf16) (v466_lo : FVec F S8x256 .bf16) (v466_hi : FVec F S8x256 .bf16) (v473_lo : FVec F S8x256 .bf16) (v473_hi : FVec F S8x256 .bf16) (v504 : FVec F S32x256 .bf16) (v505 : FVec F S16x256 .bf16) : Keeps St.x c R U defs E (k0_part19 i R.x R.hx R.c R.hc R.g R.hg R.d R.hd R.xt R.hxt R.ct R.hct R.u R.hu R.w R.hw R.z R.hz R.dt R.hdt v459_lo v459_hi v466_lo v466_hi v473_lo v473_hi v504 v505) := by
  rw [k0_part19_eq_skeleton]; unfold k0_part19_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part20 (i : grid0.Coords) (R : Quant.Refs sig S2x2x72x2x128 .bf16) (v480_lo : FVec F S8x256 .bf16) (v480_hi : FVec F S8x256 .bf16) (v487_lo : FVec F S8x256 .bf16) (v487_hi : FVec F S8x256 .bf16) (v525_lo : FVec F S8x128 .bf16) (v525_hi : FVec F S8x128 .bf16) : Keeps St.x c R U defs E (k0_part20 i R.x R.hx R.c R.hc R.g R.hg R.d R.hd R.xt R.hxt R.ct R.hct R.u R.hu R.w R.hw R.z R.hz R.dt R.hdt v480_lo v480_hi v487_lo v487_hi v525_lo v525_hi) := by
  rw [k0_part20_eq_skeleton]; unfold k0_part20_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part21 (i : grid0.Coords) (R : Quant.Refs sig S2x2x72x2x128 .bf16) (v494_lo : FVec F S8x256 .bf16) (v494_hi : FVec F S8x256 .bf16) (v501_lo : FVec F S8x256 .bf16) (v501_hi : FVec F S8x256 .bf16) (v508_lo : FVec F S8x256 .bf16) (v508_hi : FVec F S8x256 .bf16) (v541_lo : FVec F S8x128 .bf16) (v541_hi : FVec F S8x128 .bf16) : Keeps St.x c R U defs E (k0_part21 i R.x R.hx R.c R.hc R.g R.hg R.d R.hd R.xt R.hxt R.ct R.hct R.u R.hu R.w R.hw R.z R.hz R.dt R.hdt v494_lo v494_hi v501_lo v501_hi v508_lo v508_hi v541_lo v541_hi) := by
  rw [k0_part21_eq_skeleton]; unfold k0_part21_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part22 (i : grid0.Coords) (R : Quant.Refs sig S2x2x72x2x128 .bf16) (v565_lo : FVec F S8x128 .bf16) (v565_hi : FVec F S8x128 .bf16) : Keeps St.x c R U defs E (k0_part22 i R.x R.hx R.c R.hc R.g R.hg R.d R.hd R.xt R.hxt R.ct R.hct R.u R.hu R.w R.hw R.z R.hz R.dt R.hdt v565_lo v565_hi) := by
  rw [k0_part22_eq_skeleton]; unfold k0_part22_skel
  refine Keeps.loadPart (slotZ c R) fun _ => ?_
  refine Keeps.storePart (slotZ c R) (fun _ _ => rfl) ?_
  refine Keeps.loadPart (slotZ c R) fun _ => ?_
  refine Keeps.loadPart (slotZ c R) fun _ => ?_
  exact Keeps.pure _

theorem part23 (i : grid0.Coords) (R : Quant.Refs sig S2x2x72x2x128 .bf16)  : Keeps St.x c R U defs E (k0_part23 i R.x R.hx R.c R.hc R.g R.hg R.d R.hd R.xt R.hxt R.ct R.hct R.u R.hu R.w R.hw R.z R.hz R.dt R.hdt ) := by
  rw [k0_part23_eq_skeleton]; unfold k0_part23_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part24 (i : grid0.Coords) (R : Quant.Refs sig S2x2x72x2x128 .bf16) (v459_lo : FVec F S8x256 .bf16) (v459_hi : FVec F S8x256 .bf16) (v578 : FVec F S16x128 .bf16) (v584 : FVec F S16x128 .bf16) (v590 : FVec F S16x128 .bf16) (v596 : FVec F S16x128 .bf16) (v602 : FVec F S16x128 .bf16) (v608 : FVec F S16x128 .bf16) : Keeps St.x c R U defs E (k0_part24 i R.x R.hx R.c R.hc R.g R.hg R.d R.hd R.xt R.hxt R.ct R.hct R.u R.hu R.w R.hw R.z R.hz R.dt R.hdt v459_lo v459_hi v578 v584 v590 v596 v602 v608) := by
  rw [k0_part24_eq_skeleton]; unfold k0_part24_skel
  refine Keeps.loadPart (slotZ c R) fun _ => ?_
  refine Keeps.loadPart (slotZ c R) fun _ => ?_
  refine Keeps.loadPart (slotZ c R) fun _ => ?_
  exact Keeps.pure _

theorem part25 (i : grid0.Coords) (R : Quant.Refs sig S2x2x72x2x128 .bf16) (v466_lo : FVec F S8x256 .bf16) (v466_hi : FVec F S8x256 .bf16) (v473_lo : FVec F S8x256 .bf16) (v473_hi : FVec F S8x256 .bf16) (v480_lo : FVec F S8x256 .bf16) (v480_hi : FVec F S8x256 .bf16) (v629_lo : FVec F S8x128 .bf16) (v629_hi : FVec F S8x128 .bf16) (v634_hi : FVec F S8x128 .bf16) : Keeps St.x c R U defs E (k0_part25 i R.x R.hx R.c R.hc R.g R.hg R.d R.hd R.xt R.hxt R.ct R.hct R.u R.hu R.w R.hw R.z R.hz R.dt R.hdt v466_lo v466_hi v473_lo v473_hi v480_lo v480_hi v629_lo v629_hi v634_hi) := by
  rw [k0_part25_eq_skeleton]; unfold k0_part25_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part26 (i : grid0.Coords) (R : Quant.Refs sig S2x2x72x2x128 .bf16) (v487_lo : FVec F S8x256 .bf16) (v487_hi : FVec F S8x256 .bf16) (v494_lo : FVec F S8x256 .bf16) (v494_hi : FVec F S8x256 .bf16) (v653_lo : FVec F S8x128 .bf16) (v653_hi : FVec F S8x128 .bf16) : Keeps St.x c R U defs E (k0_part26 i R.x R.hx R.c R.hc R.g R.hg R.d R.hd R.xt R.hxt R.ct R.hct R.u R.hu R.w R.hw R.z R.hz R.dt R.hdt v487_lo v487_hi v494_lo v494_hi v653_lo v653_hi) := by
  rw [k0_part26_eq_skeleton]; unfold k0_part26_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part27 (i : grid0.Coords) (R : Quant.Refs sig S2x2x72x2x128 .bf16) (v501_lo : FVec F S8x256 .bf16) (v501_hi : FVec F S8x256 .bf16) (v508_lo : FVec F S8x256 .bf16) (v508_hi : FVec F S8x256 .bf16) (v669_lo : FVec F S8x128 .bf16) (v669_hi : FVec F S8x128 .bf16) (v674_hi : FVec F S8x128 .bf16) : Keeps St.x c R U defs E (k0_part27 i R.x R.hx R.c R.hc R.g R.hg R.d R.hd R.xt R.hxt R.ct R.hct R.u R.hu R.w R.hw R.z R.hz R.dt R.hdt v501_lo v501_hi v508_lo v508_hi v669_lo v669_hi v674_hi) := by
  rw [k0_part27_eq_skeleton]; unfold k0_part27_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part28 (i : grid0.Coords) (R : Quant.Refs sig S2x2x72x2x128 .bf16)  : Keeps St.x c R U defs E (k0_part28 i R.x R.hx R.c R.hc R.g R.hg R.d R.hd R.xt R.hxt R.ct R.hct R.u R.hu R.w R.hw R.z R.hz R.dt R.hdt ) := by
  rw [k0_part28_eq_skeleton]; unfold k0_part28_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part29 (i : grid0.Coords) (R : Quant.Refs sig S2x2x72x2x128 .bf16) (v715_lo : FVec F S8x128 .bf16) (v715_hi : FVec F S8x128 .bf16) : Keeps St.x c R U defs E (k0_part29 i R.x R.hx R.c R.hc R.g R.hg R.d R.hd R.xt R.hxt R.ct R.hct R.u R.hu R.w R.hw R.z R.hz R.dt R.hdt v715_lo v715_hi) := by
  rw [k0_part29_eq_skeleton]; unfold k0_part29_skel
  refine Keeps.loadPart (slotZ c R) fun _ => ?_
  refine Keeps.loadPart (slotZ c R) fun _ => ?_
  refine Keeps.loadPart (slotZ c R) fun _ => ?_
  exact Keeps.pure _

theorem part30 (i : grid0.Coords) (R : Quant.Refs sig S2x2x72x2x128 .bf16) (v628_lo : FVec F S8x128 .bf16) (v628_hi : FVec F S8x128 .bf16) (v698 : FVec F S16x128 .bf16) (v704 : FVec F S16x128 .bf16) (v710 : FVec F S16x128 .bf16) (v716 : FVec F S16x128 .bf16) (v722 : FVec F S16x128 .bf16) (v728 : FVec F S16x128 .bf16) (v734 : FVec F S16x128 .bf16) : Keeps St.x c R U defs E (k0_part30 i R.x R.hx R.c R.hc R.g R.hg R.d R.hd R.xt R.hxt R.ct R.hct R.u R.hu R.w R.hw R.z R.hz R.dt R.hdt v628_lo v628_hi v698 v704 v710 v716 v722 v728 v734) := by
  rw [k0_part30_eq_skeleton]; unfold k0_part30_skel
  refine Keeps.loadPart (slotZ c R) fun _ => ?_
  exact Keeps.pure _

theorem part31 (i : grid0.Coords) (R : Quant.Refs sig S2x2x72x2x128 .bf16) (v756 : FVec F S8x256 .f32) (v775 : IVec S8x256 32) (v777 : IVec S8x256 32) (v779 : IVec S8x256 32) (c6291456_i32_672 : BitVec 32) : Keeps St.x c R U defs E (k0_part31 i R.x R.hx R.c R.hc R.g R.hg R.d R.hd R.xt R.hxt R.ct R.hct R.u R.hu R.w R.hw R.z R.hz R.dt R.hdt v756 v775 v777 v779 c6291456_i32_672) := by
  rw [k0_part31_eq_skeleton]; unfold k0_part31_skel
  exact Keeps.pure _

theorem part32 (i : grid0.Coords) (R : Quant.Refs sig S2x2x72x2x128 .bf16) (v756 : FVec F S8x256 .f32) (v820 : IVec S8x256 32) (v822 : IVec S8x256 32) (v824 : IVec S8x256 32) (c6291456_i32_687 : BitVec 32) : Keeps St.x c R U defs E (k0_part32 i R.x R.hx R.c R.hc R.g R.hg R.d R.hd R.xt R.hxt R.ct R.hct R.u R.hu R.w R.hw R.z R.hz R.dt R.hdt v756 v820 v822 v824 c6291456_i32_687) := by
  rw [k0_part32_eq_skeleton]; unfold k0_part32_skel
  refine Keeps.load (slotU c R) fun _ => ?_
  refine Keeps.store (slotU c R) (fun _ _ => rfl) ?_
  refine Keeps.load (slotW c R) fun _ => ?_
  refine Keeps.store (slotW c R) (fun _ _ => rfl) ?_
  refine Keeps.load (slotG c R) fun _ => ?_
  refine Keeps.store (slotG c R) (fun _ _ => rfl) ?_
  refine Keeps.load (slotG c R) fun _ => ?_
  exact Keeps.pure _

theorem part33 (i : grid0.Coords) (R : Quant.Refs sig S2x2x72x2x128 .bf16) (v860 : IVec S4x256 8) (v861 : Vec F S1x1x4x256 .i8) : Keeps St.x c R U defs E (k0_part33 i R.x R.hx R.c R.hc R.g R.hg R.d R.hd R.xt R.hxt R.ct R.hct R.u R.hu R.w R.hw R.z R.hz R.dt R.hdt v860 v861) := by
  rw [k0_part33_eq_skeleton]; unfold k0_part33_skel
  refine Keeps.store (slotG c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part34 (i : grid0.Coords) (R : Quant.Refs sig S2x2x72x2x128 .bf16) (v896 : FVec F S32x256 .bf16) (cst_726 : F .f32) (cst_727 : F .f32) : Keeps St.x c R U defs E (k0_part34 i R.x R.hx R.c R.hc R.g R.hg R.d R.hd R.xt R.hxt R.ct R.hct R.u R.hu R.w R.hw R.z R.hz R.dt R.hdt v896 cst_726 cst_727) := by
  rw [k0_part34_eq_skeleton]; unfold k0_part34_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  exact Keeps.pure _

theorem part35 (i : grid0.Coords) (R : Quant.Refs sig S2x2x72x2x128 .bf16) (v929 : FVec F S32x256 .fp8e4m3) (v935 : FVec F S32x256 .bf16) : Keeps St.x c R U defs E (k0_part35 i R.x R.hx R.c R.hc R.g R.hg R.d R.hd R.xt R.hxt R.ct R.hct R.u R.hu R.w R.hw R.z R.hz R.dt R.hdt v929 v935) := by
  rw [k0_part35_eq_skeleton]; unfold k0_part35_skel
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  exact Keeps.pure _

theorem part36 (i : grid0.Coords) (R : Quant.Refs sig S2x2x72x2x128 .bf16) (v969 : FVec F S32x256 .bf16) : Keeps St.x c R U defs E (k0_part36 i R.x R.hx R.c R.hc R.g R.hg R.d R.hd R.xt R.hxt R.ct R.hct R.u R.hu R.w R.hw R.z R.hz R.dt R.hdt v969) := by
  rw [k0_part36_eq_skeleton]; unfold k0_part36_skel
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part37 (i : grid0.Coords) (R : Quant.Refs sig S2x2x72x2x128 .bf16) (v1007 : FVec F S32x256 .fp8e4m3) (v1008 : FVec F S32x256 .bf16) : Keeps St.x c R U defs E (k0_part37 i R.x R.hx R.c R.hc R.g R.hg R.d R.hd R.xt R.hxt R.ct R.hct R.u R.hu R.w R.hw R.z R.hz R.dt R.hdt v1007 v1008) := by
  rw [k0_part37_eq_skeleton]; unfold k0_part37_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  exact Keeps.pure _

theorem part38 (i : grid0.Coords) (R : Quant.Refs sig S2x2x72x2x128 .bf16) (v1033 : FVec F S32x256 .fp8e4m3) : Keeps St.x c R U defs E (k0_part38 i R.x R.hx R.c R.hc R.g R.hg R.d R.hd R.xt R.hxt R.ct R.hct R.u R.hu R.w R.hw R.z R.hz R.dt R.hdt v1033) := by
  rw [k0_part38_eq_skeleton]; unfold k0_part38_skel
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part39 (i : grid0.Coords) (R : Quant.Refs sig S2x2x72x2x128 .bf16) (v1078 : FVec F S32x256 .bf16) (cst_829 : F .f32) : Keeps St.x c R U defs E (k0_part39 i R.x R.hx R.c R.hc R.g R.hg R.d R.hd R.xt R.hxt R.ct R.hct R.u R.hu R.w R.hw R.z R.hz R.dt R.hdt v1078 cst_829) := by
  rw [k0_part39_eq_skeleton]; unfold k0_part39_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  exact Keeps.pure _

theorem part40 (i : grid0.Coords) (R : Quant.Refs sig S2x2x72x2x128 .bf16) (v1111 : FVec F S32x256 .fp8e4m3) (v1117 : FVec F S32x256 .bf16) : Keeps St.x c R U defs E (k0_part40 i R.x R.hx R.c R.hc R.g R.hg R.d R.hd R.xt R.hxt R.ct R.hct R.u R.hu R.w R.hw R.z R.hz R.dt R.hdt v1111 v1117) := by
  rw [k0_part40_eq_skeleton]; unfold k0_part40_skel
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  exact Keeps.pure _

theorem part41 (i : grid0.Coords) (R : Quant.Refs sig S2x2x72x2x128 .bf16) (v1150 : Vec F S1x32x256 .bf16) : Keeps St.x c R U defs E (k0_part41 i R.x R.hx R.c R.hc R.g R.hg R.d R.hd R.xt R.hxt R.ct R.hct R.u R.hu R.w R.hw R.z R.hz R.dt R.hdt v1150) := by
  rw [k0_part41_eq_skeleton]; unfold k0_part41_skel
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part42 (i : grid0.Coords) (R : Quant.Refs sig S2x2x72x2x128 .bf16) (v1189 : FVec F S32x256 .fp8e4m3) : Keeps St.x c R U defs E (k0_part42 i R.x R.hx R.c R.hc R.g R.hg R.d R.hd R.xt R.hxt R.ct R.hct R.u R.hu R.w R.hw R.z R.hz R.dt R.hdt v1189) := by
  rw [k0_part42_eq_skeleton]; unfold k0_part42_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  exact Keeps.pure _

theorem part43 (i : grid0.Coords) (R : Quant.Refs sig S2x2x72x2x128 .bf16) (v1215 : FVec F S32x256 .fp8e4m3) : Keeps St.x c R U defs E (k0_part43 i R.x R.hx R.c R.hc R.g R.hg R.d R.hd R.xt R.hxt R.ct R.hct R.u R.hu R.w R.hw R.z R.hz R.dt R.hdt v1215) := by
  rw [k0_part43_eq_skeleton]; unfold k0_part43_skel
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part44 (i : grid0.Coords) (R : Quant.Refs sig S2x2x72x2x128 .bf16) (v1260 : FVec F S32x256 .bf16) : Keeps St.x c R U defs E (k0_part44 i R.x R.hx R.c R.hc R.g R.hg R.d R.hd R.xt R.hxt R.ct R.hct R.u R.hu R.w R.hw R.z R.hz R.dt R.hdt v1260) := by
  rw [k0_part44_eq_skeleton]; unfold k0_part44_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotCt c R) fun _ => ?_
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  exact Keeps.pure _

theorem part45 (i : grid0.Coords) (R : Quant.Refs sig S2x2x72x2x128 .bf16) (v1 : BitVec 32) : Keeps St.x c R U defs E (k0_part45 i R.x R.hx R.c R.hc R.g R.hg R.d R.hd R.xt R.hxt R.ct R.hct R.u R.hu R.w R.hw R.z R.hz R.dt R.hdt v1) := by
  rw [k0_part45_eq_skeleton]; unfold k0_part45_skel
  refine Keeps.load (slotCt c R) fun _ => ?_
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  exact Keeps.pure _

theorem part46 (i : grid0.Coords) (R : Quant.Refs sig S2x2x72x2x128 .bf16) (v1 : BitVec 32) (v1320 : FVec F S256x128 .bf16) : Keeps St.x c R U defs E (k0_part46 i R.x R.hx R.c R.hc R.g R.hg R.d R.hd R.xt R.hxt R.ct R.hct R.u R.hu R.w R.hw R.z R.hz R.dt R.hdt v1 v1320) := by
  rw [k0_part46_eq_skeleton]; unfold k0_part46_skel
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotX c R) fun _ => ?_
  refine Keeps.load (slotXt c R) fun _ => ?_
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotX c R) fun _ => ?_
  exact Keeps.pure _

theorem part47 (i : grid0.Coords) (R : Quant.Refs sig S2x2x72x2x128 .bf16) (v1357 : FVec F S128x256 .bf16) : Keeps St.x c R U defs E (k0_part47 i R.x R.hx R.c R.hc R.g R.hg R.d R.hd R.xt R.hxt R.ct R.hct R.u R.hu R.w R.hw R.z R.hz R.dt R.hdt v1357) := by
  rw [k0_part47_eq_skeleton]; unfold k0_part47_skel
  refine Keeps.load (slotXt c R) fun _ => ?_
  refine Keeps.store (slotXt c R) (fun _ _ => rfl) ?_
  refine Keeps.load (slotX c R) fun _ => ?_
  refine Keeps.load (slotXt c R) fun _ => ?_
  refine Keeps.store (slotXt c R) (fun _ _ => rfl) ?_
  refine Keeps.load (slotXt c R) fun _ => ?_
  refine Keeps.load (slotXt c R) fun _ => ?_
  refine Keeps.load (slotXt c R) fun _ => ?_
  refine Keeps.load (slotXt c R) fun _ => ?_
  exact Keeps.pure _

theorem part48 (i : grid0.Coords) (R : Quant.Refs sig S2x2x72x2x128 .bf16) (v1378_lo : FVec F S8x256 .bf16) (v1378_hi : FVec F S8x256 .bf16) (v1393 : Vec F S1x32x256 .bf16) : Keeps St.x c R U defs E (k0_part48 i R.x R.hx R.c R.hc R.g R.hg R.d R.hd R.xt R.hxt R.ct R.hct R.u R.hu R.w R.hw R.z R.hz R.dt R.hdt v1378_lo v1378_hi v1393) := by
  rw [k0_part48_eq_skeleton]; unfold k0_part48_skel
  refine Keeps.load (slotXt c R) fun _ => ?_
  refine Keeps.load (slotXt c R) fun _ => ?_
  refine Keeps.load (slotXt c R) fun _ => ?_
  refine Keeps.load (slotXt c R) fun _ => ?_
  exact Keeps.pure _

theorem part49 (i : grid0.Coords) (R : Quant.Refs sig S2x2x72x2x128 .bf16) (v1385_lo : FVec F S8x256 .bf16) (v1385_hi : FVec F S8x256 .bf16) (v1392_lo : FVec F S8x256 .bf16) (v1392_hi : FVec F S8x256 .bf16) (v1428_lo : FVec F S8x128 .bf16) (v1428_hi : FVec F S8x128 .bf16) : Keeps St.x c R U defs E (k0_part49 i R.x R.hx R.c R.hc R.g R.hg R.d R.hd R.xt R.hxt R.ct R.hct R.u R.hu R.w R.hw R.z R.hz R.dt R.hdt v1385_lo v1385_hi v1392_lo v1392_hi v1428_lo v1428_hi) := by
  rw [k0_part49_eq_skeleton]; unfold k0_part49_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part50 (i : grid0.Coords) (R : Quant.Refs sig S2x2x72x2x128 .bf16) (v1399_lo : FVec F S8x256 .bf16) (v1399_hi : FVec F S8x256 .bf16) (v1406_lo : FVec F S8x256 .bf16) (v1406_hi : FVec F S8x256 .bf16) (v1413_lo : FVec F S8x256 .bf16) (v1413_hi : FVec F S8x256 .bf16) (v1444_hi : FVec F S8x128 .bf16) (v1451_lo : FVec F S8x128 .bf16) : Keeps St.x c R U defs E (k0_part50 i R.x R.hx R.c R.hc R.g R.hg R.d R.hd R.xt R.hxt R.ct R.hct R.u R.hu R.w R.hw R.z R.hz R.dt R.hdt v1399_lo v1399_hi v1406_lo v1406_hi v1413_lo v1413_hi v1444_hi v1451_lo) := by
  rw [k0_part50_eq_skeleton]; unfold k0_part50_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part51 (i : grid0.Coords) (R : Quant.Refs sig S2x2x72x2x128 .bf16) (v1420_lo : FVec F S8x256 .bf16) (v1420_hi : FVec F S8x256 .bf16) (v1427_lo : FVec F S8x256 .bf16) (v1427_hi : FVec F S8x256 .bf16) (v1468_lo : FVec F S8x128 .bf16) (v1468_hi : FVec F S8x128 .bf16) : Keeps St.x c R U defs E (k0_part51 i R.x R.hx R.c R.hc R.g R.hg R.d R.hd R.xt R.hxt R.ct R.hct R.u R.hu R.w R.hw R.z R.hz R.dt R.hdt v1420_lo v1420_hi v1427_lo v1427_hi v1468_lo v1468_hi) := by
  rw [k0_part51_eq_skeleton]; unfold k0_part51_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part52 (i : grid0.Coords) (R : Quant.Refs sig S2x2x72x2x128 .bf16) (v1484_hi : FVec F S8x128 .bf16) (v1491_lo : FVec F S8x128 .bf16) : Keeps St.x c R U defs E (k0_part52 i R.x R.hx R.c R.hc R.g R.hg R.d R.hd R.xt R.hxt R.ct R.hct R.u R.hu R.w R.hw R.z R.hz R.dt R.hdt v1484_hi v1491_lo) := by
  rw [k0_part52_eq_skeleton]; unfold k0_part52_skel
  refine Keeps.storePart (slotZ c R) (fun _ _ => rfl) ?_
  refine Keeps.loadPart (slotZ c R) fun _ => ?_
  refine Keeps.loadPart (slotZ c R) fun _ => ?_
  refine Keeps.loadPart (slotZ c R) fun _ => ?_
  exact Keeps.pure _

theorem part53 (i : grid0.Coords) (R : Quant.Refs sig S2x2x72x2x128 .bf16)  : Keeps St.x c R U defs E (k0_part53 i R.x R.hx R.c R.hc R.g R.hg R.d R.hd R.xt R.hxt R.ct R.hct R.u R.hu R.w R.hw R.z R.hz R.dt R.hdt ) := by
  rw [k0_part53_eq_skeleton]; unfold k0_part53_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part54 (i : grid0.Coords) (R : Quant.Refs sig S2x2x72x2x128 .bf16) (v1378_lo : FVec F S8x256 .bf16) (v1378_hi : FVec F S8x256 .bf16) (v1385_lo : FVec F S8x256 .bf16) (v1385_hi : FVec F S8x256 .bf16) (v1497 : FVec F S16x128 .bf16) (v1503 : FVec F S16x128 .bf16) (v1509 : FVec F S16x128 .bf16) (v1515 : FVec F S16x128 .bf16) (v1521 : FVec F S16x128 .bf16) (v1527 : FVec F S16x128 .bf16) (v1532_raw : Vec F S8x2x128 .bf16) (v1532_lo : FVec F S8x128 .bf16) : Keeps St.x c R U defs E (k0_part54 i R.x R.hx R.c R.hc R.g R.hg R.d R.hd R.xt R.hxt R.ct R.hct R.u R.hu R.w R.hw R.z R.hz R.dt R.hdt v1378_lo v1378_hi v1385_lo v1385_hi v1497 v1503 v1509 v1515 v1521 v1527 v1532_raw v1532_lo) := by
  rw [k0_part54_eq_skeleton]; unfold k0_part54_skel
  refine Keeps.loadPart (slotZ c R) fun _ => ?_
  refine Keeps.loadPart (slotZ c R) fun _ => ?_
  refine Keeps.storePart (slotZ c R) (fun _ _ => rfl) ?_
  exact Keeps.pure _

theorem part55 (i : grid0.Coords) (R : Quant.Refs sig S2x2x72x2x128 .bf16) (v1392_lo : FVec F S8x256 .bf16) (v1392_hi : FVec F S8x256 .bf16) (v1399_lo : FVec F S8x256 .bf16) (v1399_hi : FVec F S8x256 .bf16) (v1556_lo : FVec F S8x128 .bf16) (v1556_hi : FVec F S8x128 .bf16) : Keeps St.x c R U defs E (k0_part55 i R.x R.hx R.c R.hc R.g R.hg R.d R.hd R.xt R.hxt R.ct R.hct R.u R.hu R.w R.hw R.z R.hz R.dt R.hdt v1392_lo v1392_hi v1399_lo v1399_hi v1556_lo v1556_hi) := by
  rw [k0_part55_eq_skeleton]; unfold k0_part55_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part56 (i : grid0.Coords) (R : Quant.Refs sig S2x2x72x2x128 .bf16) (v1406_lo : FVec F S8x256 .bf16) (v1406_hi : FVec F S8x256 .bf16) (v1413_lo : FVec F S8x256 .bf16) (v1413_hi : FVec F S8x256 .bf16) (v1420_lo : FVec F S8x256 .bf16) (v1420_hi : FVec F S8x256 .bf16) (v1572_lo : FVec F S8x128 .bf16) (v1572_hi : FVec F S8x128 .bf16) : Keeps St.x c R U defs E (k0_part56 i R.x R.hx R.c R.hc R.g R.hg R.d R.hd R.xt R.hxt R.ct R.hct R.u R.hu R.w R.hw R.z R.hz R.dt R.hdt v1406_lo v1406_hi v1413_lo v1413_hi v1420_lo v1420_hi v1572_lo v1572_hi) := by
  rw [k0_part56_eq_skeleton]; unfold k0_part56_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part57 (i : grid0.Coords) (R : Quant.Refs sig S2x2x72x2x128 .bf16) (v1427_lo : FVec F S8x256 .bf16) (v1427_hi : FVec F S8x256 .bf16) (v1596_lo : FVec F S8x128 .bf16) (v1596_hi : FVec F S8x128 .bf16) : Keeps St.x c R U defs E (k0_part57 i R.x R.hx R.c R.hc R.g R.hg R.d R.hd R.xt R.hxt R.ct R.hct R.u R.hu R.w R.hw R.z R.hz R.dt R.hdt v1427_lo v1427_hi v1596_lo v1596_hi) := by
  rw [k0_part57_eq_skeleton]; unfold k0_part57_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part58 (i : grid0.Coords) (R : Quant.Refs sig S2x2x72x2x128 .bf16)  : Keeps St.x c R U defs E (k0_part58 i R.x R.hx R.c R.hc R.g R.hg R.d R.hd R.xt R.hxt R.ct R.hct R.u R.hu R.w R.hw R.z R.hz R.dt R.hdt ) := by
  rw [k0_part58_eq_skeleton]; unfold k0_part58_skel
  refine Keeps.loadPart (slotZ c R) fun _ => ?_
  refine Keeps.loadPart (slotZ c R) fun _ => ?_
  refine Keeps.loadPart (slotZ c R) fun _ => ?_
  exact Keeps.pure _

theorem part59 (i : grid0.Coords) (R : Quant.Refs sig S2x2x72x2x128 .bf16) (v1617 : FVec F S16x128 .bf16) (v1623 : FVec F S16x128 .bf16) (v1629 : FVec F S16x128 .bf16) (v1635 : FVec F S16x128 .bf16) : Keeps St.x c R U defs E (k0_part59 i R.x R.hx R.c R.hc R.g R.hg R.d R.hd R.xt R.hxt R.ct R.hct R.u R.hu R.w R.hw R.z R.hz R.dt R.hdt v1617 v1623 v1629 v1635) := by
  rw [k0_part59_eq_skeleton]; unfold k0_part59_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part60 (i : grid0.Coords) (R : Quant.Refs sig S2x2x72x2x128 .bf16) (v1547_lo : FVec F S8x128 .bf16) (v1547_hi : FVec F S8x128 .bf16) (v1660 : FVec F S16x128 .bf16) (v1661 : FVec F S16x128 .bf16) (v1662 : FVec F S16x128 .bf16) (v1663 : FVec F S16x128 .bf16) : Keeps St.x c R U defs E (k0_part60 i R.x R.hx R.c R.hc R.g R.hg R.d R.hd R.xt R.hxt R.ct R.hct R.u R.hu R.w R.hw R.z R.hz R.dt R.hdt v1547_lo v1547_hi v1660 v1661 v1662 v1663) := by
  rw [k0_part60_eq_skeleton]; unfold k0_part60_skel
  exact Keeps.pure _

theorem part61 (i : grid0.Coords) (R : Quant.Refs sig S2x2x72x2x128 .bf16) (v1675 : FVec F S8x256 .f32) (v1703 : IVec S8x256 32) (v1705 : IVec S8x256 32) (v1707 : IVec S8x256 32) (v1708 : IVec S8x256 32) : Keeps St.x c R U defs E (k0_part61 i R.x R.hx R.c R.hc R.g R.hg R.d R.hd R.xt R.hxt R.ct R.hct R.u R.hu R.w R.hw R.z R.hz R.dt R.hdt v1675 v1703 v1705 v1707 v1708) := by
  rw [k0_part61_eq_skeleton]; unfold k0_part61_skel
  exact Keeps.pure _

theorem part62 (i : grid0.Coords) (R : Quant.Refs sig S2x2x72x2x128 .bf16) (v1750 : IVec S8x256 32) (v1752 : IVec S8x256 1) (v1753 : IVec S8x256 32) : Keeps St.x c R U defs E (k0_part62 i R.x R.hx R.c R.hc R.g R.hg R.d R.hd R.xt R.hxt R.ct R.hct R.u R.hu R.w R.hw R.z R.hz R.dt R.hdt v1750 v1752 v1753) := by
  rw [k0_part62_eq_skeleton]; unfold k0_part62_skel
  refine Keeps.load (slotU c R) fun _ => ?_
  refine Keeps.store (slotU c R) (fun _ _ => rfl) ?_
  refine Keeps.load (slotW c R) fun _ => ?_
  refine Keeps.store (slotW c R) (fun _ _ => rfl) ?_
  refine Keeps.load (slotG c R) fun _ => ?_
  refine Keeps.store (slotG c R) (fun _ _ => rfl) ?_
  refine Keeps.load (slotG c R) fun _ => ?_
  refine Keeps.store (slotG c R) (fun _ _ => rfl) ?_
  refine Keeps.load (slotXt c R) fun _ => ?_
  exact Keeps.pure _

theorem part63 (i : grid0.Coords) (R : Quant.Refs sig S2x2x72x2x128 .bf16) (v1788 : FVec F S16x256 .bf16) : Keeps St.x c R U defs E (k0_part63 i R.x R.hx R.c R.hc R.g R.hg R.d R.hd R.xt R.hxt R.ct R.hct R.u R.hu R.w R.hw R.z R.hz R.dt R.hdt v1788) := by
  rw [k0_part63_eq_skeleton]; unfold k0_part63_skel
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  refine Keeps.load (slotXt c R) fun _ => ?_
  exact Keeps.pure _

theorem part64 (i : grid0.Coords) (R : Quant.Refs sig S2x2x72x2x128 .bf16) (v1789_lo : FVec F S8x256 .bf16) (v1789_hi : FVec F S8x256 .bf16) (v1796_lo : FVec F S8x256 .bf16) (v1796_hi : FVec F S8x256 .bf16) (v1825 : Vec F S1x32x256 .bf16) : Keeps St.x c R U defs E (k0_part64 i R.x R.hx R.c R.hc R.g R.hg R.d R.hd R.xt R.hxt R.ct R.hct R.u R.hu R.w R.hw R.z R.hz R.dt R.hdt v1789_lo v1789_hi v1796_lo v1796_hi v1825) := by
  rw [k0_part64_eq_skeleton]; unfold k0_part64_skel
  refine Keeps.load (slotXt c R) fun _ => ?_
  refine Keeps.loadPart (slotZ c R) fun _ => ?_
  refine Keeps.storePart (slotZ c R) (fun _ _ => rfl) ?_
  refine Keeps.loadPart (slotZ c R) fun _ => ?_
  exact Keeps.pure _

theorem part65 (i : grid0.Coords) (R : Quant.Refs sig S2x2x72x2x128 .bf16) (v1803_lo : FVec F S8x256 .bf16) (v1803_hi : FVec F S8x256 .bf16) (v1810_lo : FVec F S8x256 .bf16) (v1810_hi : FVec F S8x256 .bf16) (v1817_lo : FVec F S8x256 .bf16) (v1817_hi : FVec F S8x256 .bf16) (v1847_lo : FVec F S8x128 .bf16) (v1847_hi : FVec F S8x128 .bf16) (v1852_lo : FVec F S8x128 .bf16) (v1852_hi : FVec F S8x128 .bf16) : Keeps St.x c R U defs E (k0_part65 i R.x R.hx R.c R.hc R.g R.hg R.d R.hd R.xt R.hxt R.ct R.hct R.u R.hu R.w R.hw R.z R.hz R.dt R.hdt v1803_lo v1803_hi v1810_lo v1810_hi v1817_lo v1817_hi v1847_lo v1847_hi v1852_lo v1852_hi) := by
  rw [k0_part65_eq_skeleton]; unfold k0_part65_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part66 (i : grid0.Coords) (R : Quant.Refs sig S2x2x72x2x128 .bf16) (v1824_lo : FVec F S8x256 .bf16) (v1824_hi : FVec F S8x256 .bf16) (v1831_lo : FVec F S8x256 .bf16) (v1831_hi : FVec F S8x256 .bf16) (v1871_lo : FVec F S8x128 .bf16) (v1871_hi : FVec F S8x128 .bf16) : Keeps St.x c R U defs E (k0_part66 i R.x R.hx R.c R.hc R.g R.hg R.d R.hd R.xt R.hxt R.ct R.hct R.u R.hu R.w R.hw R.z R.hz R.dt R.hdt v1824_lo v1824_hi v1831_lo v1831_hi v1871_lo v1871_hi) := by
  rw [k0_part66_eq_skeleton]; unfold k0_part66_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part67 (i : grid0.Coords) (R : Quant.Refs sig S2x2x72x2x128 .bf16) (v1838_lo : FVec F S8x256 .bf16) (v1838_hi : FVec F S8x256 .bf16) (v1887_lo : FVec F S8x128 .bf16) (v1887_hi : FVec F S8x128 .bf16) (v1892_lo : FVec F S8x128 .bf16) (v1892_hi : FVec F S8x128 .bf16) : Keeps St.x c R U defs E (k0_part67 i R.x R.hx R.c R.hc R.g R.hg R.d R.hd R.xt R.hxt R.ct R.hct R.u R.hu R.w R.hw R.z R.hz R.dt R.hdt v1838_lo v1838_hi v1887_lo v1887_hi v1892_lo v1892_hi) := by
  rw [k0_part67_eq_skeleton]; unfold k0_part67_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part68 (i : grid0.Coords) (R : Quant.Refs sig S2x2x72x2x128 .bf16)  : Keeps St.x c R U defs E (k0_part68 i R.x R.hx R.c R.hc R.g R.hg R.d R.hd R.xt R.hxt R.ct R.hct R.u R.hu R.w R.hw R.z R.hz R.dt R.hdt ) := by
  rw [k0_part68_eq_skeleton]; unfold k0_part68_skel
  refine Keeps.loadPart (slotZ c R) fun _ => ?_
  refine Keeps.loadPart (slotZ c R) fun _ => ?_
  refine Keeps.loadPart (slotZ c R) fun _ => ?_
  refine Keeps.loadPart (slotZ c R) fun _ => ?_
  exact Keeps.pure _

theorem part69 (i : grid0.Coords) (R : Quant.Refs sig S2x2x72x2x128 .bf16) (v1789_lo : FVec F S8x256 .bf16) (v1789_hi : FVec F S8x256 .bf16) (v1908 : FVec F S16x128 .bf16) (v1914 : FVec F S16x128 .bf16) (v1920 : FVec F S16x128 .bf16) (v1926 : FVec F S16x128 .bf16) (v1932 : FVec F S16x128 .bf16) : Keeps St.x c R U defs E (k0_part69 i R.x R.hx R.c R.hc R.g R.hg R.d R.hd R.xt R.hxt R.ct R.hct R.u R.hu R.w R.hw R.z R.hz R.dt R.hdt v1789_lo v1789_hi v1908 v1914 v1920 v1926 v1932) := by
  rw [k0_part69_eq_skeleton]; unfold k0_part69_skel
  refine Keeps.loadPart (slotZ c R) fun _ => ?_
  refine Keeps.loadPart (slotZ c R) fun _ => ?_
  refine Keeps.loadPart (slotZ c R) fun _ => ?_
  exact Keeps.pure _

theorem part70 (i : grid0.Coords) (R : Quant.Refs sig S2x2x72x2x128 .bf16) (v1796_lo : FVec F S8x256 .bf16) (v1796_hi : FVec F S8x256 .bf16) (v1803_lo : FVec F S8x256 .bf16) (v1803_hi : FVec F S8x256 .bf16) (v1959_lo : FVec F S8x128 .bf16) (v1959_hi : FVec F S8x128 .bf16) : Keeps St.x c R U defs E (k0_part70 i R.x R.hx R.c R.hc R.g R.hg R.d R.hd R.xt R.hxt R.ct R.hct R.u R.hu R.w R.hw R.z R.hz R.dt R.hdt v1796_lo v1796_hi v1803_lo v1803_hi v1959_lo v1959_hi) := by
  rw [k0_part70_eq_skeleton]; unfold k0_part70_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part71 (i : grid0.Coords) (R : Quant.Refs sig S2x2x72x2x128 .bf16) (v1810_lo : FVec F S8x256 .bf16) (v1810_hi : FVec F S8x256 .bf16) (v1817_lo : FVec F S8x256 .bf16) (v1817_hi : FVec F S8x256 .bf16) (v1824_lo : FVec F S8x256 .bf16) (v1824_hi : FVec F S8x256 .bf16) (v1975_lo : FVec F S8x128 .bf16) (v1975_hi : FVec F S8x128 .bf16) (v1980_raw : Vec F S8x2x128 .bf16) (v1980_lo : FVec F S8x128 .bf16) : Keeps St.x c R U defs E (k0_part71 i R.x R.hx R.c R.hc R.g R.hg R.d R.hd R.xt R.hxt R.ct R.hct R.u R.hu R.w R.hw R.z R.hz R.dt R.hdt v1810_lo v1810_hi v1817_lo v1817_hi v1824_lo v1824_hi v1975_lo v1975_hi v1980_raw v1980_lo) := by
  rw [k0_part71_eq_skeleton]; unfold k0_part71_skel
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  exact Keeps.pure _

theorem part72 (i : grid0.Coords) (R : Quant.Refs sig S2x2x72x2x128 .bf16) (v1831_lo : FVec F S8x256 .bf16) (v1831_hi : FVec F S8x256 .bf16) (v1838_lo : FVec F S8x256 .bf16) (v1838_hi : FVec F S8x256 .bf16) (v1999_lo : FVec F S8x128 .bf16) (v1999_hi : FVec F S8x128 .bf16) : Keeps St.x c R U defs E (k0_part72 i R.x R.hx R.c R.hc R.g R.hg R.d R.hd R.xt R.hxt R.ct R.hct R.u R.hu R.w R.hw R.z R.hz R.dt R.hdt v1831_lo v1831_hi v1838_lo v1838_hi v1999_lo v1999_hi) := by
  rw [k0_part72_eq_skeleton]; unfold k0_part72_skel
  refine Keeps.loadPart (slotZ c R) fun _ => ?_
  refine Keeps.storePart (slotZ c R) (fun _ _ => rfl) ?_
  refine Keeps.loadPart (slotZ c R) fun _ => ?_
  refine Keeps.storePart (slotZ c R) (fun _ _ => rfl) ?_
  refine Keeps.loadPart (slotZ c R) fun _ => ?_
  exact Keeps.pure _

theorem part73 (i : grid0.Coords) (R : Quant.Refs sig S2x2x72x2x128 .bf16) (v2015_lo : FVec F S8x128 .bf16) (v2015_hi : FVec F S8x128 .bf16) (v2020_raw : Vec F S8x2x128 .bf16) (v2020_lo : FVec F S8x128 .bf16) : Keeps St.x c R U defs E (k0_part73 i R.x R.hx R.c R.hc R.g R.hg R.d R.hd R.xt R.hxt R.ct R.hct R.u R.hu R.w R.hw R.z R.hz R.dt R.hdt v2015_lo v2015_hi v2020_raw v2020_lo) := by
  rw [k0_part73_eq_skeleton]; unfold k0_part73_skel
  refine Keeps.storePart (slotZ c R) (fun _ _ => rfl) ?_
  refine Keeps.loadPart (slotZ c R) fun _ => ?_
  refine Keeps.loadPart (slotZ c R) fun _ => ?_
  refine Keeps.loadPart (slotZ c R) fun _ => ?_
  exact Keeps.pure _

theorem part74 (i : grid0.Coords) (R : Quant.Refs sig S2x2x72x2x128 .bf16)  : Keeps St.x c R U defs E (k0_part74 i R.x R.hx R.c R.hc R.g R.hg R.d R.hd R.xt R.hxt R.ct R.hct R.u R.hu R.w R.hw R.z R.hz R.dt R.hdt ) := by
  rw [k0_part74_eq_skeleton]; unfold k0_part74_skel
  refine Keeps.loadPart (slotZ c R) fun _ => ?_
  refine Keeps.loadPart (slotZ c R) fun _ => ?_
  refine Keeps.loadPart (slotZ c R) fun _ => ?_
  exact Keeps.pure _

theorem part75 (i : grid0.Coords) (R : Quant.Refs sig S2x2x72x2x128 .bf16) (v1958_lo : FVec F S8x128 .bf16) (v1958_hi : FVec F S8x128 .bf16) (v2028 : FVec F S16x128 .bf16) (v2034 : FVec F S16x128 .bf16) (v2040 : FVec F S16x128 .bf16) (v2046 : FVec F S16x128 .bf16) (v2052 : FVec F S16x128 .bf16) (v2058 : FVec F S16x128 .bf16) : Keeps St.x c R U defs E (k0_part75 i R.x R.hx R.c R.hc R.g R.hg R.d R.hd R.xt R.hxt R.ct R.hct R.u R.hu R.w R.hw R.z R.hz R.dt R.hdt v1958_lo v1958_hi v2028 v2034 v2040 v2046 v2052 v2058) := by
  rw [k0_part75_eq_skeleton]; unfold k0_part75_skel
  refine Keeps.loadPart (slotZ c R) fun _ => ?_
  refine Keeps.loadPart (slotZ c R) fun _ => ?_
  exact Keeps.pure _

theorem part76 (i : grid0.Coords) (R : Quant.Refs sig S2x2x72x2x128 .bf16) (v2086 : FVec F S8x256 .f32) (v2096 : IVec S8x256 32) (v2098 : IVec S8x256 32) (v2099 : IVec S8x256 32) : Keeps St.x c R U defs E (k0_part76 i R.x R.hx R.c R.hc R.g R.hg R.d R.hd R.xt R.hxt R.ct R.hct R.u R.hu R.w R.hw R.z R.hz R.dt R.hdt v2086 v2096 v2098 v2099) := by
  rw [k0_part76_eq_skeleton]; unfold k0_part76_skel
  exact Keeps.pure _

theorem part77 (i : grid0.Coords) (R : Quant.Refs sig S2x2x72x2x128 .bf16) (v2086 : FVec F S8x256 .f32) (v2141 : IVec S8x256 32) (v2143 : IVec S8x256 32) (v2144 : IVec S8x256 32) : Keeps St.x c R U defs E (k0_part77 i R.x R.hx R.c R.hc R.g R.hg R.d R.hd R.xt R.hxt R.ct R.hct R.u R.hu R.w R.hw R.z R.hz R.dt R.hdt v2086 v2141 v2143 v2144) := by
  rw [k0_part77_eq_skeleton]; unfold k0_part77_skel
  refine Keeps.load (slotU c R) fun _ => ?_
  refine Keeps.store (slotU c R) (fun _ _ => rfl) ?_
  refine Keeps.load (slotW c R) fun _ => ?_
  refine Keeps.store (slotW c R) (fun _ _ => rfl) ?_
  exact Keeps.pure _

theorem part78 (i : grid0.Coords) (R : Quant.Refs sig S2x2x72x2x128 .bf16) (v2165 : IVec S8x256 32) (v2185 : IVec S4x256 8) : Keeps St.x c R U defs E (k0_part78 i R.x R.hx R.c R.hc R.g R.hg R.d R.hd R.xt R.hxt R.ct R.hct R.u R.hu R.w R.hw R.z R.hz R.dt R.hdt v2165 v2185) := by
  rw [k0_part78_eq_skeleton]; unfold k0_part78_skel
  refine Keeps.load (slotG c R) fun _ => ?_
  refine Keeps.store (slotG c R) (fun _ _ => rfl) ?_
  refine Keeps.load (slotG c R) fun _ => ?_
  refine Keeps.store (slotG c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  exact Keeps.pure _

theorem part79 (i : grid0.Coords) (R : Quant.Refs sig S2x2x72x2x128 .bf16)  : Keeps St.x c R U defs E (k0_part79 i R.x R.hx R.c R.hc R.g R.hg R.d R.hd R.xt R.hxt R.ct R.hct R.u R.hu R.w R.hw R.z R.hz R.dt R.hdt ) := by
  rw [k0_part79_eq_skeleton]; unfold k0_part79_skel
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part80 (i : grid0.Coords) (R : Quant.Refs sig S2x2x72x2x128 .bf16) (cst_1764 : F .f32) (v2255 : FVec F S32x256 .bf16) : Keeps St.x c R U defs E (k0_part80 i R.x R.hx R.c R.hc R.g R.hg R.d R.hd R.xt R.hxt R.ct R.hct R.u R.hu R.w R.hw R.z R.hz R.dt R.hdt cst_1764 v2255) := by
  rw [k0_part80_eq_skeleton]; unfold k0_part80_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  exact Keeps.pure _

theorem part81 (i : grid0.Coords) (R : Quant.Refs sig S2x2x72x2x128 .bf16) (v2285 : FVec F S32x256 .fp8e4m3) (v2291 : FVec F S32x256 .bf16) : Keeps St.x c R U defs E (k0_part81 i R.x R.hx R.c R.hc R.g R.hg R.d R.hd R.xt R.hxt R.ct R.hct R.u R.hu R.w R.hw R.z R.hz R.dt R.hdt v2285 v2291) := by
  rw [k0_part81_eq_skeleton]; unfold k0_part81_skel
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part82 (i : grid0.Coords) (R : Quant.Refs sig S2x2x72x2x128 .bf16) (v2325 : FVec F S32x256 .bf16) (v2326 : Vec F S1x256 .i32) : Keeps St.x c R U defs E (k0_part82 i R.x R.hx R.c R.hc R.g R.hg R.d R.hd R.xt R.hxt R.ct R.hct R.u R.hu R.w R.hw R.z R.hz R.dt R.hdt v2325 v2326) := by
  rw [k0_part82_eq_skeleton]; unfold k0_part82_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  exact Keeps.pure _

theorem part83 (i : grid0.Coords) (R : Quant.Refs sig S2x2x72x2x128 .bf16) (v2363 : FVec F S32x256 .fp8e4m3) (v2364 : FVec F S32x256 .bf16) (v2365 : Vec F S1x256 .i32) : Keeps St.x c R U defs E (k0_part83 i R.x R.hx R.c R.hc R.g R.hg R.d R.hd R.xt R.hxt R.ct R.hct R.u R.hu R.w R.hw R.z R.hz R.dt R.hdt v2363 v2364 v2365) := by
  rw [k0_part83_eq_skeleton]; unfold k0_part83_skel
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  exact Keeps.pure _

theorem part84 (i : grid0.Coords) (R : Quant.Refs sig S2x2x72x2x128 .bf16) (v2401 : FVec F S1x32x256 .fp8e4m3) : Keeps St.x c R U defs E (k0_part84 i R.x R.hx R.c R.hc R.g R.hg R.d R.hd R.xt R.hxt R.ct R.hct R.u R.hu R.w R.hw R.z R.hz R.dt R.hdt v2401) := by
  rw [k0_part84_eq_skeleton]; unfold k0_part84_skel
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part85 (i : grid0.Coords) (R : Quant.Refs sig S2x2x72x2x128 .bf16) (v2434 : FVec F S32x256 .bf16) (cst_1869 : F .f32) (v2436 : FVec F S32x256 .bf16) : Keeps St.x c R U defs E (k0_part85 i R.x R.hx R.c R.hc R.g R.hg R.d R.hd R.xt R.hxt R.ct R.hct R.u R.hu R.w R.hw R.z R.hz R.dt R.hdt v2434 cst_1869 v2436) := by
  rw [k0_part85_eq_skeleton]; unfold k0_part85_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  exact Keeps.pure _

theorem part86 (i : grid0.Coords) (R : Quant.Refs sig S2x2x72x2x128 .bf16) (v2467 : FVec F S32x256 .fp8e4m3) (v2473 : FVec F S32x256 .bf16) (v2474 : Vec F S1x32x256 .bf16) : Keeps St.x c R U defs E (k0_part86 i R.x R.hx R.c R.hc R.g R.hg R.d R.hd R.xt R.hxt R.ct R.hct R.u R.hu R.w R.hw R.z R.hz R.dt R.hdt v2467 v2473 v2474) := by
  rw [k0_part86_eq_skeleton]; unfold k0_part86_skel
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  exact Keeps.pure _

theorem part87 (i : grid0.Coords) (R : Quant.Refs sig S2x2x72x2x128 .bf16) (v2507 : FVec F S32x256 .bf16) : Keeps St.x c R U defs E (k0_part87 i R.x R.hx R.c R.hc R.g R.hg R.d R.hd R.xt R.hxt R.ct R.hct R.u R.hu R.w R.hw R.z R.hz R.dt R.hdt v2507) := by
  rw [k0_part87_eq_skeleton]; unfold k0_part87_skel
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  exact Keeps.pure _

theorem part88 (i : grid0.Coords) (R : Quant.Refs sig S2x2x72x2x128 .bf16) (v2545 : FVec F S32x256 .fp8e4m3) (v2546 : FVec F S32x256 .bf16) : Keeps St.x c R U defs E (k0_part88 i R.x R.hx R.c R.hc R.g R.hg R.d R.hd R.xt R.hxt R.ct R.hct R.u R.hu R.w R.hw R.z R.hz R.dt R.hdt v2545 v2546) := by
  rw [k0_part88_eq_skeleton]; unfold k0_part88_skel
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  exact Keeps.pure _

theorem part89 (i : grid0.Coords) (R : Quant.Refs sig S2x2x72x2x128 .bf16) (v2571 : FVec F S32x256 .fp8e4m3) : Keeps St.x c R U defs E (k0_part89 i R.x R.hx R.c R.hc R.g R.hg R.d R.hd R.xt R.hxt R.ct R.hct R.u R.hu R.w R.hw R.z R.hz R.dt R.hdt v2571) := by
  rw [k0_part89_eq_skeleton]; unfold k0_part89_skel
  refine Keeps.store (slotCt c R) (fun _ _ => rfl) ?_
  refine Keeps.load (slotXt c R) fun _ => ?_
  refine Keeps.load (slotU c R) fun _ => ?_
  refine Keeps.load (slotW c R) fun _ => ?_
  refine Keeps.load (slotDt c R) fun _ => ?_
  refine Keeps.store (slotDt c R) (fun _ _ => rfl) ?_
  refine Keeps.load (slotCt c R) fun _ => ?_
  refine Keeps.store (slotCt c R) (fun _ _ => rfl) ?_
  refine Keeps.load (slotCt c R) fun _ => ?_
  refine Keeps.load (slotC c R) fun _ => ?_
  refine Keeps.storeSub (slotC c R) (fun _ _ => rfl) ?_
  exact Keeps.pure _

theorem part90 (i : grid0.Coords) (R : Quant.Refs sig S2x2x72x2x128 .bf16) (v1 : BitVec 32) : Keeps St.x c R U defs E (k0_part90 i R.x R.hx R.c R.hc R.g R.hg R.d R.hd R.xt R.hxt R.ct R.hct R.u R.hu R.w R.hw R.z R.hz R.dt R.hdt v1) := by
  rw [k0_part90_eq_skeleton]; unfold k0_part90_skel
  refine Keeps.load (slotCt c R) fun _ => ?_
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  refine Keeps.load (slotCt c R) fun _ => ?_
  refine Keeps.load (slotC c R) fun _ => ?_
  refine Keeps.storeSub (slotC c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  exact Keeps.pure _

theorem part91 (i : grid0.Coords) (R : Quant.Refs sig S2x2x72x2x128 .bf16)  : Keeps St.x c R U defs E (k0_part91 i R.x R.hx R.c R.hc R.g R.hg R.d R.hd R.xt R.hxt R.ct R.hct R.u R.hu R.w R.hw R.z R.hz R.dt R.hdt ) := by
  rw [k0_part91_eq_skeleton]; unfold k0_part91_skel
  refine Keeps.bind (part1 i R) fun _ => ?_
  refine Keeps.bind (part2 i R _) fun _ => ?_
  refine Keeps.bind (part3 i R _ _ _ _) fun _ => ?_
  refine Keeps.bind (part4 i R _ _ _ _ _ _ _) fun _ => ?_
  refine Keeps.bind (part5 i R _ _ _ _ _ _) fun _ => ?_
  refine Keeps.bind (part6 i R _ _ _ _ _) fun _ => ?_
  refine Keeps.bind (part7 i R) fun _ => ?_
  refine Keeps.bind (part8 i R) fun _ => ?_
  refine Keeps.bind (part9 i R _ _ _ _ _ _ _ _ _ _ _) fun _ => ?_
  refine Keeps.bind (part10 i R _ _ _ _ _ _ _ _) fun _ => ?_
  refine Keeps.bind (part11 i R _ _ _ _ _ _) fun _ => ?_
  refine Keeps.bind (part12 i R _ _ _ _) fun _ => ?_
  refine Keeps.bind (part13 i R) fun _ => ?_
  refine Keeps.bind (part14 i R _ _ _ _ _ _ _) fun _ => ?_
  refine Keeps.bind (part15 i R _) fun _ => ?_
  refine Keeps.bind (part16 i R _ _ _ _) fun _ => ?_
  refine Keeps.bind (part17 i R _ _ _) fun _ => ?_
  refine Keeps.bind (part18 i R) fun _ => ?_
  refine Keeps.bind (part19 i R _ _ _ _ _ _ _ _) fun _ => ?_
  refine Keeps.bind (part20 i R _ _ _ _ _ _) fun _ => ?_
  refine Keeps.bind (part21 i R _ _ _ _ _ _ _ _) fun _ => ?_
  refine Keeps.bind (part22 i R _ _) fun _ => ?_
  refine Keeps.bind (part23 i R) fun _ => ?_
  refine Keeps.bind (part24 i R _ _ _ _ _ _ _ _) fun _ => ?_
  refine Keeps.bind (part25 i R _ _ _ _ _ _ _ _ _) fun _ => ?_
  refine Keeps.bind (part26 i R _ _ _ _ _ _) fun _ => ?_
  refine Keeps.bind (part27 i R _ _ _ _ _ _ _) fun _ => ?_
  refine Keeps.bind (part28 i R) fun _ => ?_
  refine Keeps.bind (part29 i R _ _) fun _ => ?_
  refine Keeps.bind (part30 i R _ _ _ _ _ _ _ _ _) fun _ => ?_
  refine Keeps.bind (part31 i R _ _ _ _ _) fun _ => ?_
  refine Keeps.bind (part32 i R _ _ _ _ _) fun _ => ?_
  refine Keeps.bind (part33 i R _ _) fun _ => ?_
  refine Keeps.bind (part34 i R _ _ _) fun _ => ?_
  refine Keeps.bind (part35 i R _ _) fun _ => ?_
  refine Keeps.bind (part36 i R _) fun _ => ?_
  refine Keeps.bind (part37 i R _ _) fun _ => ?_
  refine Keeps.bind (part38 i R _) fun _ => ?_
  refine Keeps.bind (part39 i R _ _) fun _ => ?_
  refine Keeps.bind (part40 i R _ _) fun _ => ?_
  refine Keeps.bind (part41 i R _) fun _ => ?_
  refine Keeps.bind (part42 i R _) fun _ => ?_
  refine Keeps.bind (part43 i R _) fun _ => ?_
  refine Keeps.bind (part44 i R _) fun _ => ?_
  refine Keeps.bind (part45 i R _) fun _ => ?_
  refine Keeps.bind (part46 i R _ _) fun _ => ?_
  refine Keeps.bind (part47 i R _) fun _ => ?_
  refine Keeps.bind (part48 i R _ _ _) fun _ => ?_
  refine Keeps.bind (part49 i R _ _ _ _ _ _) fun _ => ?_
  refine Keeps.bind (part50 i R _ _ _ _ _ _ _ _) fun _ => ?_
  refine Keeps.bind (part51 i R _ _ _ _ _ _) fun _ => ?_
  refine Keeps.bind (part52 i R _ _) fun _ => ?_
  refine Keeps.bind (part53 i R) fun _ => ?_
  refine Keeps.bind (part54 i R _ _ _ _ _ _ _ _ _ _ _ _) fun _ => ?_
  refine Keeps.bind (part55 i R _ _ _ _ _ _) fun _ => ?_
  refine Keeps.bind (part56 i R _ _ _ _ _ _ _ _) fun _ => ?_
  refine Keeps.bind (part57 i R _ _ _ _) fun _ => ?_
  refine Keeps.bind (part58 i R) fun _ => ?_
  refine Keeps.bind (part59 i R _ _ _ _) fun _ => ?_
  refine Keeps.bind (part60 i R _ _ _ _ _ _) fun _ => ?_
  exact Keeps.pure _

theorem part92 (i : grid0.Coords) (R : Quant.Refs sig S2x2x72x2x128 .bf16) (v1 : BitVec 32) (v1675 : FVec F S8x256 .f32) (v1703 : IVec S8x256 32) (v1705 : IVec S8x256 32) (v1707 : IVec S8x256 32) (v1708 : IVec S8x256 32) : Keeps St.x c R U defs E (k0_part92 i R.x R.hx R.c R.hc R.g R.hg R.d R.hd R.xt R.hxt R.ct R.hct R.u R.hu R.w R.hw R.z R.hz R.dt R.hdt v1 v1675 v1703 v1705 v1707 v1708) := by
  rw [k0_part92_eq_skeleton]; unfold k0_part92_skel
  refine Keeps.bind (part61 i R _ _ _ _ _) fun _ => ?_
  refine Keeps.bind (part62 i R _ _ _) fun _ => ?_
  refine Keeps.bind (part63 i R _) fun _ => ?_
  refine Keeps.bind (part64 i R _ _ _ _ _) fun _ => ?_
  refine Keeps.bind (part65 i R _ _ _ _ _ _ _ _ _ _) fun _ => ?_
  refine Keeps.bind (part66 i R _ _ _ _ _ _) fun _ => ?_
  refine Keeps.bind (part67 i R _ _ _ _ _ _) fun _ => ?_
  refine Keeps.bind (part68 i R) fun _ => ?_
  refine Keeps.bind (part69 i R _ _ _ _ _ _ _) fun _ => ?_
  refine Keeps.bind (part70 i R _ _ _ _ _ _) fun _ => ?_
  refine Keeps.bind (part71 i R _ _ _ _ _ _ _ _ _ _) fun _ => ?_
  refine Keeps.bind (part72 i R _ _ _ _ _ _) fun _ => ?_
  refine Keeps.bind (part73 i R _ _ _ _) fun _ => ?_
  refine Keeps.bind (part74 i R) fun _ => ?_
  refine Keeps.bind (part75 i R _ _ _ _ _ _ _ _) fun _ => ?_
  refine Keeps.bind (part76 i R _ _ _ _) fun _ => ?_
  refine Keeps.bind (part77 i R _ _ _ _) fun _ => ?_
  refine Keeps.bind (part78 i R _ _) fun _ => ?_
  refine Keeps.bind (part79 i R) fun _ => ?_
  refine Keeps.bind (part80 i R _ _) fun _ => ?_
  refine Keeps.bind (part81 i R _ _) fun _ => ?_
  refine Keeps.bind (part82 i R _ _) fun _ => ?_
  refine Keeps.bind (part83 i R _ _ _) fun _ => ?_
  refine Keeps.bind (part84 i R _) fun _ => ?_
  refine Keeps.bind (part85 i R _ _ _) fun _ => ?_
  refine Keeps.bind (part86 i R _ _ _) fun _ => ?_
  refine Keeps.bind (part87 i R _) fun _ => ?_
  refine Keeps.bind (part88 i R _ _) fun _ => ?_
  refine Keeps.bind (part89 i R _) fun _ => ?_
  refine Keeps.bind (part90 i R _) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  exact Keeps.pure _

theorem body (i : grid0.Coords) (R : Quant.Refs sig S2x2x72x2x128 .bf16)  : Keeps St.x c R U defs E (cc0__kernel_k i R.x R.hx R.c R.hc R.g R.hg R.d R.hd R.xt R.hxt R.ct R.hct R.u R.hu R.w R.hw R.z R.hz R.dt R.hdt ) := by
  rw [cc0__kernel_k_eq_skeleton]; unfold cc0__kernel_k_skel
  refine Keeps.bind (part91 i R) fun _ => ?_
  refine Keeps.bind (part92 i R _ _ _ _ _ _) fun _ => ?_
  refine Keeps.store (slotD c R) (fun _ _ => rfl) ?_
  exact Keeps.pure _

end Cert.Proof.QSafeI

end
-- ==== Proof.FrameQI.lean ====
/-
  The frame of `KernelKIdeal`: its body, run from any contents of its buffers, ends, and leaves the key block as it was.
-/
module

public import proofs.«01_k».proof.Proof.Gen.KernelKIdeal.Frame
public import proofs.«01_k».proof.Proof.QSafeI

@[expose] public section

noncomputable section

namespace Cert.Proof.FrameQI

open Cert.KernelKIdeal Cert.KernelKIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Everything the body leaves is forgotten but the input block. -/
def forgets : Fin cfg0.W → Bool := fun w => w.val != 0

/-- The proof data: the input's buffer at its block, nothing said of the outputs or the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  before0_0_of m (dats m 0 c) (A_eq m c 0) (after0_0 m c) t d

/-- The buffers the body works on at point `t`. -/
abbrev refsAt (t : Fin cfg0.N) : Quant.Refs sig S2x2x72x2x128 .bf16 :=
  ⟨win0_0.stage (cfg0.slots t 0), hstage0_0 ((cfg0.slots t 0).cast nbuf0_0), win0_1.stage (cfg0.slots t 1), hstage0_1 ((cfg0.slots t 1).cast nbuf0_1),
    win0_2.stage (cfg0.slots t 2), hstage0_2 ((cfg0.slots t 2).cast nbuf0_2),
    Memref.whole cc0_scratch0, Memref.isWhole_whole _, Memref.whole cc0_scratch1, Memref.isWhole_whole _, Memref.whole cc0_scratch2, Memref.isWhole_whole _,
    Memref.whole cc0_scratch3, Memref.isWhole_whole _, Memref.whole cc0_scratch4, Memref.isWhole_whole _, Memref.whole cc0_scratch5, Memref.isWhole_whole _,
    Memref.whole cc0_scratch6, Memref.isWhole_whole _⟩

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare d)
    ∗ (∃ d, owns (c : Thread nD τ) (st0_2 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare d)
    ∗ (∃ d, owns (c : Thread nD τ) (st0_2 t) fullShare d))

/-- The body at any point, from any contents of the outputs' buffers and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0]
  rw [show (dats m 0 c).Φ t.succ = (dats m 0 c).Φ t.castSucc from rfl,
    show (dats m 0 c).owesAt () t.succ = (dats m 0 c).owesAt () t.castSucc from rfl, after0_0]
  rw [show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩⟩, HP⟩, Ho, ⟨%d0, H0⟩, ⟨%d1, H1⟩, ⟨%d2, H2⟩⟩
  iapply (QSafeI.body (c := c) (U := UR sig nD τ) (defs := defs₀) (E := Set.univ) (grid0.coords t) (refsAt t)
    ⟨iblk m c 0 t, d1, d2, f0, f1, f2, f3, f4, f5, f6⟩ _)
  unfold Quant.own
  isplitl [S0 S1 S2 S3 S4 S5 S6 H0 H1 H2]
  · isplitl [H0]; · iexact H0
    isplitl [H1]; · iexact H1
    isplitl [H2]; · iexact H2
    isplitl [S0]; · rw [← owns_whole]; exact BIBase.Entails.rfl
    isplitl [S1]; · rw [← owns_whole]; exact BIBase.Entails.rfl
    isplitl [S2]; · rw [← owns_whole]; exact BIBase.Entails.rfl
    isplitl [S3]; · rw [← owns_whole]; exact BIBase.Entails.rfl
    isplitl [S4]; · rw [← owns_whole]; exact BIBase.Entails.rfl
    isplitl [S5]; · rw [← owns_whole]; exact BIBase.Entails.rfl
    rw [← owns_whole]; exact BIBase.Entails.rfl
  iintro %σ' %a %e ⟨H0, H1, H2, S0, S1, S2, S3, S4, S5, S6⟩
  rw [show σ'.x = iblk m c 0 t from e]
  isplitl [S0 S1 S2 S3 S4 S5 S6 HP]
  · isplitr [HP]
    · isplitl [S0]; · iexists σ'.d; rw [← owns_whole]; exact BIBase.Entails.rfl
      isplitl [S1]; · iexists σ'.xt; rw [← owns_whole]; exact BIBase.Entails.rfl
      isplitl [S2]; · iexists σ'.ct; rw [← owns_whole]; exact BIBase.Entails.rfl
      isplitl [S3]; · iexists σ'.u; rw [← owns_whole]; exact BIBase.Entails.rfl
      isplitl [S4]; · iexists σ'.w; rw [← owns_whole]; exact BIBase.Entails.rfl
      isplitl [S5]; · iexists σ'.z; rw [← owns_whole]; exact BIBase.Entails.rfl
      iexists σ'.dt; rw [← owns_whole]; exact BIBase.Entails.rfl
    iexact HP
  isplitl [Ho]; · iexact Ho
  isplitl [H0]; · iexact H0
  isplitl [H1]; · iexists σ'.c; iexact H1
  iexists σ'.g; iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

/-- The host line after the call writes its own result only. -/
theorem writes_last : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  exact Finset.mem_singleton.2 (Proc.devRef_injective (τ := τ) _ hb)

set_option backward.isDefEq.respectTransparency.types false in
theorem run_main :
    θ_run (defs (F := F)) (onTc (τ := τ) (main (F := F))) ⟨m, fun _ => 0, ρ⟩
      (fun r => Pipeline.RDat.FramePostR (cfgs 0) (fun c => (dats m 0 c).toRForget forgets) {main_v1} (V m) r ∧ r.2.sem = fun _ => 0) :=
  Pipeline.θ_run_frame_around_T_forget (Q' := _) cfgs (dats m) (0 : Fin 1) launch0 defs₀ Variants.none forgets {main_v1} m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_last) (hmain := hmain m Variants.none) (hA := A_eq m) (hΦ := fun _ _ => rfl)

/-- The call ends, leaves its argument as it was, and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run (defs (F := F)) _ _).mono (fun _ ⟨h, hz⟩ => ⟨fun c =>
    (Pipeline.RDat.FramePostR.arr_in h c 0 rfl).trans ((A_eq m c 0).trans (V_main_arg0 m c)), hz⟩) (run_main m ρ)

end Cert.Proof.FrameQI

end
-- ==== Proof.QTile.lean ====
/-
  The kernel quantises a key block four heads at a time. This module writes out the first half of that work as a program
  with counted loops: transpose the heads, find the largest magnitude of each block of 32 keys, search for its exponent,
  store the exponent and the powers of two it gives.
-/
module

public import proofs.«01_k».proof.Proof.QState
public import proofs.«01_k».proof.Proof.Gen.KernelKIdeal
public import proofs.«01_k».proof.Proof.Attn

@[expose] public section

set_option maxRecDepth 65536

noncomputable section

namespace Quant

open Idealize.ShloMosaic Idealize.ShloMosaic.TcCoe Idealize.SL.Sem
open Attn (loopN inb3 inb4 pos3)

variable {F : FTy → Type} [FloatOps F]

/-! ### Values -/

/-- A head of the block, transposed. -/
def headT (p : Fin 2) (x : Vec F (S4d 1 256 2 128) .bf16) : FVec F (S3d 1 128 256) .bf16 :=
  shapeCast (S3d 1 128 256) (transpose (S2d 128 256) [1, 0]
    (shapeCast (S2d 256 128) (rowsOfParity p (S4d 1 256 1 128) x (by decide)) (by decide) : FVec F (S2d 256 128) .bf16) (by decide)) (by decide)

/-- The magnitudes of 32 rows, folded to 16. -/
def fold (x : Vec F (S3d 1 32 256) .bf16) : FVec F (S2d 16 256) .bf16 :=
  maximumf (extractStridedSlice (S2d 16 256) ![0, 0] (absf (shapeCast (S2d 32 256) x (by decide) : FVec F (S2d 32 256) .bf16)) (by decide))
    (extractStridedSlice (S2d 16 256) ![16, 0] (absf (shapeCast (S2d 32 256) x (by decide) : FVec F (S2d 32 256) .bf16)) (by decide))

theorem slices_half {h : ℕ} (hh : h < 2) : (S2d 8 256).Slices ![0, 128 * h] (S2d 8 128) := by
  have : h = 0 ∨ h = 1 := by omega
  rcases this with rfl | rfl <;> decide

/-- Half the columns of the folded rows, in pairs. -/
def halfRows (h : ℕ) (hh : h < 2) (m : FVec F (S2d 16 256) .bf16) : Vec F (S3d 8 2 128) .bf16 :=
  interleaveRows (S3d 8 2 128)
    (shapeCast (S3d 8 1 128) (extractStridedSlice (S2d 8 128) ![0, 128 * h] (rowsOfParity 0 (S2d 8 256) m (by decide)) (slices_half hh) : FVec F (S2d 8 128) .bf16) (by decide))
    (shapeCast (S3d 8 1 128) (extractStridedSlice (S2d 8 128) ![0, 128 * h] (rowsOfParity 1 (S2d 8 256) m (by decide)) (slices_half hh) : FVec F (S2d 8 128) .bf16) (by decide))
    (by decide)

/-- Eight pairs of rows as sixteen. -/
def rows16 (x : Vec F (S3d 8 2 128) .bf16) : FVec F (S2d 16 128) .bf16 :=
  interleaveRows (S2d 16 128) (shapeCast (S2d 8 128) (rowsOfParity 0 (S3d 8 1 128) x (by decide)) (by decide) : FVec F (S2d 8 128) .bf16)
    (shapeCast (S2d 8 128) (rowsOfParity 1 (S3d 8 1 128) x (by decide)) (by decide) : FVec F (S2d 8 128) .bf16) (by decide)

/-- The largest of eight. -/
def tree (r0 r1 r2 r3 r4 r5 r6 r7 : FVec F (S2d 16 128) .bf16) : FVec F (S2d 16 128) .bf16 :=
  maximumf (maximumf (maximumf r0 r1) (maximumf r2 r3)) (maximumf (maximumf r4 r5) (maximumf r6 r7))

theorem concat2 : Shape.Concatenates [S2d 8 128, S2d 8 128] (S2d 8 256) 1 := by decide

/-- The rows of one parity, the two halves of the columns put together. -/
def cols (p : Fin 2) (a b : FVec F (S2d 16 128) .bf16) : FVec F (S2d 8 256) .bf16 :=
  concatenate (S2d 8 256) 1 [⟨S2d 8 128, rowsOfParity p (S2d 8 128) a (by decide)⟩, ⟨S2d 8 128, rowsOfParity p (S2d 8 128) b (by decide)⟩] concat2

/-- The largest magnitude of each block. -/
def amax (a b : FVec F (S2d 16 128) .bf16) : FVec F (S2d 8 256) .f32 := maximumf (extf .f32 (cols 1 a b)) (extf .f32 (cols 0 a b))

/-- The float a candidate exponent is tried with. -/
def thr (n : IVec (S2d 8 256) 32) : FVec F (S2d 8 256) .f32 :=
  bitcastToFloat .f32 (ori (shli n (broadcast (S2d 8 256) 23#32)) (broadcast (S2d 8 256) 6291456#32))

/-- One step of the search. -/
def step (A : FVec F (S2d 8 256) .f32) (s : BitVec 32) (n : IVec (S2d 8 256) 32) : IVec (S2d 8 256) 32 :=
  select (cmpf .ole (thr (addi n (broadcast (S2d 8 256) s))) A) (addi n (broadcast (S2d 8 256) s)) n

/-- The exponent stored for a block whose largest magnitude is given. -/
def search (A : FVec F (S2d 8 256) .f32) : IVec (S2d 8 256) 32 :=
  step A 1#32 (step A 2#32 (step A 4#32 (step A 8#32 (step A 16#32 (step A 32#32 (step A 64#32 (step A 127#32 (broadcast (S2d 8 256) 0#32))))))))

/-- The exponent as stored. -/
def stored (A : FVec F (S2d 8 256) .f32) : IVec (S2d 8 256) 32 :=
  select (cmpi .slt (subi (search A) (broadcast (S2d 8 256) 7#32)) (broadcast (S2d 8 256) 2#32)) (broadcast (S2d 8 256) 127#32)
    (subi (search A) (broadcast (S2d 8 256) 7#32))

/-- A bf16 of the given bits, twice in a word. -/
def twice (w : IVec (S2d 8 256) 32) : IVec (S2d 8 256) 32 :=
  shapeCast (S2d 8 256) (ori w (shli w (broadcast (S2d 8 256) 16#32))) (by decide)

def downBits (e : IVec (S2d 8 256) 32) : IVec (S2d 8 256) 32 := shli (subi (broadcast (S2d 8 256) 254#32) e) (broadcast (S2d 8 256) 7#32)
def upBits (e : IVec (S2d 8 256) 32) : IVec (S2d 8 256) 32 := shli e (broadcast (S2d 8 256) 7#32)

theorem slices_four {h : ℕ} (hh : h < 2) : (S2d 8 256).Slices ![4 * h, 0] (S2d 4 256) := by
  have : h = 0 ∨ h = 1 := by omega
  rcases this with rfl | rfl <;> decide

/-- The exponents of one head. -/
def scaleRows (h : ℕ) (hh : h < 2) (e : IVec (S2d 8 256) 32) : IVec (S4d 1 1 4 256) 8 :=
  shapeCast (S4d 1 1 4 256) (trunci 8 (extractStridedSlice (S2d 4 256) ![4 * h, 0] e (slices_four hh)) (by decide) : IVec (S2d 4 256) 8) (by decide)

/-! ### Programs -/

variable {nD : ℕ} {τ : Topo} {sig : RefSig} {Λ₀ : Labels}

/-- The slab of partial maxima. -/
abbrev Sz : Shape := ⟨5, ![2, 2, 72, 2, 128]⟩

theorem inb2 {A B a b x y : ℕ} (h0 : x + a ≤ A) (h1 : y + b ≤ B) :
    ∀ i, (![x, y] : Fin 2 → ℕ) i + (![a, b] : Fin 2 → ℕ) i ≤ (S2d A B).size i := by
  intro i; fin_cases i <;> assumption

theorem inb5 {q : ℕ} (hq : q < 2) : ∀ i, (![q, 0, 0, 0, 0] : Fin 5 → ℕ) i + (![1, 2, 72, 2, 128] : Fin 5 → ℕ) i ≤ Sz.size i := by
  have : q = 0 ∨ q = 1 := by omega
  rcases this with rfl | rfl <;> decide

theorem inbh {h : ℕ} (hh : h < 2) : ∀ i, (![h, 0, 0, 0] : Fin 4 → ℕ) i + (![1, 72, 2, 128] : Fin 4 → ℕ) i ≤ (S4d 2 72 2 128).size i := by
  have : h = 0 ∨ h = 1 := by omega
  rcases this with rfl | rfl <;> decide

theorem inbs {s : ℕ} (hs : s < 8) : ∀ a, (![8, 2, 128] : Fin 3 → ℕ) a = 0 ∨ (![s, 0, 0] : Fin 3 → ℕ) a + (![9, 1, 1] : Fin 3 → ℕ) a * ((![8, 2, 128] : Fin 3 → ℕ) a - 1) < (S3d 72 2 128).size a := by
  intro a; right; fin_cases a
  · show s + 9 * 7 < 72; omega
  · show 0 + 1 * 1 < 2; decide
  · show 0 + 1 * 127 < 128; decide

theorem pos8 : 0 < (S3d 8 2 128).numel := by decide
theorem pos8w : 0 < (S2d 8 256).numel := by decide
theorem pos4 : 0 < (S4d 1 1 4 256).numel := by decide
theorem pos3t : 0 < (S3d 1 128 256).numel := by decide

theorem spos : ∀ a, 0 < (![9, 1, 1] : Fin 3 → ℕ) a := by decide

/-- Every ninth row pair, from the `s`th. -/
abbrev ninth (s : ℕ) (hs : s < 8) : LoadRect (S3d 72 2 128) := ⟨![s, 0, 0], ![8, 2, 128], ![9, 1, 1], inbs hs⟩

abbrev slabQ (q : ℕ) (hq : q < 2) : Rect Sz := Rect.unit (s := Sz) ![q, 0, 0, 0, 0] ![1, 2, 72, 2, 128] (inb5 hq)
abbrev slabH (h : ℕ) (hh : h < 2) : Rect (S4d 2 72 2 128) := Rect.unit (s := S4d 2 72 2 128) ![h, 0, 0, 0] ![1, 72, 2, 128] (inbh hh)

theorem sq1 : Shape.Squeezes ⟨5, ![1, 2, 72, 2, 128]⟩ (S4d 2 72 2 128) := by decide
theorem sq2 : Shape.Squeezes (S4d 1 72 2 128) (S3d 72 2 128) := by decide

/-- One of the four parts of the slab. -/
abbrev slab (R : Refs sig Sz .bf16) (q : ℕ) (hq : q < 2) (h : ℕ) (hh : h < 2) : Memref sig .tc .vmem (S3d 72 2 128) .bf16 :=
  (((R.z.slice (slabQ q hq) (fun _ => rfl)).squeeze (S4d 2 72 2 128) sq1).slice (slabH h hh) (fun _ => rfl)).squeeze (S3d 72 2 128) sq2

abbrev Sz1 : Shape := ⟨5, ![1, 2, 72, 2, 128]⟩
theorem rank5 : 2 ≤ Sz.rank := by decide
theorem rank5' : 2 ≤ Sz1.rank := by decide
theorem rank4 : 2 ≤ (S4d 2 72 2 128).rank := by decide
theorem rank4' : 2 ≤ (S4d 1 72 2 128).rank := by decide
theorem rank3 : 2 ≤ (S3d 72 2 128).rank := by decide
theorem pairs3 : EltTy.packing .bf16 ∣ (S3d 72 2 128).rows := by decide

theorem slab_stores (R : Refs sig Sz .bf16) {q : ℕ} (hq : q < 2) {h : ℕ} (hh : h < 2) {s : ℕ} (hs : s < 8) :
    ((slab R q hq h hh).access ⟨ninth s hs, spos⟩).Stores Finset.univ :=
  View.stores_vmem pos8 ((((((R.hz.pairWhole rank5).slice _ (Rect.wholeSlabs_unit rank5 rfl rfl rfl rfl)).reshape _ _
    (Shape.EndsAs.intro rank4 rank5' rfl rfl)).slice _ (Rect.wholeSlabs_unit rank4 rfl rfl rfl rfl)).reshape _ _
    (Shape.EndsAs.intro rank3 rank4' rfl rfl)).storeExact_slice rfl _ (Rect.WholeRows.intro rank3 rfl rfl rfl) pairs3) (fun _ => rfl)

/-- Store the folded rows into the slab, a block to every ninth row pair. -/
def scatter (R : Refs sig Sz .bf16) (q : ℕ) (hq : q < 2) (h : ℕ) (hh : h < 2) (ms : Fin 8 → FVec F (S2d 16 256) .bf16) :
    Prog (TpuEff nD τ sig (Elt F) Λ₀ .tc) PUnit :=
  loopN 8 (fun s hs _ => do
    let _ : Vec F (S3d 8 2 128) .bf16 ← Prog.lift (.load (slab R q hq h hh) (ninth s hs) (View.loadsAt_vmem pos8))
    Prog.lift (.store (slab R q hq h hh) ⟨ninth s hs, spos⟩ (halfRows h hh (ms ⟨s, hs⟩)) Finset.univ (slab_stores R hq hh hs) (.inl rfl))) ⟨⟩

theorem inbt {t : ℕ} (ht : t < 8) : ∀ a, (![9 * t, 0, 0] : Fin 3 → ℕ) a + (![8, 2, 128] : Fin 3 → ℕ) a ≤ (S3d 72 2 128).size a := by
  intro a; fin_cases a
  · show 9 * t + 8 ≤ 72; omega
  · show 0 + 2 ≤ 2; decide
  · show 0 + 128 ≤ 128; decide

/-- Eight neighbouring row pairs, a pair of each block. -/
abbrev eight (t : ℕ) (ht : t < 8) : Rect (S3d 72 2 128) := Rect.unit (s := S3d 72 2 128) ![9 * t, 0, 0] ![8, 2, 128] (inbt ht)

def slabRow (R : Refs sig Sz .bf16) (q : ℕ) (hq : q < 2) (h : ℕ) (hh : h < 2) (t : ℕ) (ht : t < 8) : Prog (TpuEff nD τ sig (Elt F) Λ₀ .tc) (Vec F (S3d 8 2 128) .bf16) :=
  Prog.lift (.load (slab R q hq h hh) (eight t ht).toLoadRect (View.loadsAt_vmem pos8))

/-- Read the slab back, a row pair of every block at a time, and take the largest. -/
def gather (R : Refs sig Sz .bf16) (q : ℕ) (hq : q < 2) (h : ℕ) (hh : h < 2) : Prog (TpuEff nD τ sig (Elt F) Λ₀ .tc) (FVec F (S2d 16 128) .bf16) := do
  let r0 ← slabRow R q hq h hh 0 (by decide)
  let r1 ← slabRow R q hq h hh 1 (by decide)
  let r2 ← slabRow R q hq h hh 2 (by decide)
  let r3 ← slabRow R q hq h hh 3 (by decide)
  let r4 ← slabRow R q hq h hh 4 (by decide)
  let r5 ← slabRow R q hq h hh 5 (by decide)
  let r6 ← slabRow R q hq h hh 6 (by decide)
  let r7 ← slabRow R q hq h hh 7 (by decide)
  pure (tree (rows16 r0) (rows16 r1) (rows16 r2) (rows16 r3) (rows16 r4) (rows16 r5) (rows16 r6) (rows16 r7))

def ld3 {A B C : ℕ} {e : EltTy} (m : Memref sig .tc .vmem (S3d A B C) e) (off : Fin 3 → ℕ) (a b c : ℕ)
    (h : ∀ i, off i + (![a, b, c] : Fin 3 → ℕ) i ≤ (S3d A B C).size i) (hp : 0 < (S3d a b c).numel) :
    Prog (TpuEff nD τ sig (Elt F) Λ₀ .tc) (Vec F (S3d a b c) e) :=
  Prog.lift (.load m (Rect.unit (s := S3d A B C) off ![a, b, c] h).toLoadRect (View.loadsAt_vmem hp))

def st3 {A B C : ℕ} {e : EltTy} (m : Memref sig .tc .vmem (S3d A B C) e) (off : Fin 3 → ℕ) (a b c : ℕ)
    (h : ∀ i, off i + (![a, b, c] : Fin 3 → ℕ) i ≤ (S3d A B C).size i) (w : Vec F (S3d a b c) e)
    (hs : (m.access (Rect.unit (s := S3d A B C) off ![a, b, c] h)).Stores Finset.univ) :
    Prog (TpuEff nD τ sig (Elt F) Λ₀ .tc) PUnit :=
  Prog.lift (.store m (Rect.unit (s := S3d A B C) off ![a, b, c] h) w Finset.univ hs (.inl rfl))

def ld4 {A B C D : ℕ} {e : EltTy} (m : Memref sig .tc .vmem (S4d A B C D) e) (off : Fin 4 → ℕ) (a b c d : ℕ)
    (h : ∀ i, off i + (![a, b, c, d] : Fin 4 → ℕ) i ≤ (S4d A B C D).size i) (hp : 0 < (S4d a b c d).numel) :
    Prog (TpuEff nD τ sig (Elt F) Λ₀ .tc) (Vec F (S4d a b c d) e) :=
  Prog.lift (.load m (Rect.unit (s := S4d A B C D) off ![a, b, c, d] h).toLoadRect (View.loadsAt_vmem hp))

def st4 {A B C D : ℕ} {e : EltTy} (m : Memref sig .tc .vmem (S4d A B C D) e) (off : Fin 4 → ℕ) (a b c d : ℕ)
    (h : ∀ i, off i + (![a, b, c, d] : Fin 4 → ℕ) i ≤ (S4d A B C D).size i) (w : Vec F (S4d a b c d) e)
    (hs : (m.access (Rect.unit (s := S4d A B C D) off ![a, b, c, d] h)).Stores Finset.univ) :
    Prog (TpuEff nD τ sig (Elt F) Λ₀ .tc) PUnit :=
  Prog.lift (.store m (Rect.unit (s := S4d A B C D) off ![a, b, c, d] h) w Finset.univ hs (.inl rfl))

/-- Store eight rows of words, reading what was there and leaving it. -/
def stWord (m : Memref sig .tc .vmem (S2d 16 256) .i32) (q : ℕ) (hq : q < 2) (w : IVec (S2d 8 256) 32) : Prog (TpuEff nD τ sig (Elt F) Λ₀ .tc) PUnit := do
  let _ : Vec F (S2d 8 256) .i32 ← Prog.lift (.load m (Rect.unit (s := S2d 16 256) ![8 * q, 0] ![8, 256] (inb2 (by omega) (by decide))).toLoadRect (View.loadsAt_vmem pos8w))
  Prog.lift (.store m (Rect.unit (s := S2d 16 256) ![8 * q, 0] ![8, 256] (inb2 (by omega) (by decide))) w Finset.univ (View.stores_vmem_bits_univ pos8w rfl) (.inl rfl))

theorem packedT {A B C : ℕ} {x z c : ℕ} (h : ∀ i, (![x, 0, z] : Fin 3 → ℕ) i + (![1, 128, c] : Fin 3 → ℕ) i ≤ (S3d A B C).size i) :
    (Rect.unit (s := S3d A B C) ![x, 0, z] ![1, 128, c] h).PackedRows 2 :=
  Affine.packed_dvd (s := S3d A B C) (Nat.le_succ 2) ⟨0, rfl⟩ ⟨64, rfl⟩

theorem packedS {A B C D : ℕ} {x y w c : ℕ} (h : ∀ i, (![x, y, 0, w] : Fin 4 → ℕ) i + (![1, 1, 4, c] : Fin 4 → ℕ) i ≤ (S4d A B C D).size i) :
    (Rect.unit (s := S4d A B C D) ![x, y, 0, w] ![1, 1, 4, c] h).PackedRows 4 :=
  Affine.packed_dvd (s := S4d A B C D) (Nat.le_add_left 2 2) ⟨0, rfl⟩ ⟨1, rfl⟩

/-- Store the exponents of a head. -/
def stScale (R : Refs sig Sz .bf16) (k : ℕ) (hk : k < 8) (w : IVec (S4d 1 1 4 256) 8) : Prog (TpuEff nD τ sig (Elt F) Λ₀ .tc) PUnit := do
  let _ ← ld4 (F := F) R.g ![0, k, 0, 0] 1 1 4 256 (inb4 (by decide) (by omega) (by decide) (by decide)) (by decide)
  st4 R.g ![0, k, 0, 0] 1 1 4 256 (inb4 (by decide) (by omega) (by decide) (by decide)) w
    (View.stores_vmem pos4 (R.hg.storeExact_slice rfl _ (packedS _)) (fun _ => rfl))

/-- Transpose four heads. -/
def heads (R : Refs sig Sz .bf16) (j : ℕ) (hj : j < 2) : Prog (TpuEff nD τ sig (Elt F) Λ₀ .tc) PUnit :=
  loopN 4 (fun a ha _ => do
    let x ← ld4 R.x ![0, 0, 2 * ((4 * j + a) / 2), 0] 1 256 2 128 (inb4 (by decide) (by decide) (by omega) (by decide)) (by decide)
    let _ ← ld3 R.xt ![a, 0, 0] 1 128 256 (inb3 (by omega) (by decide) (by decide)) (by decide)
    st3 R.xt ![a, 0, 0] 1 128 256 (inb3 (by omega) (by decide) (by decide)) (headT ⟨a % 2, Nat.mod_lt _ (by decide)⟩ x)
      (View.stores_vmem pos3t (R.hxt.storeExact_slice rfl _ (packedT _)) (fun _ => rfl))) ⟨⟩

/-- Eight blocks of 32 rows, of two heads. -/
def block (R : Refs sig Sz .bf16) (q : ℕ) (hq : q < 2) (s : ℕ) (hs : s < 8) : Prog (TpuEff nD τ sig (Elt F) Λ₀ .tc) (Vec F (S3d 1 32 256) .bf16) :=
  ld3 R.xt ![2 * q + s / 4, 32 * (s % 4), 0] 1 32 256 (inb3 (by omega) (by omega) (by decide)) (by decide)

/-- The largest magnitudes of eight blocks. -/
def maxima (R : Refs sig Sz .bf16) (q : ℕ) (hq : q < 2) : Prog (TpuEff nD τ sig (Elt F) Λ₀ .tc) (FVec F (S2d 8 256) .f32) := do
  let x0 ← block R q hq 0 (by decide)
  let x1 ← block R q hq 1 (by decide)
  let x2 ← block R q hq 2 (by decide)
  let x3 ← block R q hq 3 (by decide)
  let x4 ← block R q hq 4 (by decide)
  let x5 ← block R q hq 5 (by decide)
  let x6 ← block R q hq 6 (by decide)
  let x7 ← block R q hq 7 (by decide)
  let _ ← scatter R q hq 0 (by decide) ![fold x0, fold x1, fold x2, fold x3, fold x4, fold x5, fold x6, fold x7]
  let a ← gather R q hq 0 (by decide)
  let _ ← scatter R q hq 1 (by decide) ![fold x0, fold x1, fold x2, fold x3, fold x4, fold x5, fold x6, fold x7]
  let b ← gather R q hq 1 (by decide)
  pure (amax a b)

/-- What is stored of the exponents. -/
def stores (R : Refs sig Sz .bf16) (j : ℕ) (hj : j < 2) (q : ℕ) (hq : q < 2) (e : IVec (S2d 8 256) 32) : Prog (TpuEff nD τ sig (Elt F) Λ₀ .tc) PUnit := do
  let _ ← stWord R.u q hq (twice (downBits e))
  let _ ← stWord R.w q hq (twice (upBits e))
  let _ ← stScale R (4 * j + 2 * q) (by omega) (scaleRows 0 (by decide) e)
  stScale R (4 * j + 2 * q + 1) (by omega) (scaleRows 1 (by decide) e)

/-- The scales of four heads. -/
def phase (R : Refs sig Sz .bf16) (j : ℕ) (hj : j < 2) : Prog (TpuEff nD τ sig (Elt F) Λ₀ .tc) PUnit := do
  let _ ← heads R j hj
  loopN 2 (fun q hq _ => do
    let A ← maxima R q hq
    stores R j hj q hq (stored A)) ⟨⟩

end Quant

end
-- ==== Proof.QMul.lean ====
/-
  The second half of the work on four heads as a program with counted loops: multiply the keys by the power of two of their
  block, clip, round, store the codes, and transpose them into the block of codes.
-/
module

public import proofs.«01_k».proof.Proof.QTile

@[expose] public section

set_option maxRecDepth 65536

noncomputable section

namespace Quant

open Idealize.ShloMosaic Idealize.ShloMosaic.TcCoe Idealize.SL.Sem
open Attn (loopN inb3 inb4)

variable {F : FTy → Type} [FloatOps F]

/-! ### Values -/

/-- A row of words as bf16, two rows a word, repeated over 32 rows. -/
def rowBf16 (u : IVec (S2d 1 256) 32) : FVec F (S2d 32 256) .bf16 :=
  bitcastToFloat .bf16 (bitcast (S2d 32 256) 16 (broadcastTo (S2d 16 256) (shapeCast (S2d 1 256) u (by decide)) (by decide)) (by decide))

/-- The codes of 32 rows. -/
def encode (x : Vec F (S3d 1 32 256) .bf16) (u : IVec (S2d 1 256) 32) : FVec F (S2d 32 256) .fp8e4m3 :=
  truncf .fp8e4m3
    (minimumf (broadcast (S2d 32 256) (Scalar.truncf .bf16 (by decide) (Scalar.ofBits .f32 0x43E00000#32 : F .f32)))
      (maximumf (broadcast (S2d 32 256) (Scalar.truncf .bf16 (by decide) (Scalar.ofBits .f32 0xC3E00000#32 : F .f32)))
        (mulf (shapeCast (S2d 32 256) x (by decide) : FVec F (S2d 32 256) .bf16) (rowBf16 u)))) (by decide)

def codeRows (x : Vec F (S3d 1 32 256) .bf16) (u : IVec (S2d 1 256) 32) : FVec F (S3d 1 32 256) .fp8e4m3 :=
  shapeCast (S3d 1 32 256) (encode x u) (by decide)

/-- The dequantised keys of 32 rows. -/
def deqRows (x : Vec F (S3d 1 32 256) .bf16) (u w : IVec (S2d 1 256) 32) : FVec F (S3d 1 32 256) .bf16 :=
  shapeCast (S3d 1 32 256) (mulf (extf .bf16 (encode x u) (by decide)) (rowBf16 w) : FVec F (S2d 32 256) .bf16) (by decide)

/-- The codes of a head, transposed back. -/
def codesT (x : Vec F (S3d 1 128 256) .fp8e4m3) : FVec F (S4d 1 256 1 128) .fp8e4m3 :=
  shapeCast (S4d 1 256 1 128) (transpose (S2d 256 128) [1, 0] (shapeCast (S2d 128 256) x (by decide) : FVec F (S2d 128 256) .fp8e4m3) (by decide)) (by decide)

/-! ### Programs -/

variable {nD : ℕ} {τ : Topo} {sig : RefSig} {Λ₀ : Labels}

theorem pos1w : 0 < (S2d 1 256).numel := by decide
theorem pos32 : 0 < (S3d 1 32 256).numel := by decide
theorem pos44 : 0 < (S4d 1 256 4 128).numel := by decide

theorem packed2 {A B C : ℕ} {x b z c : ℕ} (h : ∀ i, (![x, 32 * b, z] : Fin 3 → ℕ) i + (![1, 32, c] : Fin 3 → ℕ) i ≤ (S3d A B C).size i) :
    (Rect.unit (s := S3d A B C) ![x, 32 * b, z] ![1, 32, c] h).PackedRows 2 :=
  Affine.packed_dvd (s := S3d A B C) (Nat.le_succ 2) ⟨16 * b, by show 32 * b = 2 * (16 * b); omega⟩ ⟨16, rfl⟩

theorem packed4 {A B C : ℕ} {x b z c : ℕ} (h : ∀ i, (![x, 32 * b, z] : Fin 3 → ℕ) i + (![1, 32, c] : Fin 3 → ℕ) i ≤ (S3d A B C).size i) :
    (Rect.unit (s := S3d A B C) ![x, 32 * b, z] ![1, 32, c] h).PackedRows 4 :=
  Affine.packed_dvd (s := S3d A B C) (Nat.le_succ 2) ⟨8 * b, by show 32 * b = 4 * (8 * b); omega⟩ ⟨8, rfl⟩

theorem packedC {A B C D : ℕ} {x y j w c b : ℕ} (h : ∀ i, (![x, y, 4 * j, w] : Fin 4 → ℕ) i + (![1, b, 4, c] : Fin 4 → ℕ) i ≤ (S4d A B C D).size i) :
    (Rect.unit (s := S4d A B C D) ![x, y, 4 * j, w] ![1, b, 4, c] h).PackedRows 4 :=
  Affine.packed_dvd (s := S4d A B C D) (Nat.le_add_left 2 2) ⟨j, rfl⟩ ⟨1, rfl⟩

def ldRow (m : Memref sig .tc .vmem (S2d 16 256) .i32) (r : ℕ) (hr : r < 16) : Prog (TpuEff nD τ sig (Elt F) Λ₀ .tc) (Vec F (S2d 1 256) .i32) :=
  Prog.lift (.load m (Rect.unit (s := S2d 16 256) ![r, 0] ![1, 256] (inb2 (by omega) (by decide))).toLoadRect (View.loadsAt_vmem pos1w))

/-- Codes and dequantised keys of one block of one head. -/
def mult (R : Refs sig Sz .bf16) (b : ℕ) (hb : b < 4) (a : ℕ) (ha : a < 4) : Prog (TpuEff nD τ sig (Elt F) Λ₀ .tc) PUnit := do
  let x ← ld3 (F := F) R.xt ![a, 32 * b, 0] 1 32 256 (inb3 (by omega) (by omega) (by decide)) pos32
  let u ← ldRow (F := F) R.u (4 * a + b) (by omega)
  let w ← ldRow (F := F) R.w (4 * a + b) (by omega)
  let _ ← ld3 (F := F) R.dt ![a, 32 * b, 0] 1 32 256 (inb3 (by omega) (by omega) (by decide)) pos32
  let _ ← st3 R.dt ![a, 32 * b, 0] 1 32 256 (inb3 (by omega) (by omega) (by decide)) (deqRows x u w)
    (View.stores_vmem pos32 (R.hdt.storeExact_slice rfl _ (packed2 _)) (fun _ => rfl))
  let _ ← ld3 (F := F) R.ct ![a, 32 * b, 0] 1 32 256 (inb3 (by omega) (by omega) (by decide)) pos32
  st3 R.ct ![a, 32 * b, 0] 1 32 256 (inb3 (by omega) (by omega) (by decide)) (codeRows x u)
    (View.stores_vmem pos32 (R.hct.storeExact_slice rfl _ (packed4 _)) (fun _ => rfl))

def mults (R : Refs sig Sz .bf16) : Prog (TpuEff nD τ sig (Elt F) Λ₀ .tc) PUnit :=
  loopN 4 (fun b hb _ => loopN 4 (fun a ha _ => mult R b hb a ha) ⟨⟩) ⟨⟩

theorem slicesC {a : ℕ} (ha : a < 4) : (S4d 1 256 4 128).Slices ![0, 0, a, 0] (S4d 1 256 1 128) := by
  have : a = 0 ∨ a = 1 ∨ a = 2 ∨ a = 3 := by omega
  rcases this with rfl | rfl | rfl | rfl <;> decide

/-- Four heads of the block of codes. -/
abbrev rectC (j : ℕ) (hj : j < 2) : Rect (S4d 1 256 8 128) :=
  Rect.unit (s := S4d 1 256 8 128) ![0, 0, 4 * j, 0] ![1, 256, 4, 128] (inb4 (by decide) (by decide) (by omega) (by decide))

/-- Store the codes of one head. -/
def putCode (R : Refs sig Sz .bf16) (j : ℕ) (hj : j < 2) (a : ℕ) (ha : a < 4) : Prog (TpuEff nD τ sig (Elt F) Λ₀ .tc) PUnit := do
  let x ← ld3 (F := F) R.ct ![a, 0, 0] 1 128 256 (inb3 (by omega) (by decide) (by decide)) (by decide)
  let _ ← ld4 (F := F) R.c ![0, 0, 4 * j + a, 0] 1 256 1 128 (inb4 (by decide) (by decide) (by omega) (by decide)) (by decide)
  storeSubelements R.c (rectC j hj) (fun old => updateSlice old (codesT x) ![0, 0, a, 0] (slicesC ha)) (View.loadsAt_vmem pos44)
    (View.stores_vmem pos44 (R.hc.storeExact_slice rfl _ (packedC _)) (fun _ => rfl))

/-- The codes of four heads. -/
def codes (R : Refs sig Sz .bf16) (j : ℕ) (hj : j < 2) : Prog (TpuEff nD τ sig (Elt F) Λ₀ .tc) PUnit := do
  let _ ← mults R
  loopN 4 (fun a ha _ => putCode R j hj a ha) ⟨⟩

end Quant

end
-- ==== Proof.QTail.lean ====
/-
  What `KernelKIdeal` does after the codes of four heads are stored: it transposes the dequantised keys into their buffer.
  These steps leave the key block, the codes and the scales as they were.
-/
module

public import proofs.«01_k».proof.Proof.Gen.KernelKIdeal.Skeleton
public import proofs.«01_k».proof.Proof.Gen.KernelKIdeal
public import proofs.«01_k».proof.Proof.QState

@[expose] public section

noncomputable section

/-- The key block, the scales and the codes. -/
def Quant.seen {F : Idealize.ShloMosaic.FTy → Type} [Idealize.ShloMosaic.FloatOps F] {sl : Idealize.ShloMosaic.Shape} {el : Idealize.ShloMosaic.EltTy}
    (σ : Quant.St F sl el) := (σ.x, σ.g, σ.c)

namespace Cert.Proof.QTail

open Cert.KernelKIdeal Cert.KernelKIdeal.Gen Quant
open Idealize.ShloMosaic Idealize.ShloMosaic.TcCoe Idealize.SL.Sem
open Idealize.SL.RA

variable {F : FTy → Type} [FloatOps F]
variable {U : Type} [URA U] {c : Dev nD} {defs : Defs nD τ sig (Elt F) Λ₀} {E : Set ℕ}

def tail0 (i : grid0.Coords) (R : Quant.Refs sig S2x2x72x2x128 .bf16) : Prog (TpuEff nD τ sig (Elt F) Λ₀ .tc) PUnit := do
  let v1304 ← Prog.lift (.load R.dt (Rect.unit (s := S4x128x256) ![0, 0, 0] S1x128x256.size inb_S4x128x256_S1x128x256_0_0_0).toLoadRect (View.loadsAt_vmem h_S1x128x256))
  let v1308 ← Prog.lift (.load R.d (Rect.unit (s := S8x1024x128) (k0_off1 i) S1x256x128.size (k0_off1_inb i)).toLoadRect (View.loadsAt_vmem h_S1x256x128))
  Prog.lift (.store R.d (Rect.unit (s := S8x1024x128) (k0_off1 i) S1x256x128.size (k0_off1_inb i)) (k0_pay228 v1304) Finset.univ (View.stores_vmem h_S1x256x128 (R.hd.storeExact_slice rfl _ (k0_off1_packedbf16 i)) (fun _ => rfl)) (.inl rfl))
  let v1311 ← Prog.lift (.load R.dt (Rect.unit (s := S4x128x256) ![1, 0, 0] S1x128x256.size inb_S4x128x256_S1x128x256_1_0_0).toLoadRect (View.loadsAt_vmem h_S1x128x256))
  let v1315 ← Prog.lift (.load R.d (Rect.unit (s := S8x1024x128) (k0_off2 i) S1x256x128.size (k0_off2_inb i)).toLoadRect (View.loadsAt_vmem h_S1x256x128))
  Prog.lift (.store R.d (Rect.unit (s := S8x1024x128) (k0_off2 i) S1x256x128.size (k0_off2_inb i)) (k0_pay229 v1311) Finset.univ (View.stores_vmem h_S1x256x128 (R.hd.storeExact_slice rfl _ (k0_off2_packedbf16 i)) (fun _ => rfl)) (.inl rfl))
  let v1318 ← Prog.lift (.load R.dt (Rect.unit (s := S4x128x256) ![2, 0, 0] S1x128x256.size inb_S4x128x256_S1x128x256_2_0_0).toLoadRect (View.loadsAt_vmem h_S1x128x256))
  let v1320 := (k0_pay230 v1318)
  let v1322 ← Prog.lift (.load R.d (Rect.unit (s := S8x1024x128) (k0_off3 i) S1x256x128.size (k0_off3_inb i)).toLoadRect (View.loadsAt_vmem h_S1x256x128))
  Prog.lift (.store R.d (Rect.unit (s := S8x1024x128) (k0_off3 i) S1x256x128.size (k0_off3_inb i)) (k0_pay231 v1320) Finset.univ (View.stores_vmem h_S1x256x128 (R.hd.storeExact_slice rfl _ (k0_off3_packedbf16 i)) (fun _ => rfl)) (.inl rfl))
  let v1325 ← Prog.lift (.load R.dt (Rect.unit (s := S4x128x256) ![3, 0, 0] S1x128x256.size inb_S4x128x256_S1x128x256_3_0_0).toLoadRect (View.loadsAt_vmem h_S1x128x256))
  let v1329 ← Prog.lift (.load R.d (Rect.unit (s := S8x1024x128) (k0_off4 i) S1x256x128.size (k0_off4_inb i)).toLoadRect (View.loadsAt_vmem h_S1x256x128))
  Prog.lift (.store R.d (Rect.unit (s := S8x1024x128) (k0_off4 i) S1x256x128.size (k0_off4_inb i)) (k0_pay232 v1325) Finset.univ (View.stores_vmem h_S1x256x128 (R.hd.storeExact_slice rfl _ (k0_off4_packedbf16 i)) (fun _ => rfl)) (.inl rfl))
  pure ⟨⟩

theorem tail0_keeps (i : grid0.Coords) (R : Quant.Refs sig S2x2x72x2x128 .bf16) : Keeps Quant.seen c R U defs E (tail0 (F := F) i R) := by
  unfold tail0
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  exact Keeps.pure _

def tail1 (i : grid0.Coords) (R : Quant.Refs sig S2x2x72x2x128 .bf16) : Prog (TpuEff nD τ sig (Elt F) Λ₀ .tc) PUnit := do
  let v2634 ← Prog.lift (.load R.dt (Rect.unit (s := S4x128x256) ![0, 0, 0] S1x128x256.size inb_S4x128x256_S1x128x256_0_0_0).toLoadRect (View.loadsAt_vmem h_S1x128x256))
  let v2638 ← Prog.lift (.load R.d (Rect.unit (s := S8x1024x128) (k0_off5 i) S1x256x128.size (k0_off5_inb i)).toLoadRect (View.loadsAt_vmem h_S1x256x128))
  Prog.lift (.store R.d (Rect.unit (s := S8x1024x128) (k0_off5 i) S1x256x128.size (k0_off5_inb i)) (k0_pay471 v2634) Finset.univ (View.stores_vmem h_S1x256x128 (R.hd.storeExact_slice rfl _ (k0_off5_packedbf16 i)) (fun _ => rfl)) (.inl rfl))
  let v2641 ← Prog.lift (.load R.dt (Rect.unit (s := S4x128x256) ![1, 0, 0] S1x128x256.size inb_S4x128x256_S1x128x256_1_0_0).toLoadRect (View.loadsAt_vmem h_S1x128x256))
  let v2643 := (k0_pay472 v2641)
  let v2645 ← Prog.lift (.load R.d (Rect.unit (s := S8x1024x128) (k0_off6 i) S1x256x128.size (k0_off6_inb i)).toLoadRect (View.loadsAt_vmem h_S1x256x128))
  Prog.lift (.store R.d (Rect.unit (s := S8x1024x128) (k0_off6 i) S1x256x128.size (k0_off6_inb i)) (k0_pay473 v2643) Finset.univ (View.stores_vmem h_S1x256x128 (R.hd.storeExact_slice rfl _ (k0_off6_packedbf16 i)) (fun _ => rfl)) (.inl rfl))
  let v2648 ← Prog.lift (.load R.dt (Rect.unit (s := S4x128x256) ![2, 0, 0] S1x128x256.size inb_S4x128x256_S1x128x256_2_0_0).toLoadRect (View.loadsAt_vmem h_S1x128x256))
  let v2652 ← Prog.lift (.load R.d (Rect.unit (s := S8x1024x128) (k0_off7 i) S1x256x128.size (k0_off7_inb i)).toLoadRect (View.loadsAt_vmem h_S1x256x128))
  Prog.lift (.store R.d (Rect.unit (s := S8x1024x128) (k0_off7 i) S1x256x128.size (k0_off7_inb i)) (k0_pay474 v2648) Finset.univ (View.stores_vmem h_S1x256x128 (R.hd.storeExact_slice rfl _ (k0_off7_packedbf16 i)) (fun _ => rfl)) (.inl rfl))
  let v2655 ← Prog.lift (.load R.dt (Rect.unit (s := S4x128x256) ![3, 0, 0] S1x128x256.size inb_S4x128x256_S1x128x256_3_0_0).toLoadRect (View.loadsAt_vmem h_S1x128x256))
  let v2659 ← Prog.lift (.load R.d (Rect.unit (s := S8x1024x128) (k0_off8 i) S1x256x128.size (k0_off8_inb i)).toLoadRect (View.loadsAt_vmem h_S1x256x128))
  let v2657 := k0_pay475 v2655
  Prog.lift (.store R.d (Rect.unit (s := S8x1024x128) (k0_off8 i) S1x256x128.size (k0_off8_inb i)) (k0_pay1 v2657) Finset.univ (View.stores_vmem h_S1x256x128 (R.hd.storeExact_slice rfl _ (k0_off8_packedbf16 i)) (fun _ => rfl)) (.inl rfl))
  pure ⟨⟩

theorem tail1_keeps (i : grid0.Coords) (R : Quant.Refs sig S2x2x72x2x128 .bf16) : Keeps Quant.seen c R U defs E (tail1 (F := F) i R) := by
  unfold tail1
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  refine Keeps.load (slotDt c R) fun _ => ?_
  refine Keeps.load (slotD c R) fun _ => ?_
  refine Keeps.store (slotD c R) (fun _ _ => rfl) ?_
  exact Keeps.pure _

end Cert.Proof.QTail

end
-- ==== Proof.QBody.lean ====
/-
  The printed body of `KernelKIdeal` is the program of `QTile`, `QMul` and `QTail`.
-/
module

public import proofs.«01_k».proof.Proof.QMul
public import proofs.«01_k».proof.Proof.QTail

@[expose] public section

set_option maxRecDepth 65536

noncomputable section

namespace Cert.Proof.QBody

open Cert.KernelKIdeal Cert.KernelKIdeal.Gen Quant QTail
open Idealize.ShloMosaic Idealize.SL.Sem

variable {F : FTy → Type} [FloatOps F]

theorem body_eq (i : grid0.Coords) (R : Refs sig Sz .bf16) :
    cc0__kernel_k (F := F) i R.x R.hx R.c R.hc R.g R.hg R.d R.hd R.xt R.hxt R.ct R.hct R.u R.hu R.w R.hw R.z R.hz R.dt R.hdt
      = (do
        let _ ← phase R 0 (by decide)
        let _ ← codes R 0 (by decide)
        let _ ← tail0 i R
        let _ ← phase R 1 (by decide)
        let _ ← codes R 1 (by decide)
        tail1 i R) := by
  show _ = _
  chain_rfl

end Cert.Proof.QBody

end
-- ==== Proof.QVal.lean ====
/-
  What the first half of the work computes at the ideal instance: the largest magnitude of each block of 32 keys.
-/
module

public import proofs.«01_k».proof.Proof.QTile
public import proofs.«01_k».proof.Proof.Rd
public import Idealize.ShloMosaic.Lib.Bf16PairInverse

@[expose] public section

noncomputable section

namespace Quant

open Idealize.ShloMosaic
open Attn (ix2 ix3 ix4 rd2 rd3 rd4 rd2_of rd3_of rd4_of at2 at3 at4 rm2 rm3 rm4 rd2_drop rd3_add rd2_slice rd2_transpose rd2_cat)

/-- The magnitude. -/
def mag (x : EReal) : EReal := FloatOps.absf (F := Ideal) (φ := .bf16) x

variable {A B C D : ℕ}

/-! ### Rows of one parity -/

theorem rd2_par (p : Fin 2) (x : (S2d (2 * A) B).Idx → EReal) (h : (S2d (2 * A) B).Bitcasts 16 (S2d A B) 32) {a b : ℕ} (ha : a < A) (hb : b < B) :
    rd2 (rowsOfParity p (S2d A B) x h) a b = rd2 x (2 * a + p.val) b := by
  have hp := p.isLt
  rw [rd2_of _ ha hb, rd2_of x (by omega) hb]
  unfold rowsOfParity
  congr 1; funext i; match i with
  | ⟨0, _⟩ => rfl
  | ⟨1, _⟩ => rfl

theorem rd3_par (p : Fin 2) (x : (S3d A 2 C).Idx → EReal) (h : (S3d A 2 C).Bitcasts 16 (S3d A 1 C) 32) {a c : ℕ} (ha : a < A) (hc : c < C) :
    rd3 (rowsOfParity p (S3d A 1 C) x h) a 0 c = rd3 x a p.val c := by
  rw [rd3_of _ ha Nat.one_pos hc, rd3_of x ha p.isLt hc]
  unfold rowsOfParity
  congr 1; funext i; match i with
  | ⟨0, _⟩ => rfl
  | ⟨1, _⟩ => exact Fin.ext (by show 2 * 0 + p.val = p.val; omega)
  | ⟨2, _⟩ => rfl

theorem rd4_par (p : Fin 2) (x : (S4d A B 2 D).Idx → EReal) (h : (S4d A B 2 D).Bitcasts 16 (S4d A B 1 D) 32) {a b d : ℕ} (ha : a < A) (hb : b < B) (hd : d < D) :
    rd4 (rowsOfParity p (S4d A B 1 D) x h) a b 0 d = rd4 x a b p.val d := by
  rw [rd4_of _ ha hb Nat.one_pos hd, rd4_of x ha hb p.isLt hd]
  unfold rowsOfParity
  congr 1; funext i; match i with
  | ⟨0, _⟩ => rfl
  | ⟨1, _⟩ => rfl
  | ⟨2, _⟩ => exact Fin.ext (by show 2 * 0 + p.val = p.val; omega)
  | ⟨3, _⟩ => rfl

theorem rd2_mid (x : (S3d A 1 C).Idx → EReal) (h : (S3d A 1 C).ShapeCasts (S2d A C)) {a c : ℕ} (ha : a < A) (hc : c < C) :
    rd2 (shapeCast (S2d A C) x h) a c = rd3 x a 0 c := by
  rw [rd2_of _ ha hc, rd3_of x ha Nat.one_pos hc]
  exact shapeCast_apply x h _ _ (by rw [rm2, rm3, Nat.mul_one, Nat.add_zero])

theorem rd3_mid (x : (S2d A C).Idx → EReal) (h : (S2d A C).ShapeCasts (S3d A 1 C)) {a c : ℕ} (ha : a < A) (hc : c < C) :
    rd3 (shapeCast (S3d A 1 C) x h) a 0 c = rd2 x a c := by
  rw [rd3_of _ ha Nat.one_pos hc, rd2_of x ha hc]
  exact shapeCast_apply x h _ _ (by rw [rm2, rm3, Nat.mul_one, Nat.add_zero])

theorem rd2_mid4 (x : (S4d 1 B 1 D).Idx → EReal) (h : (S4d 1 B 1 D).ShapeCasts (S2d B D)) {b d : ℕ} (hb : b < B) (hd : d < D) :
    rd2 (shapeCast (S2d B D) x h) b d = rd4 x 0 b 0 d := by
  rw [rd2_of _ hb hd, rd4_of x Nat.one_pos hb Nat.one_pos hd]
  exact shapeCast_apply x h _ _ (by rw [rm2, rm4]; simp)

theorem rd3_headT (p : Fin 2) (x : Vec Ideal (S4d 1 256 2 128) .bf16) {d i : ℕ} (hd : d < 128) (hi : i < 256) :
    rd3 (headT p x) 0 d i = rd4 x 0 i p.val d := by
  unfold headT
  rw [rd3_add, rd2_transpose, rd2_mid4 _ _ hi hd, rd4_par p x _ Nat.one_pos hi hd]

/-! ### The folded rows in the slab -/

theorem rd2_fold (x : Vec Ideal (S3d 1 32 256) .bf16) {r c : ℕ} (hr : r < 16) (hc : c < 256) :
    rd2 (fold x) r c = max (mag (rd3 x 0 r c)) (mag (rd3 x 0 (r + 16) c)) := by
  have e : ∀ {k : ℕ}, k < 32 → rd2 (absf (shapeCast (S2d 32 256) x (by decide) : FVec Ideal (S2d 32 256) .bf16) : FVec Ideal (S2d 32 256) .bf16) k c = mag (rd3 x 0 k c) := by
    intro k hk
    rw [← rd2_drop x (by decide) k c, rd2_of _ hk hc, rd2_of _ hk hc]
    rfl
  have h0 := rd2_slice (A' := 16) (B' := 256) (absf (shapeCast (S2d 32 256) x (by decide) : FVec Ideal (S2d 32 256) .bf16) : FVec Ideal (S2d 32 256) .bf16) (o0 := 0) (o1 := 0) (by decide) hr hc
  have h1 := rd2_slice (A' := 16) (B' := 256) (absf (shapeCast (S2d 32 256) x (by decide) : FVec Ideal (S2d 32 256) .bf16) : FVec Ideal (S2d 32 256) .bf16) (o0 := 16) (o1 := 0) (by decide) hr hc
  rw [Nat.zero_add, Nat.zero_add, e (by omega)] at h0
  rw [Nat.zero_add, Nat.add_comm 16 r, e (by omega)] at h1
  rw [← h0, ← h1, rd2_of _ hr hc, rd2_of _ hr hc, rd2_of _ hr hc]
  rfl

theorem par_half (h : ℕ) (hh : h < 2) (m : FVec Ideal (S2d 16 256) .bf16) (p : Fin 2) (hb : (S3d 8 2 128).Bitcasts 16 (S3d 8 1 128) 32) :
    rowsOfParity p (S3d 8 1 128) (halfRows h hh m) hb
      = shapeCast (S3d 8 1 128) (extractStridedSlice (S2d 8 128) ![0, 128 * h] (rowsOfParity p (S2d 8 256) m (by decide)) (slices_half hh) : FVec Ideal (S2d 8 128) .bf16) (by decide) := by
  unfold halfRows
  rw [rowsOfParity_interleaveRows]
  match p with
  | 0 => rfl
  | 1 => rfl

theorem rd3_half (h : ℕ) (hh : h < 2) (m : FVec Ideal (S2d 16 256) .bf16) {t p c : ℕ} (ht : t < 8) (hp : p < 2) (hc : c < 128) :
    rd3 (halfRows h hh m) t p c = rd2 m (2 * t + p) (128 * h + c) := by
  rw [← rd3_par ⟨p, hp⟩ (halfRows h hh m) (by decide) ht hc, par_half, rd3_mid _ _ ht hc, rd2_slice _ _ ht hc, Nat.zero_add,
    rd2_par (A := 8) ⟨p, hp⟩ m _ ht (by omega)]

theorem par_rows16 (x : Vec Ideal (S3d 8 2 128) .bf16) (p : Fin 2) (hb : (S2d 16 128).Bitcasts 16 (S2d 8 128) 32) {s c : ℕ} (hs : s < 8) (hc : c < 128) :
    rd2 (rowsOfParity p (S2d 8 128) (rows16 x) hb) s c = rd3 x s p.val c := by
  unfold rows16
  rw [rowsOfParity_interleaveRows]
  match p with
  | 0 =>
    rw [if_pos rfl, rd2_mid _ _ hs hc, rd3_par 0 x _ hs hc]
  | 1 =>
    rw [if_neg (by decide), rd2_mid _ _ hs hc, rd3_par 1 x _ hs hc]

/-- The largest of eight. -/
def max8 (f : ℕ → EReal) : EReal := max (max (max (f 0) (f 1)) (max (f 2) (f 3))) (max (max (f 4) (f 5)) (max (f 6) (f 7)))

theorem par_tree (x0 x1 x2 x3 x4 x5 x6 x7 : Vec Ideal (S3d 8 2 128) .bf16) (p : Fin 2) (hb : (S2d 16 128).Bitcasts 16 (S2d 8 128) 32) {s c : ℕ}
    (hs : s < 8) (hc : c < 128) (f : ℕ → EReal) (h0 : rd3 x0 s p.val c = f 0) (h1 : rd3 x1 s p.val c = f 1) (h2 : rd3 x2 s p.val c = f 2)
    (h3 : rd3 x3 s p.val c = f 3) (h4 : rd3 x4 s p.val c = f 4) (h5 : rd3 x5 s p.val c = f 5) (h6 : rd3 x6 s p.val c = f 6) (h7 : rd3 x7 s p.val c = f 7) :
    rd2 (rowsOfParity p (S2d 8 128) (tree (rows16 x0) (rows16 x1) (rows16 x2) (rows16 x3) (rows16 x4) (rows16 x5) (rows16 x6) (rows16 x7)) hb) s c = max8 f := by
  rw [max8, ← h0, ← h1, ← h2, ← h3, ← h4, ← h5, ← h6, ← h7, ← par_rows16 x0 p hb hs hc, ← par_rows16 x1 p hb hs hc, ← par_rows16 x2 p hb hs hc,
    ← par_rows16 x3 p hb hs hc, ← par_rows16 x4 p hb hs hc, ← par_rows16 x5 p hb hs hc, ← par_rows16 x6 p hb hs hc, ← par_rows16 x7 p hb hs hc]
  simp only [rd2_of _ hs hc]
  rfl

theorem rd2_amax (a b : FVec Ideal (S2d 16 128) .bf16) {s c : ℕ} (hs : s < 8) (hc : c < 256) (f : ℕ → ℕ → EReal)
    (ha : ∀ p : Fin 2, c < 128 → ∀ hb, rd2 (rowsOfParity p (S2d 8 128) a hb) s c = f p.val c)
    (hb : ∀ p : Fin 2, 128 ≤ c → ∀ hb, rd2 (rowsOfParity p (S2d 8 128) b hb) s (c - 128) = f p.val c) :
    rd2 (amax a b) s c = max (f 1 c) (f 0 c) := by
  have e : ∀ p : Fin 2, rd2 (cols p a b) s c = f p.val c := by
    intro p
    unfold cols
    refine (rd2_cat (A := 8) (B := 128) (B' := 128) _ _ _ hs hc).trans ?_
    split
    · exact ha p ‹_› _
    · exact hb p (by omega) _
  have e0 : rd2 (cols 0 a b) s c = f 0 c := e 0
  have e1 : rd2 (cols 1 a b) s c = f 1 c := e 1
  rw [← e1, ← e0, rd2_of _ hs hc, rd2_of _ hs hc, rd2_of _ hs hc]
  rfl

/-- The folded maxima together are the largest of 32. -/
theorem max32 (f : ℕ → EReal) :
    max (max8 fun t => max (f (2 * t + 1)) (f (2 * t + 1 + 16))) (max8 fun t => max (f (2 * t + 0)) (f (2 * t + 0 + 16))) = (Finset.range 32).sup f := by
  refine eq_of_forall_ge_iff fun x => ?_
  rw [Finset.sup_le_iff]
  simp only [max8, max_le_iff]
  constructor
  · intro h r hr
    have hr := Finset.mem_range.mp hr
    interval_cases r <;> tauto
  · intro h
    have g : ∀ r, r < 32 → f r ≤ x := fun r hr => h r (Finset.mem_range.mpr hr)
    refine ⟨⟨⟨⟨⟨?_, ?_⟩, ?_, ?_⟩, ⟨?_, ?_⟩, ?_, ?_⟩, ⟨⟨?_, ?_⟩, ?_, ?_⟩, ⟨?_, ?_⟩, ?_, ?_⟩, ⟨⟨⟨?_, ?_⟩, ?_, ?_⟩, ⟨?_, ?_⟩, ?_, ?_⟩, ⟨⟨?_, ?_⟩, ?_, ?_⟩, ⟨?_, ?_⟩, ?_, ?_⟩ <;> exact g _ (by norm_num)

end Quant

end
-- ==== Proof.QPhase.lean ====
/-
  Running the first half of the work at the ideal instance: from the key block to the exponents of four heads.
-/
module

public import proofs.«01_k».proof.Proof.QVal

@[expose] public section

set_option maxRecDepth 65536

noncomputable section

namespace Quant

open Idealize.ShloMosaic Idealize.ShloMosaic.TcCoe Idealize.SL.Sem
open Idealize.SL Idealize.SL.RA Idealize.SL.BI
open Attn (ix2 ix3 ix4 rd2 rd3 rd4 rd2_of rd3_of rd4_of at2 at3 at4 rd3_window rd4_window rd3_put_in rd3_put_out inb3 inb4 loopN idx4_eq)

variable {nD : ℕ} {τ : Topo} {sig : RefSig} {Λ₀ : Labels} {U : Type} [URA U]
variable {c : Dev nD} {R : Refs sig Sz .bf16} {defs : Defs nD τ sig (Elt Ideal) Λ₀} {E : Set ℕ}

abbrev StI := St Ideal Sz .bf16

/-- A counted loop keeps an invariant. -/
theorem Runs.loopN {S α : Type} {O : S → sProp (MT nD τ sig Unit (Elt Ideal) ℕ U ℕ)} :
    ∀ {N : ℕ} {body : (j : ℕ) → j < N → α → Prog (TpuEff nD τ sig (Elt Ideal) Λ₀ .tc) α} (I : ℕ → S → α → Prop) {σ : S} {a : α},
    I 0 σ a → (∀ j (h : j < N) σ a, I j σ a → Runs c O defs E σ (body j h a) (I (j + 1))) → Runs c O defs E σ (loopN N body a) (I N)
  | 0, _, _, _, _, h0, _ => Runs.pure h0
  | N + 1, _, I, _, _, h0, hb =>
    (Runs.loopN I h0 fun j h => hb j (Nat.lt_succ_of_lt h)).bind fun σ' a' h' => hb N (Nat.lt_succ_self N) σ' a' h'

/-- The buffers read again later. -/
def rest (σ : StI) := (σ.g, σ.c, σ.u)

/-! ### The slab -/

/-- What a part of the slab holds. -/
def slabOf (q : ℕ) (hq : q < 2) (h : ℕ) (hh : h < 2) (z : Sz.Idx → EReal) : (S3d 72 2 128).Idx → EReal :=
  part (slabQ q hq) sq1.numel_eq (slabH h hh) sq2.numel_eq z

theorem rd3_ninth (P : (S3d 72 2 128).Idx → EReal) {s : ℕ} (hs : s < 8) {t p k : ℕ} (ht : t < 8) (hp : p < 2) (hk : k < 128) :
    rd3 (A := 8) (B := 2) (C := 128) (fun y => P ((ninth s hs).idx y)) t p k = rd3 P (s + 9 * t) p k := by
  rw [rd3_of _ ht hp hk, rd3_of _ (by omega) hp hk]
  congr 1; funext i; match i with
  | ⟨0, _⟩ => rfl
  | ⟨1, _⟩ => exact Fin.ext (by show 0 + 1 * p = p; omega)
  | ⟨2, _⟩ => exact Fin.ext (by show 0 + 1 * k = k; omega)

theorem rd3_eight (P : (S3d 72 2 128).Idx → EReal) {t : ℕ} (ht : t < 8) {s p k : ℕ} (hs : s < 8) (hp : p < 2) (hk : k < 128) :
    rd3 (A := 8) (B := 2) (C := 128) (fun y => P ((eight t ht).toLoadRect.idx y)) s p k = rd3 P (9 * t + s) p k := by
  rw [rd3_of _ hs hp hk, rd3_of _ (by omega) hp hk]
  congr 1; funext i; match i with
  | ⟨0, _⟩ => exact Fin.ext (by show 9 * t + 1 * s = 9 * t + s; omega)
  | ⟨1, _⟩ => exact Fin.ext (by show 0 + 1 * p = p; omega)
  | ⟨2, _⟩ => exact Fin.ext (by show 0 + 1 * k = k; omega)

/-- After `n` of the eight stores. -/
def Scattered (q : ℕ) (hq : q < 2) (h : ℕ) (hh : h < 2) (ms : Fin 8 → FVec Ideal (S2d 16 256) .bf16) (σ : StI) (n : ℕ) (σ' : StI) : Prop :=
  σ'.x = σ.x ∧ rest σ' = rest σ ∧ σ'.xt = σ.xt ∧ ∀ s (hs : s < 8) t p k, s < n → t < 8 → p < 2 → k < 128 →
    rd3 (slabOf q hq h hh σ'.z) (9 * t + s) p k = rd2 (ms ⟨s, hs⟩) (2 * t + p) (128 * h + k)

theorem scatter_runs (q : ℕ) (hq : q < 2) (h : ℕ) (hh : h < 2) (ms : Fin 8 → FVec Ideal (S2d 16 256) .bf16) (σ : StI) :
    Runs c (own (F := Ideal) (τ := τ) (U := U) c R) defs E σ (scatter R q hq h hh ms) (fun σ' _ => Scattered q hq h hh ms σ 8 σ') := by
  unfold scatter
  refine Runs.loopN (fun n σ' _ => Scattered q hq h hh ms σ n σ') ⟨rfl, rfl, rfl, fun s _ _ _ _ hs => absurd hs (Nat.not_lt_zero s)⟩ ?_
  intro s hs σ' _ ⟨hx, hg, hxt, hz⟩
  refine Runs.loadPart (slotZ c R) ?_
  refine Runs.storePart (slotZ c R) fun X hin hout => ⟨hx, hg, hxt, fun s' hs' t p k hlt ht hp hk => ?_⟩
  by_cases e : s' = s
  · subst e
    have := rd3_ninth (slabOf q hq h hh X) hs ht hp hk
    rw [show s' + 9 * t = 9 * t + s' by omega] at this
    refine this.symm.trans ?_
    refine Eq.trans ?_ (rd3_half h hh (ms ⟨s', hs⟩) ht hp hk)
    rw [rd3_of _ ht hp hk, rd3_of _ ht hp hk]
    exact hin (ix3 t p k ht hp hk)
  · refine Eq.trans ?_ (hz s' hs' t p k (by omega) ht hp hk)
    rw [rd3_of _ (by omega) hp hk, rd3_of _ (by omega) hp hk]
    refine hout (ix3 (9 * t + s') p k (by omega) hp hk) fun hm => ?_
    obtain ⟨j, hj, e'⟩ := (LoadRect.mem_set _).mp hm 0
    have hj : j < 8 := hj
    have e' : 9 * t + s' = s + 9 * j := e'
    omega

/-- Reading the slab back. -/
theorem gather_runs (q : ℕ) (hq : q < 2) (h : ℕ) (hh : h < 2) (σ : StI) :
    Runs c (own (F := Ideal) (τ := τ) (U := U) c R) defs E σ (gather R q hq h hh) (fun σ' m => σ' = σ ∧
      ∀ p : Fin 2, ∀ hb s k, s < 8 → k < 128 → rd2 (rowsOfParity p (S2d 8 128) m hb) s k = max8 fun t => rd3 (slabOf q hq h hh σ.z) (9 * t + s) p.val k) := by
  unfold gather slabRow
  refine Runs.loadPart (slotZ c R) ?_
  refine Runs.loadPart (slotZ c R) ?_
  refine Runs.loadPart (slotZ c R) ?_
  refine Runs.loadPart (slotZ c R) ?_
  refine Runs.loadPart (slotZ c R) ?_
  refine Runs.loadPart (slotZ c R) ?_
  refine Runs.loadPart (slotZ c R) ?_
  refine Runs.loadPart (slotZ c R) ?_
  refine Runs.pure ⟨rfl, fun p hb s k hs hk => ?_⟩
  exact par_tree _ _ _ _ _ _ _ _ p hb hs hk (fun t => rd3 (slabOf q hq h hh σ.z) (9 * t + s) p.val k)
    (rd3_eight (slabOf q hq h hh σ.z) (t := 0) (by decide) hs p.isLt hk) (rd3_eight (slabOf q hq h hh σ.z) (t := 1) (by decide) hs p.isLt hk)
    (rd3_eight (slabOf q hq h hh σ.z) (t := 2) (by decide) hs p.isLt hk) (rd3_eight (slabOf q hq h hh σ.z) (t := 3) (by decide) hs p.isLt hk)
    (rd3_eight (slabOf q hq h hh σ.z) (t := 4) (by decide) hs p.isLt hk) (rd3_eight (slabOf q hq h hh σ.z) (t := 5) (by decide) hs p.isLt hk)
    (rd3_eight (slabOf q hq h hh σ.z) (t := 6) (by decide) hs p.isLt hk) (rd3_eight (slabOf q hq h hh σ.z) (t := 7) (by decide) hs p.isLt hk)

/-! ### The largest magnitudes -/

/-- The block of 32 rows the `s`th of eight is. -/
def blk (q : ℕ) (hq : q < 2) (s : ℕ) (hs : s < 8) (xt : Vec Ideal (S3d 4 128 256) .bf16) : Vec Ideal (S3d 1 32 256) .bf16 :=
  VecWindow.window (s := S3d 4 128 256) xt ![2 * q + s / 4, 32 * (s % 4), 0] ![1, 32, 256] (inb3 (by omega) (by omega) (by decide))

def mags (q : ℕ) (hq : q < 2) (xt : Vec Ideal (S3d 4 128 256) .bf16) : Fin 8 → FVec Ideal (S2d 16 256) .bf16 :=
  ![fold (blk q hq 0 (by decide) xt), fold (blk q hq 1 (by decide) xt), fold (blk q hq 2 (by decide) xt), fold (blk q hq 3 (by decide) xt),
    fold (blk q hq 4 (by decide) xt), fold (blk q hq 5 (by decide) xt), fold (blk q hq 6 (by decide) xt), fold (blk q hq 7 (by decide) xt)]

theorem mags_at (q : ℕ) (hq : q < 2) (xt : Vec Ideal (S3d 4 128 256) .bf16) (s : ℕ) (hs : s < 8) : mags q hq xt ⟨s, hs⟩ = fold (blk q hq s hs xt) := by
  interval_cases s <;> rfl

theorem rd2_mags (q : ℕ) (hq : q < 2) (xt : Vec Ideal (S3d 4 128 256) .bf16) {s r k : ℕ} (hs : s < 8) (hr : r < 16) (hk : k < 256) :
    rd2 (mags q hq xt ⟨s, hs⟩) r k
      = max (mag (rd3 xt (2 * q + s / 4) (32 * (s % 4) + r) k)) (mag (rd3 xt (2 * q + s / 4) (32 * (s % 4) + (r + 16)) k)) := by
  rw [mags_at, rd2_fold _ hr hk]
  unfold blk
  rw [rd3_window xt _ Nat.one_pos (by omega : r < 32) hk, rd3_window xt _ Nat.one_pos (by omega : r + 16 < 32) hk]
  simp only [Nat.add_zero, Nat.zero_add]

theorem maxima_runs (q : ℕ) (hq : q < 2) (σ : StI) :
    Runs c (own (F := Ideal) (τ := τ) (U := U) c R) defs E σ (maxima R q hq) (fun σ' A => (σ'.x = σ.x ∧ rest σ' = rest σ ∧ σ'.xt = σ.xt) ∧
      ∀ s k, s < 8 → k < 256 → rd2 A s k = (Finset.range 32).sup fun r => mag (rd3 σ.xt (2 * q + s / 4) (32 * (s % 4) + r) k)) := by
  unfold maxima block ld3
  refine Runs.load (slotXt c R) ?_
  refine Runs.load (slotXt c R) ?_
  refine Runs.load (slotXt c R) ?_
  refine Runs.load (slotXt c R) ?_
  refine Runs.load (slotXt c R) ?_
  refine Runs.load (slotXt c R) ?_
  refine Runs.load (slotXt c R) ?_
  refine Runs.load (slotXt c R) ?_
  refine (scatter_runs q hq 0 (by decide) (mags q hq σ.xt) σ).bind fun σ₁ _ ⟨hx₁, hg₁, ht₁, hz₁⟩ => ?_
  refine (gather_runs q hq 0 (by decide) σ₁).bind fun σ₂ a ⟨e₂, ha⟩ => ?_
  subst e₂
  refine (scatter_runs q hq 1 (by decide) (mags q hq σ.xt) σ₂).bind fun σ₃ _ ⟨hx₃, hg₃, ht₃, hz₃⟩ => ?_
  refine (gather_runs q hq 1 (by decide) σ₃).bind fun σ₄ b ⟨e₄, hb⟩ => ?_
  subst e₄
  refine Runs.pure ⟨⟨hx₃.trans hx₁, hg₃.trans hg₁, ht₃.trans ht₁⟩, fun s k hs hk => ?_⟩
  refine (rd2_amax a b hs hk (fun p k => max8 fun t => rd2 (mags q hq σ.xt ⟨s, hs⟩) (2 * t + p) k) ?_ ?_).trans ?_
  · intro p hk' hbc
    rw [ha p hbc s k hs hk']
    have e : ∀ t, t < 8 → rd3 (slabOf q hq 0 (by decide) σ₂.z) (9 * t + s) p.val k = rd2 (mags q hq σ.xt ⟨s, hs⟩) (2 * t + p.val) k := fun t ht => by
      rw [hz₁ s hs t p.val k hs ht p.isLt hk', Nat.mul_zero, Nat.zero_add]
    simp only [max8]
    rw [e 0 (by decide), e 1 (by decide), e 2 (by decide), e 3 (by decide), e 4 (by decide), e 5 (by decide), e 6 (by decide), e 7 (by decide)]
  · intro p hk' hbc
    rw [hb p hbc s (k - 128) hs (by omega)]
    have e : ∀ t, t < 8 → rd3 (slabOf q hq 1 (by decide) σ₄.z) (9 * t + s) p.val (k - 128) = rd2 (mags q hq σ.xt ⟨s, hs⟩) (2 * t + p.val) k := fun t ht => by
      rw [hz₃ s hs t p.val (k - 128) hs ht p.isLt (by omega), Nat.mul_one, show 128 + (k - 128) = k by omega]
    simp only [max8]
    rw [e 0 (by decide), e 1 (by decide), e 2 (by decide), e 3 (by decide), e 4 (by decide), e 5 (by decide), e 6 (by decide), e 7 (by decide)]
  · have e : ∀ p t, p < 2 → t < 8 → rd2 (mags q hq σ.xt ⟨s, hs⟩) (2 * t + p) k
        = max (mag (rd3 σ.xt (2 * q + s / 4) (32 * (s % 4) + (2 * t + p)) k)) (mag (rd3 σ.xt (2 * q + s / 4) (32 * (s % 4) + (2 * t + p + 16)) k)) := fun p t hp ht =>
      rd2_mags q hq σ.xt hs (by omega) hk
    rw [← max32 fun r => mag (rd3 σ.xt (2 * q + s / 4) (32 * (s % 4) + r) k)]
    simp only [max8]
    rw [e 1 0 (by decide) (by decide), e 1 1 (by decide) (by decide), e 1 2 (by decide) (by decide), e 1 3 (by decide) (by decide),
      e 1 4 (by decide) (by decide), e 1 5 (by decide) (by decide), e 1 6 (by decide) (by decide), e 1 7 (by decide) (by decide),
      e 0 0 (by decide) (by decide), e 0 1 (by decide) (by decide), e 0 2 (by decide) (by decide), e 0 3 (by decide) (by decide),
      e 0 4 (by decide) (by decide), e 0 5 (by decide) (by decide), e 0 6 (by decide) (by decide), e 0 7 (by decide) (by decide)]

/-! ### The heads -/

theorem heads_runs (j : ℕ) (hj : j < 2) (σ : StI) :
    Runs c (own (F := Ideal) (τ := τ) (U := U) c R) defs E σ (heads R j hj) (fun σ' _ => (σ'.x = σ.x ∧ rest σ' = rest σ) ∧
      ∀ a d p, a < 4 → d < 128 → p < 256 → rd3 σ'.xt a d p = rd4 σ.x 0 p (4 * j + a) d) := by
  unfold heads
  refine Runs.loopN (fun n (σ' : StI) _ => (σ'.x = σ.x ∧ rest σ' = rest σ) ∧ ∀ a d p, a < n → d < 128 → p < 256 → rd3 σ'.xt a d p = rd4 σ.x 0 p (4 * j + a) d)
    ⟨⟨rfl, rfl⟩, fun a _ _ h => absurd h (Nat.not_lt_zero a)⟩ ?_
  intro n hn σ' _ ⟨⟨hx, hg⟩, hv⟩
  unfold ld4 ld3 st3
  refine Runs.load (slotX c R) ?_
  refine Runs.load (slotXt c R) ?_
  refine Runs.store (slotXt c R) ⟨⟨hx, hg⟩, fun a d p ha hd hp => ?_⟩
  by_cases e : a = n
  · subst e
    refine (rd3_put_in _ _ (inb3 (by omega) (by decide) (by decide)) ⟨by omega, by omega⟩ ⟨by omega, by omega⟩ ⟨by omega, by omega⟩).trans ?_
    rw [Nat.sub_self, Nat.sub_zero, Nat.sub_zero, rd3_headT _ _ hd hp]
    refine (rd4_window σ'.x _ Nat.one_pos hp (Nat.mod_lt _ (by decide)) hd).trans ?_
    rw [hx, Nat.zero_add, Nat.zero_add, show 2 * ((4 * j + a) / 2) + a % 2 = 4 * j + a by omega, Nat.zero_add]
  · exact (rd3_put_out _ _ (by omega)).trans (hv a d p (by omega) hd hp)

/-! ### The stores -/

/-- The float a candidate is tried with, for one block. -/
def thr1 (n : BitVec 32) : EReal := Ideal.ofBits .f32 (IntOp.ori (IntOp.shli .vector n 23#32) 6291456#32)

/-- One step of the search for one block. -/
def step1 (a : EReal) (s n : BitVec 32) : BitVec 32 := if thr1 (n + s) ≤ a then n + s else n

/-- The search for one block. -/
def search1 (a : EReal) : BitVec 32 :=
  step1 a 1#32 (step1 a 2#32 (step1 a 4#32 (step1 a 8#32 (step1 a 16#32 (step1 a 32#32 (step1 a 64#32 (step1 a 127#32 0#32)))))))

/-- The exponent of one block, as it is stored. -/
def codeOf (a : EReal) : BitVec 8 := (if (search1 a - 7#32).slt 2#32 then 127#32 else search1 a - 7#32).setWidth 8

theorem step_at (A : FVec Ideal (S2d 8 256) .f32) (s : BitVec 32) (n : IVec (S2d 8 256) 32) (i : (S2d 8 256).Idx) : step A s n i = step1 (A i) s (n i) := by
  have e : step A s n i = Scalar.select (Ideal.cmp .ole (thr1 (n i + s)) (A i)) (n i + s) (n i) := by
    unfold step select cmpf thr thr1 bitcastToFloat
    rfl
  rw [e]
  unfold step1 Scalar.select Ideal.cmp
  by_cases h : thr1 (n i + s) ≤ A i
  · rw [if_pos h]; simp [h]
  · rw [if_neg h]; simp [h]

theorem search_at (A : FVec Ideal (S2d 8 256) .f32) (i : (S2d 8 256).Idx) : search A i = search1 (A i) := by
  unfold search search1
  rw [step_at, step_at, step_at, step_at, step_at, step_at, step_at, step_at]
  rfl

theorem stored_at (A : FVec Ideal (S2d 8 256) .f32) (i : (S2d 8 256).Idx) :
    stored A i = if (search1 (A i) - 7#32).slt 2#32 then 127#32 else search1 (A i) - 7#32 := by
  rw [← search_at]
  unfold stored
  generalize search A = n
  show (if (BitVec.ofBool ((n i - 7#32).slt 2#32)) = 1 then 127#32 else n i - 7#32) = _
  cases (n i - 7#32).slt 2#32 <;> rfl

/-- The largest magnitude of block `b` of head `h` at position `p`. -/
def top (x : Vec Ideal (S4d 1 256 8 128) .bf16) (h b p : ℕ) : EReal := (Finset.range 32).sup fun r => mag (rd4 x 0 p h (32 * b + r))

theorem scaleRows_at (h : ℕ) (hh : h < 2) (A : FVec Ideal (S2d 8 256) .f32) {b p : ℕ} (hb : b < 4) (hp : p < 256) :
    scaleRows h hh (stored A) (ix4 0 0 b p Nat.one_pos Nat.one_pos hb hp) = codeOf (rd2 A (4 * h + b) p) := by
  unfold scaleRows
  refine (shapeCast_apply _ _ _ (ix2 b p hb hp) (by rw [Attn.rm2, Attn.rm4]; simp)).trans ?_
  have e : extractStridedSlice (S2d 4 256) ![4 * h, 0] (stored A) (slices_four hh) (ix2 b p hb hp) = stored A (ix2 (4 * h + b) p (by omega) hp) :=
    extractStridedSlice_apply _ _ _ _ _ fun i => match i with
      | ⟨0, _⟩ => rfl
      | ⟨1, _⟩ => (Nat.zero_add p).symm
  refine (congrArg (fun v : BitVec 32 => v.setWidth 8) e).trans ?_
  rw [stored_at, rd2_of A (by omega : 4 * h + b < 8) hp]
  rfl

theorem put_in (g : (S4d 1 8 4 256).Idx → BitVec 8) (w : (S4d 1 1 4 256).Idx → BitVec 8) {k b p : ℕ} (hk : k < 8) (hb : b < 4) (hp : p < 256) :
    VecWindow.put (s := S4d 1 8 4 256) g ![0, k, 0, 0] ![1, 1, 4, 256] w (ix4 0 k b p Nat.one_pos hk hb hp) = w (ix4 0 0 b p Nat.one_pos Nat.one_pos hb hp) := by
  unfold VecWindow.put
  rw [dif_pos (fun i => match i with
    | ⟨0, _⟩ => ⟨Nat.le_refl 0, Nat.one_pos⟩
    | ⟨1, _⟩ => ⟨Nat.le_refl k, Nat.lt_succ_self k⟩
    | ⟨2, _⟩ => ⟨Nat.zero_le b, by show b < 0 + 4; omega⟩
    | ⟨3, _⟩ => ⟨Nat.zero_le p, by show p < 0 + 256; omega⟩)]
  congr 1; funext i; match i with
  | ⟨0, _⟩ => rfl
  | ⟨1, _⟩ => exact Fin.ext (Nat.sub_self k)
  | ⟨2, _⟩ => rfl
  | ⟨3, _⟩ => rfl

theorem put_out (g : (S4d 1 8 4 256).Idx → BitVec 8) (w : (S4d 1 1 4 256).Idx → BitVec 8) {k h b p : ℕ} (hh : h < 8) (hb : b < 4) (hp : p < 256) (hne : h ≠ k) :
    VecWindow.put (s := S4d 1 8 4 256) g ![0, k, 0, 0] ![1, 1, 4, 256] w (ix4 0 h b p Nat.one_pos hh hb hp) = g (ix4 0 h b p Nat.one_pos hh hb hp) := by
  unfold VecWindow.put
  rw [dif_neg (fun H => hne (by
    have h1 : k ≤ h ∧ h < k + 1 := H 1
    omega))]

/-- The exponent of one block as a word. -/
def wordOf (a : EReal) : BitVec 32 := if (search1 a - 7#32).slt 2#32 then 127#32 else search1 a - 7#32

/-- The word the keys of a block are multiplied with: the power of two that undoes its scale, twice. -/
def downWord (e : BitVec 32) : BitVec 32 :=
  IntOp.ori (IntOp.shli .vector (254#32 - e) 7#32) (IntOp.shli .vector (IntOp.shli .vector (254#32 - e) 7#32) 16#32)

theorem twice_at (A : FVec Ideal (S2d 8 256) .f32) (i : (S2d 8 256).Idx) : twice (downBits (stored A)) i = downWord (wordOf (A i)) := by
  unfold twice
  rw [shapeCast_self]
  show downWord (stored A i) = _
  rw [stored_at]
  rfl

theorem putU_in (u : (S2d 16 256).Idx → BitVec 32) (w : (S2d 8 256).Idx → BitVec 32) {q r p : ℕ} (hr : r < 8) (hp : p < 256) (hq : 8 * q + r < 16) :
    VecWindow.put (s := S2d 16 256) u ![8 * q, 0] ![8, 256] w (ix2 (8 * q + r) p hq hp) = w (ix2 r p hr hp) := by
  unfold VecWindow.put
  rw [dif_pos (fun i => match i with
    | ⟨0, _⟩ => ⟨Nat.le_add_right _ _, by show 8 * q + r < 8 * q + 8; omega⟩
    | ⟨1, _⟩ => ⟨Nat.zero_le p, by show p < 0 + 256; omega⟩)]
  congr 1; funext i; match i with
  | ⟨0, _⟩ => exact Fin.ext (Nat.add_sub_cancel_left _ _)
  | ⟨1, _⟩ => rfl

theorem putU_out (u : (S2d 16 256).Idx → BitVec 32) (w : (S2d 8 256).Idx → BitVec 32) {q r p : ℕ} (hr : r < 16) (hp : p < 256) (hne : r < 8 * q) :
    VecWindow.put (s := S2d 16 256) u ![8 * q, 0] ![8, 256] w (ix2 r p hr hp) = u (ix2 r p hr hp) := by
  unfold VecWindow.put
  rw [dif_neg (fun H => by
    have h1 : 8 * q ≤ r ∧ r < 8 * q + 8 := H 0
    omega)]

theorem stores_runs (j : ℕ) (hj : j < 2) (q : ℕ) (hq : q < 2) (A : FVec Ideal (S2d 8 256) .f32) (σ : StI) :
    Runs c (own (F := Ideal) (τ := τ) (U := U) c R) defs E σ (stores R j hj q hq (stored A)) (fun σ' _ => (σ'.x = σ.x ∧ σ'.xt = σ.xt ∧ σ'.c = σ.c
        ∧ σ'.u = VecWindow.put (s := S2d 16 256) σ.u ![8 * q, 0] ![8, 256] (twice (downBits (stored A)))) ∧
      ∀ h b p (hh : h < 8) (hb : b < 4) (hp : p < 256), σ'.g (ix4 0 h b p Nat.one_pos hh hb hp)
        = if h = 4 * j + 2 * q then codeOf (rd2 A b p) else if h = 4 * j + 2 * q + 1 then codeOf (rd2 A (4 + b) p) else σ.g (ix4 0 h b p Nat.one_pos hh hb hp)) := by
  unfold stores
  have hU : ∀ (w : IVec (S2d 8 256) 32) (σ : StI), Runs c (own (F := Ideal) (τ := τ) (U := U) c R) defs E σ (stWord R.u q hq w) (fun σ' _ => σ'.x = σ.x ∧ σ'.xt = σ.xt ∧ σ'.g = σ.g
      ∧ σ'.c = σ.c ∧ σ'.u = VecWindow.put (s := S2d 16 256) σ.u ![8 * q, 0] ![8, 256] w) := by
    intro w σ
    unfold stWord
    exact Runs.load (slotU c R) (Runs.store (slotU c R) ⟨rfl, rfl, rfl, rfl, rfl⟩)
  have hW : ∀ (w : IVec (S2d 8 256) 32) (σ : StI), Runs c (own (F := Ideal) (τ := τ) (U := U) c R) defs E σ (stWord R.w q hq w) (fun σ' _ => σ'.x = σ.x ∧ σ'.xt = σ.xt ∧ σ'.g = σ.g ∧ σ'.c = σ.c ∧ σ'.u = σ.u) := by
    intro w σ
    unfold stWord
    exact Runs.load (slotW c R) (Runs.store (slotW c R) ⟨rfl, rfl, rfl, rfl, rfl⟩)
  have hS : ∀ (k : ℕ) (hk : k < 8) (w : IVec (S4d 1 1 4 256) 8) (σ : StI), Runs c (own (F := Ideal) (τ := τ) (U := U) c R) defs E σ (stScale R k hk w)
      (fun σ' _ => σ'.x = σ.x ∧ σ'.xt = σ.xt ∧ σ'.g = VecWindow.put (s := S4d 1 8 4 256) σ.g ![0, k, 0, 0] ![1, 1, 4, 256] w ∧ σ'.c = σ.c ∧ σ'.u = σ.u) := by
    intro k hk w σ
    unfold stScale ld4 st4
    exact Runs.load (slotG c R) (Runs.store (slotG c R) ⟨rfl, rfl, rfl, rfl, rfl⟩)
  refine (hU _ σ).bind fun σ₁ _ ⟨x₁, t₁, g₁, c₁, u₁⟩ => ?_
  refine (hW _ σ₁).bind fun σ₂ _ ⟨x₂, t₂, g₂, c₂, u₂⟩ => ?_
  refine (hS _ _ _ σ₂).bind fun σ₃ _ ⟨x₃, t₃, g₃, c₃, u₃⟩ => ?_
  refine (hS _ _ _ σ₃).mono fun σ₄ _ ⟨x₄, t₄, g₄, c₄, u₄⟩ => ⟨⟨by rw [x₄, x₃, x₂, x₁], by rw [t₄, t₃, t₂, t₁], by rw [c₄, c₃, c₂, c₁], by rw [u₄, u₃, u₂, u₁]⟩, fun h b p hh hb hp => ?_⟩
  rw [g₄]
  by_cases e1 : h = 4 * j + 2 * q + 1
  · subst e1
    rw [put_in _ _ hh hb hp, scaleRows_at 1 _ A hb hp, if_neg (by omega), if_pos rfl]
  · rw [put_out _ _ hh hb hp e1, g₃]
    by_cases e0 : h = 4 * j + 2 * q
    · subst e0
      rw [put_in _ _ hh hb hp, scaleRows_at 0 _ A hb hp, if_pos rfl, Nat.mul_zero, Nat.zero_add]
    · rw [put_out _ _ hh hb hp e0, g₂, g₁, if_neg e0, if_neg e1]

/-- After the scales of four heads: those scales, the four heads transposed, and the words their keys are multiplied with. -/
def Scaled (j : ℕ) (σ σ' : StI) : Prop :=
  (σ'.x = σ.x ∧ σ'.c = σ.c)
  ∧ (∀ a d p, a < 4 → d < 128 → p < 256 → rd3 σ'.xt a d p = rd4 σ.x 0 p (4 * j + a) d)
  ∧ (∀ a b p (hr : 4 * a + b < 16) (hp : p < 256), b < 4 → σ'.u (ix2 (4 * a + b) p hr hp) = downWord (wordOf (top σ.x (4 * j + a) b p)))
  ∧ ∀ h b p (hh : h < 8) (hb : b < 4) (hp : p < 256), σ'.g (ix4 0 h b p Nat.one_pos hh hb hp)
        = if 4 * j ≤ h ∧ h < 4 * j + 4 then codeOf (top σ.x h b p) else σ.g (ix4 0 h b p Nat.one_pos hh hb hp)

/-- The scales of four heads of the block. -/
theorem phase_runs (j : ℕ) (hj : j < 2) (σ : StI) :
    Runs c (own (F := Ideal) (τ := τ) (U := U) c R) defs E σ (phase R j hj) (fun σ' _ => Scaled j σ σ') := by
  unfold phase
  refine (heads_runs j hj σ).bind fun σ₁ _ ⟨⟨hx₁, hr₁⟩, hv⟩ => ?_
  have hg₁ : σ₁.g = σ.g := congrArg Prod.fst hr₁
  have hc₁ : σ₁.c = σ.c := congrArg (fun z => z.2.1) hr₁
  refine (Runs.loopN (fun n (σ' : StI) _ => (σ'.x = σ₁.x ∧ σ'.xt = σ₁.xt ∧ σ'.c = σ₁.c)
      ∧ (∀ a b p (hr : 4 * a + b < 16) (hp : p < 256), b < 4 → a < 2 * n → σ'.u (ix2 (4 * a + b) p hr hp) = downWord (wordOf (top σ.x (4 * j + a) b p))) ∧
      ∀ h b p (hh : h < 8) (hb : b < 4) (hp : p < 256), σ'.g (ix4 0 h b p Nat.one_pos hh hb hp)
        = if 4 * j ≤ h ∧ h < 4 * j + 2 * n then codeOf (top σ.x h b p) else σ₁.g (ix4 0 h b p Nat.one_pos hh hb hp))
      ⟨⟨rfl, rfl, rfl⟩, fun a b p _ _ _ ha => absurd ha (by omega), fun h b p hh hb hp => by rw [if_neg (by omega)]⟩ ?_).mono
    fun σ' _ ⟨⟨hx, ht, hc⟩, hu, hg⟩ => ⟨⟨hx.trans hx₁, hc.trans hc₁⟩, fun a d p ha hd hp => by rw [ht]; exact hv a d p ha hd hp,
      fun a b p hr hp hb => hu a b p hr hp hb (by omega), fun h b p hh hb hp => ?_⟩
  · intro q hq σ₂ _ ⟨⟨hx₂, ht₂, hc₂⟩, hu₂, hg₂⟩
    refine (maxima_runs q hq σ₂).bind fun σ₃ A ⟨⟨hx₃, hr₃, ht₃⟩, hA⟩ => ?_
    have hg₃ : σ₃.g = σ₂.g := congrArg Prod.fst hr₃
    have hc₃ : σ₃.c = σ₂.c := congrArg (fun z => z.2.1) hr₃
    have hu₃ : σ₃.u = σ₂.u := congrArg (fun z => z.2.2) hr₃
    have hA' : ∀ s p, s < 8 → p < 256 → rd2 A s p = top σ.x (4 * j + 2 * q + s / 4) (s % 4) p := by
      intro s p hs hp
      rw [hA s p hs hp, ht₂]
      unfold top
      refine Finset.sup_congr rfl fun r hr => ?_
      have hr := Finset.mem_range.mp hr
      rw [hv _ _ _ (by omega) (by omega) hp, show 4 * j + (2 * q + s / 4) = 4 * j + 2 * q + s / 4 by omega]
    refine (stores_runs j hj q hq A σ₃).mono fun σ₄ _ ⟨⟨hx₄, ht₄, hc₄, hu₄⟩, hg₄⟩ => ⟨⟨by rw [hx₄, hx₃, hx₂], by rw [ht₄, ht₃, ht₂], by rw [hc₄, hc₃, hc₂]⟩,
      fun a b p hr hp hb ha => ?_, fun h b p hh hb hp => ?_⟩
    · rw [hu₄, hu₃]
      by_cases e : a < 2 * q
      · rw [putU_out _ _ hr hp (by omega)]
        exact hu₂ a b p hr hp hb e
      · obtain ⟨s, hs⟩ : ∃ s, 4 * a + b = 8 * q + s := ⟨4 * a + b - 8 * q, by omega⟩
        have e1 : ∀ (hr' : 8 * q + s < 16), (ix2 (A := 16) (B := 256) (4 * a + b) p hr hp) = ix2 (8 * q + s) p hr' hp := fun hr' => by
          funext i; match i with
          | ⟨0, _⟩ => exact Fin.ext hs
          | ⟨1, _⟩ => rfl
        rw [e1 (by omega), putU_in _ _ (by omega : s < 8) hp (by omega), twice_at, ← rd2_of A (by omega : s < 8) hp, hA' s p (by omega) hp,
          show 4 * j + 2 * q + s / 4 = 4 * j + a by omega, show s % 4 = b by omega]
    rw [hg₄ h b p hh hb hp]
    by_cases e0 : h = 4 * j + 2 * q
    · rw [if_pos e0, if_pos (by omega), hA' b p (by omega) hp, show b / 4 = 0 by omega, show b % 4 = b by omega, Nat.add_zero, ← e0]
    · rw [if_neg e0]
      by_cases e1 : h = 4 * j + 2 * q + 1
      · rw [if_pos e1, if_pos (by omega), hA' (4 + b) p (by omega) hp, show (4 + b) / 4 = 1 by omega, show (4 + b) % 4 = b by omega, ← e1]
      · rw [if_neg e1, hg₃, hg₂ h b p hh hb hp]
        by_cases e2 : 4 * j ≤ h ∧ h < 4 * j + 2 * q
        · rw [if_pos e2, if_pos (by omega)]
        · rw [if_neg e2, if_neg (by omega)]
  · rw [hg h b p hh hb hp, hg₁]

end Quant

end
-- ==== Proof.QCode.lean ====
/-
  Running the second half of the work at the ideal instance: from the exponents of four heads to their codes.
-/
module

public import proofs.«01_k».proof.Proof.QPhase
public import proofs.«01_k».proof.Proof.QMul

@[expose] public section

set_option maxRecDepth 65536

noncomputable section

namespace Quant

open Idealize.ShloMosaic Idealize.ShloMosaic.TcCoe Idealize.SL.Sem
open Idealize.SL Idealize.SL.RA Idealize.SL.BI
open Attn (ix2 ix3 ix4 rd2 rd3 rd4 rd2_of rd3_of rd4_of at2 at3 at4 rd3_window rd4_window rd3_put_in rd3_put_out rd2_drop rd3_add rd2_transpose inb3 inb4 loopN idx4_eq)

variable {nD : ℕ} {τ : Topo} {sig : RefSig} {Λ₀ : Labels} {U : Type} [URA U]
variable {c : Dev nD} {R : Refs sig Sz .bf16} {defs : Defs nD τ sig (Elt Ideal) Λ₀} {E : Set ℕ}

/-- The code of a key whose block has the given word, in row `r` of the block. -/
def codeAt (x : EReal) (w : BitVec 32) (r : ℕ) : EReal :=
  min (Ideal.ofBits .f32 0x43E00000#32) (max (Ideal.ofBits .f32 0xC3E00000#32) (x * Ideal.ofBits .bf16 (w.extractLsb' (16 * (r % 2)) 16)))

theorem rowBf16_at (u : IVec (S2d 1 256) 32) {r p : ℕ} (hr : r < 32) (hp : p < 256) :
    rowBf16 (F := Ideal) u (ix2 r p hr hp) = Ideal.ofBits .bf16 ((u (ix2 0 p Nat.one_pos hp)).extractLsb' (16 * (r % 2)) 16) := by
  unfold rowBf16
  rw [shapeCast_self]
  show Ideal.ofBits .bf16 (bitcast (S2d 32 256) 16 (broadcastTo (S2d 16 256) u (by decide)) (by decide) (ix2 r p hr hp)) = _
  rw [bitcast_32_16]
  congr 2
  refine broadcastTo_apply u _ _ _ fun a => ?_
  match a with
  | ⟨0, _⟩ => rfl
  | ⟨1, _⟩ => rfl

theorem rd2_encode (x : Vec Ideal (S3d 1 32 256) .bf16) (u : IVec (S2d 1 256) 32) {r p : ℕ} (hr : r < 32) (hp : p < 256) :
    rd2 (encode x u) r p = codeAt (rd3 x 0 r p) (u (ix2 0 p Nat.one_pos hp)) r := by
  rw [rd2_of _ hr hp, ← rd2_drop x (by decide) r p, rd2_of _ hr hp]
  unfold codeAt
  rw [← rowBf16_at u hr hp]
  rfl

theorem rd3_codeRows (x : Vec Ideal (S3d 1 32 256) .bf16) (u : IVec (S2d 1 256) 32) {r p : ℕ} (hr : r < 32) (hp : p < 256) :
    rd3 (codeRows x u) 0 r p = codeAt (rd3 x 0 r p) (u (ix2 0 p Nat.one_pos hp)) r := by
  unfold codeRows
  rw [rd3_add, rd2_encode x u hr hp]

theorem window_row (u : (S2d 16 256).Idx → BitVec 32) {r p : ℕ} (hr : r < 16) (hp : p < 256)
    (h : ∀ i, (![r, 0] : Fin 2 → ℕ) i + (![1, 256] : Fin 2 → ℕ) i ≤ (S2d 16 256).size i) :
    VecWindow.window (s := S2d 16 256) u ![r, 0] ![1, 256] h (ix2 (A := 1) (B := 256) 0 p Nat.one_pos hp) = u (ix2 r p hr hp) := by
  unfold VecWindow.window
  congr 1; funext i; match i with
  | ⟨0, _⟩ => rfl
  | ⟨1, _⟩ => exact Fin.ext (by show 0 + 1 * p = p; omega)

/-- The buffers the multiplications read or leave. -/
def still (σ : StI) := (σ.x, σ.g, σ.c, σ.xt, σ.u)

theorem mult_runs (b : ℕ) (hb : b < 4) (a : ℕ) (ha : a < 4) (σ : StI) :
    Runs c (own (F := Ideal) (τ := τ) (U := U) c R) defs E σ (mult R b hb a ha) (fun σ' _ => still σ' = still σ ∧
      ∀ a' d p (hr : 4 * a + b < 16) (hp : p < 256), a' < 4 → d < 128 → rd3 σ'.ct a' d p
        = if a' = a ∧ 32 * b ≤ d ∧ d < 32 * b + 32 then codeAt (rd3 σ.xt a d p) (σ.u (ix2 (4 * a + b) p hr hp)) (d - 32 * b) else rd3 σ.ct a' d p) := by
  unfold mult ld3 st3 ldRow
  refine Runs.load (slotXt c R) ?_
  refine Runs.load (slotU c R) ?_
  refine Runs.load (slotW c R) ?_
  refine Runs.load (slotDt c R) ?_
  refine Runs.storeK (slotDt c R) ?_
  refine Runs.load (slotCt c R) ?_
  refine Runs.store (slotCt c R) ⟨rfl, fun a' d p hr hp ha' hd => ?_⟩
  by_cases e : a' = a ∧ 32 * b ≤ d ∧ d < 32 * b + 32
  · obtain ⟨rfl, h1, h2⟩ := e
    rw [if_pos ⟨rfl, h1, h2⟩]
    refine (rd3_put_in _ _ (inb3 (by omega) (by omega) (by decide)) ⟨by omega, by omega⟩ ⟨by omega, by omega⟩ ⟨by omega, by omega⟩).trans ?_
    rw [Nat.sub_self, Nat.sub_zero, rd3_codeRows _ _ (by omega : d - 32 * b < 32) hp]
    congr 1
    · refine (rd3_window σ.xt _ Nat.one_pos (by omega : d - 32 * b < 32) hp).trans ?_
      rw [Nat.add_zero, Nat.zero_add, show 32 * b + (d - 32 * b) = d by omega]
    · exact window_row σ.u hr hp _
  · rw [if_neg e]
    exact rd3_put_out _ _ (by omega)

theorem mults_runs (σ : StI) :
    Runs c (own (F := Ideal) (τ := τ) (U := U) c R) defs E σ (mults R) (fun σ' _ => still σ' = still σ ∧
      ∀ a d p (hr : 4 * a + d / 32 < 16) (hp : p < 256), a < 4 → d < 128 →
        rd3 σ'.ct a d p = codeAt (rd3 σ.xt a d p) (σ.u (ix2 (4 * a + d / 32) p hr hp)) (d % 32)) := by
  unfold mults
  refine (Runs.loopN (fun n (σ' : StI) _ => still σ' = still σ ∧
      ∀ a d p (hr : 4 * a + d / 32 < 16) (hp : p < 256), a < 4 → d < 32 * n →
        rd3 σ'.ct a d p = codeAt (rd3 σ.xt a d p) (σ.u (ix2 (4 * a + d / 32) p hr hp)) (d % 32))
      ⟨rfl, fun a d p _ _ _ hd => absurd hd (by omega)⟩ ?_).mono fun σ' _ ⟨h, hv⟩ => ⟨h, fun a d p hr hp ha hd => hv a d p hr hp ha (by omega)⟩
  intro b hb σ₁ _ ⟨h₁, hv₁⟩
  refine (Runs.loopN (fun n (σ' : StI) _ => still σ' = still σ ∧
      ∀ a d p (hr : 4 * a + d / 32 < 16) (hp : p < 256), a < 4 → d < 32 * b ∨ (a < n ∧ d < 32 * b + 32) →
        rd3 σ'.ct a d p = codeAt (rd3 σ.xt a d p) (σ.u (ix2 (4 * a + d / 32) p hr hp)) (d % 32))
      ⟨h₁, fun a d p hr hp ha hd => hv₁ a d p hr hp ha (by omega)⟩ ?_).mono
    fun σ' _ ⟨h, hv⟩ => ⟨h, fun a d p hr hp ha hd => hv a d p hr hp ha (.inr ⟨ha, by omega⟩)⟩
  intro a ha σ₂ _ ⟨h₂, hv₂⟩
  have ht : σ₂.xt = σ.xt := congrArg (fun z => z.2.2.2.1) h₂
  have hu : σ₂.u = σ.u := congrArg (fun z => z.2.2.2.2) h₂
  refine (mult_runs b hb a ha σ₂).mono fun σ₃ _ ⟨h₃, hv₃⟩ => ⟨h₃.trans h₂, fun a' d p hr hp ha' hd => ?_⟩
  rw [hv₃ a' d p (by omega) hp ha' (by omega), ht, hu]
  by_cases e : a' = a ∧ 32 * b ≤ d ∧ d < 32 * b + 32
  · rw [if_pos e]
    obtain ⟨rfl, h1, h2⟩ := e
    obtain rfl : b = d / 32 := by omega
    rw [show d - 32 * (d / 32) = d % 32 by omega]
  · rw [if_neg e]
    exact hv₂ a' d p hr hp ha' (by omega)

theorem rd4_codesT (x : Vec Ideal (S3d 1 128 256) .fp8e4m3) {d p : ℕ} (hd : d < 128) (hp : p < 256) :
    codesT x (ix4 0 p 0 d Nat.one_pos hp Nat.one_pos hd) = rd3 x 0 d p := by
  unfold codesT
  refine (shapeCast_apply _ _ _ (ix2 p d hp hd) (by rw [Attn.rm2, Attn.rm4]; simp)).trans ?_
  exact (rd2_of (transpose (S2d 256 128) [1, 0] (shapeCast (S2d 128 256) x (by decide)) (by decide)) hp hd).symm.trans
    ((rd2_transpose (shapeCast (S2d 128 256) x (by decide)) (by decide) d p).trans (rd2_drop x _ d p))

theorem putCode_runs (j : ℕ) (hj : j < 2) (a : ℕ) (ha : a < 4) (σ : StI) :
    Runs c (own (F := Ideal) (τ := τ) (U := U) c R) defs E σ (putCode R j hj a ha) (fun σ' _ => (σ'.x = σ.x ∧ σ'.g = σ.g ∧ σ'.ct = σ.ct) ∧
      ∀ h p d, h < 8 → p < 256 → d < 128 → rd4 σ'.c 0 p h d = if h = 4 * j + a then rd3 σ.ct a d p else rd4 σ.c 0 p h d) := by
  unfold putCode ld3 ld4
  refine Runs.load (slotCt c R) ?_
  refine Runs.load (slotC c R) ?_
  refine Runs.storeSub (slotC c R) ⟨⟨rfl, rfl, rfl⟩, fun h p d hh hp hd => ?_⟩
  rw [rd4_of _ Nat.one_pos hp hh hd]
  show VecWindow.put (s := S4d 1 256 8 128) σ.c ![0, 0, 4 * j, 0] ![1, 256, 4, 128] _ (ix4 0 p h d Nat.one_pos hp hh hd) = _
  unfold VecWindow.put
  by_cases e : 4 * j ≤ h ∧ h < 4 * j + 4
  · rw [dif_pos (fun i => match i with
      | ⟨0, _⟩ => ⟨Nat.le_refl 0, Nat.one_pos⟩
      | ⟨1, _⟩ => ⟨Nat.zero_le p, by show p < 0 + 256; omega⟩
      | ⟨2, _⟩ => e
      | ⟨3, _⟩ => ⟨Nat.zero_le d, by show d < 0 + 128; omega⟩)]
    unfold updateSlice
    by_cases e1 : h = 4 * j + a
    · rw [if_pos e1, dif_pos (fun i => match i with
        | ⟨0, _⟩ => ⟨Nat.le_refl 0, Nat.one_pos⟩
        | ⟨1, _⟩ => ⟨Nat.zero_le _, by show p - 0 < 0 + 256; omega⟩
        | ⟨2, _⟩ => ⟨by show a ≤ h - 4 * j; omega, by show h - 4 * j < a + 1; omega⟩
        | ⟨3, _⟩ => ⟨Nat.zero_le _, by show d - 0 < 0 + 128; omega⟩)]
      refine Eq.trans (congrArg _ ?_) ((rd4_codesT _ hd hp).trans ((rd3_window σ.ct _ Nat.one_pos hd hp).trans (by rw [Nat.add_zero, Nat.zero_add, Nat.zero_add])))
      funext i; match i with
      | ⟨0, _⟩ => rfl
      | ⟨1, _⟩ => rfl
      | ⟨2, _⟩ => exact Fin.ext (by show h - 4 * j - a = 0; omega)
      | ⟨3, _⟩ => rfl
    · rw [if_neg e1, dif_neg (fun H => e1 (by
        have h1 : a ≤ h - 4 * j ∧ h - 4 * j < a + 1 := H 2
        omega))]
      rw [rd4_of _ Nat.one_pos hp hh hd]
      show σ.c _ = σ.c _
      congr 1; funext i; match i with
      | ⟨0, _⟩ => rfl
      | ⟨1, _⟩ => exact Fin.ext (by show 0 + 1 * (p - 0) = p; omega)
      | ⟨2, _⟩ => exact Fin.ext (by show 4 * j + 1 * (h - 4 * j) = h; omega)
      | ⟨3, _⟩ => exact Fin.ext (by show 0 + 1 * (d - 0) = d; omega)
  · rw [dif_neg (fun H => e (H 2)), if_neg (by omega), rd4_of _ Nat.one_pos hp hh hd]

/-- The codes of four heads. -/
theorem codes_runs (j : ℕ) (hj : j < 2) (σ : StI) :
    Runs c (own (F := Ideal) (τ := τ) (U := U) c R) defs E σ (codes R j hj) (fun σ' _ => (σ'.x = σ.x ∧ σ'.g = σ.g) ∧
      (∀ a p d (hr : 4 * a + d / 32 < 16) (hp : p < 256), a < 4 → d < 128 →
        rd4 σ'.c 0 p (4 * j + a) d = codeAt (rd3 σ.xt a d p) (σ.u (ix2 (4 * a + d / 32) p hr hp)) (d % 32)) ∧
      ∀ h p d, h < 8 → p < 256 → d < 128 → ¬ (4 * j ≤ h ∧ h < 4 * j + 4) → rd4 σ'.c 0 p h d = rd4 σ.c 0 p h d) := by
  unfold codes
  refine (mults_runs σ).bind fun σ₁ _ ⟨h₁, hv₁⟩ => ?_
  have hx₁ : σ₁.x = σ.x := congrArg (fun z => z.1) h₁
  have hg₁ : σ₁.g = σ.g := congrArg (fun z => z.2.1) h₁
  have hc₁ : σ₁.c = σ.c := congrArg (fun z => z.2.2.1) h₁
  refine (Runs.loopN (fun n (σ' : StI) _ => (σ'.x = σ₁.x ∧ σ'.g = σ₁.g ∧ σ'.ct = σ₁.ct) ∧
      ∀ h p d, h < 8 → p < 256 → d < 128 → rd4 σ'.c 0 p h d = if 4 * j ≤ h ∧ h < 4 * j + n then rd3 σ₁.ct (h - 4 * j) d p else rd4 σ₁.c 0 p h d)
      ⟨⟨rfl, rfl, rfl⟩, fun h p d _ _ _ => by rw [if_neg (by omega)]⟩ ?_).mono
    fun σ' _ ⟨⟨hx, hg, _⟩, hv⟩ => ⟨⟨hx.trans hx₁, hg.trans hg₁⟩, fun a p d hr hp ha hd => ?_, fun h p d hh hp hd hn => ?_⟩
  · intro a ha σ₂ _ ⟨⟨hx₂, hg₂, ht₂⟩, hv₂⟩
    refine (putCode_runs j hj a ha σ₂).mono fun σ₃ _ ⟨⟨hx₃, hg₃, ht₃⟩, hv₃⟩ => ⟨⟨hx₃.trans hx₂, hg₃.trans hg₂, ht₃.trans ht₂⟩, fun h p d hh hp hd => ?_⟩
    rw [hv₃ h p d hh hp hd, ht₂]
    by_cases e : h = 4 * j + a
    · rw [if_pos e, if_pos (by omega), show h - 4 * j = a by omega]
    · rw [if_neg e, hv₂ h p d hh hp hd]
      by_cases e' : 4 * j ≤ h ∧ h < 4 * j + a
      · rw [if_pos e', if_pos (by omega)]
      · rw [if_neg e', if_neg (by omega)]
  · rw [hv _ p d (by omega) hp hd, if_pos (by omega), show 4 * j + a - 4 * j = a by omega, hv₁ a d p hr hp ha hd]
  · rw [hv h p d hh hp hd, if_neg hn, hc₁]

end Quant

end
-- ==== Proof.QRun.lean ====
/-
  Running the whole body at the ideal instance: the scales it stores are the exponents of the largest magnitudes of the
  block's runs of 32 keys, the codes the keys scaled down by them and clipped.
-/
module

public import proofs.«01_k».proof.Proof.QBody
public import proofs.«01_k».proof.Proof.QCode

@[expose] public section

noncomputable section

namespace Cert.Proof.QRun

open Cert.KernelKIdeal Cert.KernelKIdeal.Gen Quant QTail QBody
open Idealize.ShloMosaic Idealize.ShloMosaic.TcCoe Idealize.SL.Sem
open Idealize.SL.RA
open Attn (ix4 rd3 rd4 rd4_of)

variable {U : Type} [URA U] {c : Dev nD} {defs : Defs nD τ sig (Elt Ideal) Λ₀} {E : Set ℕ}

/-- The scales of a key block. -/
def scales (x : Vec Ideal (S4d 1 256 8 128) .bf16) : (S4d 1 8 4 256).Idx → BitVec 8 := fun k => codeOf (top x (k 1).val (k 2).val (k 3).val)

/-- The codes of a key block. -/
def codesOf (x : Vec Ideal (S4d 1 256 8 128) .bf16) : (S4d 1 256 8 128).Idx → EReal := fun k =>
  codeAt (rd4 x 0 (k 1).val (k 2).val (k 3).val) (downWord (wordOf (top x (k 2).val ((k 3).val / 32) (k 1).val))) ((k 3).val % 32)

/-- The code at one place of a key block. -/
def codeHere (x : Vec Ideal (S4d 1 256 8 128) .bf16) (p h d : ℕ) : EReal := codeAt (rd4 x 0 p h d) (downWord (wordOf (top x h (d / 32) p))) (d % 32)

/-- Scales and codes of four heads of the block, those of the others as they were. -/
def Halved (j : ℕ) (σ σ' : StI) : Prop :=
  σ'.x = σ.x
  ∧ (∀ h b p (hh : h < 8) (hb : b < 4) (hp : p < 256), σ'.g (ix4 0 h b p Nat.one_pos hh hb hp)
        = if 4 * j ≤ h ∧ h < 4 * j + 4 then codeOf (top σ.x h b p) else σ.g (ix4 0 h b p Nat.one_pos hh hb hp))
  ∧ ∀ h p d, h < 8 → p < 256 → d < 128 → rd4 σ'.c 0 p h d = if 4 * j ≤ h ∧ h < 4 * j + 4 then codeHere σ.x p h d else rd4 σ.c 0 p h d

theorem half {α : Type} {R : Refs sig Sz .bf16} (j : ℕ) (hj : j < 2) (σ : StI) {T : Prog (TpuEff nD τ sig (Elt Ideal) Λ₀ .tc) α} {Post : StI → α → Prop}
    (hT : ∀ σ', Halved j σ σ' → Runs c (own (F := Ideal) (τ := τ) (U := U) c R) defs E σ' T Post) :
    Runs c (own (F := Ideal) (τ := τ) (U := U) c R) defs E σ (do let _ ← phase R j hj; let _ ← codes R j hj; T) Post := by
  refine (phase_runs j hj σ).bind fun σ₁ _ ⟨⟨hx₁, hc₁⟩, ht₁, hu₁, hg₁⟩ => ?_
  refine (codes_runs j hj σ₁).bind fun σ₂ _ ⟨⟨hx₂, hg₂⟩, hin, hout⟩ => hT σ₂ ?_
  refine ⟨by rw [hx₂, hx₁], fun h b p hh hb hp => by rw [hg₂]; exact hg₁ h b p hh hb hp, fun h p d hh hp hd => ?_⟩
  by_cases hj4 : 4 * j ≤ h ∧ h < 4 * j + 4
  · obtain ⟨a, rfl⟩ : ∃ a, h = 4 * j + a := ⟨h - 4 * j, by omega⟩
    rw [if_pos hj4, hin a p d (by omega) hp (by omega) hd, ht₁ a d p (by omega) hd hp, hu₁ a (d / 32) p (by omega) hp (by omega)]
    rfl
  · rw [if_neg hj4, hout h p d hh hp hd hj4, hc₁]

theorem ix_eq {A B C D : ℕ} (k : (S4d A B C D).Idx) (hA : A = 1) :
    k = ix4 0 (k 1).val (k 2).val (k 3).val (by omega) (k 1).isLt (k 2).isLt (k 3).isLt := by
  subst hA
  funext a; match a with
  | ⟨0, _⟩ => exact Fin.ext (Nat.lt_one_iff.mp (k 0).isLt)
  | ⟨1, _⟩ => rfl
  | ⟨2, _⟩ => rfl
  | ⟨3, _⟩ => rfl

theorem body_runs (i : grid0.Coords) (R : Refs sig Sz .bf16) (σ : StI) :
    Runs c (own (F := Ideal) (τ := τ) (U := U) c R) defs E σ
      (cc0__kernel_k (F := Ideal) i R.x R.hx R.c R.hc R.g R.hg R.d R.hd R.xt R.hxt R.ct R.hct R.u R.hu R.w R.hw R.z R.hz R.dt R.hdt)
      (fun σ' _ => σ'.x = σ.x ∧ σ'.g = scales σ.x ∧ σ'.c = codesOf σ.x) := by
  rw [body_eq]
  refine half 0 (by decide) σ fun σ₁ ⟨hx₁, hg₁, hc₁⟩ => ?_
  refine (tail0_keeps i R σ₁).bind fun σ₂ _ h₂ => ?_
  have hx₂ : σ₂.x = σ₁.x := congrArg (fun z => z.1) h₂
  have hg₂ : σ₂.g = σ₁.g := congrArg (fun z => z.2.1) h₂
  have hc₂ : σ₂.c = σ₁.c := congrArg (fun z => z.2.2) h₂
  refine half 1 (by decide) σ₂ fun σ₃ ⟨hx₃, hg₃, hc₃⟩ => ?_
  refine (tail1_keeps i R σ₃).mono fun σ₄ _ h₄ => ?_
  have hx₄ : σ₄.x = σ₃.x := congrArg (fun z => z.1) h₄
  have hg₄ : σ₄.g = σ₃.g := congrArg (fun z => z.2.1) h₄
  have hc₄ : σ₄.c = σ₃.c := congrArg (fun z => z.2.2) h₄
  refine ⟨by rw [hx₄, hx₃, hx₂, hx₁], ?_, ?_⟩
  · funext k
    have h1 : (k 1).val < 8 := (k 1).isLt
    rw [hg₄]
    refine (congrArg σ₃.g (ix_eq k rfl)).trans ((hg₃ _ _ _ (k 1).isLt (k 2).isLt (k 3).isLt).trans ?_)
    show _ = codeOf (top σ.x (k 1).val (k 2).val (k 3).val)
    by_cases h : 4 ≤ (k 1).val
    · rw [if_pos (by omega), hx₂, hx₁]
    · rw [if_neg (by omega), hg₂, hg₁ _ _ _ (k 1).isLt (k 2).isLt (k 3).isLt, if_pos (by omega)]
  · funext k
    have h2 : (k 2).val < 8 := (k 2).isLt
    rw [hc₄]
    refine (congrArg σ₃.c (ix_eq k rfl)).trans ((rd4_of σ₃.c Nat.one_pos (k 1).isLt (k 2).isLt (k 3).isLt).symm.trans
      ((hc₃ _ _ _ (k 2).isLt (k 1).isLt (k 3).isLt).trans ?_))
    show _ = codeHere σ.x (k 1).val (k 2).val (k 3).val
    by_cases h : 4 ≤ (k 2).val
    · rw [if_pos (by omega), hx₂, hx₁]
    · rw [if_neg (by omega), hc₂, hc₁ _ _ _ (k 2).isLt (k 1).isLt (k 3).isLt, if_pos (by omega)]

end Cert.Proof.QRun

end
-- ==== Proof.QScale.lean ====
/-
  The exponent of a scale: what the kernel's search over thresholds finds, and what the reference computes by logarithms.
  The factor of the codes: the kernel's word of that exponent, and the reference's power of two.
-/
module

public import proofs.«01_k».proof.Proof.QPhase

@[expose] public section

noncomputable section

namespace Quant

open Idealize.ShloMosaic

/-- The threshold of step `n`: `1.75` times a power of two. -/
def lev (n : ℕ) : ℝ := 7 / 4 * (2 : ℝ) ^ ((n : ℤ) - 127)

theorem lev_pos (n : ℕ) : 0 < lev n := by unfold lev; positivity

theorem lev_mono {m n : ℕ} (h : m ≤ n) : lev m ≤ lev n := by
  unfold lev
  have : (2 : ℝ) ^ ((m : ℤ) - 127) ≤ (2 : ℝ) ^ ((n : ℤ) - 127) := zpow_le_zpow_right₀ (by norm_num) (by omega)
  linarith

/-- The fields of the words the kernel compares with. -/
theorem fields : ∀ n : Fin 255, 1 ≤ n.val →
    ((IntOp.ori (IntOp.shli .vector (BitVec.ofNat 32 n.val) 23#32) 6291456#32).extractLsb' 31 1 == 1#1) = false
    ∧ ((IntOp.ori (IntOp.shli .vector (BitVec.ofNat 32 n.val) 23#32) 6291456#32).extractLsb' 23 8).toNat = n.val
    ∧ ((IntOp.ori (IntOp.shli .vector (BitVec.ofNat 32 n.val) 23#32) 6291456#32).extractLsb' 0 23).toNat = 6291456 := by
  decide +kernel

theorem thr1_eq {n : ℕ} (h1 : 1 ≤ n) (h2 : n ≤ 254) : thr1 (BitVec.ofNat 32 n) = (lev n : EReal) := by
  obtain ⟨e1, e2, e3⟩ := fields ⟨n, by omega⟩ h1
  unfold thr1
  generalize IntOp.ori (IntOp.shli .vector (BitVec.ofNat 32 n) 23#32) 6291456#32 = w at *
  show Ideal.ieee 8 23 w = _
  unfold Ideal.ieee
  simp only [show 8 + 23 = 31 from rfl, e1, e2, e3]
  rw [if_neg (by show ¬ n = 2 ^ 8 - 1; omega), if_neg (by show ¬ n = 0; omega)]
  congr 1
  unfold lev
  have : ((n : ℤ) - (2 ^ (8 - 1) - 1) - 23) = ((n : ℤ) - 127) + (-23) := by norm_num; ring
  show (if (false = true) then (-1 : ℝ) else 1) * ((2 ^ 23 + 6291456 : ℕ) : ℝ) * (2 : ℝ) ^ ((n : ℤ) - (2 ^ (8 - 1) - 1) - (23 : ℤ)) = _
  rw [this, zpow_add₀ (by norm_num)]
  norm_num
  ring

/-- Before the steps whose weights sum to `w`: the exponent found so far, and those ruled out. -/
def Found (a : EReal) (w : ℕ) (x : BitVec 32) : Prop :=
  ∃ n : ℕ, x = BitVec.ofNat 32 n ∧ n + w ≤ 254 ∧ (n = 0 ∨ (lev n : EReal) ≤ a) ∧ ∀ m, n + w < m → ¬ (lev m : EReal) ≤ a

theorem Found.step {a : EReal} {w : ℕ} {x : BitVec 32} (h : Found a w x) (s w' : ℕ) (y : BitVec 32) (hy : y = BitVec.ofNat 32 s)
    (hs : 1 ≤ s) (hw : w = s + w') (hw' : s ≤ w' + 1) : Found a w' (step1 a y x) := by
  obtain ⟨n, rfl, hn, hlo, hhi⟩ := h
  subst hy
  unfold step1
  rw [show BitVec.ofNat 32 n + BitVec.ofNat 32 s = BitVec.ofNat 32 (n + s) by rw [BitVec.ofNat_add], thr1_eq (by omega) (by omega)]
  split
  · rename_i hc
    exact ⟨n + s, rfl, by omega, .inr hc, fun m hm => hhi m (by omega)⟩
  · rename_i hc
    exact ⟨n, rfl, by omega, hlo, fun m hm hle => hc ((EReal.coe_le_coe_iff.2 (lev_mono (by omega))).trans hle)⟩

theorem search_spec {a : EReal} (h : a < (lev 255 : EReal)) :
    ∃ n : ℕ, search1 a = BitVec.ofNat 32 n ∧ n ≤ 254 ∧ (n = 0 ∨ (lev n : EReal) ≤ a) ∧ a < (lev (n + 1) : EReal) := by
  have h0 : Found a 254 0 := ⟨0, rfl, le_rfl, .inl rfl, fun m hm hle =>
    absurd (((EReal.coe_le_coe_iff.2 (lev_mono (show 255 ≤ m by omega))).trans hle).trans_lt h) (lt_irrefl _)⟩
  have h8 := ((((((((h0.step 127 127 127 rfl (by omega) rfl (by omega)).step 64 63 64 rfl (by omega) rfl (by omega)).step 32 31 32 rfl (by omega) rfl
    (by omega)).step 16 15 16 rfl (by omega) rfl (by omega)).step 8 7 8 rfl (by omega) rfl (by omega)).step 4 3 4 rfl (by omega) rfl (by omega)).step
    2 1 2 rfl (by omega) rfl (by omega)).step 1 0 1 rfl (by omega) rfl (by omega))
  obtain ⟨n, e, hn, hlo, hhi⟩ := h8
  exact ⟨n, e, by omega, hlo, not_le.1 (hhi (n + 1) (by omega))⟩

/-- The reference's exponent. -/
def refExp (a : EReal) : EReal :=
  if a = 0 then 0 else Ideal.liftRound Int.floor (Ideal.div (Ideal.log (Ideal.div a (448 : ℝ))) (Ideal.log (2 : ℝ))) + (1 : ℝ)

/-- The reference's exponent, stored with its bias. -/
def refCode (a : EReal) : BitVec 8 := (IntOp.addi (Ideal.fptosi 32 (refExp a)) 127#32).setWidth 8

theorem stored_code : ∀ n : Fin 255, 9 ≤ n.val →
    (if (BitVec.ofNat 32 n.val - 7#32).slt 2#32 then 127#32 else BitVec.ofNat 32 n.val - 7#32).setWidth 8 = BitVec.ofNat 8 (n.val - 7) := by
  decide +kernel

theorem biased_code : ∀ n : Fin 255, 9 ≤ n.val → (IntOp.addi (BitVec.ofInt 32 ((n.val : ℤ) - 134)) 127#32).setWidth 8 = BitVec.ofNat 8 (n.val - 7) := by
  decide +kernel

theorem fptosi_int {z : ℤ} (h1 : -200 ≤ z) (h2 : z ≤ 200) : Ideal.fptosi 32 ((z : ℝ) : EReal) = BitVec.ofInt 32 z := by
  unfold Ideal.fptosi
  congr 1
  show max _ (min _ (if 0 ≤ (z : ℝ) then ⌊(z : ℝ)⌋ else ⌈(z : ℝ)⌉)) = z
  rw [Int.floor_intCast, Int.ceil_intCast, ite_self]
  norm_num
  omega

theorem floor_eq {r : ℝ} {n : ℕ} (hlo : lev n ≤ r) (hhi : r < lev (n + 1)) : ⌊Real.log (r * 448⁻¹) * (Real.log 2)⁻¹⌋ = (n : ℤ) - 135 := by
  have hr : 0 < r := (lev_pos n).trans_le hlo
  have l2 : 0 < Real.log 2 := Real.log_pos (by norm_num)
  have e1 : lev n = 448 * (2 : ℝ) ^ ((n : ℤ) - 135) := by
    unfold lev
    rw [show (n : ℤ) - 127 = ((n : ℤ) - 135) + 8 by ring, zpow_add₀ (by norm_num)]; norm_num; ring
  have e2 : lev (n + 1) = 448 * (2 : ℝ) ^ ((n : ℤ) - 134) := by
    unfold lev
    rw [show ((n + 1 : ℕ) : ℤ) - 127 = ((n : ℤ) - 134) + 8 by push_cast; ring, zpow_add₀ (by norm_num)]; norm_num; ring
  rw [Int.floor_eq_iff, ← div_eq_mul_inv]
  constructor
  · rw [le_div_iff₀ l2, ← Real.log_zpow]
    exact Real.log_le_log (by positivity) (by rw [e1] at hlo; linarith)
  · rw [div_lt_iff₀ l2, show (((n : ℤ) - 135 : ℤ) : ℝ) + 1 = (((n : ℤ) - 134 : ℤ) : ℝ) by push_cast; ring, ← Real.log_zpow]
    exact Real.log_lt_log (by positivity) (by rw [e2] at hhi; linarith)

/-- Where the scale is in range: what the kernel finds, and the reference's exponent. -/
theorem both {a : EReal} (h1 : a < (lev 255 : EReal)) (h2 : a = 0 ∨ (lev 9 : EReal) ≤ a) :
    (search1 a = 0#32 ∧ refExp a = ((0 : ℤ) : ℝ))
    ∨ ∃ n : Fin 255, 9 ≤ n.val ∧ search1 a = BitVec.ofNat 32 n.val ∧ refExp a = (((n.val : ℤ) - 134 : ℤ) : ℝ) := by
  obtain ⟨n, e, hn, hlo, hhi⟩ := search_spec h1
  rcases h2 with rfl | h2
  · have : n = 0 := by
      rcases hlo with h | h
      · exact h
      · exact absurd (EReal.coe_le_coe_iff.1 (h.trans_eq EReal.coe_zero.symm)) (not_le.2 (lev_pos n))
    subst this
    exact .inl ⟨e, by rw [refExp, if_pos rfl]; simp⟩
  · have h9 : 9 ≤ n := by
      by_contra hc
      exact absurd ((h2.trans_lt hhi).trans_le (EReal.coe_le_coe_iff.2 (lev_mono (show n + 1 ≤ 9 by omega)))) (lt_irrefl _)
    have hlo' : (lev n : EReal) ≤ a := hlo.resolve_left (by omega)
    refine .inr ⟨⟨n, by omega⟩, h9, e, ?_⟩
    induction a using EReal.rec with
    | bot => exact absurd hlo' (by simp)
    | top => exact absurd h1 (by simp)
    | coe r =>
      have hl := EReal.coe_le_coe_iff.1 hlo'
      have hh := EReal.coe_lt_coe_iff.1 hhi
      have hr : 0 < r := (lev_pos n).trans_le hl
      have l2 : 0 < Real.log 2 := Real.log_pos (by norm_num)
      have n0 : (r : EReal) ≠ 0 := by rw [← EReal.coe_zero]; exact fun h => hr.ne' (EReal.coe_eq_coe_iff.1 h)
      have n1 : ((448 : ℝ) : EReal) ≠ 0 := by rw [← EReal.coe_zero]; exact fun h => absurd (EReal.coe_eq_coe_iff.1 h) (by norm_num)
      have n2 : ((Real.log 2 : ℝ) : EReal) ≠ 0 := by rw [← EReal.coe_zero]; exact fun h => l2.ne' (EReal.coe_eq_coe_iff.1 h)
      have d1 : Ideal.div (r : EReal) ((448 : ℝ) : EReal) = ((r * 448⁻¹ : ℝ) : EReal) := by
        unfold Ideal.div; rw [if_neg n1, ← EReal.coe_inv, ← EReal.coe_mul]
      have g1 : Ideal.log ((r * 448⁻¹ : ℝ) : EReal) = ((Real.log (r * 448⁻¹) : ℝ) : EReal) := by
        show (if r * 448⁻¹ ≤ 0 then (⊥ : EReal) else _) = _
        rw [if_neg (not_le.2 (by positivity))]
      have g2 : Ideal.log ((2 : ℝ) : EReal) = ((Real.log 2 : ℝ) : EReal) := by
        show (if (2 : ℝ) ≤ 0 then (⊥ : EReal) else _) = _
        rw [if_neg (by norm_num)]
      have d2 : Ideal.div ((Real.log (r * 448⁻¹) : ℝ) : EReal) ((Real.log 2 : ℝ) : EReal) = ((Real.log (r * 448⁻¹) * (Real.log 2)⁻¹ : ℝ) : EReal) := by
        unfold Ideal.div; rw [if_neg n2, ← EReal.coe_inv, ← EReal.coe_mul]
      unfold refExp
      rw [if_neg n0, d1, g1, g2, d2, Ideal.liftRound_coe, floor_eq hl hh, ← EReal.coe_add,
        show (((n : ℤ) - 135 : ℤ) : ℝ) + 1 = (((n : ℤ) - 134 : ℤ) : ℝ) by push_cast; ring]

/-- Where the scale is in range the two agree. -/
theorem code_eq {a : EReal} (h1 : a < (lev 255 : EReal)) (h2 : a = 0 ∨ (lev 9 : EReal) ≤ a) : codeOf a = refCode a := by
  unfold codeOf refCode
  rcases both h1 h2 with ⟨e, r⟩ | ⟨n, h9, e, r⟩
  · rw [e, r, fptosi_int (by norm_num) (by norm_num)]
    decide
  · have := n.isLt
    rw [e, r, fptosi_int (by omega) (by omega)]
    exact (stored_code n h9).trans (biased_code n h9).symm

/-- The fields of the half words the kernel multiplies with. -/
theorem halves : ∀ n : Fin 255, ∀ r : Fin 2, 9 ≤ n.val →
    (((downWord (if (BitVec.ofNat 32 n.val - 7#32).slt 2#32 then 127#32 else BitVec.ofNat 32 n.val - 7#32)).extractLsb' (16 * r.val) 16).extractLsb' 15 1 == 1#1) = false
    ∧ (((downWord (if (BitVec.ofNat 32 n.val - 7#32).slt 2#32 then 127#32 else BitVec.ofNat 32 n.val - 7#32)).extractLsb' (16 * r.val) 16).extractLsb' 7 8).toNat = 261 - n.val
    ∧ (((downWord (if (BitVec.ofNat 32 n.val - 7#32).slt 2#32 then 127#32 else BitVec.ofNat 32 n.val - 7#32)).extractLsb' (16 * r.val) 16).extractLsb' 0 7).toNat = 0 := by
  decide +kernel

theorem halves_zero : ∀ r : Fin 2, (downWord (if ((0#32) - 7#32).slt 2#32 then 127#32 else (0#32) - 7#32)).extractLsb' (16 * r.val) 16 = 0x3F80#16 := by
  decide +kernel

theorem ofBits_bf16_one : Ideal.ofBits .bf16 0x3F80#16 = ((1 : ℝ) : EReal) := by
  simp [Ideal.ofBits, Ideal.ieee, ← EReal.coe_mul, ← EReal.coe_pow]; norm_num

theorem pow_two (z : ℤ) : Ideal.pow ((2 : ℝ) : EReal) ((z : ℝ) : EReal) = (((2 : ℝ) ^ z : ℝ) : EReal) := by
  show ((Real.rpow 2 (z : ℝ) : ℝ) : EReal) = _
  congr 1
  exact Real.rpow_intCast 2 z

/-- Where the scale is in range the kernel's factor is the reference's. -/
theorem factor_eq {a : EReal} (h1 : a < (lev 255 : EReal)) (h2 : a = 0 ∨ (lev 9 : EReal) ≤ a) (r : ℕ) :
    Ideal.ofBits .bf16 ((downWord (wordOf a)).extractLsb' (16 * (r % 2)) 16) = Ideal.pow ((2 : ℝ) : EReal) (-refExp a) := by
  unfold wordOf
  rcases both h1 h2 with ⟨e, r0⟩ | ⟨n, h9, e, r0⟩
  · rw [e, r0, ← EReal.coe_neg, ← Int.cast_neg, pow_two, halves_zero ⟨r % 2, by omega⟩, ofBits_bf16_one]
    norm_num
  · obtain ⟨f1, f2, f3⟩ := halves n ⟨r % 2, by omega⟩ h9
    have := n.isLt
    rw [e, r0, ← EReal.coe_neg, ← Int.cast_neg, pow_two]
    dsimp only at f1 f2 f3
    generalize (downWord (if (BitVec.ofNat 32 n.val - 7#32).slt 2#32 then 127#32 else BitVec.ofNat 32 n.val - 7#32)).extractLsb' (16 * (r % 2)) 16 = w at *
    show Ideal.ieee 8 7 w = _
    unfold Ideal.ieee
    simp only [show 8 + 7 = 15 from rfl, f1, f2, f3]
    rw [if_neg (by show ¬ 261 - n.val = 2 ^ 8 - 1; omega), if_neg (by show ¬ 261 - n.val = 0; omega)]
    congr 1
    have : (((261 - n.val : ℕ) : ℤ) - (2 ^ (8 - 1) - 1) - 7) = -((n.val : ℤ) - 134) + (-7) := by
      rw [Nat.cast_sub (by omega)]; norm_num; ring
    show (if (false = true) then (-1 : ℝ) else 1) * ((2 ^ 7 + 0 : ℕ) : ℝ) * (2 : ℝ) ^ (((261 - n.val : ℕ) : ℤ) - (2 ^ (8 - 1) - 1) - (7 : ℤ)) = _
    rw [this, zpow_add₀ (by norm_num)]
    norm_num
    ring

end Quant

end
-- ==== Proof.QRef.lean ====
/-
  The reference's scales and codes read at an index, and their equality with the kernel's where the precondition holds.
-/
module

public import proofs.«01_k».proof.Proof.Gen.ReferenceKIdeal.Read
public import proofs.«01_k».proof.Proof.QScale
public import proofs.«01_k».proof.Proof.QCode
public import proofs.«01_k».proof.Pre_in_range
public import Idealize.ShloMosaic.Lib.ReduceAll

@[expose] public section

noncomputable section

namespace Cert.Proof.QRef

open Cert.ReferenceKIdeal Cert.ReferenceKIdeal.Gen Cert.ReferenceKIdeal.Read Attn Quant
open Idealize.ShloMosaic

variable (K : Vec Ideal (Attn.S4d 2 1024 8 128) .bf16)

/-- The largest magnitude of run `b` of the key at position `n`, head `h`. -/
def peak (i n h b : ℕ) : EReal := (Finset.range 32).sup fun r => mag (rd4 K i n h (32 * b + r))

theorem abs_apply (j : S2x1024x8x4x32.Idx) :
    val_main_v2 (F := Ideal) K j = mag (rd4 K (j 0).val (j 1).val (j 2).val (32 * (j 3).val + (j 4).val)) := by
  have h0 : (j 0).val < 2 := (j 0).isLt
  have h1 : (j 1).val < 1024 := (j 1).isLt
  have h2 : (j 2).val < 8 := (j 2).isLt
  have h3 : (j 3).val < 4 := (j 3).isLt
  have h4 : (j 4).val < 32 := (j 4).isLt
  rw [val_main_v2_apply, val_main_v1_apply, val_main_v0_apply, at4 (A := 2) (B := 1024) (C := 8) (D := 128) K]
  show mag (rd4 K ((((((j 0).val * 1024 + (j 1).val) * 8 + (j 2).val) * 4 + (j 3).val) * 32 + (j 4).val) / 1048576)
    ((((((j 0).val * 1024 + (j 1).val) * 8 + (j 2).val) * 4 + (j 3).val) * 32 + (j 4).val) / 1024 % 1024)
    ((((((j 0).val * 1024 + (j 1).val) * 8 + (j 2).val) * 4 + (j 3).val) * 32 + (j 4).val) / 128 % 8)
    ((((((j 0).val * 1024 + (j 1).val) * 8 + (j 2).val) * 4 + (j 3).val) * 32 + (j 4).val) % 128)) = _
  congr 2 <;> omega

/-- Element `r` of a run. -/
def elt (j : S2x1024x8x4.Idx) (r : Fin 32) : S2x1024x8x4x32.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨r.val, r.isLt⟩

theorem run_idx (j : S2x1024x8x4.Idx) (i : S2x1024x8x4x32.Idx) (h : reducesTo_S2x1024x8x4x32_S2x1024x8x4_d4.drop i = j) :
    i = elt j ⟨(i 4).val, (i 4).isLt⟩ := by
  subst h
  funext a
  apply Fin.ext
  match a with
  | ⟨0, _⟩ => rfl
  | ⟨1, _⟩ => rfl
  | ⟨2, _⟩ => rfl
  | ⟨3, _⟩ => rfl
  | ⟨4, _⟩ => rfl

theorem drop_elt (j : S2x1024x8x4.Idx) (r : Fin 32) : reducesTo_S2x1024x8x4x32_S2x1024x8x4_d4.drop (elt j r) = j := by
  funext a
  apply Fin.ext
  match a with
  | ⟨0, _⟩ => rfl
  | ⟨1, _⟩ => rfl
  | ⟨2, _⟩ => rfl
  | ⟨3, _⟩ => rfl

theorem ofBits_negInf : Ideal.ofBits .f32 0xFF800000#32 = ⊥ := by simp [Ideal.ofBits, Ideal.ieee]

theorem peak_apply (j : S2x1024x8x4.Idx) : val_main_v3 (F := Ideal) K j = peak K (j 0).val (j 1).val (j 2).val (j 3).val := by
  unfold val_main_v3 peak
  rw [Host.reduce_eq_fold]
  refine eq_of_forall_ge_iff fun B => (Finset.fold_max_le B).trans ?_
  rw [Finset.sup_le_iff]
  refine ⟨fun h r hr => ?_, fun h => ⟨?_, fun i hi => ?_⟩⟩
  · have := h.2 (elt j ⟨r, Finset.mem_range.1 hr⟩) (Finset.mem_filter.2 ⟨Finset.mem_univ _, drop_elt j _⟩)
    exact (abs_apply K _).ge.trans this
  · exact (show (Ideal.ofBits .f32 0xFF800000#32 : EReal) ≤ B from ofBits_negInf.le.trans bot_le)
  · rw [run_idx j i (Finset.mem_filter.1 hi).2]
    exact (abs_apply K _).le.trans (h (i 4).val (Finset.mem_range.2 (i 4).isLt))

theorem ofBits_448 : Ideal.ofBits .f32 0x43E00000#32 = ((448 : ℝ) : EReal) := by simp [Ideal.ofBits, Ideal.ieee, ← EReal.coe_mul, ← EReal.coe_pow]; norm_num
theorem ofBits_two : Ideal.ofBits .f32 0x40000000#32 = ((2 : ℝ) : EReal) := by simp [Ideal.ofBits, Ideal.ieee, ← EReal.coe_mul, ← EReal.coe_pow]; norm_num
theorem ofBits_one : Ideal.ofBits .f32 0x3F800000#32 = ((1 : ℝ) : EReal) := by simp [Ideal.ofBits, Ideal.ieee, ← EReal.coe_mul, ← EReal.coe_pow]; norm_num
theorem ofBits_zero : Ideal.ofBits .f32 0x00000000#32 = 0 := by simp [Ideal.ofBits, Ideal.ieee]

theorem exp_apply (j : S2x1024x8x4.Idx) : val_main_v15 (F := Ideal) K j = refExp (peak K (j 0).val (j 1).val (j 2).val (j 3).val) := by
  rw [val_main_v15_apply, val_main_v14_apply,
    val_main_v13_apply, val_main_cst_3_apply, val_main_call0_v1_apply, val_main_call0_v0_apply, val_main_cst_4_apply, val_main_v12_apply, val_main_v11_apply,
    val_main_cst_2_apply, val_main_v10_apply, val_main_v9_apply, val_main_v8_apply, val_main_v7_apply, val_main_cst_1_apply, val_main_v6_apply,
    val_main_v5_apply, val_main_v4_apply, val_main_cst_0_apply, peak_apply]
  generalize peak K (j 0).val (j 1).val (j 2).val (j 3).val = a
  show (if Ideal.cmp .oeq a (Ideal.ofBits .f32 0x00000000#32) = 1#1 then Ideal.ofBits .f32 0x00000000#32
    else Ideal.liftRound Int.floor (Ideal.div (Ideal.log (Ideal.div a (Ideal.ofBits .f32 0x43E00000#32))) (Ideal.log (Ideal.ofBits .f32 0x40000000#32)))
      + Ideal.ofBits .f32 0x3F800000#32) = refExp a
  rw [ofBits_zero, ofBits_448, ofBits_two, ofBits_one, refExp]
  have : Ideal.cmp .oeq a 0 = 1#1 ↔ a = 0 := by by_cases h : a = 0 <;> simp [Ideal.cmp, h]
  simp only [this]

theorem code_apply (j : S2x1024x8x4.Idx) : val_main_v27 (F := Ideal) K j = refCode (peak K (j 0).val (j 1).val (j 2).val (j 3).val) := by
  rw [val_main_v27_apply, val_main_v26_apply, val_main_v25_apply, val_main_c_apply, val_main_v24_apply, exp_apply]
  rfl

theorem factor_apply (j : S2x1024x8x4.Idx) :
    val_main_v18 (F := Ideal) K j = Ideal.pow ((2 : ℝ) : EReal) (-refExp (peak K (j 0).val (j 1).val (j 2).val (j 3).val)) := by
  rw [val_main_v18_apply, val_main_v17_apply, val_main_v16_apply, val_main_cst_5_apply, exp_apply]
  show Ideal.pow (Ideal.ofBits .f32 0x40000000#32) _ = _
  rw [ofBits_two]
  rfl

theorem key_apply (j : S2x1024x8x4x32.Idx) :
    val_main_v1 (F := Ideal) K j = rd4 K (j 0).val (j 1).val (j 2).val (32 * (j 3).val + (j 4).val) := by
  have h0 : (j 0).val < 2 := (j 0).isLt
  have h1 : (j 1).val < 1024 := (j 1).isLt
  have h2 : (j 2).val < 8 := (j 2).isLt
  have h3 : (j 3).val < 4 := (j 3).isLt
  have h4 : (j 4).val < 32 := (j 4).isLt
  rw [val_main_v1_apply, val_main_v0_apply, at4 (A := 2) (B := 1024) (C := 8) (D := 128) K]
  show rd4 K ((((((j 0).val * 1024 + (j 1).val) * 8 + (j 2).val) * 4 + (j 3).val) * 32 + (j 4).val) / 1048576)
    ((((((j 0).val * 1024 + (j 1).val) * 8 + (j 2).val) * 4 + (j 3).val) * 32 + (j 4).val) / 1024 % 1024)
    ((((((j 0).val * 1024 + (j 1).val) * 8 + (j 2).val) * 4 + (j 3).val) * 32 + (j 4).val) / 128 % 8)
    ((((((j 0).val * 1024 + (j 1).val) * 8 + (j 2).val) * 4 + (j 3).val) * 32 + (j 4).val) % 128) = _
  congr 1 <;> omega

/-- The reference's code at one place. -/
theorem clipped_apply (j : S2x1024x8x4x32.Idx) : val_main_v23 (F := Ideal) K j = min (Ideal.ofBits .f32 0x43E00000#32) (max (Ideal.ofBits .f32 0xC3E00000#32)
    (rd4 K (j 0).val (j 1).val (j 2).val (32 * (j 3).val + (j 4).val) * Ideal.pow ((2 : ℝ) : EReal) (-refExp (peak K (j 0).val (j 1).val (j 2).val (j 3).val)))) := by
  rw [val_main_v23_apply, val_main_v22_apply, val_main_call1_v4_apply, val_main_call1_v3_apply, val_main_cst_7_apply, val_main_call1_v2_apply,
    val_main_call1_v1_apply, val_main_call1_v0_apply, val_main_cst_6_apply, val_main_v21_apply, val_main_v20_apply, val_main_v19_apply,
    factor_apply, key_apply]
  rfl

/-- The kernel's scales of an array of keys, as the call stores them. -/
def resultK (j : (Attn.S4d 2 8 4 1024).Idx) : BitVec 8 := codeOf (peak K (j 0).val (j 3).val (j 1).val (j 2).val)

/-- The kernel's codes of an array of keys. -/
def codesK (j : (Attn.S4d 2 1024 8 128).Idx) : EReal :=
  codeAt (rd4 K (j 0).val (j 1).val (j 2).val (j 3).val) (downWord (wordOf (peak K (j 0).val (j 1).val (j 2).val ((j 3).val / 32)))) ((j 3).val % 32)

instance facts : Cert.Pre_in_range.Facts where
  bitsLt_bf16_f32 := by decide
  shapeCasts_S2x1024x8x128_S2x1024x8x4x32 := by decide
  reducesTo_S2x1024x8x4x32_S2x1024x8x4_d4 := by decide
  h_S_ := by decide
  bcast_S_S2x1024x8x4 := by decide
  reducesTo_S2x1024x8x4_S_d0_1_2_3 := by decide

theorem top_lt : Ideal.ofBits .f32 0x7F7F0000#32 < (lev 255 : EReal) := by
  have : Ideal.ofBits .f32 0x7F7F0000#32 = ((255 * 2 ^ 120 : ℝ) : EReal) := by simp [Ideal.ofBits, Ideal.ieee, ← EReal.coe_mul, ← EReal.coe_pow]; norm_num
  rw [this, EReal.coe_lt_coe_iff, lev]
  norm_num

theorem lev_word : IntOp.ori (IntOp.shli .vector (BitVec.ofNat 32 9) 23#32) 6291456#32 = 0x04E00000#32 := by decide +kernel

theorem ofBits_lev : Ideal.ofBits .f32 0x04E00000#32 = (lev 9 : EReal) := by
  rw [← thr1_eq (n := 9) (by omega) (by omega), thr1, lev_word]

/-- The precondition holds of every run. -/
theorem runs_of {F : FTy → Type} [FloatOps F] (K : Vec F (Attn.S4d 2 1024 8 128) .bf16) (h : Cert.Pre_in_range.fn (F := F) K = fun _ => 1#1)
    (j : S2x1024x8x4.Idx) : FloatOps.cmpf (F := F) .ole (val_main_v3 (F := F) K j) (FloatOps.ofBits .f32 0x7F7F0000#32) = 1#1
    ∧ IntOp.ori (FloatOps.cmpf (F := F) .oeq (val_main_v3 (F := F) K j) (FloatOps.ofBits .f32 0x00000000#32))
        (FloatOps.cmpf (F := F) .oge (val_main_v3 (F := F) K j) (FloatOps.ofBits .f32 0x04E00000#32)) = 1#1 := by
  have h0 := congrFun h (fun a => a.elim0)
  unfold Cert.Pre_in_range.fn at h0
  have h1 := Host.reduce_andi_all _ _ _ _ _ h0 j
  obtain ⟨ha, hb⟩ := IntOp.andi_eq_one.1 h1
  exact ⟨ha, hb⟩

/-- What the precondition says of a run. -/
theorem in_range_of (h : Cert.Pre_in_range.fn (F := Ideal) K = fun _ => 1#1) (j : S2x1024x8x4.Idx) :
    peak K (j 0).val (j 1).val (j 2).val (j 3).val < (lev 255 : EReal)
    ∧ (peak K (j 0).val (j 1).val (j 2).val (j 3).val = 0 ∨ (lev 9 : EReal) ≤ peak K (j 0).val (j 1).val (j 2).val (j 3).val) := by
  obtain ⟨ha, hb⟩ := runs_of K h j
  have ha' : Ideal.cmp .ole (val_main_v3 (F := Ideal) K j) (Ideal.ofBits .f32 0x7F7F0000#32) = 1#1 := ha
  have hb' : IntOp.ori (Ideal.cmp .oeq (val_main_v3 (F := Ideal) K j) (Ideal.ofBits .f32 0x00000000#32))
        (Ideal.cmp .oge (val_main_v3 (F := Ideal) K j) (Ideal.ofBits .f32 0x04E00000#32)) = 1#1 := hb
  rw [peak_apply] at ha'
  rw [peak_apply, ofBits_zero, ofBits_lev] at hb'
  generalize peak K (j 0).val (j 1).val (j 2).val (j 3).val = a at *
  refine ⟨lt_of_le_of_lt ?_ top_lt, ?_⟩
  · by_contra hn; simp [Ideal.cmp, hn] at ha'
  · by_contra hn
    rw [not_or] at hn
    simp [Ideal.cmp, hn.1, hn.2, IntOp.ori] at hb'

/-- The kernel's scales in the layout of the keys. -/
def scalesK (j : (Attn.S4d 2 1024 8 4).Idx) : BitVec 8 := codeOf (peak K (j 0).val (j 1).val (j 2).val (j 3).val)

/-- Where the precondition holds the reference's scales are the kernel's. -/
theorem result_eq (h : Cert.Pre_in_range.fn (F := Ideal) K = fun _ => 1#1) : val_main_v27 (F := Ideal) K = scalesK K := by
  funext j
  rw [code_apply]
  obtain ⟨h1, h2⟩ := in_range_of K h j
  exact (code_eq h1 h2).symm

/-- The place of a key among the runs. -/
def place (j : S2x1024x8x128.Idx) : S2x1024x8x4.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val / 32, by have : (j 3).val < 128 := (j 3).isLt; show _ < 4; omega⟩

/-- Where the precondition holds the reference's codes are the kernel's. -/
theorem codes_eq (h : Cert.Pre_in_range.fn (F := Ideal) K = fun _ => 1#1) : val_main_v28 (F := Ideal) K = codesK K := by
  funext j
  have h0 : (j 0).val < 2 := (j 0).isLt
  have h1 : (j 1).val < 1024 := (j 1).isLt
  have h2 : (j 2).val < 8 := (j 2).isLt
  have h3 : (j 3).val < 128 := (j 3).isLt
  rw [val_main_v28_apply, clipped_apply]
  have e0 : (idx_main_v28 j 0).val = (j 0).val := by
    show ((((j 0).val * 1024 + (j 1).val) * 8 + (j 2).val) * 128 + (j 3).val) / 1048576 = _; omega
  have e1 : (idx_main_v28 j 1).val = (j 1).val := by
    show ((((j 0).val * 1024 + (j 1).val) * 8 + (j 2).val) * 128 + (j 3).val) / 1024 % 1024 = _; omega
  have e2 : (idx_main_v28 j 2).val = (j 2).val := by
    show ((((j 0).val * 1024 + (j 1).val) * 8 + (j 2).val) * 128 + (j 3).val) / 128 % 8 = _; omega
  have e3 : (idx_main_v28 j 3).val = (j 3).val / 32 := by
    show ((((j 0).val * 1024 + (j 1).val) * 8 + (j 2).val) * 128 + (j 3).val) / 32 % 4 = _; omega
  have e4 : (idx_main_v28 j 4).val = (j 3).val % 32 := by
    show ((((j 0).val * 1024 + (j 1).val) * 8 + (j 2).val) * 128 + (j 3).val) % 32 = _; omega
  rw [e0, e1, e2, e3, e4, show 32 * ((j 3).val / 32) + (j 3).val % 32 = (j 3).val by omega]
  obtain ⟨p1, p2⟩ := in_range_of K h (place j)
  unfold codesK codeAt
  rw [factor_eq (a := peak K (j 0).val (j 1).val (j 2).val ((j 3).val / 32)) p1 p2]

end Cert.Proof.QRef

end
-- ==== Proof.QTrack.lean ====
/-
  The value of `KernelKIdeal`: the arrays of codes and of scales are those of the keys' runs, the second transposed after the call.
-/
module

public import proofs.«01_k».proof.Proof.Gen.KernelKIdeal.Frame
public import proofs.«01_k».proof.Proof.FrameQI
public import proofs.«01_k».proof.Proof.QRun
public import proofs.«01_k».proof.Proof.QRef
public import Idealize.ShloMosaic.Lib.Pipeline.Value

@[expose] public section

noncomputable section

namespace Cert.Proof.QTrack

open Cert.KernelKIdeal Cert.KernelKIdeal.Gen Attn
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open FrameQI (refsAt defs₀_row)
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data: the input's buffer at its block, the codes' and the scales' at those of that block, nothing said of the scratch. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => QRun.codesOf (iblk m c 0 t)
    | ⟨2, _⟩ => QRun.scales (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem after0_1 (c : Dev nD) (t : Fin cfg0.N) : (dats m 0 c).after 1 t = QRun.codesOf (iblk m c 0 t) := by dsimp only [dats]

theorem after0_2 (c : Dev nD) (t : Fin cfg0.N) : (dats m 0 c).after 2 t = QRun.scales (iblk m c 0 t) := by dsimp only [dats]

theorem before0_0 (c : Dev nD) (t : Fin cfg0.N) (d) : (dats m 0 c).before 0 t d = iblk m c 0 t :=
  before0_0_of m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point leaves the codes and the scales of its block. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0]
  rw [show (dats m 0 c).Φ t.succ = (dats m 0 c).Φ t.castSucc from rfl,
    show (dats m 0 c).owesAt () t.succ = (dats m 0 c).owesAt () t.castSucc from rfl, after0_0, after0_1, after0_2]
  rw [show (dats m 0 c).Φ t.castSucc = Pipeline.ΦA spec0 c from rfl]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩⟩, HP⟩, Ho, ⟨%d0, H0⟩, ⟨%d1, H1⟩, ⟨%d2, H2⟩⟩
  iapply (QRun.body_runs (c := c) (U := UR sig nD τ) (defs := defs₀) (E := Set.univ) (grid0.coords t) (refsAt t)
    ⟨iblk m c 0 t, (dats m 0 c).before 1 t d1, (dats m 0 c).before 2 t d2, f0, f1, f2, f3, f4, f5, f6⟩ _)
  unfold Quant.own
  isplitl [S0 S1 S2 S3 S4 S5 S6 H0 H1 H2]
  · isplitl [H0]; · iexact H0
    isplitl [H1]; · iexact H1
    isplitl [H2]; · iexact H2
    isplitl [S0]; · rw [← owns_whole]; exact BIBase.Entails.rfl
    isplitl [S1]; · rw [← owns_whole]; exact BIBase.Entails.rfl
    isplitl [S2]; · rw [← owns_whole]; exact BIBase.Entails.rfl
    isplitl [S3]; · rw [← owns_whole]; exact BIBase.Entails.rfl
    isplitl [S4]; · rw [← owns_whole]; exact BIBase.Entails.rfl
    isplitl [S5]; · rw [← owns_whole]; exact BIBase.Entails.rfl
    rw [← owns_whole]; exact BIBase.Entails.rfl
  iintro %σ' %a %e ⟨H0, H1, H2, S0, S1, S2, S3, S4, S5, S6⟩
  obtain ⟨e0, e1, e2⟩ := e
  rw [show σ'.x = iblk m c 0 t from e0, show σ'.g = QRun.scales (iblk m c 0 t) from e1, show σ'.c = QRun.codesOf (iblk m c 0 t) from e2]
  isplitl [S0 S1 S2 S3 S4 S5 S6 HP]
  · isplitr [HP]
    · isplitl [S0]; · iexists σ'.d; rw [← owns_whole]; exact BIBase.Entails.rfl
      isplitl [S1]; · iexists σ'.xt; rw [← owns_whole]; exact BIBase.Entails.rfl
      isplitl [S2]; · iexists σ'.ct; rw [← owns_whole]; exact BIBase.Entails.rfl
      isplitl [S3]; · iexists σ'.u; rw [← owns_whole]; exact BIBase.Entails.rfl
      isplitl [S4]; · iexists σ'.w; rw [← owns_whole]; exact BIBase.Entails.rfl
      isplitl [S5]; · iexists σ'.z; rw [← owns_whole]; exact BIBase.Entails.rfl
      iexists σ'.dt; rw [← owns_whole]; exact BIBase.Entails.rfl
    iexact HP
  isplitl [Ho]; · iexact Ho
  isplitl [H0]; · iexact H0
  isplitl [H1]; · iexact H1
  iexact H2

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_main :
    θ_run (defs (F := Ideal)) (onTc (τ := τ) (main (F := Ideal))) ⟨m, fun _ => 0, ρ⟩
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ### The arrays of codes and of scales -/

/-- The keys of core `c`. -/
abbrev argK (c : Dev nD) : Vec Ideal (Attn.S4d 2 1024 8 128) .bf16 := m ((c.tc : Thread nD τ).loc main_arg0)

theorem index0 : ∀ t : Fin cfg0.N, win0_0.index t 0 = t.val / 4 ∧ win0_0.index t 1 = t.val % 4 ∧ win0_0.index t 2 = 0 ∧ win0_0.index t 3 = 0 :=
  (by decide +kernel : ∀ t : Fin grid0.N, _)
theorem index1 : ∀ t : Fin cfg0.N, win0_1.index t 0 = t.val / 4 ∧ win0_1.index t 1 = t.val % 4 ∧ win0_1.index t 2 = 0 ∧ win0_1.index t 3 = 0 :=
  (by decide +kernel : ∀ t : Fin grid0.N, _)
theorem index2 : ∀ t : Fin cfg0.N, win0_2.index t 0 = t.val / 4 ∧ win0_2.index t 1 = 0 ∧ win0_2.index t 2 = 0 ∧ win0_2.index t 3 = t.val % 4 :=
  (by decide +kernel : ∀ t : Fin grid0.N, _)

theorem t_lt (t : Fin cfg0.N) : t.val < 8 := t.isLt

theorem blkK (c : Dev nD) (t : Fin cfg0.N) (p h d : ℕ) (hp : p < 256) (hh : h < 8) (hd : d < 128) :
    rd4 (A := 1) (B := 256) (C := 8) (D := 128) (iblk m c 0 t) 0 p h d = rd4 (argK m c) (t.val / 4) (256 * (t.val % 4) + p) h d := by
  have ht := t_lt t
  obtain ⟨i0, i1, i2, i3⟩ := index0 t
  rw [rd4_of _ Nat.one_pos hp hh hd, rd4_of _ (by omega : t.val / 4 < 2) (by omega : 256 * (t.val % 4) + p < 1024) hh hd]
  unfold iblk
  rw [View.read_apply]
  show V m c main_arg0 _ = m (c.tc.loc main_arg0) _
  unfold V
  refine congrArg _ (funext fun a => Fin.ext ?_)
  match a with
  | ⟨0, _⟩ => show win0_0.index t 0 * 1 + 1 * 0 = t.val / 4; omega
  | ⟨1, _⟩ => show win0_0.index t 1 * 256 + 1 * p = 256 * (t.val % 4) + p; omega
  | ⟨2, _⟩ => show win0_0.index t 2 * 8 + 1 * h = h; omega
  | ⟨3, _⟩ => show win0_0.index t 3 * 128 + 1 * d = d; omega

theorem top_blk (c : Dev nD) (t : Fin cfg0.N) (h b p : ℕ) (hh : h < 8) (hb : b < 4) (hp : p < 256) :
    Quant.top (iblk m c 0 t) h b p = QRef.peak (argK m c) (t.val / 4) (256 * (t.val % 4) + p) h b :=
  Finset.sup_congr rfl fun r hr => congrArg Quant.mag (blkK m c t p h (32 * b + r) hp hh (by have := Finset.mem_range.1 hr; omega))

/-- The array of scales, as the call stores it. -/
abbrev result (c : Dev nD) : Buf (Elt Ideal) ((c : Thread nD τ).loc main_v0_1) := QRef.resultK (argK m c)

theorem flushed_eq (c : Dev nD) (t : Fin cfg0.N) (_ : (cfg0.win 2).flush t = true) :
    (dats m 0 c).flushed 2 t = ((cfg0.win 2).blk t).view.read (Elt Ideal) (result m c) := by
  have ht := t_lt t
  obtain ⟨i0, i1, i2, i3⟩ := index2 t
  show (cfg0.win 2).cut (grid0.coords t) ((dats m 0 c).after 2 t) = _
  rw [after0_2]
  funext j
  rw [View.read_apply]
  have h0 : (j 0).val < 1 := (j 0).isLt
  have h1 : (j 1).val < 8 := (j 1).isLt
  have h2 : (j 2).val < 4 := (j 2).isLt
  have h3 : (j 3).val < 256 := (j 3).isLt
  show Quant.codeOf (Quant.top (iblk m c 0 t) (j 1).val (j 2).val (j 3).val)
    = Quant.codeOf (QRef.peak (argK m c) (win0_2.index t 0 * 1 + 1 * (j 0).val) (win0_2.index t 3 * 256 + 1 * (j 3).val)
      (win0_2.index t 1 * 8 + 1 * (j 1).val) (win0_2.index t 2 * 4 + 1 * (j 2).val))
  rw [i0, i1, i2, i3, top_blk m c t _ _ _ h1 h2 h3]
  congr 2 <;> omega

theorem final_s (c : Dev nD) : (dats m 0 c).arrAt 2 cfg0.N = result m c :=
  (dats m 0 c).arrAt_eq_of_cover 2 (result m c) (flushed_eq m c) fun i => by
    have h0 : (i 0 : Nat) < 2 := (i 0).isLt
    have h1 : (i 1 : Nat) < 8 := (i 1).isLt
    have h2 : (i 2 : Nat) < 4 := (i 2).isLt
    have h3 : (i 3 : Nat) < 1024 := (i 3).isLt
    obtain ⟨t, ht⟩ : ∃ t : Fin cfg0.N, t.val = 4 * (i 0).val + (i 3).val / 256 :=
      ⟨⟨4 * (i 0 : Nat) + (i 3 : Nat) / 256, by show _ < 8; omega⟩, rfl⟩
    obtain ⟨i0, i1, i2, i3⟩ := index2 t
    refine ⟨t, flush0_2 t, ?_⟩
    show i ∈ ((View.whole main_v0_1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [i0]; omega
    | ⟨1, _⟩ => show win0_2.index t 1 * 8 ≤ (i 1 : Nat) ∧ (i 1 : Nat) < win0_2.index t 1 * 8 + 8
                rw [i1]; omega
    | ⟨2, _⟩ => show win0_2.index t 2 * 4 ≤ (i 2 : Nat) ∧ (i 2 : Nat) < win0_2.index t 2 * 4 + 4
                rw [i2]; omega
    | ⟨3, _⟩ => show win0_2.index t 3 * 256 ≤ (i 3 : Nat) ∧ (i 3 : Nat) < win0_2.index t 3 * 256 + 256
                rw [i3]; omega

/-- The array of codes. -/
abbrev codes (c : Dev nD) : Buf (Elt Ideal) ((c : Thread nD τ).loc main_v0_0) := QRef.codesK (argK m c)

theorem flushed_c (c : Dev nD) (t : Fin cfg0.N) (_ : (cfg0.win 1).flush t = true) :
    (dats m 0 c).flushed 1 t = ((cfg0.win 1).blk t).view.read (Elt Ideal) (codes m c) := by
  have ht := t_lt t
  obtain ⟨i0, i1, i2, i3⟩ := index1 t
  show (cfg0.win 1).cut (grid0.coords t) ((dats m 0 c).after 1 t) = _
  rw [after0_1]
  funext j
  rw [View.read_apply]
  have h0 : (j 0).val < 1 := (j 0).isLt
  have h1 : (j 1).val < 256 := (j 1).isLt
  have h2 : (j 2).val < 8 := (j 2).isLt
  have h3 : (j 3).val < 128 := (j 3).isLt
  show Quant.codeAt (rd4 (A := 1) (B := 256) (C := 8) (D := 128) (iblk m c 0 t) 0 (j 1).val (j 2).val (j 3).val)
      (Quant.downWord (Quant.wordOf (Quant.top (iblk m c 0 t) (j 2).val ((j 3).val / 32) (j 1).val))) ((j 3).val % 32)
    = Quant.codeAt (rd4 (argK m c) (win0_1.index t 0 * 1 + 1 * (j 0).val) (win0_1.index t 1 * 256 + 1 * (j 1).val)
        (win0_1.index t 2 * 8 + 1 * (j 2).val) (win0_1.index t 3 * 128 + 1 * (j 3).val))
      (Quant.downWord (Quant.wordOf (QRef.peak (argK m c) (win0_1.index t 0 * 1 + 1 * (j 0).val) (win0_1.index t 1 * 256 + 1 * (j 1).val)
        (win0_1.index t 2 * 8 + 1 * (j 2).val) ((win0_1.index t 3 * 128 + 1 * (j 3).val) / 32)))) ((win0_1.index t 3 * 128 + 1 * (j 3).val) % 32)
  rw [i0, i1, i2, i3, blkK m c t _ _ _ h1 h2 h3, top_blk m c t _ _ _ h2 (by omega) h1,
    show t.val / 4 * 1 + 1 * (j 0).val = t.val / 4 by omega, show t.val % 4 * 256 + 1 * (j 1).val = 256 * (t.val % 4) + (j 1).val by omega,
    show 0 * 8 + 1 * (j 2).val = (j 2).val by omega, show 0 * 128 + 1 * (j 3).val = (j 3).val by omega]

theorem final_c (c : Dev nD) : (dats m 0 c).arrAt 1 cfg0.N = codes m c :=
  (dats m 0 c).arrAt_eq_of_cover 1 (codes m c) (flushed_c m c) fun i => by
    have h0 : (i 0 : Nat) < 2 := (i 0).isLt
    have h1 : (i 1 : Nat) < 1024 := (i 1).isLt
    have h2 : (i 2 : Nat) < 8 := (i 2).isLt
    have h3 : (i 3 : Nat) < 128 := (i 3).isLt
    obtain ⟨t, ht⟩ : ∃ t : Fin cfg0.N, t.val = 4 * (i 0).val + (i 1).val / 256 :=
      ⟨⟨4 * (i 0 : Nat) + (i 1 : Nat) / 256, by show _ < 8; omega⟩, rfl⟩
    obtain ⟨i0, i1, i2, i3⟩ := index1 t
    refine ⟨t, flush0_1 t, ?_⟩
    show i ∈ ((View.whole main_v0_0).slice (win0_1.rect t)).set
    rw [View.set_slice_whole, Rect.mem_set_unit]
    intro a
    match a with
    | ⟨0, _⟩ => show win0_1.index t 0 * 1 ≤ (i 0 : Nat) ∧ (i 0 : Nat) < win0_1.index t 0 * 1 + 1
                rw [i0]; omega
    | ⟨1, _⟩ => show win0_1.index t 1 * 256 ≤ (i 1 : Nat) ∧ (i 1 : Nat) < win0_1.index t 1 * 256 + 256
                rw [i1]; omega
    | ⟨2, _⟩ => show win0_1.index t 2 * 8 ≤ (i 2 : Nat) ∧ (i 2 : Nat) < win0_1.index t 2 * 8 + 8
                rw [i2]; omega
    | ⟨3, _⟩ => show win0_1.index t 3 * 128 ≤ (i 3 : Nat) ∧ (i 3 : Nat) < win0_1.index t 3 * 128 + 128
                rw [i3]; omega

/-- The second result: the array of scales transposed to the layout of the keys. -/
abbrev scalesT (c : Dev nD) : Buf (Elt Ideal) ((c : Thread nD τ).loc main_v1) := QRef.scalesK (argK m c)

/-- Where a scale was before the transposition. -/
def back (j : S2x1024x8x4.Idx) : S2x8x4x1024.Idx := fun a => match a with
  | ⟨0, _⟩ => ⟨(j 0).val, (j 0).isLt⟩
  | ⟨1, _⟩ => ⟨(j 2).val, (j 2).isLt⟩
  | ⟨2, _⟩ => ⟨(j 3).val, (j 3).isLt⟩
  | ⟨3, _⟩ => ⟨(j 1).val, (j 1).isLt⟩

/-- The host line after the call. -/
theorem after_line (W : Valuation τ sig (Elt Ideal)) : StableHlo.after ([hostOps1] : List (List (HloOp τ sig (Elt Ideal)))).flatten W (Proc.devRef .tc main_v1)
    = transpose S2x1024x8x4 [0, 3, 1, 2] (W (Proc.devRef .tc main_v0_1)) transposes_S2x8x4x1024_S2x1024x8x4_0_3_1_2 := by
  simp only [List.flatten_cons, List.flatten_nil, List.append_nil, hostOps1]
  after_results_simp <;> rfl

theorem tail_s (c : Dev nD) : Pipeline.afterTail₀ cfgs (dats m) 0 (V0 m) [hostOps1] c main_v1 = scalesT m c := by
  unfold Pipeline.afterTail₀
  rw [after_line]
  rw [show Pipeline.withArrays (cfgs 0).spec c (V0 m c) (fun w => (dats m 0 c).arrAt w (cfgs 0).N) (Proc.devRef .tc main_v0_1) = result m c from
    (Pipeline.withArrays_arr (cfgs 0).spec launch0.win.arr_inj c (V0 m c) (fun w => (dats m 0 c).arrAt w (cfgs 0).N) 2).trans (final_s m c)]
  funext j
  refine (transpose_apply [0, 3, 1, 2] (result m c) transposes_S2x8x4x1024_S2x1024x8x4_0_3_1_2 j (back j) fun b => ?_).trans rfl
  match b with
  | ⟨0, _⟩ => rfl
  | ⟨1, _⟩ => rfl
  | ⟨2, _⟩ => rfl
  | ⟨3, _⟩ => rfl

/-- The call and the transposition end with the codes of the keys in the first result and their scales in the second, the keys as they were. -/
theorem run : θ_run (defs (F := Ideal)) (onTc (τ := τ) (main (F := Ideal))) ⟨m, fun _ => 0, ρ⟩ fun r => ∀ c : Dev nD,
      r.2.mem ((c.tc : Thread nD τ).loc main_v0_0) = codes m c
      ∧ r.2.mem ((c.tc : Thread nD τ).loc main_v1) = scalesT m c
      ∧ r.2.mem ((c.tc : Thread nD τ).loc main_arg0) = m ((c.tc : Thread nD τ).loc main_arg0) :=
  (θ_run (defs (F := Ideal)) _ _).mono (fun _ ⟨h, _⟩ c =>
    ⟨((h c).1 1).trans (final_c m c),
     ((h c).2 main_v1 (by decide)).trans (tail_s m c),
     ((h c).1 0).trans (((dats m 0 c).arrAt_in 0 rfl _).trans ((A_eq m c 0).trans (V_main_arg0 m c)))⟩) (run_main m ρ)

end Cert.Proof.QTrack

end
-- ==== Proof.lean ====
/-
  The certificate's claims, gathered.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.FrameK
public import proofs.«01_k».proof.Proof.FrameI
public import proofs.«01_k».proof.Proof.Track
public import proofs.«01_k».proof.Proof.Ref
public import proofs.«01_k».proof.Proof.Gen.KernelK
public import proofs.«01_k».proof.Proof.Gen.KernelKIdeal
public import proofs.«01_k».proof.Proof.Gen.ReferenceKIdeal
public import proofs.«01_k».proof.Proof.Gen.ReferenceKIdeal.Run
public import proofs.«01_k».proof.Proof.Gen.ReferenceKIdeal.Read
public import proofs.«01_k».proof.Proof.FrameQK
public import proofs.«01_k».proof.Proof.FrameQI
public import proofs.«01_k».proof.Proof.QTrack
public import proofs.«01_k».proof.Proof.QRef
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The kernel ends, leaves its arguments as they were and every semaphore at zero. -/
theorem frame_kernel : Cert.quiescent_Kernel := fun m ρ _ => FrameK.frame m ρ

/-- The idealized kernel ends, leaves its arguments as they were and every semaphore at zero. -/
theorem frame_ideal : Cert.quiescent_KernelIdeal := fun m ρ _ => FrameI.frame m ρ

/-- The reference ends, leaves its arguments as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the value the idealized program gives it. -/
theorem preserves : Cert.preserves_Kernel_KernelIdeal :=
  IdealRules.named_const.statement Cert.KernelIdeal.κ "coef" .f32 0x3E0293EE#32 (((11863283 * 134217728⁻¹) * (Real.log 2)⁻¹ : ℝ) : EReal) rfl

/-- The same of the idealized kernel on finite queries and keys. -/
theorem frame_ideal_finite : Cert.quiescent_KernelIdeal_pre_finite := fun m ρ _ => FrameI.frame m ρ

/-- The same of the reference on finite queries and keys. -/
theorem frame_reference_finite : Cert.quiescent_ReferenceIdeal_pre_finite := fun m ρ _ => frame_reference m ρ trivial

/-- On finite queries and keys the idealized kernel and the reference end with the same result: the causal attention of the arguments. -/
theorem algebraic : Cert.algebraic_KernelIdeal_ReferenceIdeal_pre_finite := fun m ρ m' ρ' hp hm => by
  refine ⟨fun c => Track.result m c, Track.run m ρ, ?_⟩
  · refine (θ_run Cert.ReferenceIdeal.defs _ _).mono (fun r h c => ⟨(h c).1.trans ?_, (h c).2⟩) (Cert.ReferenceIdeal.Value.run (F := Ideal) m' ρ')
    obtain ⟨e0, e1, e2⟩ := hm c
    rw [Cert.ReferenceIdeal.Read.val_main_v24_eq, e0, e1, e2]
    exact (Ref.result_eq _ _ _ (hp c)).trans (by rw [← Track.coef_eq])

/-- The key quantiser ends, leaves its argument as it was and every semaphore at zero. -/
theorem frame_kernelK : Cert.quiescent_KernelK := fun m ρ _ => FrameQK.frame m ρ

/-- The idealized key quantiser ends, leaves its argument as it was and every semaphore at zero. -/
theorem frame_idealK : Cert.quiescent_KernelKIdeal := fun m ρ _ => FrameQI.frame m ρ

/-- The same on keys in range. -/
theorem frame_idealK_in_range : Cert.quiescent_KernelKIdeal_pre_in_range := fun m ρ _ => FrameQI.frame m ρ

/-- The reference of the scales ends, leaves its argument as it was, and has no semaphore. -/
theorem frame_referenceK : Cert.quiescent_ReferenceKIdeal := fun m ρ _ =>
  (θ_run Cert.ReferenceKIdeal.defs _ _).mono (fun r h => ⟨fun c => (h c).2.2, sem_eq_zero_of_no_sems (by decide) r.2⟩)
    (Cert.ReferenceKIdeal.Value.run (F := Ideal) m ρ)

/-- The same on keys in range. -/
theorem frame_referenceK_in_range : Cert.quiescent_ReferenceKIdeal_pre_in_range := fun m ρ _ => frame_referenceK m ρ trivial

/-- The pairs of 16-bit numbers in words are what the idealized program takes them for. -/
theorem preservesK : Cert.preserves_KernelK_KernelKIdeal :=
  ⟨IdealRules.bf16_pair.bufferStatement _ _, IdealRules.bf16_pair.statement _ _, IdealRules.bf16_pair.halfStatement _,
    IdealRules.bf16_pair.statement _ _, IdealRules.bf16_pair.statement _ _, IdealRules.bf16_pair.statement _ _⟩

/-- On keys in range the idealized key quantiser and the reference end with the same codes and the same scales. -/
theorem algebraicK : Cert.algebraic_KernelKIdeal_ReferenceKIdeal_pre_in_range := fun m ρ m' ρ' hp hm => by
  refine ⟨fun c => QTrack.codes m c, fun c => QTrack.scalesT m c, QTrack.run m ρ, ?_⟩
  refine (θ_run Cert.ReferenceKIdeal.defs _ _).mono (fun r h c => ⟨(h c).1.trans ?_, (h c).2.1.trans ?_, (h c).2.2⟩)
    (Cert.ReferenceKIdeal.Value.run (F := Ideal) m' ρ')
  · rw [Cert.ReferenceKIdeal.Read.val_main_v28_eq, hm c]
    exact QRef.codes_eq _ (hp c)
  · rw [Cert.ReferenceKIdeal.Read.val_main_v27_eq, hm c]
    exact QRef.result_eq _ (hp c)

theorem claim : Cert.Claim := ⟨Cert.Kernel.Gen.facts, Cert.KernelIdeal.Gen.facts, Cert.ReferenceIdeal.Gen.facts, Cert.KernelK.Gen.facts,
  Cert.KernelKIdeal.Gen.facts, Cert.ReferenceKIdeal.Gen.facts, Ref.facts, QRef.facts,
  frame_kernel, frame_ideal, frame_ideal_finite, frame_reference, frame_reference_finite,
  frame_kernelK, frame_idealK, frame_idealK_in_range, frame_referenceK, frame_referenceK_in_range,
  preserves, algebraic, preservesK, algebraicK⟩

end Cert.Proof

end
